-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_KernelFfn (m : (ℓ : Loc Cert.KernelFfn.nD Cert.KernelFfn.τ Cert.KernelFfn.sig) → Buf (Elt Bits) ℓ) : Prop :=
  True

def Pre_KernelFfnIdeal (m : (ℓ : Loc Cert.KernelFfnIdeal.nD Cert.KernelFfnIdeal.τ Cert.KernelFfnIdeal.sig) → Buf (Elt Ideal) ℓ) : Prop :=
  True

def Pre_ReferenceFfnIdeal (m : (ℓ : Loc Cert.ReferenceFfnIdeal.nD Cert.ReferenceFfnIdeal.τ Cert.ReferenceFfnIdeal.sig) → Buf (Elt Ideal) ℓ) : Prop :=
  True

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelFinal (m : (ℓ : Loc Cert.KernelFinal.nD Cert.KernelFinal.τ Cert.KernelFinal.sig) → Buf (Elt Bits) ℓ) : Prop :=
  True

def Pre_KernelFinalIdeal (m : (ℓ : Loc Cert.KernelFinalIdeal.nD Cert.KernelFinalIdeal.τ Cert.KernelFinalIdeal.sig) → Buf (Elt Ideal) ℓ) : Prop :=
  True

def Pre_ReferenceFinalIdeal (m : (ℓ : Loc Cert.ReferenceFinalIdeal.nD Cert.ReferenceFinalIdeal.τ Cert.ReferenceFinalIdeal.sig) → Buf (Elt Ideal) ℓ) : Prop :=
  True

def Pre_KernelQuery (m : (ℓ : Loc Cert.KernelQuery.nD Cert.KernelQuery.τ Cert.KernelQuery.sig) → Buf (Elt Bits) ℓ) : Prop :=
  True

def Pre_KernelQueryIdeal (m : (ℓ : Loc Cert.KernelQueryIdeal.nD Cert.KernelQueryIdeal.τ Cert.KernelQueryIdeal.sig) → Buf (Elt Ideal) ℓ) : Prop :=
  True

def Pre_ReferenceQueryIdeal (m : (ℓ : Loc Cert.ReferenceQueryIdeal.nD Cert.ReferenceQueryIdeal.τ Cert.ReferenceQueryIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_KernelFfn [hKernelFfn : Cert.KernelFfn.Facts] : Prop :=
  ∀ (m : (ℓ : Loc Cert.KernelFfn.nD Cert.KernelFfn.τ Cert.KernelFfn.sig) → Buf (Elt Bits) ℓ) (g : Dev Cert.KernelFfn.nD → PrngReg), Pre_KernelFfn m →
    θ_run (Cert.KernelFfn.defs (F := Bits)) (onTc (τ := Cert.KernelFfn.τ) (Cert.KernelFfn.main (F := Bits))) ⟨m, fun _ => 0, g⟩ (fun r => (∀ c : Dev Cert.KernelFfn.nD,
      r.2.mem ((c.tc : Thread Cert.KernelFfn.nD Cert.KernelFfn.τ).loc Cert.KernelFfn.main_arg0) = m ((c.tc : Thread Cert.KernelFfn.nD Cert.KernelFfn.τ).loc Cert.KernelFfn.main_arg0)
      ∧ r.2.mem ((c.tc : Thread Cert.KernelFfn.nD Cert.KernelFfn.τ).loc Cert.KernelFfn.main_arg1) = m ((c.tc : Thread Cert.KernelFfn.nD Cert.KernelFfn.τ).loc Cert.KernelFfn.main_arg1)
      ∧ r.2.mem ((c.tc : Thread Cert.KernelFfn.nD Cert.KernelFfn.τ).loc Cert.KernelFfn.main_arg2) = m ((c.tc : Thread Cert.KernelFfn.nD Cert.KernelFfn.τ).loc Cert.KernelFfn.main_arg2)
      ∧ r.2.mem ((c.tc : Thread Cert.KernelFfn.nD Cert.KernelFfn.τ).loc Cert.KernelFfn.main_arg3) = m ((c.tc : Thread Cert.KernelFfn.nD Cert.KernelFfn.τ).loc Cert.KernelFfn.main_arg3))
      ∧ r.2.sem = fun _ => 0)

def quiescent_KernelFfnIdeal [hKernelFfnIdeal : Cert.KernelFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg), Pre_KernelFfnIdeal m →
    θ_run (Cert.KernelFfnIdeal.defs (F := Ideal)) (onTc (τ := Cert.KernelFfnIdeal.τ) (Cert.KernelFfnIdeal.main (F := Ideal))) ⟨m, fun _ => 0, g⟩ (fun r => (∀ c : Dev Cert.KernelFfnIdeal.nD,
      r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
      ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
      ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
      ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3))
      ∧ r.2.sem = fun _ => 0)

def quiescent_ReferenceFfnIdeal [hReferenceFfnIdeal : Cert.ReferenceFfnIdeal.Facts] : Prop :=
  ∀ (m : (ℓ : Loc Cert.ReferenceFfnIdeal.nD Cert.ReferenceFfnIdeal.τ Cert.ReferenceFfnIdeal.sig) → Buf (Elt Ideal) ℓ) (g : Dev Cert.ReferenceFfnIdeal.nD → PrngReg), Pre_ReferenceFfnIdeal m →
    θ_run (Cert.ReferenceFfnIdeal.defs (F := Ideal)) (onTc (τ := Cert.ReferenceFfnIdeal.τ) (Cert.ReferenceFfnIdeal.main (F := Ideal))) ⟨m, fun _ => 0, g⟩ (fun r => (∀ c : Dev Cert.ReferenceFfnIdeal.nD,
      r.2.mem ((c.tc : Thread Cert.ReferenceFfnIdeal.nD Cert.ReferenceFfnIdeal.τ).loc Cert.ReferenceFfnIdeal.main_arg0) = m ((c.tc : Thread Cert.ReferenceFfnIdeal.nD Cert.ReferenceFfnIdeal.τ).loc Cert.ReferenceFfnIdeal.main_arg0)
      ∧ r.2.mem ((c.tc : Thread Cert.ReferenceFfnIdeal.nD Cert.ReferenceFfnIdeal.τ).loc Cert.ReferenceFfnIdeal.main_arg1) = m ((c.tc : Thread Cert.ReferenceFfnIdeal.nD Cert.ReferenceFfnIdeal.τ).loc Cert.ReferenceFfnIdeal.main_arg1)
      ∧ r.2.mem ((c.tc : Thread Cert.ReferenceFfnIdeal.nD Cert.ReferenceFfnIdeal.τ).loc Cert.ReferenceFfnIdeal.main_arg2) = m ((c.tc : Thread Cert.ReferenceFfnIdeal.nD Cert.ReferenceFfnIdeal.τ).loc Cert.ReferenceFfnIdeal.main_arg2)
      ∧ r.2.mem ((c.tc : Thread Cert.ReferenceFfnIdeal.nD Cert.ReferenceFfnIdeal.τ).loc Cert.ReferenceFfnIdeal.main_arg3) = m ((c.tc : Thread Cert.ReferenceFfnIdeal.nD Cert.ReferenceFfnIdeal.τ).loc Cert.ReferenceFfnIdeal.main_arg3))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1)
      ∧ r.2.mem ((c.tc : Thread Cert.KernelDown.nD Cert.KernelDown.τ).loc Cert.KernelDown.main_arg2) = m ((c.tc : Thread Cert.KernelDown.nD Cert.KernelDown.τ).loc Cert.KernelDown.main_arg2)
      ∧ r.2.mem ((c.tc : Thread Cert.KernelDown.nD Cert.KernelDown.τ).loc Cert.KernelDown.main_arg3) = m ((c.tc : Thread Cert.KernelDown.nD Cert.KernelDown.τ).loc Cert.KernelDown.main_arg3)
      ∧ r.2.mem ((c.tc : Thread Cert.KernelDown.nD Cert.KernelDown.τ).loc Cert.KernelDown.main_arg4) = m ((c.tc : Thread Cert.KernelDown.nD Cert.KernelDown.τ).loc Cert.KernelDown.main_arg4)
      ∧ r.2.mem ((c.tc : Thread Cert.KernelDown.nD Cert.KernelDown.τ).loc Cert.KernelDown.main_arg5) = m ((c.tc : Thread Cert.KernelDown.nD Cert.KernelDown.τ).loc Cert.KernelDown.main_arg5)
      ∧ r.2.mem ((c.tc : Thread Cert.KernelDown.nD Cert.KernelDown.τ).loc Cert.KernelDown.main_arg6) = m ((c.tc : Thread Cert.KernelDown.nD Cert.KernelDown.τ).loc Cert.KernelDown.main_arg6))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
      ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2)
      ∧ r.2.mem ((c.tc : Thread Cert.KernelDownIdeal.nD Cert.KernelDownIdeal.τ).loc Cert.KernelDownIdeal.main_arg3) = m ((c.tc : Thread Cert.KernelDownIdeal.nD Cert.KernelDownIdeal.τ).loc Cert.KernelDownIdeal.main_arg3)
      ∧ r.2.mem ((c.tc : Thread Cert.KernelDownIdeal.nD Cert.KernelDownIdeal.τ).loc Cert.KernelDownIdeal.main_arg4) = m ((c.tc : Thread Cert.KernelDownIdeal.nD Cert.KernelDownIdeal.τ).loc Cert.KernelDownIdeal.main_arg4)
      ∧ r.2.mem ((c.tc : Thread Cert.KernelDownIdeal.nD Cert.KernelDownIdeal.τ).loc Cert.KernelDownIdeal.main_arg5) = m ((c.tc : Thread Cert.KernelDownIdeal.nD Cert.KernelDownIdeal.τ).loc Cert.KernelDownIdeal.main_arg5)
      ∧ r.2.mem ((c.tc : Thread Cert.KernelDownIdeal.nD Cert.KernelDownIdeal.τ).loc Cert.KernelDownIdeal.main_arg6) = m ((c.tc : Thread Cert.KernelDownIdeal.nD Cert.KernelDownIdeal.τ).loc Cert.KernelDownIdeal.main_arg6))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1)
      ∧ r.2.mem ((c.tc : Thread Cert.ReferenceDownIdeal.nD Cert.ReferenceDownIdeal.τ).loc Cert.ReferenceDownIdeal.main_arg2) = m ((c.tc : Thread Cert.ReferenceDownIdeal.nD Cert.ReferenceDownIdeal.τ).loc Cert.ReferenceDownIdeal.main_arg2)
      ∧ r.2.mem ((c.tc : Thread Cert.ReferenceDownIdeal.nD Cert.ReferenceDownIdeal.τ).loc Cert.ReferenceDownIdeal.main_arg3) = m ((c.tc : Thread Cert.ReferenceDownIdeal.nD Cert.ReferenceDownIdeal.τ).loc Cert.ReferenceDownIdeal.main_arg3)
      ∧ r.2.mem ((c.tc : Thread Cert.ReferenceDownIdeal.nD Cert.ReferenceDownIdeal.τ).loc Cert.ReferenceDownIdeal.main_arg4) = m ((c.tc : Thread Cert.ReferenceDownIdeal.nD Cert.ReferenceDownIdeal.τ).loc Cert.ReferenceDownIdeal.main_arg4)
      ∧ r.2.mem ((c.tc : Thread Cert.ReferenceDownIdeal.nD Cert.ReferenceDownIdeal.τ).loc Cert.ReferenceDownIdeal.main_arg5) = m ((c.tc : Thread Cert.ReferenceDownIdeal.nD Cert.ReferenceDownIdeal.τ).loc Cert.ReferenceDownIdeal.main_arg5)
      ∧ r.2.mem ((c.tc : Thread Cert.ReferenceDownIdeal.nD Cert.ReferenceDownIdeal.τ).loc Cert.ReferenceDownIdeal.main_arg6) = m ((c.tc : Thread Cert.ReferenceDownIdeal.nD Cert.ReferenceDownIdeal.τ).loc Cert.ReferenceDownIdeal.main_arg6))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2)
      ∧ r.2.mem ((c.tc : Thread Cert.KernelOut.nD Cert.KernelOut.τ).loc Cert.KernelOut.main_arg3) = m ((c.tc : Thread Cert.KernelOut.nD Cert.KernelOut.τ).loc Cert.KernelOut.main_arg3)
      ∧ r.2.mem ((c.tc : Thread Cert.KernelOut.nD Cert.KernelOut.τ).loc Cert.KernelOut.main_arg4) = m ((c.tc : Thread Cert.KernelOut.nD Cert.KernelOut.τ).loc Cert.KernelOut.main_arg4)
      ∧ r.2.mem ((c.tc : Thread Cert.KernelOut.nD Cert.KernelOut.τ).loc Cert.KernelOut.main_arg5) = m ((c.tc : Thread Cert.KernelOut.nD Cert.KernelOut.τ).loc Cert.KernelOut.main_arg5)
      ∧ r.2.mem ((c.tc : Thread Cert.KernelOut.nD Cert.KernelOut.τ).loc Cert.KernelOut.main_arg6) = m ((c.tc : Thread Cert.KernelOut.nD Cert.KernelOut.τ).loc Cert.KernelOut.main_arg6))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
      ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
      ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4)
      ∧ r.2.mem ((c.tc : Thread Cert.KernelOutIdeal.nD Cert.KernelOutIdeal.τ).loc Cert.KernelOutIdeal.main_arg5) = m ((c.tc : Thread Cert.KernelOutIdeal.nD Cert.KernelOutIdeal.τ).loc Cert.KernelOutIdeal.main_arg5)
      ∧ r.2.mem ((c.tc : Thread Cert.KernelOutIdeal.nD Cert.KernelOutIdeal.τ).loc Cert.KernelOutIdeal.main_arg6) = m ((c.tc : Thread Cert.KernelOutIdeal.nD Cert.KernelOutIdeal.τ).loc Cert.KernelOutIdeal.main_arg6))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2)
      ∧ r.2.mem ((c.tc : Thread Cert.ReferenceOutIdeal.nD Cert.ReferenceOutIdeal.τ).loc Cert.ReferenceOutIdeal.main_arg3) = m ((c.tc : Thread Cert.ReferenceOutIdeal.nD Cert.ReferenceOutIdeal.τ).loc Cert.ReferenceOutIdeal.main_arg3)
      ∧ r.2.mem ((c.tc : Thread Cert.ReferenceOutIdeal.nD Cert.ReferenceOutIdeal.τ).loc Cert.ReferenceOutIdeal.main_arg4) = m ((c.tc : Thread Cert.ReferenceOutIdeal.nD Cert.ReferenceOutIdeal.τ).loc Cert.ReferenceOutIdeal.main_arg4)
      ∧ r.2.mem ((c.tc : Thread Cert.ReferenceOutIdeal.nD Cert.ReferenceOutIdeal.τ).loc Cert.ReferenceOutIdeal.main_arg5) = m ((c.tc : Thread Cert.ReferenceOutIdeal.nD Cert.ReferenceOutIdeal.τ).loc Cert.ReferenceOutIdeal.main_arg5)
      ∧ r.2.mem ((c.tc : Thread Cert.ReferenceOutIdeal.nD Cert.ReferenceOutIdeal.τ).loc Cert.ReferenceOutIdeal.main_arg6) = m ((c.tc : Thread Cert.ReferenceOutIdeal.nD Cert.ReferenceOutIdeal.τ).loc Cert.ReferenceOutIdeal.main_arg6))
      ∧ r.2.sem = fun _ => 0)

def quiescent_KernelFinal [hKernelFinal : Cert.KernelFinal.Facts] : Prop :=
  ∀ (m : (ℓ : Loc Cert.KernelFinal.nD Cert.KernelFinal.τ Cert.KernelFinal.sig) → Buf (Elt Bits) ℓ) (g : Dev Cert.KernelFinal.nD → PrngReg), Pre_KernelFinal m →
    θ_run (Cert.KernelFinal.defs (F := Bits)) (onTc (τ := Cert.KernelFinal.τ) (Cert.KernelFinal.main (F := Bits))) ⟨m, fun _ => 0, g⟩ (fun r => (∀ c : Dev Cert.KernelFinal.nD,
      r.2.mem ((c.tc : Thread Cert.KernelFinal.nD Cert.KernelFinal.τ).loc Cert.KernelFinal.main_arg0) = m ((c.tc : Thread Cert.KernelFinal.nD Cert.KernelFinal.τ).loc Cert.KernelFinal.main_arg0)
      ∧ r.2.mem ((c.tc : Thread Cert.KernelFinal.nD Cert.KernelFinal.τ).loc Cert.KernelFinal.main_arg1) = m ((c.tc : Thread Cert.KernelFinal.nD Cert.KernelFinal.τ).loc Cert.KernelFinal.main_arg1))
      ∧ r.2.sem = fun _ => 0)

def quiescent_KernelFinalIdeal [hKernelFinalIdeal : Cert.KernelFinalIdeal.Facts] : Prop :=
  ∀ (m : (ℓ : Loc Cert.KernelFinalIdeal.nD Cert.KernelFinalIdeal.τ Cert.KernelFinalIdeal.sig) → Buf (Elt Ideal) ℓ) (g : Dev Cert.KernelFinalIdeal.nD → PrngReg), Pre_KernelFinalIdeal m →
    θ_run (Cert.KernelFinalIdeal.defs (F := Ideal)) (onTc (τ := Cert.KernelFinalIdeal.τ) (Cert.KernelFinalIdeal.main (F := Ideal))) ⟨m, fun _ => 0, g⟩ (fun r => (∀ c : Dev Cert.KernelFinalIdeal.nD,
      r.2.mem ((c.tc : Thread Cert.KernelFinalIdeal.nD Cert.KernelFinalIdeal.τ).loc Cert.KernelFinalIdeal.main_arg0) = m ((c.tc : Thread Cert.KernelFinalIdeal.nD Cert.KernelFinalIdeal.τ).loc Cert.KernelFinalIdeal.main_arg0)
      ∧ r.2.mem ((c.tc : Thread Cert.KernelFinalIdeal.nD Cert.KernelFinalIdeal.τ).loc Cert.KernelFinalIdeal.main_arg1) = m ((c.tc : Thread Cert.KernelFinalIdeal.nD Cert.KernelFinalIdeal.τ).loc Cert.KernelFinalIdeal.main_arg1))
      ∧ r.2.sem = fun _ => 0)

def quiescent_ReferenceFinalIdeal [hReferenceFinalIdeal : Cert.ReferenceFinalIdeal.Facts] : Prop :=
  ∀ (m : (ℓ : Loc Cert.ReferenceFinalIdeal.nD Cert.ReferenceFinalIdeal.τ Cert.ReferenceFinalIdeal.sig) → Buf (Elt Ideal) ℓ) (g : Dev Cert.ReferenceFinalIdeal.nD → PrngReg), Pre_ReferenceFinalIdeal m →
    θ_run (Cert.ReferenceFinalIdeal.defs (F := Ideal)) (onTc (τ := Cert.ReferenceFinalIdeal.τ) (Cert.ReferenceFinalIdeal.main (F := Ideal))) ⟨m, fun _ => 0, g⟩ (fun r => (∀ c : Dev Cert.ReferenceFinalIdeal.nD,
      r.2.mem ((c.tc : Thread Cert.ReferenceFinalIdeal.nD Cert.ReferenceFinalIdeal.τ).loc Cert.ReferenceFinalIdeal.main_arg0) = m ((c.tc : Thread Cert.ReferenceFinalIdeal.nD Cert.ReferenceFinalIdeal.τ).loc Cert.ReferenceFinalIdeal.main_arg0)
      ∧ r.2.mem ((c.tc : Thread Cert.ReferenceFinalIdeal.nD Cert.ReferenceFinalIdeal.τ).loc Cert.ReferenceFinalIdeal.main_arg1) = m ((c.tc : Thread Cert.ReferenceFinalIdeal.nD Cert.ReferenceFinalIdeal.τ).loc Cert.ReferenceFinalIdeal.main_arg1))
      ∧ r.2.sem = fun _ => 0)

def quiescent_KernelQuery [hKernelQuery : Cert.KernelQuery.Facts] : Prop :=
  ∀ (m : (ℓ : Loc Cert.KernelQuery.nD Cert.KernelQuery.τ Cert.KernelQuery.sig) → Buf (Elt Bits) ℓ) (g : Dev Cert.KernelQuery.nD → PrngReg), Pre_KernelQuery m →
    θ_run (Cert.KernelQuery.defs (F := Bits)) (onTc (τ := Cert.KernelQuery.τ) (Cert.KernelQuery.main (F := Bits))) ⟨m, fun _ => 0, g⟩ (fun r => (∀ c : Dev Cert.KernelQuery.nD,
      r.2.mem ((c.tc : Thread Cert.KernelQuery.nD Cert.KernelQuery.τ).loc Cert.KernelQuery.main_arg0) = m ((c.tc : Thread Cert.KernelQuery.nD Cert.KernelQuery.τ).loc Cert.KernelQuery.main_arg0)
      ∧ r.2.mem ((c.tc : Thread Cert.KernelQuery.nD Cert.KernelQuery.τ).loc Cert.KernelQuery.main_arg1) = m ((c.tc : Thread Cert.KernelQuery.nD Cert.KernelQuery.τ).loc Cert.KernelQuery.main_arg1))
      ∧ r.2.sem = fun _ => 0)

def quiescent_KernelQueryIdeal [hKernelQueryIdeal : Cert.KernelQueryIdeal.Facts] : Prop :=
  ∀ (m : (ℓ : Loc Cert.KernelQueryIdeal.nD Cert.KernelQueryIdeal.τ Cert.KernelQueryIdeal.sig) → Buf (Elt Ideal) ℓ) (g : Dev Cert.KernelQueryIdeal.nD → PrngReg), Pre_KernelQueryIdeal m →
    θ_run (Cert.KernelQueryIdeal.defs (F := Ideal)) (onTc (τ := Cert.KernelQueryIdeal.τ) (Cert.KernelQueryIdeal.main (F := Ideal))) ⟨m, fun _ => 0, g⟩ (fun r => (∀ c : Dev Cert.KernelQueryIdeal.nD,
      r.2.mem ((c.tc : Thread Cert.KernelQueryIdeal.nD Cert.KernelQueryIdeal.τ).loc Cert.KernelQueryIdeal.main_arg0) = m ((c.tc : Thread Cert.KernelQueryIdeal.nD Cert.KernelQueryIdeal.τ).loc Cert.KernelQueryIdeal.main_arg0)
      ∧ r.2.mem ((c.tc : Thread Cert.KernelQueryIdeal.nD Cert.KernelQueryIdeal.τ).loc Cert.KernelQueryIdeal.main_arg1) = m ((c.tc : Thread Cert.KernelQueryIdeal.nD Cert.KernelQueryIdeal.τ).loc Cert.KernelQueryIdeal.main_arg1))
      ∧ r.2.sem = fun _ => 0)

def quiescent_ReferenceQueryIdeal [hReferenceQueryIdeal : Cert.ReferenceQueryIdeal.Facts] : Prop :=
  ∀ (m : (ℓ : Loc Cert.ReferenceQueryIdeal.nD Cert.ReferenceQueryIdeal.τ Cert.ReferenceQueryIdeal.sig) → Buf (Elt Ideal) ℓ) (g : Dev Cert.ReferenceQueryIdeal.nD → PrngReg), Pre_ReferenceQueryIdeal m →
    θ_run (Cert.ReferenceQueryIdeal.defs (F := Ideal)) (onTc (τ := Cert.ReferenceQueryIdeal.τ) (Cert.ReferenceQueryIdeal.main (F := Ideal))) ⟨m, fun _ => 0, g⟩ (fun r => (∀ c : Dev Cert.ReferenceQueryIdeal.nD,
      r.2.mem ((c.tc : Thread Cert.ReferenceQueryIdeal.nD Cert.ReferenceQueryIdeal.τ).loc Cert.ReferenceQueryIdeal.main_arg0) = m ((c.tc : Thread Cert.ReferenceQueryIdeal.nD Cert.ReferenceQueryIdeal.τ).loc Cert.ReferenceQueryIdeal.main_arg0)
      ∧ r.2.mem ((c.tc : Thread Cert.ReferenceQueryIdeal.nD Cert.ReferenceQueryIdeal.τ).loc Cert.ReferenceQueryIdeal.main_arg1) = m ((c.tc : Thread Cert.ReferenceQueryIdeal.nD Cert.ReferenceQueryIdeal.τ).loc Cert.ReferenceQueryIdeal.main_arg1))
      ∧ r.2.sem = fun _ => 0)

def preserves_Kernel_KernelIdeal : Prop :=
  IdealRules.named_const.Statement Cert.KernelIdeal.κ "scale_log2e" .f32 0x3E0293EE#32 (((11863283 / 134217728) * (Real.log 2)⁻¹ : ℝ) : EReal)
  ∧ IdealRules.named_const.Statement Cert.KernelIdeal.κ "linear_from" .f32 0x42800000#32 ⊤
  ∧ IdealRules.named_const.Statement Cert.KernelIdeal.κ "inv_ln2" .f32 0x3FB8AA3B#32 (((Real.log 2)⁻¹ : ℝ) : EReal)
  ∧ IdealRules.named_const.Statement Cert.KernelIdeal.κ "exit_at" .f32 0xC3200000#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_KernelFfn_KernelFfnIdeal : Prop :=
  True

def algebraic_KernelFfnIdeal_ReferenceFfnIdeal [hKernelFfnIdeal : Cert.KernelFfnIdeal.Facts] [hReferenceFfnIdeal : Cert.ReferenceFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg)
    (m' : (ℓ : Loc Cert.ReferenceFfnIdeal.nD Cert.ReferenceFfnIdeal.τ Cert.ReferenceFfnIdeal.sig) → Buf (Elt Ideal) ℓ) (g' : Dev Cert.ReferenceFfnIdeal.nD → PrngReg), Pre_KernelFfnIdeal m →
    (∀ c : Dev Cert.KernelFfnIdeal.nD,
      m' ((c.tc : Thread Cert.ReferenceFfnIdeal.nD Cert.ReferenceFfnIdeal.τ).loc Cert.ReferenceFfnIdeal.main_arg0) = m ((c.tc : Thread Cert.KernelFfnIdeal.nD Cert.KernelFfnIdeal.τ).loc Cert.KernelFfnIdeal.main_arg0)
      ∧ m' ((c.tc : Thread Cert.ReferenceFfnIdeal.nD Cert.ReferenceFfnIdeal.τ).loc Cert.ReferenceFfnIdeal.main_arg1) = m ((c.tc : Thread Cert.KernelFfnIdeal.nD Cert.KernelFfnIdeal.τ).loc Cert.KernelFfnIdeal.main_arg1)
      ∧ m' ((c.tc : Thread Cert.ReferenceFfnIdeal.nD Cert.ReferenceFfnIdeal.τ).loc Cert.ReferenceFfnIdeal.main_arg2) = m ((c.tc : Thread Cert.KernelFfnIdeal.nD Cert.KernelFfnIdeal.τ).loc Cert.KernelFfnIdeal.main_arg2)
      ∧ m' ((c.tc : Thread Cert.ReferenceFfnIdeal.nD Cert.ReferenceFfnIdeal.τ).loc Cert.ReferenceFfnIdeal.main_arg3) = m ((c.tc : Thread Cert.KernelFfnIdeal.nD Cert.KernelFfnIdeal.τ).loc Cert.KernelFfnIdeal.main_arg3)) →
    ∃ (v0 : (c : Dev Cert.KernelFfnIdeal.nD) → Buf (Elt Ideal) ((c.tc : Thread Cert.KernelFfnIdeal.nD Cert.KernelFfnIdeal.τ).loc Cert.KernelFfnIdeal.main_v4_0)) (v1 : (c : Dev Cert.KernelFfnIdeal.nD) → Buf (Elt Ideal) ((c.tc : Thread Cert.KernelFfnIdeal.nD Cert.KernelFfnIdeal.τ).loc Cert.KernelFfnIdeal.main_v4_1)),
      θ_run (Cert.KernelFfnIdeal.defs (F := Ideal)) (onTc (τ := Cert.KernelFfnIdeal.τ) (Cert.KernelFfnIdeal.main (F := Ideal))) ⟨m, fun _ => 0, g⟩ (fun r => ∀ c : Dev Cert.KernelFfnIdeal.nD,
          r.2.mem ((c.tc : Thread Cert.KernelFfnIdeal.nD Cert.KernelFfnIdeal.τ).loc Cert.KernelFfnIdeal.main_v4_0) = v0 c
          ∧ r.2.mem ((c.tc : Thread Cert.KernelFfnIdeal.nD Cert.KernelFfnIdeal.τ).loc Cert.KernelFfnIdeal.main_v4_1) = v1 c
          ∧ r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
          ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
          ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
          ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3))
      ∧ θ_run (Cert.ReferenceFfnIdeal.defs (F := Ideal)) (onTc (τ := Cert.ReferenceFfnIdeal.τ) (Cert.ReferenceFfnIdeal.main (F := Ideal))) ⟨m', fun _ => 0, g'⟩ (fun r => ∀ c : Dev Cert.ReferenceFfnIdeal.nD,
          r.2.mem ((c.tc : Thread Cert.ReferenceFfnIdeal.nD Cert.ReferenceFfnIdeal.τ).loc Cert.ReferenceFfnIdeal.main_v9) = v0 c
          ∧ r.2.mem ((c.tc : Thread Cert.ReferenceFfnIdeal.nD Cert.ReferenceFfnIdeal.τ).loc Cert.ReferenceFfnIdeal.main_v19) = v1 c
          ∧ r.2.mem ((c.tc : Thread Cert.ReferenceFfnIdeal.nD Cert.ReferenceFfnIdeal.τ).loc Cert.ReferenceFfnIdeal.main_arg0) = m' ((c.tc : Thread Cert.ReferenceFfnIdeal.nD Cert.ReferenceFfnIdeal.τ).loc Cert.ReferenceFfnIdeal.main_arg0)
          ∧ r.2.mem ((c.tc : Thread Cert.ReferenceFfnIdeal.nD Cert.ReferenceFfnIdeal.τ).loc Cert.ReferenceFfnIdeal.main_arg1) = m' ((c.tc : Thread Cert.ReferenceFfnIdeal.nD Cert.ReferenceFfnIdeal.τ).loc Cert.ReferenceFfnIdeal.main_arg1)
          ∧ r.2.mem ((c.tc : Thread Cert.ReferenceFfnIdeal.nD Cert.ReferenceFfnIdeal.τ).loc Cert.ReferenceFfnIdeal.main_arg2) = m' ((c.tc : Thread Cert.ReferenceFfnIdeal.nD Cert.ReferenceFfnIdeal.τ).loc Cert.ReferenceFfnIdeal.main_arg2)
          ∧ r.2.mem ((c.tc : Thread Cert.ReferenceFfnIdeal.nD Cert.ReferenceFfnIdeal.τ).loc Cert.ReferenceFfnIdeal.main_arg3) = m' ((c.tc : Thread Cert.ReferenceFfnIdeal.nD Cert.ReferenceFfnIdeal.τ).loc Cert.ReferenceFfnIdeal.main_arg3))

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)
      ∧ m' ((c.tc : Thread Cert.ReferenceDownIdeal.nD Cert.ReferenceDownIdeal.τ).loc Cert.ReferenceDownIdeal.main_arg2) = m ((c.tc : Thread Cert.KernelDownIdeal.nD Cert.KernelDownIdeal.τ).loc Cert.KernelDownIdeal.main_arg2)
      ∧ m' ((c.tc : Thread Cert.ReferenceDownIdeal.nD Cert.ReferenceDownIdeal.τ).loc Cert.ReferenceDownIdeal.main_arg3) = m ((c.tc : Thread Cert.KernelDownIdeal.nD Cert.KernelDownIdeal.τ).loc Cert.KernelDownIdeal.main_arg3)
      ∧ m' ((c.tc : Thread Cert.ReferenceDownIdeal.nD Cert.ReferenceDownIdeal.τ).loc Cert.ReferenceDownIdeal.main_arg4) = m ((c.tc : Thread Cert.KernelDownIdeal.nD Cert.KernelDownIdeal.τ).loc Cert.KernelDownIdeal.main_arg4)
      ∧ m' ((c.tc : Thread Cert.ReferenceDownIdeal.nD Cert.ReferenceDownIdeal.τ).loc Cert.ReferenceDownIdeal.main_arg5) = m ((c.tc : Thread Cert.KernelDownIdeal.nD Cert.KernelDownIdeal.τ).loc Cert.KernelDownIdeal.main_arg5)
      ∧ m' ((c.tc : Thread Cert.ReferenceDownIdeal.nD Cert.ReferenceDownIdeal.τ).loc Cert.ReferenceDownIdeal.main_arg6) = m ((c.tc : Thread Cert.KernelDownIdeal.nD Cert.KernelDownIdeal.τ).loc Cert.KernelDownIdeal.main_arg6)) →
    ∃ (v0 : (c : Dev Cert.KernelDownIdeal.nD) → Buf (Elt Ideal) ((c.tc : Thread Cert.KernelDownIdeal.nD Cert.KernelDownIdeal.τ).loc Cert.KernelDownIdeal.main_v9_0)) (v1 : (c : Dev Cert.KernelDownIdeal.nD) → Buf (Elt Ideal) ((c.tc : Thread Cert.KernelDownIdeal.nD Cert.KernelDownIdeal.τ).loc Cert.KernelDownIdeal.main_v9_1)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v9_0) = v0 c
          ∧ r.2.mem ((c.tc : Thread Cert.KernelDownIdeal.nD Cert.KernelDownIdeal.τ).loc Cert.KernelDownIdeal.main_v9_1) = v1 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
          ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2)
          ∧ r.2.mem ((c.tc : Thread Cert.KernelDownIdeal.nD Cert.KernelDownIdeal.τ).loc Cert.KernelDownIdeal.main_arg3) = m ((c.tc : Thread Cert.KernelDownIdeal.nD Cert.KernelDownIdeal.τ).loc Cert.KernelDownIdeal.main_arg3)
          ∧ r.2.mem ((c.tc : Thread Cert.KernelDownIdeal.nD Cert.KernelDownIdeal.τ).loc Cert.KernelDownIdeal.main_arg4) = m ((c.tc : Thread Cert.KernelDownIdeal.nD Cert.KernelDownIdeal.τ).loc Cert.KernelDownIdeal.main_arg4)
          ∧ r.2.mem ((c.tc : Thread Cert.KernelDownIdeal.nD Cert.KernelDownIdeal.τ).loc Cert.KernelDownIdeal.main_arg5) = m ((c.tc : Thread Cert.KernelDownIdeal.nD Cert.KernelDownIdeal.τ).loc Cert.KernelDownIdeal.main_arg5)
          ∧ r.2.mem ((c.tc : Thread Cert.KernelDownIdeal.nD Cert.KernelDownIdeal.τ).loc Cert.KernelDownIdeal.main_arg6) = m ((c.tc : Thread Cert.KernelDownIdeal.nD Cert.KernelDownIdeal.τ).loc Cert.KernelDownIdeal.main_arg6))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v6) = v0 c
          ∧ r.2.mem ((c.tc : Thread Cert.ReferenceDownIdeal.nD Cert.ReferenceDownIdeal.τ).loc Cert.ReferenceDownIdeal.main_v13) = v1 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1)
          ∧ r.2.mem ((c.tc : Thread Cert.ReferenceDownIdeal.nD Cert.ReferenceDownIdeal.τ).loc Cert.ReferenceDownIdeal.main_arg2) = m' ((c.tc : Thread Cert.ReferenceDownIdeal.nD Cert.ReferenceDownIdeal.τ).loc Cert.ReferenceDownIdeal.main_arg2)
          ∧ r.2.mem ((c.tc : Thread Cert.ReferenceDownIdeal.nD Cert.ReferenceDownIdeal.τ).loc Cert.ReferenceDownIdeal.main_arg3) = m' ((c.tc : Thread Cert.ReferenceDownIdeal.nD Cert.ReferenceDownIdeal.τ).loc Cert.ReferenceDownIdeal.main_arg3)
          ∧ r.2.mem ((c.tc : Thread Cert.ReferenceDownIdeal.nD Cert.ReferenceDownIdeal.τ).loc Cert.ReferenceDownIdeal.main_arg4) = m' ((c.tc : Thread Cert.ReferenceDownIdeal.nD Cert.ReferenceDownIdeal.τ).loc Cert.ReferenceDownIdeal.main_arg4)
          ∧ r.2.mem ((c.tc : Thread Cert.ReferenceDownIdeal.nD Cert.ReferenceDownIdeal.τ).loc Cert.ReferenceDownIdeal.main_arg5) = m' ((c.tc : Thread Cert.ReferenceDownIdeal.nD Cert.ReferenceDownIdeal.τ).loc Cert.ReferenceDownIdeal.main_arg5)
          ∧ r.2.mem ((c.tc : Thread Cert.ReferenceDownIdeal.nD Cert.ReferenceDownIdeal.τ).loc Cert.ReferenceDownIdeal.main_arg6) = m' ((c.tc : Thread Cert.ReferenceDownIdeal.nD Cert.ReferenceDownIdeal.τ).loc Cert.ReferenceDownIdeal.main_arg6))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)
      ∧ m' ((c.tc : Thread Cert.ReferenceOutIdeal.nD Cert.ReferenceOutIdeal.τ).loc Cert.ReferenceOutIdeal.main_arg3) = m ((c.tc : Thread Cert.KernelOutIdeal.nD Cert.KernelOutIdeal.τ).loc Cert.KernelOutIdeal.main_arg3)
      ∧ m' ((c.tc : Thread Cert.ReferenceOutIdeal.nD Cert.ReferenceOutIdeal.τ).loc Cert.ReferenceOutIdeal.main_arg4) = m ((c.tc : Thread Cert.KernelOutIdeal.nD Cert.KernelOutIdeal.τ).loc Cert.KernelOutIdeal.main_arg4)
      ∧ m' ((c.tc : Thread Cert.ReferenceOutIdeal.nD Cert.ReferenceOutIdeal.τ).loc Cert.ReferenceOutIdeal.main_arg5) = m ((c.tc : Thread Cert.KernelOutIdeal.nD Cert.KernelOutIdeal.τ).loc Cert.KernelOutIdeal.main_arg5)
      ∧ m' ((c.tc : Thread Cert.ReferenceOutIdeal.nD Cert.ReferenceOutIdeal.τ).loc Cert.ReferenceOutIdeal.main_arg6) = m ((c.tc : Thread Cert.KernelOutIdeal.nD Cert.KernelOutIdeal.τ).loc Cert.KernelOutIdeal.main_arg6)) →
    ∃ (v0 : (c : Dev Cert.KernelOutIdeal.nD) → Buf (Elt Ideal) ((c.tc : Thread Cert.KernelOutIdeal.nD Cert.KernelOutIdeal.τ).loc Cert.KernelOutIdeal.main_v7_0)) (v1 : (c : Dev Cert.KernelOutIdeal.nD) → Buf (Elt Ideal) ((c.tc : Thread Cert.KernelOutIdeal.nD Cert.KernelOutIdeal.τ).loc Cert.KernelOutIdeal.main_v7_1)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v7_0) = v0 c
          ∧ r.2.mem ((c.tc : Thread Cert.KernelOutIdeal.nD Cert.KernelOutIdeal.τ).loc Cert.KernelOutIdeal.main_v7_1) = v1 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
          ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
          ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4)
          ∧ r.2.mem ((c.tc : Thread Cert.KernelOutIdeal.nD Cert.KernelOutIdeal.τ).loc Cert.KernelOutIdeal.main_arg5) = m ((c.tc : Thread Cert.KernelOutIdeal.nD Cert.KernelOutIdeal.τ).loc Cert.KernelOutIdeal.main_arg5)
          ∧ r.2.mem ((c.tc : Thread Cert.KernelOutIdeal.nD Cert.KernelOutIdeal.τ).loc Cert.KernelOutIdeal.main_arg6) = m ((c.tc : Thread Cert.KernelOutIdeal.nD Cert.KernelOutIdeal.τ).loc Cert.KernelOutIdeal.main_arg6))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v27) = v0 c
          ∧ r.2.mem ((c.tc : Thread Cert.ReferenceOutIdeal.nD Cert.ReferenceOutIdeal.τ).loc Cert.ReferenceOutIdeal.main_v29) = v1 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2)
          ∧ r.2.mem ((c.tc : Thread Cert.ReferenceOutIdeal.nD Cert.ReferenceOutIdeal.τ).loc Cert.ReferenceOutIdeal.main_arg3) = m' ((c.tc : Thread Cert.ReferenceOutIdeal.nD Cert.ReferenceOutIdeal.τ).loc Cert.ReferenceOutIdeal.main_arg3)
          ∧ r.2.mem ((c.tc : Thread Cert.ReferenceOutIdeal.nD Cert.ReferenceOutIdeal.τ).loc Cert.ReferenceOutIdeal.main_arg4) = m' ((c.tc : Thread Cert.ReferenceOutIdeal.nD Cert.ReferenceOutIdeal.τ).loc Cert.ReferenceOutIdeal.main_arg4)
          ∧ r.2.mem ((c.tc : Thread Cert.ReferenceOutIdeal.nD Cert.ReferenceOutIdeal.τ).loc Cert.ReferenceOutIdeal.main_arg5) = m' ((c.tc : Thread Cert.ReferenceOutIdeal.nD Cert.ReferenceOutIdeal.τ).loc Cert.ReferenceOutIdeal.main_arg5)
          ∧ r.2.mem ((c.tc : Thread Cert.ReferenceOutIdeal.nD Cert.ReferenceOutIdeal.τ).loc Cert.ReferenceOutIdeal.main_arg6) = m' ((c.tc : Thread Cert.ReferenceOutIdeal.nD Cert.ReferenceOutIdeal.τ).loc Cert.ReferenceOutIdeal.main_arg6))

def preserves_KernelFinal_KernelFinalIdeal : Prop :=
  True

def algebraic_KernelFinalIdeal_ReferenceFinalIdeal [hKernelFinalIdeal : Cert.KernelFinalIdeal.Facts] [hReferenceFinalIdeal : Cert.ReferenceFinalIdeal.Facts] : Prop :=
  ∀ (m : (ℓ : Loc Cert.KernelFinalIdeal.nD Cert.KernelFinalIdeal.τ Cert.KernelFinalIdeal.sig) → Buf (Elt Ideal) ℓ) (g : Dev Cert.KernelFinalIdeal.nD → PrngReg)
    (m' : (ℓ : Loc Cert.ReferenceFinalIdeal.nD Cert.ReferenceFinalIdeal.τ Cert.ReferenceFinalIdeal.sig) → Buf (Elt Ideal) ℓ) (g' : Dev Cert.ReferenceFinalIdeal.nD → PrngReg), Pre_KernelFinalIdeal m →
    (∀ c : Dev Cert.KernelFinalIdeal.nD,
      m' ((c.tc : Thread Cert.ReferenceFinalIdeal.nD Cert.ReferenceFinalIdeal.τ).loc Cert.ReferenceFinalIdeal.main_arg0) = m ((c.tc : Thread Cert.KernelFinalIdeal.nD Cert.KernelFinalIdeal.τ).loc Cert.KernelFinalIdeal.main_arg0)
      ∧ m' ((c.tc : Thread Cert.ReferenceFinalIdeal.nD Cert.ReferenceFinalIdeal.τ).loc Cert.ReferenceFinalIdeal.main_arg1) = m ((c.tc : Thread Cert.KernelFinalIdeal.nD Cert.KernelFinalIdeal.τ).loc Cert.KernelFinalIdeal.main_arg1)) →
    ∃ (v0 : (c : Dev Cert.KernelFinalIdeal.nD) → Buf (Elt Ideal) ((c.tc : Thread Cert.KernelFinalIdeal.nD Cert.KernelFinalIdeal.τ).loc Cert.KernelFinalIdeal.main_v2)),
      θ_run (Cert.KernelFinalIdeal.defs (F := Ideal)) (onTc (τ := Cert.KernelFinalIdeal.τ) (Cert.KernelFinalIdeal.main (F := Ideal))) ⟨m, fun _ => 0, g⟩ (fun r => ∀ c : Dev Cert.KernelFinalIdeal.nD,
          r.2.mem ((c.tc : Thread Cert.KernelFinalIdeal.nD Cert.KernelFinalIdeal.τ).loc Cert.KernelFinalIdeal.main_v2) = v0 c
          ∧ r.2.mem ((c.tc : Thread Cert.KernelFinalIdeal.nD Cert.KernelFinalIdeal.τ).loc Cert.KernelFinalIdeal.main_arg0) = m ((c.tc : Thread Cert.KernelFinalIdeal.nD Cert.KernelFinalIdeal.τ).loc Cert.KernelFinalIdeal.main_arg0)
          ∧ r.2.mem ((c.tc : Thread Cert.KernelFinalIdeal.nD Cert.KernelFinalIdeal.τ).loc Cert.KernelFinalIdeal.main_arg1) = m ((c.tc : Thread Cert.KernelFinalIdeal.nD Cert.KernelFinalIdeal.τ).loc Cert.KernelFinalIdeal.main_arg1))
      ∧ θ_run (Cert.ReferenceFinalIdeal.defs (F := Ideal)) (onTc (τ := Cert.ReferenceFinalIdeal.τ) (Cert.ReferenceFinalIdeal.main (F := Ideal))) ⟨m', fun _ => 0, g'⟩ (fun r => ∀ c : Dev Cert.ReferenceFinalIdeal.nD,
          r.2.mem ((c.tc : Thread Cert.ReferenceFinalIdeal.nD Cert.ReferenceFinalIdeal.τ).loc Cert.ReferenceFinalIdeal.main_v13) = v0 c
          ∧ r.2.mem ((c.tc : Thread Cert.ReferenceFinalIdeal.nD Cert.ReferenceFinalIdeal.τ).loc Cert.ReferenceFinalIdeal.main_arg0) = m' ((c.tc : Thread Cert.ReferenceFinalIdeal.nD Cert.ReferenceFinalIdeal.τ).loc Cert.ReferenceFinalIdeal.main_arg0)
          ∧ r.2.mem ((c.tc : Thread Cert.ReferenceFinalIdeal.nD Cert.ReferenceFinalIdeal.τ).loc Cert.ReferenceFinalIdeal.main_arg1) = m' ((c.tc : Thread Cert.ReferenceFinalIdeal.nD Cert.ReferenceFinalIdeal.τ).loc Cert.ReferenceFinalIdeal.main_arg1))

def preserves_KernelQuery_KernelQueryIdeal : Prop :=
  True

def algebraic_KernelQueryIdeal_ReferenceQueryIdeal [hKernelQueryIdeal : Cert.KernelQueryIdeal.Facts] [hReferenceQueryIdeal : Cert.ReferenceQueryIdeal.Facts] : Prop :=
  ∀ (m : (ℓ : Loc Cert.KernelQueryIdeal.nD Cert.KernelQueryIdeal.τ Cert.KernelQueryIdeal.sig) → Buf (Elt Ideal) ℓ) (g : Dev Cert.KernelQueryIdeal.nD → PrngReg)
    (m' : (ℓ : Loc Cert.ReferenceQueryIdeal.nD Cert.ReferenceQueryIdeal.τ Cert.ReferenceQueryIdeal.sig) → Buf (Elt Ideal) ℓ) (g' : Dev Cert.ReferenceQueryIdeal.nD → PrngReg), Pre_KernelQueryIdeal m →
    (∀ c : Dev Cert.KernelQueryIdeal.nD,
      m' ((c.tc : Thread Cert.ReferenceQueryIdeal.nD Cert.ReferenceQueryIdeal.τ).loc Cert.ReferenceQueryIdeal.main_arg0) = m ((c.tc : Thread Cert.KernelQueryIdeal.nD Cert.KernelQueryIdeal.τ).loc Cert.KernelQueryIdeal.main_arg0)
      ∧ m' ((c.tc : Thread Cert.ReferenceQueryIdeal.nD Cert.ReferenceQueryIdeal.τ).loc Cert.ReferenceQueryIdeal.main_arg1) = m ((c.tc : Thread Cert.KernelQueryIdeal.nD Cert.KernelQueryIdeal.τ).loc Cert.KernelQueryIdeal.main_arg1)) →
    ∃ (v0 : (c : Dev Cert.KernelQueryIdeal.nD) → Buf (Elt Ideal) ((c.tc : Thread Cert.KernelQueryIdeal.nD Cert.KernelQueryIdeal.τ).loc Cert.KernelQueryIdeal.main_v22)),
      θ_run (Cert.KernelQueryIdeal.defs (F := Ideal)) (onTc (τ := Cert.KernelQueryIdeal.τ) (Cert.KernelQueryIdeal.main (F := Ideal))) ⟨m, fun _ => 0, g⟩ (fun r => ∀ c : Dev Cert.KernelQueryIdeal.nD,
          r.2.mem ((c.tc : Thread Cert.KernelQueryIdeal.nD Cert.KernelQueryIdeal.τ).loc Cert.KernelQueryIdeal.main_v22) = v0 c
          ∧ r.2.mem ((c.tc : Thread Cert.KernelQueryIdeal.nD Cert.KernelQueryIdeal.τ).loc Cert.KernelQueryIdeal.main_arg0) = m ((c.tc : Thread Cert.KernelQueryIdeal.nD Cert.KernelQueryIdeal.τ).loc Cert.KernelQueryIdeal.main_arg0)
          ∧ r.2.mem ((c.tc : Thread Cert.KernelQueryIdeal.nD Cert.KernelQueryIdeal.τ).loc Cert.KernelQueryIdeal.main_arg1) = m ((c.tc : Thread Cert.KernelQueryIdeal.nD Cert.KernelQueryIdeal.τ).loc Cert.KernelQueryIdeal.main_arg1))
      ∧ θ_run (Cert.ReferenceQueryIdeal.defs (F := Ideal)) (onTc (τ := Cert.ReferenceQueryIdeal.τ) (Cert.ReferenceQueryIdeal.main (F := Ideal))) ⟨m', fun _ => 0, g'⟩ (fun r => ∀ c : Dev Cert.ReferenceQueryIdeal.nD,
          r.2.mem ((c.tc : Thread Cert.ReferenceQueryIdeal.nD Cert.ReferenceQueryIdeal.τ).loc Cert.ReferenceQueryIdeal.main_v5) = v0 c
          ∧ r.2.mem ((c.tc : Thread Cert.ReferenceQueryIdeal.nD Cert.ReferenceQueryIdeal.τ).loc Cert.ReferenceQueryIdeal.main_arg0) = m' ((c.tc : Thread Cert.ReferenceQueryIdeal.nD Cert.ReferenceQueryIdeal.τ).loc Cert.ReferenceQueryIdeal.main_arg0)
          ∧ r.2.mem ((c.tc : Thread Cert.ReferenceQueryIdeal.nD Cert.ReferenceQueryIdeal.τ).loc Cert.ReferenceQueryIdeal.main_arg1) = m' ((c.tc : Thread Cert.ReferenceQueryIdeal.nD Cert.ReferenceQueryIdeal.τ).loc Cert.ReferenceQueryIdeal.main_arg1))

def Claim : Prop :=
  ∃ (hKernel : Cert.Kernel.Facts) (hKernelIdeal : Cert.KernelIdeal.Facts) (hReferenceIdeal : Cert.ReferenceIdeal.Facts) (hKernelFfn : Cert.KernelFfn.Facts) (hKernelFfnIdeal : Cert.KernelFfnIdeal.Facts) (hReferenceFfnIdeal : Cert.ReferenceFfnIdeal.Facts) (hKernelDown : Cert.KernelDown.Facts) (hKernelDownIdeal : Cert.KernelDownIdeal.Facts) (hReferenceDownIdeal : Cert.ReferenceDownIdeal.Facts) (hKernelOut : Cert.KernelOut.Facts) (hKernelOutIdeal : Cert.KernelOutIdeal.Facts) (hReferenceOutIdeal : Cert.ReferenceOutIdeal.Facts) (hKernelFinal : Cert.KernelFinal.Facts) (hKernelFinalIdeal : Cert.KernelFinalIdeal.Facts) (hReferenceFinalIdeal : Cert.ReferenceFinalIdeal.Facts) (hKernelQuery : Cert.KernelQuery.Facts) (hKernelQueryIdeal : Cert.KernelQueryIdeal.Facts) (hReferenceQueryIdeal : Cert.ReferenceQueryIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelFfn (hKernelFfn := hKernelFfn)
    ∧ quiescent_KernelFfnIdeal (hKernelFfnIdeal := hKernelFfnIdeal)
    ∧ quiescent_ReferenceFfnIdeal (hReferenceFfnIdeal := hReferenceFfnIdeal)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelFinal (hKernelFinal := hKernelFinal)
    ∧ quiescent_KernelFinalIdeal (hKernelFinalIdeal := hKernelFinalIdeal)
    ∧ quiescent_ReferenceFinalIdeal (hReferenceFinalIdeal := hReferenceFinalIdeal)
    ∧ quiescent_KernelQuery (hKernelQuery := hKernelQuery)
    ∧ quiescent_KernelQueryIdeal (hKernelQueryIdeal := hKernelQueryIdeal)
    ∧ quiescent_ReferenceQueryIdeal (hReferenceQueryIdeal := hReferenceQueryIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelFfn_KernelFfnIdeal
    ∧ algebraic_KernelFfnIdeal_ReferenceFfnIdeal (hKernelFfnIdeal := hKernelFfnIdeal) (hReferenceFfnIdeal := hReferenceFfnIdeal)
    ∧ preserves_KernelDown_KernelDownIdeal
    ∧ algebraic_KernelDownIdeal_ReferenceDownIdeal (hKernelDownIdeal := hKernelDownIdeal) (hReferenceDownIdeal := hReferenceDownIdeal)
    ∧ preserves_KernelOut_KernelOutIdeal
    ∧ algebraic_KernelOutIdeal_ReferenceOutIdeal (hKernelOutIdeal := hKernelOutIdeal) (hReferenceOutIdeal := hReferenceOutIdeal)
    ∧ preserves_KernelFinal_KernelFinalIdeal
    ∧ algebraic_KernelFinalIdeal_ReferenceFinalIdeal (hKernelFinalIdeal := hKernelFinalIdeal) (hReferenceFinalIdeal := hReferenceFinalIdeal)
    ∧ preserves_KernelQuery_KernelQueryIdeal
    ∧ algebraic_KernelQueryIdeal_ReferenceQueryIdeal (hKernelQueryIdeal := hKernelQueryIdeal) (hReferenceQueryIdeal := hReferenceQueryIdeal)
-- ==== Pre_finite.lean ====
abbrev S2x4096x16x128 : Shape := ⟨4, ![2, 4096, 16, 128]⟩
abbrev S2x4096x8x128 : Shape := ⟨4, ![2, 4096, 8, 128]⟩
abbrev S_ : Shape := ⟨0, ![]⟩

class Facts : Prop where
  bcast_S_S2x4096x16x128 : S_.BroadcastsInDim S2x4096x16x128 (![] : Fin 0 → Fin S2x4096x16x128.rank)
  reducesTo_S2x4096x16x128_S_d0_1_2_3 : S2x4096x16x128.ReducesTo [0, 1, 2, 3] S_
  h_S_ : 0 < S_.numel
  bcast_S_S2x4096x8x128 : S_.BroadcastsInDim S2x4096x8x128 (![] : Fin 0 → Fin S2x4096x8x128.rank)
  reducesTo_S2x4096x8x128_S_d0_1_2_3 : S2x4096x8x128.ReducesTo [0, 1, 2, 3] S_

variable [Facts]

def fn {F : FTy → Type} [FloatOps F] (main_arg0 : FVec F S2x4096x16x128 .f32) (main_arg1 : FVec F S2x4096x8x128 .f32) (main_arg2 : FVec F S2x4096x8x128 .f32) : IVec S_ 1 :=
  let main_v0 : FVec F S2x4096x16x128 .f32 := Host.absf main_arg0
  let main_cst : FVec F S_ .f32 := constant S_ .f32 0x7F800000#32
  let main_v1 : FVec F S2x4096x16x128 .f32 := broadcastInDim S2x4096x16x128 ![] bcast_S_S2x4096x16x128 main_cst
  let main_v2 : IVec S2x4096x16x128 1 := cmpf .olt main_v0 main_v1
  let main_c : IVec S_ 1 := constantI S_ 1 1#1
  let main_v3 : IVec S_ 1 := (fun x v => Host.reduce IntOp.andi x v reducesTo_S2x4096x16x128_S_d0_1_2_3 h_S_) main_v2 main_c
  let main_v4 : FVec F S2x4096x8x128 .f32 := Host.absf main_arg1
  let main_cst_0 : FVec F S_ .f32 := constant S_ .f32 0x7F800000#32
  let main_v5 : FVec F S2x4096x8x128 .f32 := broadcastInDim S2x4096x8x128 ![] bcast_S_S2x4096x8x128 main_cst_0
  let main_v6 : IVec S2x4096x8x128 1 := cmpf .olt main_v4 main_v5
  let main_c_1 : IVec S_ 1 := constantI S_ 1 1#1
  let main_v7 : IVec S_ 1 := (fun x v => Host.reduce IntOp.andi x v reducesTo_S2x4096x8x128_S_d0_1_2_3 h_S_) main_v6 main_c_1
  let main_v8 : IVec S_ 1 := andi main_v3 main_v7
  main_v8
-- ==== Kernel.lean ====
abbrev S2x4096x16x128 : Shape := ⟨4, ![2, 4096, 16, 128]⟩
abbrev S2x4096x8x128 : Shape := ⟨4, ![2, 4096, 8, 128]⟩
abbrev S8192x2048 : Shape := ⟨2, ![8192, 2048]⟩
abbrev S8192x1024 : Shape := ⟨2, ![8192, 1024]⟩
abbrev S2x16x256x1024 : Shape := ⟨4, ![2, 16, 256, 1024]⟩
abbrev S2x16x1024x256 : Shape := ⟨4, ![2, 16, 1024, 256]⟩
abbrev S256x256 : Shape := ⟨2, ![256, 256]⟩
abbrev S_ : Shape := ⟨0, ![]⟩
abbrev S8x256 : Shape := ⟨2, ![8, 256]⟩
abbrev S264x256 : Shape := ⟨2, ![264, 256]⟩
abbrev S256x1024 : Shape := ⟨2, ![256, 1024]⟩
abbrev S4096x512 : Shape := ⟨2, ![4096, 512]⟩
abbrev S1x16x512x256 : Shape := ⟨4, ![1, 16, 512, 256]⟩
abbrev S8x1x256 : Shape := ⟨3, ![8, 1, 256]⟩
abbrev S8x128x256 : Shape := ⟨3, ![8, 128, 256]⟩
abbrev S1x256 : Shape := ⟨2, ![1, 256]⟩
abbrev S256x128 : Shape := ⟨2, ![256, 128]⟩
abbrev S1x1x256 : Shape := ⟨3, ![1, 1, 256]⟩
abbrev S1x128x256 : Shape := ⟨3, ![1, 128, 256]⟩
abbrev S128x256 : Shape := ⟨2, ![128, 256]⟩
abbrev S1x1x128x256 : Shape := ⟨4, ![1, 1, 128, 256]⟩
abbrev S1x8x1x256 : Shape := ⟨4, ![1, 8, 1, 256]⟩
abbrev S1 : Shape := ⟨1, ![1]⟩
abbrev S1x1x1x1 : Shape := ⟨4, ![1, 1, 1, 1]⟩

abbrev nBuf : Space → Nat
  | .hbm => 22
  | .vmem => 11
  | .smem => 0
  | _ => 0

abbrev bufTy : (tb : Table) → Fin (tcTables nBuf tb) → BufTy
  | .hbm, ⟨0, _⟩ => ⟨S2x4096x16x128, .f32⟩
  | .hbm, ⟨1, _⟩ => ⟨S2x4096x8x128, .f32⟩
  | .hbm, ⟨2, _⟩ => ⟨S2x4096x8x128, .f32⟩
  | .hbm, ⟨3, _⟩ => ⟨S8192x2048, .f32⟩
  | .hbm, ⟨4, _⟩ => ⟨S8192x1024, .f32⟩
  | .hbm, ⟨5, _⟩ => ⟨S8192x1024, .f32⟩
  | .hbm, ⟨6, _⟩ => ⟨S8192x1024, .bf16⟩
  | .hbm, ⟨7, _⟩ => ⟨S8192x1024, .bf16⟩
  | .hbm, ⟨8, _⟩ => ⟨S2x16x256x1024, .bf16⟩
  | .hbm, ⟨9, _⟩ => ⟨S2x16x1024x256, .bf16⟩
  | .hbm, ⟨10, _⟩ => ⟨S256x256, .i32⟩
  | .hbm, ⟨11, _⟩ => ⟨S256x256, .i32⟩
  | .hbm, ⟨12, _⟩ => ⟨S256x256, .i1⟩
  | .hbm, ⟨13, _⟩ => ⟨S256x256, .f32⟩
  | .hbm, ⟨14, _⟩ => ⟨S256x256, .bf16⟩
  | .hbm, ⟨15, _⟩ => ⟨S256x256, .bf16⟩
  | .hbm, ⟨16, _⟩ => ⟨S256x256, .bf16⟩
  | .hbm, ⟨17, _⟩ => ⟨S_, .bf16⟩
  | .hbm, ⟨18, _⟩ => ⟨S8x256, .bf16⟩
  | .hbm, ⟨19, _⟩ => ⟨S8x256, .bf16⟩
  | .hbm, ⟨20, _⟩ => ⟨S264x256, .bf16⟩
  | .hbm, ⟨21, _⟩ => ⟨S8192x2048, .bf16⟩
  | .local _ .vmem, ⟨0, _⟩ => ⟨S256x1024, .f32⟩
  | .local _ .vmem, ⟨1, _⟩ => ⟨S256x1024, .f32⟩
  | .local _ .vmem, ⟨2, _⟩ => ⟨S4096x512, .bf16⟩
  | .local _ .vmem, ⟨3, _⟩ => ⟨S4096x512, .bf16⟩
  | .local _ .vmem, ⟨4, _⟩ => ⟨S1x16x512x256, .bf16⟩
  | .local _ .vmem, ⟨5, _⟩ => ⟨S1x16x512x256, .bf16⟩
  | .local _ .vmem, ⟨6, _⟩ => ⟨S264x256, .bf16⟩
  | .local _ .vmem, ⟨7, _⟩ => ⟨S256x1024, .bf16⟩
  | .local _ .vmem, ⟨8, _⟩ => ⟨S256x1024, .bf16⟩
  | .local _ .vmem, ⟨9, _⟩ => ⟨S8x1x256, .f32⟩
  | .local _ .vmem, ⟨10, _⟩ => ⟨S8x128x256, .f32⟩
  | _, _ => ⟨S2x4096x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![2, 2, 16], ![false, false, false]⟩

def k0_mult1 (i : grid0.Coords) : BitVec 32 :=
  let arg2 : BitVec 32 := BitVec.ofNat 32 (i 2).val
  let c1_i32 : BitVec 32 := 1#32
  let v0 : BitVec 32 := Scalar.addi arg2 c1_i32
  let c256_i32 : BitVec 32 := 256#32
  let v1 : BitVec 32 := Scalar.muli v0 c256_i32
  let c256_i32_0 : BitVec 32 := 256#32
  let v2 : BitVec 32 := Scalar.addi v1 c256_i32_0
  let c1_i32_1 : BitVec 32 := 1#32
  let v3 : BitVec 32 := Scalar.subi v2 c1_i32_1
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c1_i32_15 : BitVec 32 := 1#32
  let v33 : BitVec 32 := Scalar.subi v20 c1_i32_15
  let c256_i32_16 : BitVec 32 := 256#32
  let v34 : BitVec 32 := Scalar.muli v33 c256_i32_16
  v34
def k0_off1 (i : grid0.Coords) : Fin 2 → Nat :=
  let arg2 : BitVec 32 := BitVec.ofNat 32 (i 2).val
  let c1_i32 : BitVec 32 := 1#32
  let v0 : BitVec 32 := Scalar.addi arg2 c1_i32
  let c256_i32 : BitVec 32 := 256#32
  let v1 : BitVec 32 := Scalar.muli v0 c256_i32
  let c256_i32_0 : BitVec 32 := 256#32
  let v2 : BitVec 32 := Scalar.addi v1 c256_i32_0
  let c1_i32_1 : BitVec 32 := 1#32
  let v3 : BitVec 32 := Scalar.subi v2 c1_i32_1
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c1_i32_15 : BitVec 32 := 1#32
  let v33 : BitVec 32 := Scalar.subi v20 c1_i32_15
  let c256_i32_16 : BitVec 32 := 256#32
  let v34 : BitVec 32 := Scalar.muli v33 c256_i32_16
  let v35 : BitVec 32 := v34
  let v42 : Index := Scalar.indexCast v35
  let c0_18 : Index := 0#32
  ![v42.toNat, 0]
def k0_off2 (i : grid0.Coords) : Fin 2 → Nat :=
  let arg2 : BitVec 32 := BitVec.ofNat 32 (i 2).val
  let c1_i32 : BitVec 32 := 1#32
  let v0 : BitVec 32 := Scalar.addi arg2 c1_i32
  let c256_i32 : BitVec 32 := 256#32
  let v1 : BitVec 32 := Scalar.muli v0 c256_i32
  let c256_i32_0 : BitVec 32 := 256#32
  let v2 : BitVec 32 := Scalar.addi v1 c256_i32_0
  let c1_i32_1 : BitVec 32 := 1#32
  let v3 : BitVec 32 := Scalar.subi v2 c1_i32_1
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c1_i32_15 : BitVec 32 := 1#32
  let v33 : BitVec 32 := Scalar.subi v20 c1_i32_15
  let c256_i32_16 : BitVec 32 := 256#32
  let v34 : BitVec 32 := Scalar.muli v33 c256_i32_16
  let v35 : BitVec 32 := v34
  let v60 : Index := Scalar.indexCast v35
  let c128_27 : Index := 128#32
  ![v60.toNat, 128]
def k0_off3 (i : grid0.Coords) : Fin 2 → Nat :=
  let arg2 : BitVec 32 := BitVec.ofNat 32 (i 2).val
  let c1_i32 : BitVec 32 := 1#32
  let v0 : BitVec 32 := Scalar.addi arg2 c1_i32
  let c256_i32 : BitVec 32 := 256#32
  let v1 : BitVec 32 := Scalar.muli v0 c256_i32
  let c256_i32_0 : BitVec 32 := 256#32
  let v2 : BitVec 32 := Scalar.addi v1 c256_i32_0
  let c1_i32_1 : BitVec 32 := 1#32
  let v3 : BitVec 32 := Scalar.subi v2 c1_i32_1
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c1_i32_15 : BitVec 32 := 1#32
  let v33 : BitVec 32 := Scalar.subi v20 c1_i32_15
  let c256_i32_16 : BitVec 32 := 256#32
  let v34 : BitVec 32 := Scalar.muli v33 c256_i32_16
  let v35 : BitVec 32 := v34
  let v153 : Index := Scalar.indexCast v35
  let c256_72 : Index := 256#32
  ![v153.toNat, 256]
def k0_off4 (i : grid0.Coords) : Fin 4 → Nat :=
  let c0_80 : Index := 0#32
  let arg2 : BitVec 32 := BitVec.ofNat 32 (i 2).val
  let c1_i32 : BitVec 32 := 1#32
  let v0 : BitVec 32 := Scalar.addi arg2 c1_i32
  let c256_i32 : BitVec 32 := 256#32
  let v1 : BitVec 32 := Scalar.muli v0 c256_i32
  let c256_i32_0 : BitVec 32 := 256#32
  let v2 : BitVec 32 := Scalar.addi v1 c256_i32_0
  let c1_i32_1 : BitVec 32 := 1#32
  let v3 : BitVec 32 := Scalar.subi v2 c1_i32_1
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c1_i32_15 : BitVec 32 := 1#32
  let v33 : BitVec 32 := Scalar.subi v20 c1_i32_15
  let v169 : Index := Scalar.indexCast v33
  let c0_81 : Index := 0#32
  let c0_82 : Index := 0#32
  ![0, v169.toNat, 0, 0]
def k0_off5 (i : grid0.Coords) : Fin 2 → Nat :=
  let arg2 : BitVec 32 := BitVec.ofNat 32 (i 2).val
  let c1_i32 : BitVec 32 := 1#32
  let v0 : BitVec 32 := Scalar.addi arg2 c1_i32
  let c256_i32 : BitVec 32 := 256#32
  let v1 : BitVec 32 := Scalar.muli v0 c256_i32
  let c256_i32_0 : BitVec 32 := 256#32
  let v2 : BitVec 32 := Scalar.addi v1 c256_i32_0
  let c1_i32_1 : BitVec 32 := 1#32
  let v3 : BitVec 32 := Scalar.subi v2 c1_i32_1
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c1_i32_15 : BitVec 32 := 1#32
  let v33 : BitVec 32 := Scalar.subi v20 c1_i32_15
  let c256_i32_16 : BitVec 32 := 256#32
  let v34 : BitVec 32 := Scalar.muli v33 c256_i32_16
  let v35 : BitVec 32 := v34
  let v253 : Index := Scalar.indexCast v35
  let c384_126 : Index := 384#32
  ![v253.toNat, 384]
def k0_off6 (i : grid0.Coords) : Fin 4 → Nat :=
  let c0_134 : Index := 0#32
  let arg2 : BitVec 32 := BitVec.ofNat 32 (i 2).val
  let c1_i32 : BitVec 32 := 1#32
  let v0 : BitVec 32 := Scalar.addi arg2 c1_i32
  let c256_i32 : BitVec 32 := 256#32
  let v1 : BitVec 32 := Scalar.muli v0 c256_i32
  let c256_i32_0 : BitVec 32 := 256#32
  let v2 : BitVec 32 := Scalar.addi v1 c256_i32_0
  let c1_i32_1 : BitVec 32 := 1#32
  let v3 : BitVec 32 := Scalar.subi v2 c1_i32_1
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c1_i32_15 : BitVec 32 := 1#32
  let v33 : BitVec 32 := Scalar.subi v20 c1_i32_15
  let v269 : Index := Scalar.indexCast v33
  let c128_135 : Index := 128#32
  let c0_136 : Index := 0#32
  ![0, v269.toNat, 128, 0]
def k0_off7 (i : grid0.Coords) : Fin 4 → Nat :=
  let c0_184 : Index := 0#32
  let arg2 : BitVec 32 := BitVec.ofNat 32 (i 2).val
  let c1_i32 : BitVec 32 := 1#32
  let v0 : BitVec 32 := Scalar.addi arg2 c1_i32
  let c256_i32 : BitVec 32 := 256#32
  let v1 : BitVec 32 := Scalar.muli v0 c256_i32
  let c256_i32_0 : BitVec 32 := 256#32
  let v2 : BitVec 32 := Scalar.addi v1 c256_i32_0
  let c1_i32_1 : BitVec 32 := 1#32
  let v3 : BitVec 32 := Scalar.subi v2 c1_i32_1
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c1_i32_15 : BitVec 32 := 1#32
  let v33 : BitVec 32 := Scalar.subi v20 c1_i32_15
  let v360 : Index := Scalar.indexCast v33
  let c256_185 : Index := 256#32
  let c0_186 : Index := 0#32
  ![0, v360.toNat, 256, 0]
def k0_off8 (i : grid0.Coords) : Fin 4 → Nat :=
  let c0_218 : Index := 0#32
  let arg2 : BitVec 32 := BitVec.ofNat 32 (i 2).val
  let c1_i32 : BitVec 32 := 1#32
  let v0 : BitVec 32 := Scalar.addi arg2 c1_i32
  let c256_i32 : BitVec 32 := 256#32
  let v1 : BitVec 32 := Scalar.muli v0 c256_i32
  let c256_i32_0 : BitVec 32 := 256#32
  let v2 : BitVec 32 := Scalar.addi v1 c256_i32_0
  let c1_i32_1 : BitVec 32 := 1#32
  let v3 : BitVec 32 := Scalar.subi v2 c1_i32_1
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c1_i32_15 : BitVec 32 := 1#32
  let v33 : BitVec 32 := Scalar.subi v20 c1_i32_15
  let v417 : Index := Scalar.indexCast v33
  let c384_219 : Index := 384#32
  let c0_220 : Index := 0#32
  ![0, v417.toNat, 384, 0]
def k0_mult2 (i : grid0.Coords) (arg10 : BitVec 32) : BitVec 32 :=
  let arg2 : BitVec 32 := BitVec.ofNat 32 (i 2).val
  let c1_i32 : BitVec 32 := 1#32
  let v0 : BitVec 32 := Scalar.addi arg2 c1_i32
  let c256_i32 : BitVec 32 := 256#32
  let v1 : BitVec 32 := Scalar.muli v0 c256_i32
  let c256_i32_0 : BitVec 32 := 256#32
  let v2 : BitVec 32 := Scalar.addi v1 c256_i32_0
  let c1_i32_1 : BitVec 32 := 1#32
  let v3 : BitVec 32 := Scalar.subi v2 c1_i32_1
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c1_i32_281 : BitVec 32 := 1#32
  let v488 : BitVec 32 := Scalar.subi v20 c1_i32_281
  let v489 : BitVec 32 := Scalar.subi v488 arg10
  let c256_i32_282 : BitVec 32 := 256#32
  let v490 : BitVec 32 := Scalar.muli v489 c256_i32_282
  v490

def k0_off9 (i : grid0.Coords) (arg10 : BitVec 32) : Fin 2 → Nat :=
  let arg2 : BitVec 32 := BitVec.ofNat 32 (i 2).val
  let c1_i32 : BitVec 32 := 1#32
  let v0 : BitVec 32 := Scalar.addi arg2 c1_i32
  let c256_i32 : BitVec 32 := 256#32
  let v1 : BitVec 32 := Scalar.muli v0 c256_i32
  let c256_i32_0 : BitVec 32 := 256#32
  let v2 : BitVec 32 := Scalar.addi v1 c256_i32_0
  let c1_i32_1 : BitVec 32 := 1#32
  let v3 : BitVec 32 := Scalar.subi v2 c1_i32_1
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c1_i32_281 : BitVec 32 := 1#32
  let v488 : BitVec 32 := Scalar.subi v20 c1_i32_281
  let v489 : BitVec 32 := Scalar.subi v488 arg10
  let c256_i32_282 : BitVec 32 := 256#32
  let v490 : BitVec 32 := Scalar.muli v489 c256_i32_282
  let v491 : BitVec 32 := v490
  let v492 : Index := Scalar.indexCast v491
  let c0_283 : Index := 0#32
  ![v492.toNat, 0]
def k0_off10 (i : grid0.Coords) (arg10 : BitVec 32) : Fin 2 → Nat :=
  let arg2 : BitVec 32 := BitVec.ofNat 32 (i 2).val
  let c1_i32 : BitVec 32 := 1#32
  let v0 : BitVec 32 := Scalar.addi arg2 c1_i32
  let c256_i32 : BitVec 32 := 256#32
  let v1 : BitVec 32 := Scalar.muli v0 c256_i32
  let c256_i32_0 : BitVec 32 := 256#32
  let v2 : BitVec 32 := Scalar.addi v1 c256_i32_0
  let c1_i32_1 : BitVec 32 := 1#32
  let v3 : BitVec 32 := Scalar.subi v2 c1_i32_1
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c1_i32_281 : BitVec 32 := 1#32
  let v488 : BitVec 32 := Scalar.subi v20 c1_i32_281
  let v489 : BitVec 32 := Scalar.subi v488 arg10
  let c256_i32_282 : BitVec 32 := 256#32
  let v490 : BitVec 32 := Scalar.muli v489 c256_i32_282
  let v491 : BitVec 32 := v490
  let v510 : Index := Scalar.indexCast v491
  let c128_293 : Index := 128#32
  ![v510.toNat, 128]
def k0_off11 (i : grid0.Coords) (arg10 : BitVec 32) : Fin 2 → Nat :=
  let arg2 : BitVec 32 := BitVec.ofNat 32 (i 2).val
  let c1_i32 : BitVec 32 := 1#32
  let v0 : BitVec 32 := Scalar.addi arg2 c1_i32
  let c256_i32 : BitVec 32 := 256#32
  let v1 : BitVec 32 := Scalar.muli v0 c256_i32
  let c256_i32_0 : BitVec 32 := 256#32
  let v2 : BitVec 32 := Scalar.addi v1 c256_i32_0
  let c1_i32_1 : BitVec 32 := 1#32
  let v3 : BitVec 32 := Scalar.subi v2 c1_i32_1
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c1_i32_281 : BitVec 32 := 1#32
  let v488 : BitVec 32 := Scalar.subi v20 c1_i32_281
  let v489 : BitVec 32 := Scalar.subi v488 arg10
  let c256_i32_282 : BitVec 32 := 256#32
  let v490 : BitVec 32 := Scalar.muli v489 c256_i32_282
  let v491 : BitVec 32 := v490
  let v597 : Index := Scalar.indexCast v491
  let c256_339 : Index := 256#32
  ![v597.toNat, 256]
def k0_off12 (i : grid0.Coords) (arg10 : BitVec 32) : Fin 4 → Nat :=
  let c0_347 : Index := 0#32
  let arg2 : BitVec 32 := BitVec.ofNat 32 (i 2).val
  let c1_i32 : BitVec 32 := 1#32
  let v0 : BitVec 32 := Scalar.addi arg2 c1_i32
  let c256_i32 : BitVec 32 := 256#32
  let v1 : BitVec 32 := Scalar.muli v0 c256_i32
  let c256_i32_0 : BitVec 32 := 256#32
  let v2 : BitVec 32 := Scalar.addi v1 c256_i32_0
  let c1_i32_1 : BitVec 32 := 1#32
  let v3 : BitVec 32 := Scalar.subi v2 c1_i32_1
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c1_i32_281 : BitVec 32 := 1#32
  let v488 : BitVec 32 := Scalar.subi v20 c1_i32_281
  let v489 : BitVec 32 := Scalar.subi v488 arg10
  let v611 : Index := Scalar.indexCast v489
  let c0_348 : Index := 0#32
  let c0_349 : Index := 0#32
  ![0, v611.toNat, 0, 0]
def k0_off13 (i : grid0.Coords) (arg10 : BitVec 32) : Fin 2 → Nat :=
  let arg2 : BitVec 32 := BitVec.ofNat 32 (i 2).val
  let c1_i32 : BitVec 32 := 1#32
  let v0 : BitVec 32 := Scalar.addi arg2 c1_i32
  let c256_i32 : BitVec 32 := 256#32
  let v1 : BitVec 32 := Scalar.muli v0 c256_i32
  let c256_i32_0 : BitVec 32 := 256#32
  let v2 : BitVec 32 := Scalar.addi v1 c256_i32_0
  let c1_i32_1 : BitVec 32 := 1#32
  let v3 : BitVec 32 := Scalar.subi v2 c1_i32_1
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c1_i32_281 : BitVec 32 := 1#32
  let v488 : BitVec 32 := Scalar.subi v20 c1_i32_281
  let v489 : BitVec 32 := Scalar.subi v488 arg10
  let c256_i32_282 : BitVec 32 := 256#32
  let v490 : BitVec 32 := Scalar.muli v489 c256_i32_282
  let v491 : BitVec 32 := v490
  let v689 : Index := Scalar.indexCast v491
  let c384_393 : Index := 384#32
  ![v689.toNat, 384]
def k0_off14 (i : grid0.Coords) (arg10 : BitVec 32) : Fin 4 → Nat :=
  let c0_401 : Index := 0#32
  let arg2 : BitVec 32 := BitVec.ofNat 32 (i 2).val
  let c1_i32 : BitVec 32 := 1#32
  let v0 : BitVec 32 := Scalar.addi arg2 c1_i32
  let c256_i32 : BitVec 32 := 256#32
  let v1 : BitVec 32 := Scalar.muli v0 c256_i32
  let c256_i32_0 : BitVec 32 := 256#32
  let v2 : BitVec 32 := Scalar.addi v1 c256_i32_0
  let c1_i32_1 : BitVec 32 := 1#32
  let v3 : BitVec 32 := Scalar.subi v2 c1_i32_1
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c1_i32_281 : BitVec 32 := 1#32
  let v488 : BitVec 32 := Scalar.subi v20 c1_i32_281
  let v489 : BitVec 32 := Scalar.subi v488 arg10
  let v703 : Index := Scalar.indexCast v489
  let c128_402 : Index := 128#32
  let c0_403 : Index := 0#32
  ![0, v703.toNat, 128, 0]
def k0_off15 (i : grid0.Coords) (arg10 : BitVec 32) : Fin 4 → Nat :=
  let c0_450 : Index := 0#32
  let arg2 : BitVec 32 := BitVec.ofNat 32 (i 2).val
  let c1_i32 : BitVec 32 := 1#32
  let v0 : BitVec 32 := Scalar.addi arg2 c1_i32
  let c256_i32 : BitVec 32 := 256#32
  let v1 : BitVec 32 := Scalar.muli v0 c256_i32
  let c256_i32_0 : BitVec 32 := 256#32
  let v2 : BitVec 32 := Scalar.addi v1 c256_i32_0
  let c1_i32_1 : BitVec 32 := 1#32
  let v3 : BitVec 32 := Scalar.subi v2 c1_i32_1
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c1_i32_281 : BitVec 32 := 1#32
  let v488 : BitVec 32 := Scalar.subi v20 c1_i32_281
  let v489 : BitVec 32 := Scalar.subi v488 arg10
  let v786 : Index := Scalar.indexCast v489
  let c256_451 : Index := 256#32
  let c0_452 : Index := 0#32
  ![0, v786.toNat, 256, 0]
def k0_off16 (i : grid0.Coords) (arg10 : BitVec 32) : Fin 4 → Nat :=
  let c0_482 : Index := 0#32
  let arg2 : BitVec 32 := BitVec.ofNat 32 (i 2).val
  let c1_i32 : BitVec 32 := 1#32
  let v0 : BitVec 32 := Scalar.addi arg2 c1_i32
  let c256_i32 : BitVec 32 := 256#32
  let v1 : BitVec 32 := Scalar.muli v0 c256_i32
  let c256_i32_0 : BitVec 32 := 256#32
  let v2 : BitVec 32 := Scalar.addi v1 c256_i32_0
  let c1_i32_1 : BitVec 32 := 1#32
  let v3 : BitVec 32 := Scalar.subi v2 c1_i32_1
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c1_i32_281 : BitVec 32 := 1#32
  let v488 : BitVec 32 := Scalar.subi v20 c1_i32_281
  let v489 : BitVec 32 := Scalar.subi v488 arg10
  let v837 : Index := Scalar.indexCast v489
  let c384_483 : Index := 384#32
  let c0_484 : Index := 0#32
  ![0, v837.toNat, 384, 0]

def k0_chk1 (i : grid0.Coords) (arg10 : BitVec 32) : Prop :=
  (256 ∣ (k0_mult2 i arg10).toNat) ∧
  (∀ a, (k0_off9 i arg10) a + S256x128.size a ≤ S4096x512.size a) ∧
  (∀ a, (k0_off10 i arg10) a + S256x128.size a ≤ S4096x512.size a) ∧
  (∀ a, (k0_off11 i arg10) a + S256x128.size a ≤ S4096x512.size a) ∧
  (∀ a, (k0_off12 i arg10) a + S1x1x128x256.size a ≤ S1x16x512x256.size a) ∧
  (∀ a, (k0_off13 i arg10) a + S256x128.size a ≤ S4096x512.size a) ∧
  (∀ a, (k0_off14 i arg10) a + S1x1x128x256.size a ≤ S1x16x512x256.size a) ∧
  (∀ a, (k0_off15 i arg10) a + S1x1x128x256.size a ≤ S1x16x512x256.size a) ∧
  (∀ a, (k0_off16 i arg10) a + S1x1x128x256.size a ≤ S1x16x512x256.size a)
theorem k0_mult2_dvd : ∀ (i : grid0.Coords) (arg10 : BitVec 32) (k0_hw1 : k0_chk1 i arg10), 256 ∣ (k0_mult2 i arg10).toNat := fun i arg10 k0_hw1 => k0_hw1.1
theorem k0_off9_inb : ∀ (i : grid0.Coords) (arg10 : BitVec 32) (k0_hw1 : k0_chk1 i arg10), ∀ a, (k0_off9 i arg10) a + S256x128.size a ≤ S4096x512.size a := fun i arg10 k0_hw1 => k0_hw1.2.1
theorem k0_off10_inb : ∀ (i : grid0.Coords) (arg10 : BitVec 32) (k0_hw1 : k0_chk1 i arg10), ∀ a, (k0_off10 i arg10) a + S256x128.size a ≤ S4096x512.size a := fun i arg10 k0_hw1 => k0_hw1.2.2.1
theorem k0_off11_inb : ∀ (i : grid0.Coords) (arg10 : BitVec 32) (k0_hw1 : k0_chk1 i arg10), ∀ a, (k0_off11 i arg10) a + S256x128.size a ≤ S4096x512.size a := fun i arg10 k0_hw1 => k0_hw1.2.2.2.1
theorem k0_off12_inb : ∀ (i : grid0.Coords) (arg10 : BitVec 32) (k0_hw1 : k0_chk1 i arg10), ∀ a, (k0_off12 i arg10) a + S1x1x128x256.size a ≤ S1x16x512x256.size a := fun i arg10 k0_hw1 => k0_hw1.2.2.2.2.1
theorem k0_off13_inb : ∀ (i : grid0.Coords) (arg10 : BitVec 32) (k0_hw1 : k0_chk1 i arg10), ∀ a, (k0_off13 i arg10) a + S256x128.size a ≤ S4096x512.size a := fun i arg10 k0_hw1 => k0_hw1.2.2.2.2.2.1
theorem k0_off14_inb : ∀ (i : grid0.Coords) (arg10 : BitVec 32) (k0_hw1 : k0_chk1 i arg10), ∀ a, (k0_off14 i arg10) a + S1x1x128x256.size a ≤ S1x16x512x256.size a := fun i arg10 k0_hw1 => k0_hw1.2.2.2.2.2.2.1
theorem k0_off15_inb : ∀ (i : grid0.Coords) (arg10 : BitVec 32) (k0_hw1 : k0_chk1 i arg10), ∀ a, (k0_off15 i arg10) a + S1x1x128x256.size a ≤ S1x16x512x256.size a := fun i arg10 k0_hw1 => k0_hw1.2.2.2.2.2.2.2.1
theorem k0_off16_inb : ∀ (i : grid0.Coords) (arg10 : BitVec 32) (k0_hw1 : k0_chk1 i arg10), ∀ a, (k0_off16 i arg10) a + S1x1x128x256.size a ≤ S1x16x512x256.size a := fun i arg10 k0_hw1 => k0_hw1.2.2.2.2.2.2.2.2

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x16x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S264x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "exit_at" => some ⊥
  | "inv_ln2" => some (((Real.log 2)⁻¹ : ℝ) : EReal)
  | "linear_from" => some ⊤
  | "scale_log2e" => some (((11863283 / 134217728) * (Real.log 2)⁻¹ : ℝ) : EReal)
  | _ => none
-- ==== ReferenceIdeal.lean ====
abbrev S2x4096x16x128 : Shape := ⟨4, ![2, 4096, 16, 128]⟩
abbrev S2x4096x8x128 : Shape := ⟨4, ![2, 4096, 8, 128]⟩
abbrev S4096 : Shape := ⟨1, ![4096]⟩
abbrev S2x4096x8x2x128 : Shape := ⟨5, ![2, 4096, 8, 2, 128]⟩
abbrev S2x8x4096x4096x2 : Shape := ⟨5, ![2, 8, 4096, 4096, 2]⟩
abbrev S2x8x2x4096x4096 : Shape := ⟨5, ![2, 8, 2, 4096, 4096]⟩
abbrev S_ : Shape := ⟨0, ![]⟩
abbrev S1x1x4096 : Shape := ⟨3, ![1, 1, 4096]⟩
abbrev S1x4096x1 : Shape := ⟨3, ![1, 4096, 1]⟩
abbrev S1x4096x4096 : Shape := ⟨3, ![1, 4096, 4096]⟩
abbrev S1x1x1x4096x4096 : Shape := ⟨5, ![1, 1, 1, 4096, 4096]⟩
abbrev S2x8x128x2x4096 : Shape := ⟨5, ![2, 8, 128, 2, 4096]⟩
abbrev S8192x2048 : Shape := ⟨2, ![8192, 2048]⟩

abbrev nBuf : Space → Nat
  | .hbm => 69
  | .vmem => 0
  | .smem => 0
  | _ => 0

abbrev bufTy : (tb : Table) → Fin (tcTables nBuf tb) → BufTy
  | .hbm, ⟨0, _⟩ => ⟨S2x4096x16x128, .f32⟩
  | .hbm, ⟨1, _⟩ => ⟨S2x4096x8x128, .f32⟩
  | .hbm, ⟨2, _⟩ => ⟨S2x4096x8x128, .f32⟩
  | .hbm, ⟨3, _⟩ => ⟨S4096, .i32⟩
  | .hbm, ⟨4, _⟩ => ⟨S2x4096x8x2x128, .f32⟩
  | .hbm, ⟨5, _⟩ => ⟨S2x8x4096x4096x2, .f32⟩
  | .hbm, ⟨6, _⟩ => ⟨S2x8x2x4096x4096, .f32⟩
  | .hbm, ⟨7, _⟩ => ⟨S_, .f32⟩
  | .hbm, ⟨8, _⟩ => ⟨S2x8x2x4096x4096, .f32⟩
  | .hbm, ⟨9, _⟩ => ⟨S2x8x2x4096x4096, .f32⟩
  | .hbm, ⟨10, _⟩ => ⟨S1x1x4096, .i32⟩
  | .hbm, ⟨11, _⟩ => ⟨S1x4096x1, .i32⟩
  | .hbm, ⟨12, _⟩ => ⟨S1x4096x4096, .i32⟩
  | .hbm, ⟨13, _⟩ => ⟨S1x4096x4096, .i32⟩
  | .hbm, ⟨14, _⟩ => ⟨S1x4096x4096, .i1⟩
  | .hbm, ⟨15, _⟩ => ⟨S1x1x1x4096x4096, .i1⟩
  | .hbm, ⟨16, _⟩ => ⟨S2x8x2x4096x4096, .f32⟩
  | .hbm, ⟨17, _⟩ => ⟨S2x8x2x4096x4096, .f32⟩
  | .hbm, ⟨18, _⟩ => ⟨S_, .f32⟩
  | .hbm, ⟨19, _⟩ => ⟨S2x8x2x4096x4096, .f32⟩
  | .hbm, ⟨20, _⟩ => ⟨S2x8x2x4096x4096, .f32⟩
  | .hbm, ⟨21, _⟩ => ⟨S2x8x2x4096x4096, .f32⟩
  | .hbm, ⟨22, _⟩ => ⟨S2x8x2x4096x4096, .f32⟩
  | .hbm, ⟨23, _⟩ => ⟨S2x8x2x4096x4096, .i1⟩
  | .hbm, ⟨24, _⟩ => ⟨S2x8x2x4096x4096, .f32⟩
  | .hbm, ⟨25, _⟩ => ⟨S2x8x2x4096x4096, .f32⟩
  | .hbm, ⟨26, _⟩ => ⟨S2x8x2x4096x4096, .f32⟩
  | .hbm, ⟨27, _⟩ => ⟨S2x8x2x4096x4096, .f32⟩
  | .hbm, ⟨28, _⟩ => ⟨S2x8x2x4096x4096, .f32⟩
  | .hbm, ⟨29, _⟩ => ⟨S2x8x2x4096x4096, .f32⟩
  | .hbm, ⟨30, _⟩ => ⟨S2x8x2x4096x4096, .f32⟩
  | .hbm, ⟨31, _⟩ => ⟨S2x8x2x4096x4096, .f32⟩
  | .hbm, ⟨32, _⟩ => ⟨S2x8x2x4096x4096, .f32⟩
  | .hbm, ⟨33, _⟩ => ⟨S_, .f32⟩
  | .hbm, ⟨34, _⟩ => ⟨S_, .f32⟩
  | .hbm, ⟨35, _⟩ => ⟨S2x8x2x4096x4096, .i1⟩
  | .hbm, ⟨36, _⟩ => ⟨S2x8x2x4096x4096, .f32⟩
  | .hbm, ⟨37, _⟩ => ⟨S2x8x2x4096x4096, .f32⟩
  | .hbm, ⟨38, _⟩ => ⟨S_, .f32⟩
  | .hbm, ⟨39, _⟩ => ⟨S_, .f32⟩
  | .hbm, ⟨40, _⟩ => ⟨S2x8x2x4096x4096, .f32⟩
  | .hbm, ⟨41, _⟩ => ⟨S2x8x2x4096x4096, .f32⟩
  | .hbm, ⟨42, _⟩ => ⟨S2x8x2x4096x4096, .f32⟩
  | .hbm, ⟨43, _⟩ => ⟨S_, .f32⟩
  | .hbm, ⟨44, _⟩ => ⟨S2x8x2x4096x4096, .f32⟩
  | .hbm, ⟨45, _⟩ => ⟨S2x8x2x4096x4096, .f32⟩
  | .hbm, ⟨46, _⟩ => ⟨S2x8x2x4096x4096, .f32⟩
  | .hbm, ⟨47, _⟩ => ⟨S2x8x2x4096x4096, .f32⟩
  | .hbm, ⟨48, _⟩ => ⟨S2x8x2x4096x4096, .i1⟩
  | .hbm, ⟨49, _⟩ => ⟨S2x8x2x4096x4096, .f32⟩
  | .hbm, ⟨50, _⟩ => ⟨S2x8x2x4096x4096, .f32⟩
  | .hbm, ⟨51, _⟩ => ⟨S2x8x2x4096x4096, .f32⟩
  | .hbm, ⟨52, _⟩ => ⟨S2x8x2x4096x4096, .f32⟩
  | .hbm, ⟨53, _⟩ => ⟨S2x8x2x4096x4096, .f32⟩
  | .hbm, ⟨54, _⟩ => ⟨S2x8x2x4096x4096, .f32⟩
  | .hbm, ⟨55, _⟩ => ⟨S2x8x2x4096x4096, .f32⟩
  | .hbm, ⟨56, _⟩ => ⟨S2x8x2x4096x4096, .f32⟩
  | .hbm, ⟨57, _⟩ => ⟨S2x8x2x4096x4096, .f32⟩
  | .hbm, ⟨58, _⟩ => ⟨S2x8x2x4096x4096, .f32⟩
  | .hbm, ⟨59, _⟩ => ⟨S2x8x2x4096x4096, .f32⟩
  | .hbm, ⟨60, _⟩ => ⟨S_, .f32⟩
  | .hbm, ⟨61, _⟩ => ⟨S_, .f32⟩
  | .hbm, ⟨62, _⟩ => ⟨S2x8x2x4096x4096, .i1⟩
  | .hbm, ⟨63, _⟩ => ⟨S2x8x2x4096x4096, .f32⟩
  | .hbm, ⟨64, _⟩ => ⟨S2x8x2x4096x4096, .f32⟩
  | .hbm, ⟨65, _⟩ => ⟨S2x8x128x2x4096, .f32⟩
  | .hbm, ⟨66, _⟩ => ⟨S2x4096x8x2x128, .f32⟩
  | .hbm, ⟨67, _⟩ => ⟨S8192x2048, .f32⟩
  | .hbm, ⟨68, _⟩ => ⟨S8192x2048, .bf16⟩
  | _, _ => ⟨S2x4096x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_call0_v0 : Ref sig .tc := ⟨.hbm, 17, rfl⟩
abbrev main_call0_call0_cst : Ref sig .tc := ⟨.hbm, 18, rfl⟩
abbrev main_call0_call0_v0 : Ref sig .tc := ⟨.hbm, 19, rfl⟩
abbrev main_call0_call0_v1 : Ref sig .tc := ⟨.hbm, 20, rfl⟩
abbrev main_call0_call0_v2 : Ref sig .tc := ⟨.hbm, 21, rfl⟩
abbrev main_call0_call0_v3 : Ref sig .tc := ⟨.hbm, 22, rfl⟩
abbrev main_call0_call0_v4 : Ref sig .tc := ⟨.hbm, 23, rfl⟩
abbrev main_call0_call0_v5 : Ref sig .tc := ⟨.hbm, 24, rfl⟩
abbrev main_call0_call0_v6 : Ref sig .tc := ⟨.hbm, 25, rfl⟩
abbrev main_call0_call0_v7 : Ref sig .tc := ⟨.hbm, 26, rfl⟩
abbrev main_call0_call0_v8 : Ref sig .tc := ⟨.hbm, 27, rfl⟩
abbrev main_call0_call0_v9 : Ref sig .tc := ⟨.hbm, 28, rfl⟩
abbrev main_call0_call0_v10 : Ref sig .tc := ⟨.hbm, 29, rfl⟩
abbrev main_call0_call0_v11 : Ref sig .tc := ⟨.hbm, 30, rfl⟩
abbrev main_call0_v1 : Ref sig .tc := ⟨.hbm, 31, rfl⟩
abbrev main_v13 : Ref sig .tc := ⟨.hbm, 32, rfl⟩
abbrev main_cst_0 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_v14 : Ref sig .tc := ⟨.hbm, 37, rfl⟩
abbrev main_call2_cst : Ref sig .tc := ⟨.hbm, 38, rfl⟩
abbrev main_call2_v0 : Ref sig .tc := ⟨.hbm, 39, rfl⟩
abbrev main_v15 : Ref sig .tc := ⟨.hbm, 40, rfl⟩
abbrev main_v16 : Ref sig .tc := ⟨.hbm, 41, rfl⟩
abbrev main_call3_v0 : Ref sig .tc := ⟨.hbm, 42, rfl⟩
abbrev main_call3_call0_cst : Ref sig .tc := ⟨.hbm, 43, rfl⟩
abbrev main_call3_call0_v0 : Ref sig .tc := ⟨.hbm, 44, rfl⟩
abbrev main_call3_call0_v1 : Ref sig .tc := ⟨.hbm, 45, rfl⟩
abbrev main_call3_call0_v2 : Ref sig .tc := ⟨.hbm, 46, rfl⟩
abbrev main_call3_call0_v3 : Ref sig .tc := ⟨.hbm, 47, rfl⟩
abbrev main_call3_call0_v4 : Ref sig .tc := ⟨.hbm, 48, rfl⟩
abbrev main_call3_call0_v5 : Ref sig .tc := ⟨.hbm, 49, rfl⟩
abbrev main_call3_call0_v6 : Ref sig .tc := ⟨.hbm, 50, rfl⟩
abbrev main_call3_call0_v7 : Ref sig .tc := ⟨.hbm, 51, rfl⟩
abbrev main_call3_call0_v8 : Ref sig .tc := ⟨.hbm, 52, rfl⟩
abbrev main_call3_call0_v9 : Ref sig .tc := ⟨.hbm, 53, rfl⟩
abbrev main_call3_call0_v10 : Ref sig .tc := ⟨.hbm, 54, rfl⟩
abbrev main_call3_call0_v11 : Ref sig .tc := ⟨.hbm, 55, rfl⟩
abbrev main_call3_v1 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_cst_1 : Ref sig .tc := ⟨.hbm, 60, rfl⟩
abbrev main_call4_v0 : Ref sig .tc := ⟨.hbm, 61, rfl⟩
abbrev main_call4_v1 : Ref sig .tc := ⟨.hbm, 62, rfl⟩
abbrev main_call4_v2 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩

abbrev nD : Nat := 1
abbrev τ : Topo := Topo.v7x

variable {F : FTy → Type} [FloatOps F]
-- ==== KernelFfn.lean ====
abbrev S2x4096x2048 : Shape := ⟨3, ![2, 4096, 2048]⟩
abbrev S8x4x2048 : Shape := ⟨3, ![8, 4, 2048]⟩
abbrev S4x2048x5632 : Shape := ⟨3, ![4, 2048, 5632]⟩
abbrev S8192x2048 : Shape := ⟨2, ![8192, 2048]⟩
abbrev S32x2048 : Shape := ⟨2, ![32, 2048]⟩
abbrev S8192x5632 : Shape := ⟨2, ![8192, 5632]⟩
abbrev S32x5632 : Shape := ⟨2, ![32, 5632]⟩
abbrev S1024x2048 : Shape := ⟨2, ![1024, 2048]⟩
abbrev S1x2048x512 : Shape := ⟨3, ![1, 2048, 512]⟩
abbrev S1024x512 : Shape := ⟨2, ![1024, 512]⟩
abbrev S32x512 : Shape := ⟨2, ![32, 512]⟩
abbrev S2048x512 : Shape := ⟨2, ![2048, 512]⟩

abbrev nBuf : Space → Nat
  | .hbm => 10
  | .vmem => 13
  | .smem => 0
  | _ => 0

abbrev bufTy : (tb : Table) → Fin (tcTables nBuf tb) → BufTy
  | .hbm, ⟨0, _⟩ => ⟨S2x4096x2048, .f32⟩
  | .hbm, ⟨1, _⟩ => ⟨S8x4x2048, .f32⟩
  | .hbm, ⟨2, _⟩ => ⟨S4x2048x5632, .f32⟩
  | .hbm, ⟨3, _⟩ => ⟨S4x2048x5632, .f32⟩
  | .hbm, ⟨4, _⟩ => ⟨S8192x2048, .f32⟩
  | .hbm, ⟨5, _⟩ => ⟨S8192x2048, .bf16⟩
  | .hbm, ⟨6, _⟩ => ⟨S32x2048, .f32⟩
  | .hbm, ⟨7, _⟩ => ⟨S32x2048, .bf16⟩
  | .hbm, ⟨8, _⟩ => ⟨S8192x5632, .bf16⟩
  | .hbm, ⟨9, _⟩ => ⟨S32x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S32x2048, .bf16⟩
  | .local _ .vmem, ⟨7, _⟩ => ⟨S1024x512, .bf16⟩
  | .local _ .vmem, ⟨8, _⟩ => ⟨S1024x512, .bf16⟩
  | .local _ .vmem, ⟨9, _⟩ => ⟨S32x512, .bf16⟩
  | .local _ .vmem, ⟨10, _⟩ => ⟨S32x512, .bf16⟩
  | .local _ .vmem, ⟨11, _⟩ => ⟨S2048x512, .bf16⟩
  | .local _ .vmem, ⟨12, _⟩ => ⟨S2048x512, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![11, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S32x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S32x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceFfnIdeal.lean ====
abbrev S2x4096x2048 : Shape := ⟨3, ![2, 4096, 2048]⟩
abbrev S8x4x2048 : Shape := ⟨3, ![8, 4, 2048]⟩
abbrev S4x2048x5632 : Shape := ⟨3, ![4, 2048, 5632]⟩
abbrev S1x2048x5632 : Shape := ⟨3, ![1, 2048, 5632]⟩
abbrev S2048x5632 : Shape := ⟨2, ![2048, 5632]⟩
abbrev S2x4096x5632 : Shape := ⟨3, ![2, 4096, 5632]⟩
abbrev S_ : Shape := ⟨0, ![]⟩
abbrev S8192x5632 : Shape := ⟨2, ![8192, 5632]⟩
abbrev S8x4x5632 : Shape := ⟨3, ![8, 4, 5632]⟩
abbrev S32x5632 : Shape := ⟨2, ![32, 5632]⟩

abbrev nBuf : Space → Nat
  | .hbm => 40
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S8x4x2048, .f32⟩
  | .hbm, ⟨2, _⟩ => ⟨S4x2048x5632, .f32⟩
  | .hbm, ⟨3, _⟩ => ⟨S4x2048x5632, .f32⟩
  | .hbm, ⟨4, _⟩ => ⟨S1x2048x5632, .f32⟩
  | .hbm, ⟨5, _⟩ => ⟨S2048x5632, .f32⟩
  | .hbm, ⟨6, _⟩ => ⟨S2x4096x5632, .f32⟩
  | .hbm, ⟨7, _⟩ => ⟨S2x4096x5632, .f32⟩
  | .hbm, ⟨8, _⟩ => ⟨S2x4096x5632, .f32⟩
  | .hbm, ⟨9, _⟩ => ⟨S_, .f32⟩
  | .hbm, ⟨10, _⟩ => ⟨S2x4096x5632, .f32⟩
  | .hbm, ⟨11, _⟩ => ⟨S2x4096x5632, .f32⟩
  | .hbm, ⟨12, _⟩ => ⟨S_, .f32⟩
  | .hbm, ⟨13, _⟩ => ⟨S2x4096x5632, .f32⟩
  | .hbm, ⟨14, _⟩ => ⟨S2x4096x5632, .f32⟩
  | .hbm, ⟨15, _⟩ => ⟨S2x4096x5632, .f32⟩
  | .hbm, ⟨16, _⟩ => ⟨S1x2048x5632, .f32⟩
  | .hbm, ⟨17, _⟩ => ⟨S2048x5632, .f32⟩
  | .hbm, ⟨18, _⟩ => ⟨S2x4096x5632, .f32⟩
  | .hbm, ⟨19, _⟩ => ⟨S2x4096x5632, .f32⟩
  | .hbm, ⟨20, _⟩ => ⟨S8192x5632, .f32⟩
  | .hbm, ⟨21, _⟩ => ⟨S8192x5632, .bf16⟩
  | .hbm, ⟨22, _⟩ => ⟨S1x2048x5632, .f32⟩
  | .hbm, ⟨23, _⟩ => ⟨S2048x5632, .f32⟩
  | .hbm, ⟨24, _⟩ => ⟨S8x4x5632, .f32⟩
  | .hbm, ⟨25, _⟩ => ⟨S8x4x5632, .f32⟩
  | .hbm, ⟨26, _⟩ => ⟨S8x4x5632, .f32⟩
  | .hbm, ⟨27, _⟩ => ⟨S_, .f32⟩
  | .hbm, ⟨28, _⟩ => ⟨S8x4x5632, .f32⟩
  | .hbm, ⟨29, _⟩ => ⟨S8x4x5632, .f32⟩
  | .hbm, ⟨30, _⟩ => ⟨S_, .f32⟩
  | .hbm, ⟨31, _⟩ => ⟨S8x4x5632, .f32⟩
  | .hbm, ⟨32, _⟩ => ⟨S8x4x5632, .f32⟩
  | .hbm, ⟨33, _⟩ => ⟨S8x4x5632, .f32⟩
  | .hbm, ⟨34, _⟩ => ⟨S1x2048x5632, .f32⟩
  | .hbm, ⟨35, _⟩ => ⟨S2048x5632, .f32⟩
  | .hbm, ⟨36, _⟩ => ⟨S8x4x5632, .f32⟩
  | .hbm, ⟨37, _⟩ => ⟨S8x4x5632, .f32⟩
  | .hbm, ⟨38, _⟩ => ⟨S32x5632, .f32⟩
  | .hbm, ⟨39, _⟩ => ⟨S32x5632, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_call1_v0 : Ref sig .tc := ⟨.hbm, 25, rfl⟩
abbrev main_call1_v1 : Ref sig .tc := ⟨.hbm, 26, rfl⟩
abbrev main_call1_cst : Ref sig .tc := ⟨.hbm, 27, rfl⟩
abbrev main_call1_v2 : Ref sig .tc := ⟨.hbm, 28, rfl⟩
abbrev main_call1_v3 : Ref sig .tc := ⟨.hbm, 29, rfl⟩
abbrev main_call1_cst_0 : Ref sig .tc := ⟨.hbm, 30, rfl⟩
abbrev main_call1_v4 : Ref sig .tc := ⟨.hbm, 31, rfl⟩
abbrev main_call1_v5 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩

abbrev nD : Nat := 1
abbrev τ : Topo := Topo.v7x

variable {F : FTy → Type} [FloatOps F]
-- ==== KernelDown.lean ====
abbrev S2x4096x5632 : Shape := ⟨3, ![2, 4096, 5632]⟩
abbrev S8x4x5632 : Shape := ⟨3, ![8, 4, 5632]⟩
abbrev S4x5632x2048 : Shape := ⟨3, ![4, 5632, 2048]⟩
abbrev S2x4096x2048 : Shape := ⟨3, ![2, 4096, 2048]⟩
abbrev S8x4x2048 : Shape := ⟨3, ![8, 4, 2048]⟩
abbrev S2x1x2048 : Shape := ⟨3, ![2, 1, 2048]⟩
abbrev S8x1x2048 : Shape := ⟨3, ![8, 1, 2048]⟩
abbrev S8192x5632 : Shape := ⟨2, ![8192, 5632]⟩
abbrev S8192x2048 : Shape := ⟨2, ![8192, 2048]⟩
abbrev S32x5632 : Shape := ⟨2, ![32, 5632]⟩
abbrev S32x2048 : Shape := ⟨2, ![32, 2048]⟩
abbrev S8x2048 : Shape := ⟨2, ![8, 2048]⟩
abbrev S512x5632 : Shape := ⟨2, ![512, 5632]⟩
abbrev S1x5632x512 : Shape := ⟨3, ![1, 5632, 512]⟩
abbrev S512x512 : Shape := ⟨2, ![512, 512]⟩
abbrev S1x1x512 : Shape := ⟨3, ![1, 1, 512]⟩
abbrev S32x512 : Shape := ⟨2, ![32, 512]⟩
abbrev S5632x512 : Shape := ⟨2, ![5632, 512]⟩
abbrev S1x512 : Shape := ⟨2, ![1, 512]⟩

abbrev nBuf : Space → Nat
  | .hbm => 18
  | .vmem => 18
  | .smem => 0
  | _ => 0

abbrev bufTy : (tb : Table) → Fin (tcTables nBuf tb) → BufTy
  | .hbm, ⟨0, _⟩ => ⟨S2x4096x5632, .f32⟩
  | .hbm, ⟨1, _⟩ => ⟨S8x4x5632, .f32⟩
  | .hbm, ⟨2, _⟩ => ⟨S4x5632x2048, .f32⟩
  | .hbm, ⟨3, _⟩ => ⟨S2x4096x2048, .f32⟩
  | .hbm, ⟨4, _⟩ => ⟨S8x4x2048, .f32⟩
  | .hbm, ⟨5, _⟩ => ⟨S2x1x2048, .f32⟩
  | .hbm, ⟨6, _⟩ => ⟨S8x1x2048, .f32⟩
  | .hbm, ⟨7, _⟩ => ⟨S8192x5632, .f32⟩
  | .hbm, ⟨8, _⟩ => ⟨S8192x5632, .bf16⟩
  | .hbm, ⟨9, _⟩ => ⟨S8192x2048, .f32⟩
  | .hbm, ⟨10, _⟩ => ⟨S32x5632, .f32⟩
  | .hbm, ⟨11, _⟩ => ⟨S32x5632, .bf16⟩
  | .hbm, ⟨12, _⟩ => ⟨S32x2048, .f32⟩
  | .hbm, ⟨13, _⟩ => ⟨S8x2048, .f32⟩
  | .hbm, ⟨14, _⟩ => ⟨S8x4x2048, .f32⟩
  | .hbm, ⟨15, _⟩ => ⟨S32x2048, .f32⟩
  | .hbm, ⟨16, _⟩ => ⟨S8192x2048, .f32⟩
  | .hbm, ⟨17, _⟩ => ⟨S32x2048, .f32⟩
  | .local _ .vmem, ⟨0, _⟩ => ⟨S512x5632, .bf16⟩
  | .local _ .vmem, ⟨1, _⟩ => ⟨S512x5632, .bf16⟩
  | .local _ .vmem, ⟨2, _⟩ => ⟨S1x5632x512, .f32⟩
  | .local _ .vmem, ⟨3, _⟩ => ⟨S1x5632x512, .f32⟩
  | .local _ .vmem, ⟨4, _⟩ => ⟨S512x512, .f32⟩
  | .local _ .vmem, ⟨5, _⟩ => ⟨S512x512, .f32⟩
  | .local _ .vmem, ⟨6, _⟩ => ⟨S1x1x512, .f32⟩
  | .local _ .vmem, ⟨7, _⟩ => ⟨S1x1x512, .f32⟩
  | .local _ .vmem, ⟨8, _⟩ => ⟨S32x5632, .bf16⟩
  | .local _ .vmem, ⟨9, _⟩ => ⟨S32x512, .f32⟩
  | .local _ .vmem, ⟨10, _⟩ => ⟨S32x512, .f32⟩
  | .local _ .vmem, ⟨11, _⟩ => ⟨S32x512, .f32⟩
  | .local _ .vmem, ⟨12, _⟩ => ⟨S32x512, .f32⟩
  | .local _ .vmem, ⟨13, _⟩ => ⟨S512x512, .f32⟩
  | .local _ .vmem, ⟨14, _⟩ => ⟨S512x512, .f32⟩
  | .local _ .vmem, ⟨15, _⟩ => ⟨S32x512, .f32⟩
  | .local _ .vmem, ⟨16, _⟩ => ⟨S32x512, .f32⟩
  | .local _ .vmem, ⟨17, _⟩ => ⟨S5632x512, .bf16⟩
  | _, _ => ⟨S2x4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![4, 16], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![v17.toNat, c0_i32_4.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x5632x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S32x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S32x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S32x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S32x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceDownIdeal.lean ====
abbrev S2x4096x5632 : Shape := ⟨3, ![2, 4096, 5632]⟩
abbrev S8x4x5632 : Shape := ⟨3, ![8, 4, 5632]⟩
abbrev S4x5632x2048 : Shape := ⟨3, ![4, 5632, 2048]⟩
abbrev S2x4096x2048 : Shape := ⟨3, ![2, 4096, 2048]⟩
abbrev S8x4x2048 : Shape := ⟨3, ![8, 4, 2048]⟩
abbrev S2x1x2048 : Shape := ⟨3, ![2, 1, 2048]⟩
abbrev S8x1x2048 : Shape := ⟨3, ![8, 1, 2048]⟩
abbrev S1x5632x2048 : Shape := ⟨3, ![1, 5632, 2048]⟩
abbrev S5632x2048 : Shape := ⟨2, ![5632, 2048]⟩
abbrev S8192x2048 : Shape := ⟨2, ![8192, 2048]⟩
abbrev S32x2048 : Shape := ⟨2, ![32, 2048]⟩

abbrev nBuf : Space → Nat
  | .hbm => 21
  | .vmem => 0
  | .smem => 0
  | _ => 0

abbrev bufTy : (tb : Table) → Fin (tcTables nBuf tb) → BufTy
  | .hbm, ⟨0, _⟩ => ⟨S2x4096x5632, .f32⟩
  | .hbm, ⟨1, _⟩ => ⟨S8x4x5632, .f32⟩
  | .hbm, ⟨2, _⟩ => ⟨S4x5632x2048, .f32⟩
  | .hbm, ⟨3, _⟩ => ⟨S2x4096x2048, .f32⟩
  | .hbm, ⟨4, _⟩ => ⟨S8x4x2048, .f32⟩
  | .hbm, ⟨5, _⟩ => ⟨S2x1x2048, .f32⟩
  | .hbm, ⟨6, _⟩ => ⟨S8x1x2048, .f32⟩
  | .hbm, ⟨7, _⟩ => ⟨S1x5632x2048, .f32⟩
  | .hbm, ⟨8, _⟩ => ⟨S5632x2048, .f32⟩
  | .hbm, ⟨9, _⟩ => ⟨S2x4096x2048, .f32⟩
  | .hbm, ⟨10, _⟩ => ⟨S2x4096x2048, .f32⟩
  | .hbm, ⟨11, _⟩ => ⟨S2x4096x2048, .f32⟩
  | .hbm, ⟨12, _⟩ => ⟨S2x4096x2048, .f32⟩
  | .hbm, ⟨13, _⟩ => ⟨S8192x2048, .f32⟩
  | .hbm, ⟨14, _⟩ => ⟨S1x5632x2048, .f32⟩
  | .hbm, ⟨15, _⟩ => ⟨S5632x2048, .f32⟩
  | .hbm, ⟨16, _⟩ => ⟨S8x4x2048, .f32⟩
  | .hbm, ⟨17, _⟩ => ⟨S8x4x2048, .f32⟩
  | .hbm, ⟨18, _⟩ => ⟨S8x4x2048, .f32⟩
  | .hbm, ⟨19, _⟩ => ⟨S8x4x2048, .f32⟩
  | .hbm, ⟨20, _⟩ => ⟨S32x2048, .f32⟩
  | _, _ => ⟨S2x4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]
-- ==== KernelOut.lean ====
abbrev S2x4096x2048 : Shape := ⟨3, ![2, 4096, 2048]⟩
abbrev S4x2048x2048 : Shape := ⟨3, ![4, 2048, 2048]⟩
abbrev S2x1x2048 : Shape := ⟨3, ![2, 1, 2048]⟩
abbrev S4x2048 : Shape := ⟨2, ![4, 2048]⟩
abbrev S8192x2048 : Shape := ⟨2, ![8192, 2048]⟩
abbrev S1x2048 : Shape := ⟨2, ![1, 2048]⟩
abbrev S2048 : Shape := ⟨1, ![2048]⟩
abbrev S256x2048 : Shape := ⟨2, ![256, 2048]⟩
abbrev S1x2048x2048 : Shape := ⟨3, ![1, 2048, 2048]⟩
abbrev S1x1x2048 : Shape := ⟨3, ![1, 1, 2048]⟩
abbrev S2048x2048 : Shape := ⟨2, ![2048, 2048]⟩
abbrev S256 : Shape := ⟨1, ![256]⟩
abbrev S256x1 : Shape := ⟨2, ![256, 1]⟩

abbrev nBuf : Space → Nat
  | .hbm => 16
  | .vmem => 16
  | .smem => 0
  | _ => 0

abbrev bufTy : (tb : Table) → Fin (tcTables nBuf tb) → BufTy
  | .hbm, ⟨0, _⟩ => ⟨S2x4096x2048, .f32⟩
  | .hbm, ⟨1, _⟩ => ⟨S4x2048x2048, .f32⟩
  | .hbm, ⟨2, _⟩ => ⟨S2x4096x2048, .f32⟩
  | .hbm, ⟨3, _⟩ => ⟨S2x1x2048, .f32⟩
  | .hbm, ⟨4, _⟩ => ⟨S4x2048, .f32⟩
  | .hbm, ⟨5, _⟩ => ⟨S2x1x2048, .f32⟩
  | .hbm, ⟨6, _⟩ => ⟨S2x1x2048, .f32⟩
  | .hbm, ⟨7, _⟩ => ⟨S8192x2048, .f32⟩
  | .hbm, ⟨8, _⟩ => ⟨S8192x2048, .bf16⟩
  | .hbm, ⟨9, _⟩ => ⟨S4x2048x2048, .bf16⟩
  | .hbm, ⟨10, _⟩ => ⟨S8192x2048, .f32⟩
  | .hbm, ⟨11, _⟩ => ⟨S1x2048, .f32⟩
  | .hbm, ⟨12, _⟩ => ⟨S2048, .f32⟩
  | .hbm, ⟨13, _⟩ => ⟨S1x2048, .f32⟩
  | .hbm, ⟨14, _⟩ => ⟨S8192x2048, .f32⟩
  | .hbm, ⟨15, _⟩ => ⟨S8192x2048, .bf16⟩
  | .local _ .vmem, ⟨0, _⟩ => ⟨S256x2048, .bf16⟩
  | .local _ .vmem, ⟨1, _⟩ => ⟨S256x2048, .bf16⟩
  | .local _ .vmem, ⟨2, _⟩ => ⟨S1x2048x2048, .bf16⟩
  | .local _ .vmem, ⟨3, _⟩ => ⟨S256x2048, .f32⟩
  | .local _ .vmem, ⟨4, _⟩ => ⟨S256x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x2048, .f32⟩
  | .local _ .vmem, ⟨8, _⟩ => ⟨S1x1x2048, .f32⟩
  | .local _ .vmem, ⟨9, _⟩ => ⟨S1x1x2048, .f32⟩
  | .local _ .vmem, ⟨10, _⟩ => ⟨S1x1x2048, .f32⟩
  | .local _ .vmem, ⟨11, _⟩ => ⟨S1x1x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .bf16⟩
  | .local _ .vmem, ⟨15, _⟩ => ⟨S256x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c256_i32 : BitVec 32 := 256#32
  let v0 : BitVec 32 := Scalar.muli arg0 c256_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c256_i32 : BitVec 32 := 256#32
  let v0 : BitVec 32 := Scalar.muli arg0 c256_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_6 (i : grid0.Coords) : Fin 3 → Nat :=
  let arg0 : BitVec 32 := BitVec.ofNat 32 (i 0).val
  let c256_i32 : BitVec 32 := 256#32
  let v0 : BitVec 32 := Scalar.muli arg0 c256_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceOutIdeal.lean ====
abbrev S2x4096x2048 : Shape := ⟨3, ![2, 4096, 2048]⟩
abbrev S4x2048x2048 : Shape := ⟨3, ![4, 2048, 2048]⟩
abbrev S2x1x2048 : Shape := ⟨3, ![2, 1, 2048]⟩
abbrev S4x2048 : Shape := ⟨2, ![4, 2048]⟩
abbrev S1x2048x2048 : Shape := ⟨3, ![1, 2048, 2048]⟩
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S8192x2048 : Shape := ⟨2, ![8192, 2048]⟩

abbrev nBuf : Space → Nat
  | .hbm => 41
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S4x2048x2048, .f32⟩
  | .hbm, ⟨2, _⟩ => ⟨S2x4096x2048, .f32⟩
  | .hbm, ⟨3, _⟩ => ⟨S2x1x2048, .f32⟩
  | .hbm, ⟨4, _⟩ => ⟨S4x2048, .f32⟩
  | .hbm, ⟨5, _⟩ => ⟨S2x1x2048, .f32⟩
  | .hbm, ⟨6, _⟩ => ⟨S2x1x2048, .f32⟩
  | .hbm, ⟨7, _⟩ => ⟨S1x2048x2048, .f32⟩
  | .hbm, ⟨8, _⟩ => ⟨S2048x2048, .f32⟩
  | .hbm, ⟨9, _⟩ => ⟨S2x4096x2048, .f32⟩
  | .hbm, ⟨10, _⟩ => ⟨S2x4096x2048, .f32⟩
  | .hbm, ⟨11, _⟩ => ⟨S2x4096x2048, .f32⟩
  | .hbm, ⟨12, _⟩ => ⟨S2x4096x2048, .f32⟩
  | .hbm, ⟨13, _⟩ => ⟨S1x2048, .f32⟩
  | .hbm, ⟨14, _⟩ => ⟨S2048, .f32⟩
  | .hbm, ⟨15, _⟩ => ⟨S2x4096x2048, .f32⟩
  | .hbm, ⟨16, _⟩ => ⟨S_, .f32⟩
  | .hbm, ⟨17, _⟩ => ⟨S2x4096, .f32⟩
  | .hbm, ⟨18, _⟩ => ⟨S2x4096x1, .f32⟩
  | .hbm, ⟨19, _⟩ => ⟨S_, .f32⟩
  | .hbm, ⟨20, _⟩ => ⟨S2x4096x1, .f32⟩
  | .hbm, ⟨21, _⟩ => ⟨S2x4096x1, .f32⟩
  | .hbm, ⟨22, _⟩ => ⟨S_, .f32⟩
  | .hbm, ⟨23, _⟩ => ⟨S2x4096x1, .f32⟩
  | .hbm, ⟨24, _⟩ => ⟨S2x4096x1, .f32⟩
  | .hbm, ⟨25, _⟩ => ⟨S2x4096x1, .f32⟩
  | .hbm, ⟨26, _⟩ => ⟨S2x4096x2048, .f32⟩
  | .hbm, ⟨27, _⟩ => ⟨S2x4096x2048, .f32⟩
  | .hbm, ⟨28, _⟩ => ⟨S1x1x2048, .f32⟩
  | .hbm, ⟨29, _⟩ => ⟨S2x4096x2048, .f32⟩
  | .hbm, ⟨30, _⟩ => ⟨S2x4096x2048, .f32⟩
  | .hbm, ⟨31, _⟩ => ⟨S_, .f32⟩
  | .hbm, ⟨32, _⟩ => ⟨S2x1x2048, .f32⟩
  | .hbm, ⟨33, _⟩ => ⟨S2x1x2048, .f32⟩
  | .hbm, ⟨34, _⟩ => ⟨S2x4096x2048, .f32⟩
  | .hbm, ⟨35, _⟩ => ⟨S2x4096x2048, .f32⟩
  | .hbm, ⟨36, _⟩ => ⟨S2x4096x2048, .f32⟩
  | .hbm, ⟨37, _⟩ => ⟨S2x4096x2048, .f32⟩
  | .hbm, ⟨38, _⟩ => ⟨S8192x2048, .f32⟩
  | .hbm, ⟨39, _⟩ => ⟨S8192x2048, .f32⟩
  | .hbm, ⟨40, _⟩ => ⟨S8192x2048, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== KernelFinal.lean ====
abbrev S2x4096x2048 : Shape := ⟨3, ![2, 4096, 2048]⟩
abbrev S2048 : Shape := ⟨1, ![2048]⟩
abbrev S8192x2048 : Shape := ⟨2, ![8192, 2048]⟩
abbrev S1x2048 : Shape := ⟨2, ![1, 2048]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 5
  | .vmem => 5
  | .smem => 0
  | _ => 0

abbrev bufTy : (tb : Table) → Fin (tcTables nBuf tb) → BufTy
  | .hbm, ⟨0, _⟩ => ⟨S2x4096x2048, .f32⟩
  | .hbm, ⟨1, _⟩ => ⟨S2048, .f32⟩
  | .hbm, ⟨2, _⟩ => ⟨S8192x2048, .f32⟩
  | .hbm, ⟨3, _⟩ => ⟨S1x2048, .f32⟩
  | .hbm, ⟨4, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1024x2048, .f32⟩
  | .local _ .vmem, ⟨4, _⟩ => ⟨S1024x2048, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceFinalIdeal.lean ====
abbrev S2x4096x2048 : Shape := ⟨3, ![2, 4096, 2048]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S8192x2048 : Shape := ⟨2, ![8192, 2048]⟩

abbrev nBuf : Space → Nat
  | .hbm => 19
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048, .f32⟩
  | .hbm, ⟨2, _⟩ => ⟨S2x4096x2048, .f32⟩
  | .hbm, ⟨3, _⟩ => ⟨S_, .f32⟩
  | .hbm, ⟨4, _⟩ => ⟨S2x4096, .f32⟩
  | .hbm, ⟨5, _⟩ => ⟨S2x4096x1, .f32⟩
  | .hbm, ⟨6, _⟩ => ⟨S_, .f32⟩
  | .hbm, ⟨7, _⟩ => ⟨S2x4096x1, .f32⟩
  | .hbm, ⟨8, _⟩ => ⟨S2x4096x1, .f32⟩
  | .hbm, ⟨9, _⟩ => ⟨S_, .f32⟩
  | .hbm, ⟨10, _⟩ => ⟨S2x4096x1, .f32⟩
  | .hbm, ⟨11, _⟩ => ⟨S2x4096x1, .f32⟩
  | .hbm, ⟨12, _⟩ => ⟨S2x4096x1, .f32⟩
  | .hbm, ⟨13, _⟩ => ⟨S2x4096x2048, .f32⟩
  | .hbm, ⟨14, _⟩ => ⟨S2x4096x2048, .f32⟩
  | .hbm, ⟨15, _⟩ => ⟨S1x1x2048, .f32⟩
  | .hbm, ⟨16, _⟩ => ⟨S2x4096x2048, .f32⟩
  | .hbm, ⟨17, _⟩ => ⟨S2x4096x2048, .f32⟩
  | .hbm, ⟨18, _⟩ => ⟨S8192x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== KernelQuery.lean ====
abbrev S2x4096x2048 : Shape := ⟨3, ![2, 4096, 2048]⟩
abbrev S2x2048x4096 : Shape := ⟨3, ![2, 2048, 4096]⟩
abbrev S64 : Shape := ⟨1, ![64]⟩
abbrev S_ : Shape := ⟨0, ![]⟩
abbrev S4096 : Shape := ⟨1, ![4096]⟩
abbrev S4096x1 : Shape := ⟨2, ![4096, 1]⟩
abbrev S1x64 : Shape := ⟨2, ![1, 64]⟩
abbrev S4096x64 : Shape := ⟨2, ![4096, 64]⟩
abbrev S4096x128 : Shape := ⟨2, ![4096, 128]⟩
abbrev S8192x2048 : Shape := ⟨2, ![8192, 2048]⟩
abbrev S512x2048 : Shape := ⟨2, ![512, 2048]⟩
abbrev S1x2048x1024 : Shape := ⟨3, ![1, 2048, 1024]⟩
abbrev S512x128 : Shape := ⟨2, ![512, 128]⟩
abbrev S512x1024 : Shape := ⟨2, ![512, 1024]⟩
abbrev S2048x1024 : Shape := ⟨2, ![2048, 1024]⟩

abbrev nBuf : Space → Nat
  | .hbm => 27
  | .vmem => 11
  | .smem => 0
  | _ => 0

abbrev bufTy : (tb : Table) → Fin (tcTables nBuf tb) → BufTy
  | .hbm, ⟨0, _⟩ => ⟨S2x4096x2048, .f32⟩
  | .hbm, ⟨1, _⟩ => ⟨S2x2048x4096, .f32⟩
  | .hbm, ⟨2, _⟩ => ⟨S64, .f32⟩
  | .hbm, ⟨3, _⟩ => ⟨S64, .f32⟩
  | .hbm, ⟨4, _⟩ => ⟨S_, .f32⟩
  | .hbm, ⟨5, _⟩ => ⟨S64, .f32⟩
  | .hbm, ⟨6, _⟩ => ⟨S64, .f32⟩
  | .hbm, ⟨7, _⟩ => ⟨S_, .f32⟩
  | .hbm, ⟨8, _⟩ => ⟨S64, .f32⟩
  | .hbm, ⟨9, _⟩ => ⟨S64, .f32⟩
  | .hbm, ⟨10, _⟩ => ⟨S4096, .i32⟩
  | .hbm, ⟨11, _⟩ => ⟨S4096, .f32⟩
  | .hbm, ⟨12, _⟩ => ⟨S4096x1, .f32⟩
  | .hbm, ⟨13, _⟩ => ⟨S1x64, .f32⟩
  | .hbm, ⟨14, _⟩ => ⟨S4096x64, .f32⟩
  | .hbm, ⟨15, _⟩ => ⟨S4096x64, .f32⟩
  | .hbm, ⟨16, _⟩ => ⟨S4096x64, .f32⟩
  | .hbm, ⟨17, _⟩ => ⟨S4096x64, .f32⟩
  | .hbm, ⟨18, _⟩ => ⟨S4096x64, .f32⟩
  | .hbm, ⟨19, _⟩ => ⟨S4096x128, .f32⟩
  | .hbm, ⟨20, _⟩ => ⟨S4096x64, .f32⟩
  | .hbm, ⟨21, _⟩ => ⟨S4096x64, .f32⟩
  | .hbm, ⟨22, _⟩ => ⟨S4096x64, .f32⟩
  | .hbm, ⟨23, _⟩ => ⟨S4096x128, .f32⟩
  | .hbm, ⟨24, _⟩ => ⟨S8192x2048, .f32⟩
  | .hbm, ⟨25, _⟩ => ⟨S8192x2048, .bf16⟩
  | .hbm, ⟨26, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x1024, .bf16⟩
  | .local _ .vmem, ⟨9, _⟩ => ⟨S512x1024, .bf16⟩
  | .local _ .vmem, ⟨10, _⟩ => ⟨S2048x1024, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceQueryIdeal.lean ====
abbrev S2x4096x2048 : Shape := ⟨3, ![2, 4096, 2048]⟩
abbrev S2x2048x4096 : Shape := ⟨3, ![2, 2048, 4096]⟩
abbrev S1x2048x4096 : Shape := ⟨3, ![1, 2048, 4096]⟩
abbrev S2048x4096 : Shape := ⟨2, ![2048, 4096]⟩
abbrev S2x4096x4096 : Shape := ⟨3, ![2, 4096, 4096]⟩
abbrev S8192x2048 : Shape := ⟨2, ![8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2x2048x4096, .f32⟩
  | .hbm, ⟨2, _⟩ => ⟨S1x2048x4096, .f32⟩
  | .hbm, ⟨3, _⟩ => ⟨S2048x4096, .f32⟩
  | .hbm, ⟨4, _⟩ => ⟨S2x4096x4096, .f32⟩
  | .hbm, ⟨5, _⟩ => ⟨S2x4096x2048, .f32⟩
  | .hbm, ⟨6, _⟩ => ⟨S8192x2048, .f32⟩
  | .hbm, ⟨7, _⟩ => ⟨S8192x2048, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Proof.K.Counter.lean ====
/-
  The loop over the earlier chunks of keys: its counter's words, its test, and the side conditions the counter meets.
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Tactic

@[expose] public section

set_option maxRecDepth 16384

noncomputable section

namespace Cert.Proof.K

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The loop's variants: the trips still to run. -/
abbrev 𝒱₀ : Variants := Variants.nat

/-- The number of chunks up to the query block's own, as the program's words compute it. -/
def nkc (i : grid0.Coords) : BitVec 32 :=
  let v3 : BitVec 32 := Scalar.subi (Scalar.addi (Scalar.muli (Scalar.addi (BitVec.ofNat 32 (i 2).val) 1#32) 256#32) 256#32) 1#32
  let v4 : BitVec 32 := Scalar.divsi v3 256#32
  Scalar.select (Scalar.andi (Scalar.cmpi .ne (Scalar.subi (Scalar.extui (Scalar.cmpi .sgt v3 0#32)) (Scalar.extui (Scalar.cmpi .slt v3 0#32)))
      (Scalar.subi (Scalar.extui (Scalar.cmpi .sgt 256#32 0#32)) (Scalar.extui (Scalar.cmpi .slt 256#32 0#32))))
    (Scalar.cmpi .ne (Scalar.remsi v3 256#32) 0#32)) (Scalar.subi v4 1#32) v4

/-- The loop's test at counter `r` and running maximum `top`. -/
def live (i : grid0.Coords) (r : BitVec 32) (top : F .f32) : BitVec 1 :=
  Scalar.andi (Scalar.cmpi .slt r (nkc i)) (Scalar.cmpf .ogt top (Scalar.ofBits .f32 0xC3200000#32))

/-! ## The loop's counter -/

/-- Below the number of chunks every counter's offsets lie inside the arrays. -/
theorem chk_of_lt : ∀ (i : grid0.Coords) (r : Fin 16), 1 ≤ r.val → r.val ≤ (i 2).val → k0_chk1 i (BitVec.ofNat 32 r.val) := by
  decide +kernel

/-- The counter's test: it passes below the number of chunks, `i + 1`. -/
theorem slt_nkc : ∀ (i : grid0.Coords) (r : Fin 17), Scalar.cmpi .slt (BitVec.ofNat 32 r.val) (nkc i) = if r.val ≤ (i 2).val then 1#1 else 0#1 := by
  decide +kernel

theorem addi_succ : ∀ r : Fin 17, Scalar.addi (BitVec.ofNat 32 r.val) 1#32 = BitVec.ofNat 32 (r.val + 1) := by
  decide +kernel

end Cert.Proof.K

end
-- ==== Proof.KI.Counter.lean ====
/-
  The loop over the earlier chunks of keys: its counter's words, its test, and the side conditions the counter meets.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Tactic

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The loop's variants: the trips still to run. -/
abbrev 𝒱₀ : Variants := Variants.nat

/-- The number of chunks up to the query block's own, as the program's words compute it. -/
def nkc (i : grid0.Coords) : BitVec 32 :=
  let v3 : BitVec 32 := Scalar.subi (Scalar.addi (Scalar.muli (Scalar.addi (BitVec.ofNat 32 (i 2).val) 1#32) 256#32) 256#32) 1#32
  let v4 : BitVec 32 := Scalar.divsi v3 256#32
  Scalar.select (Scalar.andi (Scalar.cmpi .ne (Scalar.subi (Scalar.extui (Scalar.cmpi .sgt v3 0#32)) (Scalar.extui (Scalar.cmpi .slt v3 0#32)))
      (Scalar.subi (Scalar.extui (Scalar.cmpi .sgt 256#32 0#32)) (Scalar.extui (Scalar.cmpi .slt 256#32 0#32))))
    (Scalar.cmpi .ne (Scalar.remsi v3 256#32) 0#32)) (Scalar.subi v4 1#32) v4

/-- The loop's test at counter `r` and running maximum `top`. -/
def live (i : grid0.Coords) (r : BitVec 32) (top : F .f32) : BitVec 1 :=
  Scalar.andi (Scalar.cmpi .slt r (nkc i)) (Scalar.cmpf .ogt top (Named.named κ "exit_at" 0xC3200000#32))

/-! ## The loop's counter -/

/-- Below the number of chunks every counter's offsets lie inside the arrays. -/
theorem chk_of_lt : ∀ (i : grid0.Coords) (r : Fin 16), 1 ≤ r.val → r.val ≤ (i 2).val → k0_chk1 i (BitVec.ofNat 32 r.val) := by
  decide +kernel

/-- The counter's test: it passes below the number of chunks, `i + 1`. -/
theorem slt_nkc : ∀ (i : grid0.Coords) (r : Fin 17), Scalar.cmpi .slt (BitVec.ofNat 32 r.val) (nkc i) = if r.val ≤ (i 2).val then 1#1 else 0#1 := by
  decide +kernel

theorem addi_succ : ∀ r : Fin 17, Scalar.addi (BitVec.ofNat 32 r.val) 1#32 = BitVec.ofNat 32 (r.val + 1) := by
  decide +kernel

end Cert.Proof.KI

end
-- ==== Proof.KI.Trip.lean ====
/-
  One trip of the kernel's loop over the earlier chunks of keys, run once: whatever the two scratch buffers hold, the trip
  reads the four staged inputs, writes the scratch buffers' rows head by head and calls the loop again at the next counter.
-/
module

public import proofs.«01_k».proof.Proof.KI.Counter
public import Idealize.ShloMosaic.Lib.Pipeline.FrameBody
public import Idealize.ShloMosaic.Lib.Tactic

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 4000000 in
/-- One trip: the pieces it writes over the two scratch buffers, with the run that writes them. -/
noncomputable def tripRun (c : Dev nD) (i : grid0.Coords) (arg3 : Memref sig .tc .vmem S256x1024 .f32) (harg3 : arg3.IsWhole) (arg4 : Memref sig .tc .vmem S4096x512 .bf16) (harg4 : arg4.IsWhole) (arg5 : Memref sig .tc .vmem S1x16x512x256 .bf16) (harg5 : arg5.IsWhole) (arg6 : Memref sig .tc .vmem S264x256 .bf16) (harg6 : arg6.IsWhole) (arg8 : Memref sig .tc .vmem S8x1x256 .f32) (harg8 : arg8.IsWhole) (arg9 : Memref sig .tc .vmem S8x128x256 .f32) (harg9 : arg9.IsWhole)
    (x0 : Vec F S256x1024 .f32) (x1 : Vec F S4096x512 .bf16) (x2 : Vec F S1x16x512x256 .bf16) (x3 : Vec F S264x256 .bf16)
    (T : Vec F S8x1x256 .f32) (A : Vec F S8x128x256 .f32) (r : BitVec 32) (top : F .f32) (hchk : k0_chk1 i r) :
    Σ' (LT : List (View.Piece (Elt F) S8x1x256 .f32)) (LA : List (View.Piece (Elt F) S8x128x256 .f32)), { top' : F .f32 //
      ∀ (bd : Option ℕ) (E : Set ℕ) (K : BitVec 32 × F .f32 → sProp 𝕄) (hlive : live i r top = 1#1),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg8 fullShare T ∗ owns (c : Thread nD τ) arg9 fullShare A
            ∗ (iprop(owns (c : Thread nD τ) arg3 fullShare x0 ∗ owns (c : Thread nD τ) arg4 fullShare x1 ∗ owns (c : Thread nD τ) arg5 fullShare x2 ∗ owns (c : Thread nD τ) arg6 fullShare x3 ∗ (arg8.view.loc (c : Thread nD τ) ↦[arg8.view.set]{fullShare} arg8.view.writes (Elt F) (harg8.unread T) LT) ∗ (arg9.view.loc (c : Thread nD τ) ↦[arg9.view.set]{fullShare} arg9.view.writes (Elt F) (harg9.unread A) LA))
                -∗ wp frame (wpE (defs₀ (F := F)) 𝒱₀ c bd) E (Prog.op (.call (1 : (Λ₀ F).Label) ⟨i, arg4, harg4, arg3, harg3, arg6, harg6, arg8, harg8, arg9, harg9, arg5, harg5, Scalar.addi r 1#32, top'⟩) Prog.ret) K))
          ⊢ wp frame (wpE (defs₀ (F := F)) 𝒱₀ c bd) E (cc0_while1 i arg4 harg4 arg3 harg3 arg6 harg6 arg8 harg8 arg9 harg9 arg5 harg5 r top) K } := by
  refine ⟨?_, ?_, ?_, fun bd E K hlive => ?run⟩
  case run =>
    simp only [cc0_while1_eq_skeleton]; unfold cc0_while1_skel
    unfold live nkc at hlive
    simp only [k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton]
    unfold owns
    iintro ⟨⟨%f0, %hf0, H0⟩, ⟨%f1, %hf1, H1⟩, ⟨%f2, %hf2, H2⟩, ⟨%f3, %hf3, H3⟩, ⟨%fs0, %hs0, HS0⟩, ⟨%fs1, %hs1, HS1⟩, Hk⟩
    obtain rfl := harg3.eq_unread hf0; obtain rfl := harg4.eq_unread hf1; obtain rfl := harg5.eq_unread hf2; obtain rfl := harg6.eq_unread hf3
    obtain rfl := harg8.eq_unread hs0; obtain rfl := harg9.eq_unread hs1
    sl_exec
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexact HS0
    iexact HS1

end Cert.Proof.KI

end
-- ==== Proof.KI.Loop.lean ====
/-
  The loop over the earlier chunks of keys: what it leaves in the two scratch buffers, trip by trip (`loopSt`), and the
  specification its label meets, by induction on the trips still to run.
-/
module

public import proofs.«01_k».proof.Proof.KI.Trip

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

section Loop

variable (c : Dev nD) (i : grid0.Coords) (arg3 : Memref sig .tc .vmem S256x1024 .f32) (harg3 : arg3.IsWhole) (arg4 : Memref sig .tc .vmem S4096x512 .bf16) (harg4 : arg4.IsWhole) (arg5 : Memref sig .tc .vmem S1x16x512x256 .bf16) (harg5 : arg5.IsWhole) (arg6 : Memref sig .tc .vmem S264x256 .bf16) (harg6 : arg6.IsWhole) (arg8 : Memref sig .tc .vmem S8x1x256 .f32) (harg8 : arg8.IsWhole) (arg9 : Memref sig .tc .vmem S8x128x256 .f32) (harg9 : arg9.IsWhole)
  (x0 : Vec F S256x1024 .f32) (x1 : Vec F S4096x512 .bf16) (x2 : Vec F S1x16x512x256 .bf16) (x3 : Vec F S264x256 .bf16)

/-- The first scratch buffer after a trip, -/
def tripT (T : Vec F S8x1x256 .f32) (A : Vec F S8x128x256 .f32) (r : BitVec 32) (top : F .f32) (hchk : k0_chk1 i r) : Vec F S8x1x256 .f32 :=
  arg8.view.read (Elt F) (arg8.view.writes (Elt F) (harg8.unread T)
    (tripRun c i arg3 harg3 arg4 harg4 arg5 harg5 arg6 harg6 arg8 harg8 arg9 harg9 x0 x1 x2 x3 T A r top hchk).1)

/-- the second, -/
def tripA (T : Vec F S8x1x256 .f32) (A : Vec F S8x128x256 .f32) (r : BitVec 32) (top : F .f32) (hchk : k0_chk1 i r) : Vec F S8x128x256 .f32 :=
  arg9.view.read (Elt F) (arg9.view.writes (Elt F) (harg9.unread A)
    (tripRun c i arg3 harg3 arg4 harg4 arg5 harg5 arg6 harg6 arg8 harg8 arg9 harg9 x0 x1 x2 x3 T A r top hchk).2.1)

/-- and the maximum the next test reads. -/
def tripTop (T : Vec F S8x1x256 .f32) (A : Vec F S8x128x256 .f32) (r : BitVec 32) (top : F .f32) (hchk : k0_chk1 i r) : F .f32 :=
  (tripRun c i arg3 harg3 arg4 harg4 arg5 harg5 arg6 harg6 arg8 harg8 arg9 harg9 x0 x1 x2 x3 T A r top hchk).2.2.1

/-- The scratch buffers when the loop, entered at counter `r`, has ended, at most `k` trips later. -/
def loopSt : ℕ → ℕ → Vec F S8x1x256 .f32 → Vec F S8x128x256 .f32 → F .f32 → Vec F S8x1x256 .f32 × Vec F S8x128x256 .f32
  | 0, _, T, A, _ => (T, A)
  | k + 1, r, T, A, top =>
    if h : live i (BitVec.ofNat 32 r) top = 1#1 ∧ k0_chk1 i (BitVec.ofNat 32 r) then
      loopSt k (r + 1)
        (tripT c i arg3 harg3 arg4 harg4 arg5 harg5 arg6 harg6 arg8 harg8 arg9 harg9 x0 x1 x2 x3 T A _ top h.2)
        (tripA c i arg3 harg3 arg4 harg4 arg5 harg5 arg6 harg6 arg8 harg8 arg9 harg9 x0 x1 x2 x3 T A _ top h.2)
        (tripTop c i arg3 harg3 arg4 harg4 arg5 harg5 arg6 harg6 arg8 harg8 arg9 harg9 x0 x1 x2 x3 T A _ top h.2)
    else (T, A)

/-- The buffers the loop's function holds. -/
def held (T : Vec F S8x1x256 .f32) (A : Vec F S8x128x256 .f32) : sProp 𝕄 :=
  iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg8 fullShare T ∗ owns (c : Thread nD τ) arg9 fullShare A)

/-- The loop's specification, entered at counter `r` with `k` trips to run at most. -/
def spec (k r : ℕ) (T : Vec F S8x1x256 .f32) (A : Vec F S8x128x256 .f32) (top : F .f32) : sWPT 𝕄 (BitVec 32 × F .f32) := do
  sWPT.consume (held c arg3 arg4 arg5 arg6 arg8 arg9 x0 x1 x2 x3 T A)
  let p ← sWPT.arbitrary
  sWPT.produce (held c arg3 arg4 arg5 arg6 arg8 arg9 x0 x1 x2 x3
    (loopSt c i arg3 harg3 arg4 harg4 arg5 harg5 arg6 harg6 arg8 harg8 arg9 harg9 x0 x1 x2 x3 k r T A top).1
    (loopSt c i arg3 harg3 arg4 harg4 arg5 harg5 arg6 harg6 arg8 harg8 arg9 harg9 x0 x1 x2 x3 k r T A top).2)
  pure p

theorem spec_apply (k r : ℕ) (T : Vec F S8x1x256 .f32) (A : Vec F S8x128x256 .f32) (top : F .f32) (K : BitVec 32 × F .f32 → sProp 𝕄) :
    spec c i arg3 harg3 arg4 harg4 arg5 harg5 arg6 harg6 arg8 harg8 arg9 harg9 x0 x1 x2 x3 k r T A top K
      = iprop(held c arg3 arg4 arg5 arg6 arg8 arg9 x0 x1 x2 x3 T A ∗ ∀ p : BitVec 32 × F .f32,
        held c arg3 arg4 arg5 arg6 arg8 arg9 x0 x1 x2 x3
          (loopSt c i arg3 harg3 arg4 harg4 arg5 harg5 arg6 harg6 arg8 harg8 arg9 harg9 x0 x1 x2 x3 k r T A top).1
          (loopSt c i arg3 harg3 arg4 harg4 arg5 harg5 arg6 harg6 arg8 harg8 arg9 harg9 x0 x1 x2 x3 k r T A top).2 -∗ K p) := rfl

set_option maxHeartbeats 1000000 in
/-- A failed test ends the loop. -/
theorem exit_run (bd : Option ℕ) (E : Set ℕ) (r : BitVec 32) (top : F .f32) (hdead : ¬live i r top = 1#1) (K : BitVec 32 × F .f32 → sProp 𝕄) :
    K (r, top) ⊢ wp frame (wpE (defs₀ (F := F)) 𝒱₀ c bd) E (cc0_while1 i arg4 harg4 arg3 harg3 arg6 harg6 arg8 harg8 arg9 harg9 arg5 harg5 r top) K := by
  simp only [cc0_while1_eq_skeleton]; unfold cc0_while1_skel
  unfold live nkc at hdead
  iintro H
  rw [if_neg hdead]
  simp only [Prog.pure_eq_ret]
  rw [wp_ret]; imodintro
  iexact H

theorem spec_le (E : Set ℕ) : ∀ k r, 1 ≤ r → r + k = (i 2).val + 1 → ∀ w : BitVec 32, w = BitVec.ofNat 32 r → ∀ T A top K,
    spec c i arg3 harg3 arg4 harg4 arg5 harg5 arg6 harg6 arg8 harg8 arg9 harg9 x0 x1 x2 x3 k r T A top K
      ⊢ wp frame (wpE (defs₀ (F := F)) 𝒱₀ (c : Thread nD τ) (some k)) E
          (defs₀ (F := F) .tc 1 ⟨i, arg4, harg4, arg3, harg3, arg6, harg6, arg8, harg8, arg9, harg9, arg5, harg5, w, top⟩) K := by
  have hi : (i 2).val < 16 := (i 2).isLt
  intro k
  induction k with
  | zero =>
    intro r hr hk w hw T A top K
    rw [spec_apply]
    show _ ⊢ wp frame (wpE (defs₀ (F := F)) 𝒱₀ (c : Thread nD τ) (some 0)) E
      (cc0_while1 i arg4 harg4 arg3 harg3 arg6 harg6 arg8 harg8 arg9 harg9 arg5 harg5 w top) K
    subst hw
    have hdead : ¬live i (BitVec.ofNat 32 r) top = 1#1 := by
      have h := slt_nkc i ⟨r, by omega⟩
      rw [if_neg (by simp only; omega)] at h
      unfold live; rw [h]
      generalize Scalar.cmpf .ogt top (Named.named κ "exit_at" 0xC3200000#32) = b
      revert b; decide
    iintro ⟨H, Hk⟩
    iapply (exit_run c i arg3 harg3 arg4 harg4 arg5 harg5 arg6 harg6 arg8 harg8 arg9 harg9 (some 0) E _ top hdead K)
    iapply Hk
    simp only [loopSt]; iexact H
  | succ k ih =>
    intro r hr hk w hw T A top K
    rw [spec_apply]
    show _ ⊢ wp frame (wpE (defs₀ (F := F)) 𝒱₀ (c : Thread nD τ) (some (k + 1))) E
      (cc0_while1 i arg4 harg4 arg3 harg3 arg6 harg6 arg8 harg8 arg9 harg9 arg5 harg5 w top) K
    subst hw
    have hchk : k0_chk1 i (BitVec.ofNat 32 r) := chk_of_lt i ⟨r, by omega⟩ hr (by simp only; omega)
    have hs : Scalar.addi (BitVec.ofNat 32 r) 1#32 = BitVec.ofNat 32 (r + 1) := addi_succ ⟨r, by omega⟩
    by_cases hl : live i (BitVec.ofNat 32 r) top = 1#1
    · rw [loopSt, dif_pos ⟨hl, hchk⟩]
      iintro ⟨H, Hk⟩
      unfold held
      icases H with ⟨H0, H1, H2, H3, HT, HA⟩
      iapply ((tripRun c i arg3 harg3 arg4 harg4 arg5 harg5 arg6 harg6 arg8 harg8 arg9 harg9 x0 x1 x2 x3 T A _ top hchk).2.2.2 (some (k + 1)) E K hl)
      isplitl [H0]; · iexact H0
      isplitl [H1]; · iexact H1
      isplitl [H2]; · iexact H2
      isplitl [H3]; · iexact H3
      isplitl [HT]; · iexact HT
      isplitl [HA]; · iexact HA
      iintro ⟨H0, H1, H2, H3, HT, HA⟩
      iapply (wp_call_spec 𝒱₀ (c : Thread nD τ) (some (k + 1)) E
        (spec c i arg3 harg3 arg4 harg4 arg5 harg5 arg6 harg6 arg8 harg8 arg9 harg9 x0 x1 x2 x3 k (r + 1)
          (tripT c i arg3 harg3 arg4 harg4 arg5 harg5 arg6 harg6 arg8 harg8 arg9 harg9 x0 x1 x2 x3 T A _ top hchk)
          (tripA c i arg3 harg3 arg4 harg4 arg5 harg5 arg6 harg6 arg8 harg8 arg9 harg9 x0 x1 x2 x3 T A _ top hchk)
          (tripTop c i arg3 harg3 arg4 harg4 arg5 harg5 arg6 harg6 arg8 harg8 arg9 harg9 x0 x1 x2 x3 T A _ top hchk)) k
        (fun u hu => by cases hu; exact Nat.lt_succ_self k)
        (ih (r + 1) (by omega) (by omega) _ hs _ _ _))
      rw [spec_apply]; unfold held
      isplitl [H0 H1 H2 H3 HT HA]
      · isplitl [H0]; · iexact H0
        isplitl [H1]; · iexact H1
        isplitl [H2]; · iexact H2
        isplitl [H3]; · iexact H3
        isplitl [HT]
        · unfold owns; iexists _; isplitr; swap; · iexact HT
          ipureintro; rfl
        unfold owns; iexists _; isplitr; swap; · iexact HA
        ipureintro; rfl
      iintro %p H
      rw [wp_ret]; imodintro
      iapply Hk
      iexact H
    · rw [loopSt, dif_neg (fun h => hl h.1)]
      iintro ⟨H, Hk⟩
      iapply (exit_run c i arg3 harg3 arg4 harg4 arg5 harg5 arg6 harg6 arg8 harg8 arg9 harg9 (some (k + 1)) E _ top hl K)
      iapply Hk
      iexact H

end Loop

end Cert.Proof.KI

end
-- ==== Proof.KI.Body.lean ====
/-
  The kernel's body, run once: the chunk on the diagonal over zeroed scratch buffers, the loop over the earlier chunks by
  its specification, and the output's eight column blocks stored from the second scratch buffer.
-/
module

public import proofs.«01_k».proof.Proof.KI.Loop
public import Idealize.ShloMosaic.Lib.Ring

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The two scratch buffers' views. -/
abbrev V8 : View sig .tc .vmem S8x1x256 .f32 := (Memref.whole cc0_scratch0 : Memref sig .tc .vmem S8x1x256 .f32).view
abbrev V9 : View sig .tc .vmem S8x128x256 .f32 := (Memref.whole cc0_scratch1 : Memref sig .tc .vmem S8x128x256 .f32).view

/-- A covered scratch buffer's contents, by its pieces alone. -/
def over8 (L : List (View.Piece (Elt F) S8x1x256 .f32)) : Vec F S8x1x256 .f32 :=
  V8.read (Elt F) (V8.writes (Elt F) V8.junk L)

def over9 (L : List (View.Piece (Elt F) S8x128x256 .f32)) : Vec F S8x128x256 .f32 :=
  V9.read (Elt F) (V9.writes (Elt F) V9.junk L)

/-- The call of the loop, over covered scratch buffers. -/
theorem call_step (c : Dev nD) (i : grid0.Coords) (arg3 : Memref sig .tc .vmem S256x1024 .f32) (harg3 : arg3.IsWhole) (arg4 : Memref sig .tc .vmem S4096x512 .bf16) (harg4 : arg4.IsWhole) (arg5 : Memref sig .tc .vmem S1x16x512x256 .bf16) (harg5 : arg5.IsWhole) (arg6 : Memref sig .tc .vmem S264x256 .bf16) (harg6 : arg6.IsWhole) (arg8 : Memref sig .tc .vmem S8x1x256 .f32) (harg8 : arg8.IsWhole) (arg9 : Memref sig .tc .vmem S8x128x256 .f32) (harg9 : arg9.IsWhole)
    (x0 : Vec F S256x1024 .f32) (x1 : Vec F S4096x512 .bf16) (x2 : Vec F S1x16x512x256 .bf16) (x3 : Vec F S264x256 .bf16)
    (LT : List (View.Piece (Elt F) S8x1x256 .f32)) (LA : List (View.Piece (Elt F) S8x128x256 .f32)) (top : F .f32)
    (f8 : arg8.view.ty.Contents (Elt F)) (f9 : arg9.view.ty.Contents (Elt F))
    (E : Set ℕ) {β : Type} (k : BitVec 32 × F .f32 → Prog (TpuEff nD τ sig (Elt F) (Λ₀ F) .tc) β) (K : β → sProp 𝕄) :
    iprop(owns (c : Thread nD τ) arg3 fullShare x0 ∗ owns (c : Thread nD τ) arg4 fullShare x1 ∗ owns (c : Thread nD τ) arg5 fullShare x2 ∗ owns (c : Thread nD τ) arg6 fullShare x3
        ∗ (arg8.view.loc (c : Thread nD τ) ↦[arg8.view.set]{fullShare} arg8.view.writes (Elt F) f8 LT)
        ∗ (arg9.view.loc (c : Thread nD τ) ↦[arg9.view.set]{fullShare} arg9.view.writes (Elt F) f9 LA)
        ∗ ⌜∀ y : S8x1x256.Idx, ∃ pc ∈ LT, y ∈ pc.1.set⌝ ∗ ⌜∀ y : S8x128x256.Idx, ∃ pc ∈ LA, y ∈ pc.1.set⌝
        ∗ (∀ p : BitVec 32 × F .f32, (iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg8 fullShare (loopSt c i arg3 harg3 arg4 harg4 arg5 harg5 arg6 harg6 arg8 harg8 arg9 harg9 x0 x1 x2 x3 (i 2).val 1 (over8 LT) (over9 LA) top).1
            ∗ owns (c : Thread nD τ) arg9 fullShare (loopSt c i arg3 harg3 arg4 harg4 arg5 harg5 arg6 harg6 arg8 harg8 arg9 harg9 x0 x1 x2 x3 (i 2).val 1 (over8 LT) (over9 LA) top).2)
          -∗ wp frame (wpE (defs₀ (F := F)) 𝒱₀ c none) E (k p) K)))
      ⊢ wp frame (wpE (defs₀ (F := F)) 𝒱₀ c none) E
          (Prog.op (.call (1 : (Λ₀ F).Label) ⟨i, arg4, harg4, arg3, harg3, arg6, harg6, arg8, harg8, arg9, harg9, arg5, harg5, 1#32, top⟩) k) K := by
  iintro ⟨H0, H1, H2, H3, HT, HA, %hT, %hA, Hk⟩
  iapply (wp_call_spec 𝒱₀ (c : Thread nD τ) none E
    (spec c i arg3 harg3 arg4 harg4 arg5 harg5 arg6 harg6 arg8 harg8 arg9 harg9 x0 x1 x2 x3 (i 2).val 1 (over8 LT) (over9 LA) top)
    (i 2).val (fun u hu => nomatch hu)
    (spec_le c i arg3 harg3 arg4 harg4 arg5 harg5 arg6 harg6 arg8 harg8 arg9 harg9 x0 x1 x2 x3 E (i 2).val 1 le_rfl (Nat.add_comm _ _) 1#32 rfl _ _ _))
  rw [spec_apply]; unfold held
  isplitl [H0 H1 H2 H3 HT HA]
  · isplitl [H0]; · iexact H0
    isplitl [H1]; · iexact H1
    isplitl [H2]; · iexact H2
    isplitl [H3]; · iexact H3
    isplitl [HT]
    · unfold owns; iexists _; isplitr; swap; · iexact HT
      ipureintro; exact View.read_writes_of_cover _ _ _ _ _ hT
    unfold owns; iexists _; isplitr; swap; · iexact HA
    ipureintro; exact View.read_writes_of_cover _ _ _ _ _ hA
  iintro %p H
  iapply Hk
  iexact H

set_option maxHeartbeats 4000000 in
/-- The body's run: the pieces over the two scratch buffers at the loop's entry (`LT`, `LA`), the maximum the loop is
    entered with, and the output's pieces. -/
noncomputable def bodyRun (c : Dev nD) (i : grid0.Coords) (arg3 : Memref sig .tc .vmem S256x1024 .f32) (harg3 : arg3.IsWhole) (arg4 : Memref sig .tc .vmem S4096x512 .bf16) (harg4 : arg4.IsWhole) (arg5 : Memref sig .tc .vmem S1x16x512x256 .bf16) (harg5 : arg5.IsWhole) (arg6 : Memref sig .tc .vmem S264x256 .bf16) (harg6 : arg6.IsWhole) (arg7 : Memref sig .tc .vmem S256x1024 .bf16) (harg7 : arg7.IsWhole) (arg8 : Memref sig .tc .vmem S8x1x256 .f32) (harg8 : arg8.IsWhole) (arg9 : Memref sig .tc .vmem S8x128x256 .f32) (harg9 : arg9.IsWhole)
    (x0 : Vec F S256x1024 .f32) (x1 : Vec F S4096x512 .bf16) (x2 : Vec F S1x16x512x256 .bf16) (x3 : Vec F S264x256 .bf16) :
    Σ' (LT : List (View.Piece (Elt F) S8x1x256 .f32)) (LA : List (View.Piece (Elt F) S8x128x256 .f32)) (top : F .f32), { L4 : List (View.Piece (Elt F) S256x1024 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4)
                ∗ owns (c : Thread nD τ) arg8 fullShare (loopSt c i arg3 harg3 arg4 harg4 arg5 harg5 arg6 harg6 arg8 harg8 arg9 harg9 x0 x1 x2 x3 (i 2).val 1 (over8 LT) (over9 LA) top).1
                ∗ owns (c : Thread nD τ) arg9 fullShare (loopSt c i arg3 harg3 arg4 harg4 arg5 harg5 arg6 harg6 arg8 harg8 arg9 harg9 x0 x1 x2 x3 (i 2).val 1 (over8 LT) (over9 LA) top).2) -∗ K ⟨⟩))
          ⊢ wp frame (wpE (defs₀ (F := F)) 𝒱₀ c none) E (cc0_sb_prompt i arg3 harg3 arg4 harg4 arg5 harg5 arg6 harg6 arg7 harg7 arg8 harg8 arg9 harg9) K } := by
  refine ⟨?_, ?_, ?_, ?_, fun E K => ?run⟩
  case run =>
    simp only [cc0_sb_prompt_eq_skeleton]; unfold cc0_sb_prompt_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3
    sl_exec
    iapply (call_step c i arg3 harg3 arg4 harg4 arg5 harg5 arg6 harg6 arg8 harg8 arg9 harg9 x0 x1 x2 x3 _ _ _ fs0 fs1 E _ _)
    unfold owns
    isplitl [H0]
    · iexists _; isplitr; swap; · iexact H0
      ipureintro; exact harg3.read_unread _
    isplitl [H1]
    · iexists _; isplitr; swap; · iexact H1
      ipureintro; exact harg4.read_unread _
    isplitl [H2]
    · iexists _; isplitr; swap; · iexact H2
      ipureintro; exact harg5.read_unread _
    isplitl [H3]
    · iexists _; isplitr; swap; · iexact H3
      ipureintro; exact harg6.read_unread _
    isplitl [HS0]; · iexact HS0
    isplitl [HS1]; · iexact HS1
    isplitr; · ipureintro; exact View.cover_of_tiledL _ S1x1x256.size (by sl_kernel_rfl)
    isplitr; · ipureintro; exact View.cover_of_tiledL _ S1x128x256.size (by sl_kernel_rfl)
    iintro %p ⟨⟨%g0, %hg0, H0⟩, ⟨%g1, %hg1, H1⟩, ⟨%g2, %hg2, H2⟩, ⟨%g3, %hg3, H3⟩, ⟨%gs0, %hgs0, HS0⟩, ⟨%gs1, %hgs1, HS1⟩⟩
    obtain rfl := harg3.eq_unread hg0; obtain rfl := harg4.eq_unread hg1; obtain rfl := harg5.eq_unread hg2; obtain rfl := harg6.eq_unread hg3
    obtain rfl := harg8.eq_unread hgs0; obtain rfl := harg9.eq_unread hgs1
    sl_exec
    sl_step
    iapply Hk
    isplitl [H0]
    · iexists _; isplitr; swap; · iexact H0
      ipureintro; exact harg3.read_unread _
    isplitl [H1]
    · iexists _; isplitr; swap; · iexact H1
      ipureintro; exact harg4.read_unread _
    isplitl [H2]
    · iexists _; isplitr; swap; · iexact H2
      ipureintro; exact harg5.read_unread _
    isplitl [H3]
    · iexists _; isplitr; swap; · iexact H3
      ipureintro; exact harg6.read_unread _
    isplitl [H4]; · iexists _; iexact H4
    isplitl [HS0]
    · iexists _; isplitr; swap; · iexact HS0
      ipureintro; exact harg8.read_unread _
    iexists _; isplitr; swap; · iexact HS1
    ipureintro; exact harg9.read_unread _

end Cert.Proof.KI

end
-- ==== Proof.KI.Frame.lean ====
/-
  The kernel's launch at any float values: what a grid point leaves in the output's block (`outAt`), the pipeline's proof
  data, the body at any point, the run of the whole program, and the output array after it, block by block.
-/
module

public import proofs.«01_k».proof.Proof.KI.Body
public import proofs.«01_k».proof.Proof.Gen.KernelIdeal.Launch
public import proofs.«01_k».proof.Proof.Gen.KernelIdeal.Points
public import Idealize.ShloMosaic.Lib.Claim
public import Idealize.ShloMosaic.Lib.Pipeline.Frame
public import Idealize.ShloMosaic.Lib.Pipeline.Cells
public import Idealize.ShloMosaic.Lib.Pipeline.Value

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The host's operations before the launch -/

/-- Core `c`'s arrays as the launch finds them. -/
abbrev V (c : Dev nD) (b : Ref sig .tc) : Buf (Elt F) ((c : Thread nD τ).loc b) := StableHlo.after hostOps0 (fun b => m (c, b)) b

theorem host_fresh : (hostOps0 : List (HloOp τ sig (Elt F))).Forall fun op => op.fresh = ∅ := by
  simp only [List.Forall]; repeat' constructor

set_option maxHeartbeats 800000 in
theorem host_main (W : Variants) : Pipeline.HMain (Ix := Unit) (Name := ℕ) (U := UR sig nD τ) (Lvl := ℕ) cfgs 0 defs₀ W m (main (F := F)) (V m) :=
  Pipeline.hmain_prefix cfgs 0 defs₀ W m main hostOps0 hostOps0_sub host_fresh main_chain

theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The blocks -/

/-- Window `w`'s block at point `t`, off its array as the launch finds it. -/
def blkIn (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

abbrev st0 (t : Fin (cfg0 (F := F)).N) : Memref sig .tc .vmem S256x1024 .f32 := win0_0.stage ((cfg0 (F := F)).slots t 0)
abbrev sw0 (t : Fin (cfg0 (F := F)).N) : (st0 (F := F) t).IsWhole := hstage0_0 (((cfg0 (F := F)).slots t 0).cast nbuf0_0)
abbrev st1 (t : Fin (cfg0 (F := F)).N) : Memref sig .tc .vmem S4096x512 .bf16 := win0_1.stage ((cfg0 (F := F)).slots t 1)
abbrev sw1 (t : Fin (cfg0 (F := F)).N) : (st1 (F := F) t).IsWhole := hstage0_1 (((cfg0 (F := F)).slots t 1).cast nbuf0_1)
abbrev st2 (t : Fin (cfg0 (F := F)).N) : Memref sig .tc .vmem S1x16x512x256 .bf16 := win0_2.stage ((cfg0 (F := F)).slots t 2)
abbrev sw2 (t : Fin (cfg0 (F := F)).N) : (st2 (F := F) t).IsWhole := hstage0_2 (((cfg0 (F := F)).slots t 2).cast nbuf0_2)
abbrev st3 (t : Fin (cfg0 (F := F)).N) : Memref sig .tc .vmem S264x256 .bf16 := win0_3.stage ((cfg0 (F := F)).slots t 3)
abbrev sw3 (t : Fin (cfg0 (F := F)).N) : (st3 (F := F) t).IsWhole := hstage0_3 (((cfg0 (F := F)).slots t 3).cast nbuf0_3)
abbrev st4 (t : Fin (cfg0 (F := F)).N) : Memref sig .tc .vmem S256x1024 .bf16 := win0_4.stage ((cfg0 (F := F)).slots t 4)
abbrev sw4 (t : Fin (cfg0 (F := F)).N) : (st4 (F := F) t).IsWhole := hstage0_4 (((cfg0 (F := F)).slots t 4).cast nbuf0_4)

abbrev scr0 : Memref sig .tc .vmem S8x1x256 .f32 := Memref.whole cc0_scratch0
abbrev scr1 : Memref sig .tc .vmem S8x128x256 .f32 := Memref.whole cc0_scratch1

abbrev V7 : View sig .tc .vmem S256x1024 .bf16 := (Memref.whole cc0_stg4_0 : Memref sig .tc .vmem S256x1024 .bf16).view

theorem inv_eq (c : Dev nD) :
    (Pipeline.ΦA spec0 c : sProp 𝕄)
      = iprop(iprop((∃ d, owns (c : Thread nD τ) scr0 fullShare d) ∗ (∃ d, owns (c : Thread nD τ) scr1 fullShare d)) ∗ (∃ r, prngReg c r)) := by
  unfold Pipeline.ΦA; rw [scopedRest0_eq]; simp only [scr0, scr1, owns_whole]; try rfl

/-- The body's eight column blocks cover the output's block. -/
theorem out_cover (c : Dev nD) (i : grid0.Coords) (arg3 : Memref sig .tc .vmem S256x1024 .f32) (harg3 : arg3.IsWhole) (arg4 : Memref sig .tc .vmem S4096x512 .bf16) (harg4 : arg4.IsWhole) (arg5 : Memref sig .tc .vmem S1x16x512x256 .bf16) (harg5 : arg5.IsWhole) (arg6 : Memref sig .tc .vmem S264x256 .bf16) (harg6 : arg6.IsWhole) (arg7 : Memref sig .tc .vmem S256x1024 .bf16) (harg7 : arg7.IsWhole) (arg8 : Memref sig .tc .vmem S8x1x256 .f32) (harg8 : arg8.IsWhole) (arg9 : Memref sig .tc .vmem S8x128x256 .f32) (harg9 : arg9.IsWhole)
    (x0 : Vec F S256x1024 .f32) (x1 : Vec F S4096x512 .bf16) (x2 : Vec F S1x16x512x256 .bf16) (x3 : Vec F S264x256 .bf16) (y : S256x1024.Idx) :
    ∃ pc ∈ (bodyRun c i arg3 harg3 arg4 harg4 arg5 harg5 arg6 harg6 arg7 harg7 arg8 harg8 arg9 harg9 x0 x1 x2 x3).2.2.2.1, y ∈ pc.1.set :=
  View.cover_of_tiledL (bodyRun c i arg3 harg3 arg4 harg4 arg5 harg5 arg6 harg6 arg7 harg7 arg8 harg8 arg9 harg9 x0 x1 x2 x3).2.2.2.1 S256x128.size (by sl_kernel_rfl) y

/-- What the body leaves in the output's block. -/
def outOf (c : Dev nD) (i : grid0.Coords) (arg3 : Memref sig .tc .vmem S256x1024 .f32) (harg3 : arg3.IsWhole) (arg4 : Memref sig .tc .vmem S4096x512 .bf16) (harg4 : arg4.IsWhole) (arg5 : Memref sig .tc .vmem S1x16x512x256 .bf16) (harg5 : arg5.IsWhole) (arg6 : Memref sig .tc .vmem S264x256 .bf16) (harg6 : arg6.IsWhole) (arg7 : Memref sig .tc .vmem S256x1024 .bf16) (harg7 : arg7.IsWhole) (arg8 : Memref sig .tc .vmem S8x1x256 .f32) (harg8 : arg8.IsWhole) (arg9 : Memref sig .tc .vmem S8x128x256 .f32) (harg9 : arg9.IsWhole)
    (x0 : Vec F S256x1024 .f32) (x1 : Vec F S4096x512 .bf16) (x2 : Vec F S1x16x512x256 .bf16) (x3 : Vec F S264x256 .bf16) : Vec F S256x1024 .bf16 :=
  V7.read (Elt F) (V7.writes (Elt F) V7.junk (bodyRun c i arg3 harg3 arg4 harg4 arg5 harg5 arg6 harg6 arg7 harg7 arg8 harg8 arg9 harg9 x0 x1 x2 x3).2.2.2.1)

/-- What point `t` leaves there. -/
def outAt (c : Dev nD) (t : Fin (cfg0 (F := F)).N) : Vec F S256x1024 .bf16 :=
  outOf c (grid0.coords t) (st0 t) (sw0 t) (st1 t) (sw1 t) (st2 t) (sw2 t) (st3 t) (sw3 t) (st4 t) (sw4 t) scr0 (Memref.isWhole_whole _) scr1 (Memref.isWhole_whole _) (blkIn m c 0 t) (blkIn m c 1 t) (blkIn m c 2 t) (blkIn m c 3 t)

/-! ## The pipeline's proof data -/

def dats (_ : Fin 1) (c : Dev nD) : Dat τ (Elt F) Unit ℕ (UR sig nD τ) ℕ (cfg0 (F := F)) c where
  A w := V m c (Pipeline.arrRef spec0 w)
  after w t := match w with
    | ⟨0, _⟩ => blkIn m c 0 t
    | ⟨1, _⟩ => blkIn m c 1 t
    | ⟨2, _⟩ => blkIn m c 2 t
    | ⟨3, _⟩ => blkIn m c 3 t
    | ⟨4, _⟩ => outAt m c t
  Φ _ := Pipeline.ΦA spec0 c
  q _ := fullShare
  owed _ := 0

theorem A_eq (c : Dev nD) (w : Fin (cfg0 (F := F)).W) : (dats m 0 c).A w = V m c (Pipeline.arrRef spec0 w) := by
  dsimp only [dats]

theorem after_out (c : Dev nD) (t : Fin (cfg0 (F := F)).N) : (dats m 0 c).after 4 t = outAt m c t := rfl
theorem after_in0 (c : Dev nD) (t : Fin (cfg0 (F := F)).N) : (dats m 0 c).after 0 t = blkIn m c 0 t := rfl
theorem before_in0 (c : Dev nD) (t : Fin (cfg0 (F := F)).N) (d) : (dats m 0 c).before 0 t d = blkIn m c 0 t :=
  ((dats m 0 c).before_in_eq_fetched 0 rfl (fun _ => rfl) (fun _ _ _ => rfl) (fun t => by rw [after_in0]; unfold Dat.blockOf blkIn; rw [A_eq]; try rfl) t d).trans
    (by unfold Dat.fetched Dat.blockOf blkIn; rw [A_eq]; try rfl)
theorem after_in1 (c : Dev nD) (t : Fin (cfg0 (F := F)).N) : (dats m 0 c).after 1 t = blkIn m c 1 t := rfl
theorem before_in1 (c : Dev nD) (t : Fin (cfg0 (F := F)).N) (d) : (dats m 0 c).before 1 t d = blkIn m c 1 t :=
  ((dats m 0 c).before_in_eq_fetched 1 rfl (fun _ => rfl) (fun _ _ _ => rfl) (fun t => by rw [after_in1]; unfold Dat.blockOf blkIn; rw [A_eq]; try rfl) t d).trans
    (by unfold Dat.fetched Dat.blockOf blkIn; rw [A_eq]; try rfl)
theorem after_in2 (c : Dev nD) (t : Fin (cfg0 (F := F)).N) : (dats m 0 c).after 2 t = blkIn m c 2 t := rfl
theorem before_in2 (c : Dev nD) (t : Fin (cfg0 (F := F)).N) (d) : (dats m 0 c).before 2 t d = blkIn m c 2 t :=
  ((dats m 0 c).before_in_eq_fetched 2 rfl (fun _ => rfl) (fun _ _ _ => rfl) (fun t => by rw [after_in2]; unfold Dat.blockOf blkIn; rw [A_eq]; try rfl) t d).trans
    (by unfold Dat.fetched Dat.blockOf blkIn; rw [A_eq]; try rfl)
theorem after_in3 (c : Dev nD) (t : Fin (cfg0 (F := F)).N) : (dats m 0 c).after 3 t = blkIn m c 3 t := rfl
theorem before_in3 (c : Dev nD) (t : Fin (cfg0 (F := F)).N) (d) : (dats m 0 c).before 3 t d = blkIn m c 3 t :=
  ((dats m 0 c).before_in_eq_fetched 3 rfl (fun _ => rfl) (fun _ _ _ => rfl) (fun t => by rw [after_in3]; unfold Dat.blockOf blkIn; rw [A_eq]; try rfl) t d).trans
    (by unfold Dat.fetched Dat.blockOf blkIn; rw [A_eq]; try rfl)

/-! ## The body at any point -/

def pointPre (c : Dev nD) (t : Fin (cfg0 (F := F)).N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d)))

def pointPost (c : Dev nD) (t : Fin (cfg0 (F := F)).N) : sProp 𝕄 :=
  iprop((dats m 0 c).Φ t.succ ∗ (dats m 0 c).owesAt () t.succ
    ∗ owns (c : Thread nD τ) (st0 t) fullShare ((dats m 0 c).after 0 t)
    ∗ owns (c : Thread nD τ) (st1 t) fullShare ((dats m 0 c).after 1 t)
    ∗ owns (c : Thread nD τ) (st2 t) fullShare ((dats m 0 c).after 2 t)
    ∗ owns (c : Thread nD τ) (st3 t) fullShare ((dats m 0 c).after 3 t)
    ∗ owns (c : Thread nD τ) (st4 t) fullShare ((dats m 0 c).after 4 t))

theorem point_body (c : Dev nD) (t : Fin (cfg0 (F := F)).N) :
    pointPre m c t ⊢ wp frame (wpE (defs₀ (F := F)) 𝒱₀ c none) Set.univ (bodyAt0 t) (fun _ => pointPost m c t) := by
  unfold pointPre pointPost bodyAt0
  simp only [before_in0, before_in1, before_in2, before_in3]
  rw [show (dats m 0 c).Φ t.succ = (dats m 0 c).Φ t.castSucc from rfl,
    show (dats m 0 c).owesAt () t.succ = (dats m 0 c).owesAt () t.castSucc from rfl,
    after_in0, after_in1, after_in2, after_in3, after_out]
  rw [show (dats m 0 c).Φ t.castSucc = Pipeline.ΦA spec0 c from rfl, inv_eq]
  unfold outAt
  unfold outOf
  iintro ⟨⟨⟨HS0, HS1⟩, Hg⟩, Ho, ⟨%d0, H0⟩, ⟨%d1, H1⟩, ⟨%d2, H2⟩, ⟨%d3, H3⟩, ⟨%d4, H4⟩⟩
  iapply ((bodyRun c (grid0.coords t) _ _ _ _ _ _ _ _ _ _ _ _ _ _ (blkIn m c 0 t) (blkIn m c 1 t) (blkIn m c 2 t) (blkIn m c 3 t)).2.2.2.2 Set.univ _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  iintro ⟨H0, H1, H2, H3, ⟨%e4, H4⟩, HS0, HS1⟩
  isplitl [HS0 HS1 Hg]
  · isplitl [HS0 HS1]
    · isplitl [HS0]
      · iexists _; iexact HS0
      iexists _; iexact HS1
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (out_cover c _ _ _ _ _ _ _ _ _ _ _ _ _ _ _ _ _ _ _)

theorem body_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

theorem obligation (c : Dev nD) : BodyObligation (dats (F := F) m 0 c) (defs₀ (F := F)) 𝒱₀ () Set.univ := fun t => by
  rw [bigSep_W0, bigSep_W0, body_row]
  exact triple_restated (point_body m c t) rfl .rfl fun _ => .rfl

/-! ## The run -/

set_option backward.isDefEq.respectTransparency.types false in
theorem run_quiet : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ 𝒱₀ m ρ main
    (hbody := fun c => (obligation m c).loose) (hshare := fun c => (dats m 0 c).share_full fun _ => rfl)
    (howed := fun _ _ => rfl) (V := V m) (hmain := host_main m 𝒱₀) (hA := A_eq m) (hΦ := fun _ _ => rfl)

theorem kept0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (fun w => (by decide : ∀ w : Fin 5, (spec0 w).arr.view.ref ≠ main_arg0) w))).trans (V_arg0 m c)
theorem kept1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (fun w => (by decide : ∀ w : Fin 5, (spec0 w).arr.view.ref ≠ main_arg1) w))).trans (V_arg1 m c)
theorem kept2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (fun w => (by decide : ∀ w : Fin 5, (spec0 w).arr.view.ref ≠ main_arg2) w))).trans (V_arg2 m c)

/-- Every execution ends, the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => ⟨kept0 m r h.1 c, kept1 m r h.1 c, kept2 m r h.1 c⟩, h.2⟩) (run_quiet m ρ)

/-! ## The output array, block by block -/

theorem index_inj : ∀ t t' : Fin (cfg0 (F := F)).N, win0_4.index t = win0_4.index t' → t = t' :=
  (by decide +kernel : ∀ t t' : Fin grid0.N, win0_4.index t = win0_4.index t' → t = t')

theorem blocks_apart : ∀ t t' : Fin (cfg0 (F := F)).N, ((cfg0 (F := F)).win 4).flush t = true → ((cfg0 (F := F)).win 4).flush t' = true → t ≠ t' →
    Disjoint (((cfg0 (F := F)).win 4).blk t).view.set (((cfg0 (F := F)).win 4).blk t').view.set :=
  fun t t' _ _ hne => ((cfg0 (F := F)).win 4).disjoint_blk fun h => hne (index_inj t t' h)

/-- Block `t` of the final array is what point `t` left. -/
theorem block_out (c : Dev nD) (t : Fin (cfg0 (F := F)).N) :
    (((cfg0 (F := F)).win 4).blk t).view.read (Elt F) ((dats m 0 c).arrAt 4 (cfg0 (F := F)).N) = ((cfg0 (F := F)).win 4).cut (grid0.coords t) (outAt m c t) := by
  rw [(dats m 0 c).read_blk_arrAt_eq_flushed 4 blocks_apart (cfg0 (F := F)).N t t.isLt (flush0_4 t)]
  show ((cfg0 (F := F)).win 4).cut (grid0.coords t) ((dats m 0 c).after 4 t) = _
  rw [after_out]

theorem run_out : θ_run defs (onTc (τ := τ) (main (F := F))) ⟨m, fun _ => 0, ρ⟩ fun r => ∀ c : Dev nD,
      r.2.mem ((c : Thread nD τ).loc main_v17) = (dats m 0 c).arrAt 4 (cfg0 (F := F)).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h.1 c).1 4, kept0 m r h.1 c, kept1 m r h.1 c, kept2 m r h.1 c⟩) (run_quiet m ρ)

end Cert.Proof.KI

end
-- ==== Proof.KI.Head.lean ====
/-
  One head of a chunk: the payloads the body stores for each of the eight heads are the same two functions of the head's
  blocks of keys, queries, values and scratch rows, with the mask (the diagonal chunk) or without it (the earlier chunks).
-/
module

public import proofs.«01_k».proof.Proof.Gen.KernelIdeal.Skeleton
public import Idealize.ShloMosaic.Lib.Pointwise

@[expose] public section

set_option maxRecDepth 16384

noncomputable section

namespace Cert.Proof.KI

open Cert.KernelIdeal Cert.KernelIdeal.Gen
open Idealize.ShloMosaic

section Heads

variable {F : FTy → Type} [FloatOps F] [Named F]
variable (m : IVec S256x256 1) (k : Vec F S256x128 .bf16) (q : Vec F S256x128 .f32) (ln : Vec F S264x256 .bf16)
  (T : Vec F S1x1x256 .f32) (A : Vec F S1x128x256 .f32) (v : Vec F S1x1x128x256 .bf16)

/-- A head's row of tails after an unmasked chunk, -/
def uTail : FVec F S1x1x256 .f32 := k0_pay91 (k0_pay82 k q) ln T
/-- and its accumulator. -/
def uAcc : FVec F S1x128x256 .f32 := k0_pay106 (k0_pay89 (k0_pay82 k q) ln) (k0_pay92 (k0_pay82 k q) T) A v
/-- A head's row of tails after the masked chunk, -/
def mTail : FVec F S1x1x256 .f32 := k0_pay19 m (k0_pay10 k q) ln T
/-- and its accumulator. -/
def mAcc : FVec F S1x128x256 .f32 := k0_pay33 m (k0_pay17 m (k0_pay10 k q) ln) (k0_pay20 (k0_pay10 k q) T) A v

theorem uTail_0 : k0_pay91 (k0_pay82 k q) ln T = uTail k q ln T := rfl
theorem uAcc_0 : k0_pay106 (k0_pay89 (k0_pay82 k q) ln) (k0_pay92 (k0_pay82 k q) T) A v = uAcc k q ln T A v := rfl
theorem mTail_0 : k0_pay19 m (k0_pay10 k q) ln T = mTail m k q ln T := rfl
theorem mAcc_0 : k0_pay33 m (k0_pay17 m (k0_pay10 k q) ln) (k0_pay20 (k0_pay10 k q) T) A v = mAcc m k q ln T A v := rfl
theorem uTail_1 : k0_pay96 (k0_pay94 (k0_pay83 k q) ln) T = uTail k q ln T := rfl
theorem uAcc_1 : k0_pay114 (k0_pay94 (k0_pay83 k q) ln) (k0_pay97 (k0_pay83 k q) (k0_pay93 (k0_pay83 k q)) T) A v = uAcc k q ln T A v := rfl
theorem mTail_1 : k0_pay25 (k0_pay22 m (k0_pay11 k q)) ln T = mTail m k q ln T := rfl
theorem mAcc_1 : k0_pay42 (k0_pay41 m (k0_pay23 (k0_pay22 m (k0_pay11 k q)) ln) (k0_pay26 (k0_pay11 k q) (k0_pay21 (k0_pay11 k q)) T) A v) = mAcc m k q ln T A v := rfl
theorem uTail_2 : k0_pay101 (k0_pay84 k q) ln T = uTail k q ln T := rfl
theorem uAcc_2 : k0_pay121 (k0_pay99 (k0_pay84 k q) ln) (k0_pay102 (k0_pay84 k q) T) A v = uAcc k q ln T A v := rfl
theorem mTail_2 : k0_pay30 m (k0_pay12 k q) ln T = mTail m k q ln T := rfl
theorem mAcc_2 : k0_pay50 m (k0_pay31 (k0_pay12 k q) (k0_pay27 (k0_pay12 k q)) (k0_pay29 T)) (k0_pay49 (k0_pay28 m (k0_pay12 k q) ln)) A v = mAcc m k q ln T A v := rfl
theorem uTail_3 : k0_pay111 (k0_pay110 (k0_pay87 (k0_pay85 k) (k0_pay86 q)) ln T) = uTail k q ln T := rfl
theorem uAcc_3 : k0_pay130 (k0_pay128 (k0_pay108 (k0_pay87 (k0_pay85 k) (k0_pay86 q)) ln) (k0_pay112 (k0_pay87 (k0_pay85 k) (k0_pay86 q)) (k0_pay107 (k0_pay87 (k0_pay85 k) (k0_pay86 q))) (k0_pay109 T))) (k0_pay129 A) v = uAcc k q ln T A v := rfl
theorem mTail_3 : k0_pay38 (k0_pay35 m (k0_pay15 (k0_pay13 k) (k0_pay14 q))) ln T = mTail m k q ln T := rfl
theorem mAcc_3 : k0_pay58 m (k0_pay36 (k0_pay35 m (k0_pay15 (k0_pay13 k) (k0_pay14 q))) ln) (k0_pay39 (k0_pay15 (k0_pay13 k) (k0_pay14 q)) (k0_pay34 (k0_pay15 (k0_pay13 k) (k0_pay14 q))) T) A v = mAcc m k q ln T A v := rfl
theorem uTail_4 : k0_pay118 (k0_pay115 (k0_pay105 (k0_pay103 k) (k0_pay104 q) (Named.named κ "scale_log2e" 0x3E0293EE#32))) ln T = uTail k q ln T := rfl
theorem uAcc_4 : k0_pay138 (k0_pay136 (k0_pay116 (k0_pay115 (k0_pay105 (k0_pay103 k) (k0_pay104 q) (Named.named κ "scale_log2e" 0x3E0293EE#32))) ln) (k0_pay119 (k0_pay105 (k0_pay103 k) (k0_pay104 q) (Named.named κ "scale_log2e" 0x3E0293EE#32)) (k0_pay115 (k0_pay105 (k0_pay103 k) (k0_pay104 q) (Named.named κ "scale_log2e" 0x3E0293EE#32))) T)) (k0_pay137 A) v = uAcc k q ln T A v := rfl
theorem mTail_4 : k0_pay46 m (k0_pay32 k q) ln T = mTail m k q ln T := rfl
theorem mAcc_4 : k0_pay64 m (k0_pay44 m (k0_pay32 k q) ln) (k0_pay47 (k0_pay32 k q) T) A v = mAcc m k q ln T A v := rfl
theorem uTail_5 : k0_pay125 (k0_pay113 k q) ln T = uTail k q ln T := rfl
theorem uAcc_5 : k0_pay146 (k0_pay144 (k0_pay123 (k0_pay113 k q) ln) (k0_pay126 (k0_pay113 k q) T)) (k0_pay145 A) v = uAcc k q ln T A v := rfl
theorem mTail_5 : k0_pay55 (k0_pay54 m (k0_pay40 k q) ln T) = mTail m k q ln T := rfl
theorem mAcc_5 : k0_pay73 (k0_pay72 m (k0_pay52 m (k0_pay40 k q) ln) (k0_pay56 (k0_pay40 k q) (k0_pay51 (k0_pay40 k q)) (k0_pay53 T)) A v) = mAcc m k q ln T A v := rfl
theorem uTail_6 : k0_pay134 (k0_pay120 k q) ln T = uTail k q ln T := rfl
theorem uAcc_6 : k0_pay147 (k0_pay132 (k0_pay120 k q) ln) (k0_pay135 (k0_pay120 k q) T) A v = uAcc k q ln T A v := rfl
theorem mTail_6 : k0_pay62 m (k0_pay59 (k0_pay48 k q)) ln T = mTail m k q ln T := rfl
theorem mAcc_6 : k0_pay74 m (k0_pay60 m (k0_pay59 (k0_pay48 k q)) ln) (k0_pay63 (k0_pay48 k q) (k0_pay59 (k0_pay48 k q)) T) A v = mAcc m k q ln T A v := rfl
theorem uTail_7 : k0_pay142 (k0_pay127 k q) ln T = uTail k q ln T := rfl
theorem uAcc_7 : k0_pay4 (k0_pay148 (k0_pay140 (k0_pay127 k q) ln) (k0_pay143 (k0_pay127 k q) T) A v) = uAcc k q ln T A v := rfl
theorem mTail_7 : k0_pay70 m (k0_pay57 k q) (k0_pay65 (k0_pay57 k q)) (k0_pay66 (k0_pay57 k q)) (Scalar.ofBits .f32 0x3F800000#32) ln T = mTail m k q ln T := rfl
theorem mAcc_7 : k0_pay75 m (k0_pay68 m (k0_pay57 k q) (k0_pay65 (k0_pay57 k q)) (k0_pay66 (k0_pay57 k q)) (Scalar.ofBits .f32 0x3F800000#32) ln) (k0_pay71 (k0_pay57 k q) (k0_pay65 (k0_pay57 k q)) (k0_pay66 (k0_pay57 k q)) (Scalar.ofBits .f32 0x3F800000#32) T) A v = mAcc m k q ln T A v := rfl

end Heads

/-! ## At an index -/

/-- `log2 (1 + 2 ^ z)`. -/
def spf (z : EReal) : EReal := Ideal.log (1 + Ideal.exp2 z) * (((Real.log 2)⁻¹ : ℝ) : EReal)

/-- The queries' scale. -/
def scl : EReal := (((11863283 / 134217728) * (Real.log 2)⁻¹ : ℝ) : EReal)

theorem named_scale : (Named.named κ "scale_log2e" 0x3E0293EE#32 : Ideal .f32) = scl :=
  IdealRules.named_const.ideal_named_scalar _ _ _ _ rfl

theorem named_inv : (Named.named κ "inv_ln2" 0x3FB8AA3B#32 : Ideal .f32) = (((Real.log 2)⁻¹ : ℝ) : EReal) :=
  IdealRules.named_const.ideal_named_scalar _ _ _ _ rfl

theorem named_linear : (Named.named κ "linear_from" 0x42800000#32 : Ideal .f32) = (⊤ : EReal) :=
  IdealRules.named_const.ideal_named_scalar _ _ _ _ rfl

theorem named_exit : (Named.named κ "exit_at" 0xC3200000#32 : Ideal .f32) = (⊥ : EReal) :=
  IdealRules.named_const.ideal_named_scalar _ _ _ _ rfl

section AtIdeal

variable (m : IVec S256x256 1) (k : Vec Ideal S256x128 .bf16) (q : Vec Ideal S256x128 .f32) (ln : Vec Ideal S264x256 .bf16)
  (T : Vec Ideal S1x1x256 .f32) (A : Vec Ideal S1x128x256 .f32) (v : Vec Ideal S1x1x128x256 .bf16)

/-- A head's logits. -/
def zb (j t : Fin 256) : EReal := ∑ d : Fin 128, k (ix2 j d) * (q (ix2 t d) * scl)

theorem pay82_apply (j t : Fin 256) : k0_pay82 k q (ix2 j t) = zb k q j t := by
  pointwise [k0_pay82, named_scale]
  rfl

theorem pay10_apply (j t : Fin 256) : k0_pay10 k q (ix2 j t) = zb k q j t := pay82_apply k q j t

theorem pay88_apply (z : FVec Ideal S256x256 .f32) (j t : Fin 256) : k0_pay88 z (ix2 j t) = spf (z (ix2 j t)) := by
  pointwise [k0_pay88, named_inv, named_linear]
  rw [if_neg not_top_lt]
  rfl

theorem pay16_apply (z : FVec Ideal S256x256 .f32) (j t : Fin 256) : k0_pay16 z (ix2 j t) = spf (z (ix2 j t)) := pay88_apply z j t

theorem uTail_apply (t : Fin 256) : uTail k q ln T (ix3 0 0 t) = T (ix3 0 0 t) + ∑ j, ln (ix2 256 j) * spf (zb k q j t) := by
  pointwise [uTail, k0_pay91, k0_pay90, k0_pay89]
  simp only [pay88_apply, pay82_apply]

theorem uAcc_apply (d : Fin 128) (t : Fin 256) : uAcc k q ln T A v (ix3 0 d t) = A (ix3 0 d t) + ∑ s : Fin 256, v (ix4 0 0 d s)
    * Ideal.exp2 ((zb k q s t - spf (zb k q s t) + T (ix3 0 0 t)) + ∑ j, ln (ix2 (s.castLE (by decide) : Fin 264) j) * spf (zb k q j t)) := by
  pointwise [uAcc, k0_pay106, k0_pay92, k0_pay90, k0_pay89]
  simp only [pay88_apply, pay82_apply]
  rfl

theorem mTail_apply (t : Fin 256) : mTail m k q ln T (ix3 0 0 t)
    = T (ix3 0 0 t) + ∑ j, Scalar.select (m (ix2 j t)) (ln (ix2 256 j) * spf (zb k q j t)) 0 := by
  pointwise [mTail, k0_pay19, k0_pay17, k0_pay18]
  simp only [pay16_apply, pay10_apply]

theorem mAcc_apply (d : Fin 128) (t : Fin 256) : mAcc m k q ln T A v (ix3 0 d t) = A (ix3 0 d t) + ∑ s : Fin 256, Scalar.select (m (ix2 s t)) (v (ix4 0 0 d s)
    * Ideal.exp2 ((zb k q s t - spf (zb k q s t) + T (ix3 0 0 t)) + ∑ j, Scalar.select (m (ix2 j t)) (ln (ix2 (s.castLE (by decide) : Fin 264) j) * spf (zb k q j t)) 0)) 0 := by
  pointwise [mAcc, k0_pay33, k0_pay20, k0_pay18, k0_pay17]
  simp only [pay16_apply, pay10_apply]
  rfl

end AtIdeal

end Cert.Proof.KI

end
-- ==== Proof.KI.TripValue.lean ====
/-
  A trip of the loop, and the loop, as functions of the blocks: head by head a trip adds the chunk's sums to the two scratch
  buffers, and the loop runs every trip as long as no row of tails falls to minus infinity.
-/
module

public import proofs.«01_k».proof.Proof.KI.Head
public import proofs.«01_k».proof.Proof.KI.Loop
public import Idealize.ShloMosaic.Lib.WholeRead
public import Idealize.ShloMosaic.Lib.Pipeline.ReadBack
public import Idealize.ShloMosaic.Lib.Pipeline.FrameBody
public import Idealize.ShloMosaic.Lib.Tactic
public import Idealize.ShloMosaic.Lib.Ring

@[expose] public section

set_option maxRecDepth 16384

noncomputable section

namespace Cert.Proof.KI

open Cert.KernelIdeal Cert.KernelIdeal.Gen
open Idealize.ShloMosaic Idealize.ShloMosaic.TcCoe Idealize.ShloMosaic.Tactic

/-! ## The blocks a head reads -/

/-- Chunk `n` of the head's keys, -/
def kB (x1 : Vec Ideal S4096x512 .bf16) (n : Fin 16) (h : Fin 8) : Vec Ideal S256x128 .bf16 :=
  fun y => x1 (ix2 ⟨256 * n.val + (y 0).val, by have : (y 0).val < 256 := (y 0).isLt; omega⟩ ⟨128 * (h.val / 2) + (y 1).val, by have : (y 1).val < 128 := (y 1).isLt; omega⟩)
/-- its queries, -/
def qB (x0 : Vec Ideal S256x1024 .f32) (h : Fin 8) : Vec Ideal S256x128 .f32 :=
  fun y => x0 (ix2 (y 0) ⟨128 * h.val + (y 1).val, by have : (y 1).val < 128 := (y 1).isLt; omega⟩)
/-- chunk `n` of its values, -/
def vB (x2 : Vec Ideal S1x16x512x256 .bf16) (n : Fin 16) (h : Fin 8) : Vec Ideal S1x1x128x256 .bf16 :=
  fun y => x2 (ix4 0 n ⟨128 * (h.val / 2) + (y 2).val, by have : (y 2).val < 128 := (y 2).isLt; omega⟩ (y 3))
/-- its row of tails -/
def TB (T : Vec Ideal S8x1x256 .f32) (h : Fin 8) : Vec Ideal S1x1x256 .f32 := fun y => T (ix3 h 0 (y 2))
/-- and its accumulator. -/
def AB (A : Vec Ideal S8x128x256 .f32) (h : Fin 8) : Vec Ideal S1x128x256 .f32 := fun y => A (ix3 h (y 1) (y 2))

/-- The tails after an unmasked chunk `n`, -/
def stepT (x0 : Vec Ideal S256x1024 .f32) (x1 : Vec Ideal S4096x512 .bf16) (x3 : Vec Ideal S264x256 .bf16) (n : Fin 16)
    (T : Vec Ideal S8x1x256 .f32) : Vec Ideal S8x1x256 .f32 :=
  fun y => uTail (kB x1 n (y 0)) (qB x0 (y 0)) x3 (TB T (y 0)) (ix3 0 0 (y 2))
/-- and the accumulators. -/
def stepA (x0 : Vec Ideal S256x1024 .f32) (x1 : Vec Ideal S4096x512 .bf16) (x2 : Vec Ideal S1x16x512x256 .bf16) (x3 : Vec Ideal S264x256 .bf16) (n : Fin 16)
    (T : Vec Ideal S8x1x256 .f32) (A : Vec Ideal S8x128x256 .f32) : Vec Ideal S8x128x256 .f32 :=
  fun y => uAcc (kB x1 n (y 0)) (qB x0 (y 0)) x3 (TB T (y 0)) (AB A (y 0)) (vB x2 n (y 0)) (ix3 0 (y 1) (y 2))

section Loads

variable {arg3 : Memref sig .tc .vmem S256x1024 .f32} (harg3 : arg3.IsWhole) {arg4 : Memref sig .tc .vmem S4096x512 .bf16} (harg4 : arg4.IsWhole) {arg5 : Memref sig .tc .vmem S1x16x512x256 .bf16} (harg5 : arg5.IsWhole) {arg6 : Memref sig .tc .vmem S264x256 .bf16} (harg6 : arg6.IsWhole) {arg8 : Memref sig .tc .vmem S8x1x256 .f32} (harg8 : arg8.IsWhole) {arg9 : Memref sig .tc .vmem S8x128x256 .f32} (harg9 : arg9.IsWhole)
  (x0 : Vec Ideal S256x1024 .f32) (x1 : Vec Ideal S4096x512 .bf16) (x2 : Vec Ideal S1x16x512x256 .bf16) (x3 : Vec Ideal S264x256 .bf16)
  (T : Vec Ideal S8x1x256 .f32) (A : Vec Ideal S8x128x256 .f32)

theorem ld_k (n : Fin 16) (h : Fin 8) (off : Fin 2 → ℕ) (inb : ∀ a, off a + (![256, 128] : Fin 2 → ℕ) a ≤ S4096x512.size a) (hoff : off = ![256 * n.val, 128 * (h.val / 2)]) :
    View.readAt (Elt Ideal) arg4.view (Rect.unit off ![256, 128] inb).toLoadRect (harg4.unread x1) = kB x1 n h := by
  subst hoff; funext y
  rw [harg4.readAt_unread]
  pointwise [kB]

theorem ld_q (h : Fin 8) (off : Fin 2 → ℕ) (inb : ∀ a, off a + (![256, 128] : Fin 2 → ℕ) a ≤ S256x1024.size a) (hoff : off = ![0, 128 * h.val]) :
    View.readAt (Elt Ideal) arg3.view (Rect.unit off ![256, 128] inb).toLoadRect (harg3.unread x0) = qB x0 h := by
  subst hoff; funext y
  rw [harg3.readAt_unread]
  pointwise [qB]

theorem ld_v (n : Fin 16) (h : Fin 8) (off : Fin 4 → ℕ) (inb : ∀ a, off a + (![1, 1, 128, 256] : Fin 4 → ℕ) a ≤ S1x16x512x256.size a) (hoff : off = ![0, n.val, 128 * (h.val / 2), 0]) :
    View.readAt (Elt Ideal) arg5.view (Rect.unit off ![1, 1, 128, 256] inb).toLoadRect (harg5.unread x2) = vB x2 n h := by
  subst hoff; funext y
  rw [harg5.readAt_unread]
  pointwise [vB]

theorem ld_n (inb : ∀ a, (![0, 0] : Fin 2 → ℕ) a + (![264, 256] : Fin 2 → ℕ) a ≤ S264x256.size a) :
    View.readAt (Elt Ideal) arg6.view (Rect.unit ![0, 0] ![264, 256] inb).toLoadRect (harg6.unread x3) = x3 := by
  funext y
  rw [harg6.readAt_unread]
  pointwise

theorem ld_T (h : Fin 8) (off : Fin 3 → ℕ) (inb : ∀ a, off a + (![1, 1, 256] : Fin 3 → ℕ) a ≤ S8x1x256.size a) (hoff : off = ![h.val, 0, 0]) :
    View.readAt (Elt Ideal) arg8.view (Rect.unit off ![1, 1, 256] inb).toLoadRect (harg8.unread T) = TB T h := by
  subst hoff; funext y
  rw [harg8.readAt_unread]
  pointwise [TB]

theorem ld_A (h : Fin 8) (off : Fin 3 → ℕ) (inb : ∀ a, off a + (![1, 128, 256] : Fin 3 → ℕ) a ≤ S8x128x256.size a) (hoff : off = ![h.val, 0, 0]) :
    View.readAt (Elt Ideal) arg9.view (Rect.unit off ![1, 128, 256] inb).toLoadRect (harg9.unread A) = AB A h := by
  subst hoff; funext y
  rw [harg9.readAt_unread]
  pointwise [AB]

end Loads

/-! ## The offsets of a trip -/

theorem off9_at : ∀ (i : grid0.Coords) (r : Fin 16), 1 ≤ r.val → r.val ≤ (i 2).val → k0_off9 i (BitVec.ofNat 32 r.val) = ![256 * ((i 2).val - r.val), 0] := by
  decide +kernel
theorem off10_at : ∀ (i : grid0.Coords) (r : Fin 16), 1 ≤ r.val → r.val ≤ (i 2).val → k0_off10 i (BitVec.ofNat 32 r.val) = ![256 * ((i 2).val - r.val), 128] := by
  decide +kernel
theorem off11_at : ∀ (i : grid0.Coords) (r : Fin 16), 1 ≤ r.val → r.val ≤ (i 2).val → k0_off11 i (BitVec.ofNat 32 r.val) = ![256 * ((i 2).val - r.val), 256] := by
  decide +kernel
theorem off13_at : ∀ (i : grid0.Coords) (r : Fin 16), 1 ≤ r.val → r.val ≤ (i 2).val → k0_off13 i (BitVec.ofNat 32 r.val) = ![256 * ((i 2).val - r.val), 384] := by
  decide +kernel
theorem off12_at : ∀ (i : grid0.Coords) (r : Fin 16), 1 ≤ r.val → r.val ≤ (i 2).val → k0_off12 i (BitVec.ofNat 32 r.val) = ![0, (i 2).val - r.val, 0, 0] := by
  decide +kernel
theorem off14_at : ∀ (i : grid0.Coords) (r : Fin 16), 1 ≤ r.val → r.val ≤ (i 2).val → k0_off14 i (BitVec.ofNat 32 r.val) = ![0, (i 2).val - r.val, 128, 0] := by
  decide +kernel
theorem off15_at : ∀ (i : grid0.Coords) (r : Fin 16), 1 ≤ r.val → r.val ≤ (i 2).val → k0_off15 i (BitVec.ofNat 32 r.val) = ![0, (i 2).val - r.val, 256, 0] := by
  decide +kernel
theorem off16_at : ∀ (i : grid0.Coords) (r : Fin 16), 1 ≤ r.val → r.val ≤ (i 2).val → k0_off16 i (BitVec.ofNat 32 r.val) = ![0, (i 2).val - r.val, 384, 0] := by
  decide +kernel

/-! ## A piece of a trip -/

/-- A row of the tails lies where its rectangle places it, -/
theorem emb8 (h : Fin 8) (inb : ∀ a, (![h.val, 0, 0] : Fin 3 → ℕ) a + (![1, 1, 256] : Fin 3 → ℕ) a ≤ S8x1x256.size a)
    (x : (Rect.unit (s := S8x1x256) ![h.val, 0, 0] ![1, 1, 256] inb).shape.Idx) :
    (Rect.unit (s := S8x1x256) ![h.val, 0, 0] ![1, 1, 256] inb).emb x = ix3 h 0 (x 2) := by
  funext a
  match a with
  | ⟨0, _⟩ => exact Fin.ext (by show h.val + 1 * (x 0).val = h.val; have : (x 0).val < 1 := (x 0).isLt; omega)
  | ⟨1, _⟩ => exact Fin.ext (by show 0 + 1 * (x 1).val = 0; have : (x 1).val < 1 := (x 1).isLt; omega)
  | ⟨2, _⟩ => exact Fin.ext (by show 0 + 1 * (x 2).val = (x 2).val; omega)

theorem idx8 (x : S1x1x256.Idx) : x = ix3 0 0 (x 2) := by
  funext a
  match a with
  | ⟨0, _⟩ => exact Fin.ext (by show (x 0).val = 0; have : (x 0).val < 1 := (x 0).isLt; omega)
  | ⟨1, _⟩ => exact Fin.ext (by show (x 1).val = 0; have : (x 1).val < 1 := (x 1).isLt; omega)
  | ⟨2, _⟩ => rfl

/-- and so does a head of the accumulators. -/
theorem emb9 (h : Fin 8) (inb : ∀ a, (![h.val, 0, 0] : Fin 3 → ℕ) a + (![1, 128, 256] : Fin 3 → ℕ) a ≤ S8x128x256.size a)
    (x : (Rect.unit (s := S8x128x256) ![h.val, 0, 0] ![1, 128, 256] inb).shape.Idx) :
    (Rect.unit (s := S8x128x256) ![h.val, 0, 0] ![1, 128, 256] inb).emb x = ix3 h (x 1) (x 2) := by
  funext a
  match a with
  | ⟨0, _⟩ => exact Fin.ext (by show h.val + 1 * (x 0).val = h.val; have : (x 0).val < 1 := (x 0).isLt; omega)
  | ⟨1, _⟩ => exact Fin.ext (by show 0 + 1 * (x 1).val = (x 1).val; omega)
  | ⟨2, _⟩ => exact Fin.ext (by show 0 + 1 * (x 2).val = (x 2).val; omega)

theorem idx9 (x : S1x128x256.Idx) : x = ix3 0 (x 1) (x 2) := by
  funext a
  match a with
  | ⟨0, _⟩ => exact Fin.ext (by show (x 0).val = 0; have : (x 0).val < 1 := (x 0).isLt; omega)
  | ⟨1, _⟩ => rfl
  | ⟨2, _⟩ => rfl

/-- A piece over the tails that is head `h` of `f`. -/
theorem piece8 (f : (h : Fin 8) → Vec Ideal S1x1x256 .f32) (h : Fin 8) (inb : ∀ a, (![h.val, 0, 0] : Fin 3 → ℕ) a + (![1, 1, 256] : Fin 3 → ℕ) a ≤ S8x1x256.size a)
    (w : Vec Ideal S1x1x256 .f32) (e : w = f h) :
    ∀ x : (Rect.unit (s := S8x1x256) ![h.val, 0, 0] ![1, 1, 256] inb).shape.Idx,
      w x = (fun y : S8x1x256.Idx => f (y 0) (ix3 0 0 (y 2))) ((Rect.unit (s := S8x1x256) ![h.val, 0, 0] ![1, 1, 256] inb).emb x) := by
  intro x
  rw [emb8, e]; exact congrArg (f h) (idx8 x)

theorem piece9 (f : (h : Fin 8) → Vec Ideal S1x128x256 .f32) (h : Fin 8) (inb : ∀ a, (![h.val, 0, 0] : Fin 3 → ℕ) a + (![1, 128, 256] : Fin 3 → ℕ) a ≤ S8x128x256.size a)
    (w : Vec Ideal S1x128x256 .f32) (e : w = f h) :
    ∀ x : (Rect.unit (s := S8x128x256) ![h.val, 0, 0] ![1, 128, 256] inb).shape.Idx,
      w x = (fun y : S8x128x256.Idx => f (y 0) (ix3 0 (y 1) (y 2))) ((Rect.unit (s := S8x128x256) ![h.val, 0, 0] ![1, 128, 256] inb).emb x) := by
  intro x
  rw [emb9, e]; exact congrArg (f h) (idx9 x)

section Trip

variable (c : Dev nD) (i : grid0.Coords) (arg3 : Memref sig .tc .vmem S256x1024 .f32) (harg3 : arg3.IsWhole) (arg4 : Memref sig .tc .vmem S4096x512 .bf16) (harg4 : arg4.IsWhole) (arg5 : Memref sig .tc .vmem S1x16x512x256 .bf16) (harg5 : arg5.IsWhole) (arg6 : Memref sig .tc .vmem S264x256 .bf16) (harg6 : arg6.IsWhole) (arg8 : Memref sig .tc .vmem S8x1x256 .f32) (harg8 : arg8.IsWhole) (arg9 : Memref sig .tc .vmem S8x128x256 .f32) (harg9 : arg9.IsWhole)
  (x0 : Vec Ideal S256x1024 .f32) (x1 : Vec Ideal S4096x512 .bf16) (x2 : Vec Ideal S1x16x512x256 .bf16) (x3 : Vec Ideal S264x256 .bf16)
  (T : Vec Ideal S8x1x256 .f32) (A : Vec Ideal S8x128x256 .f32) (top : Ideal .f32)

/-- The chunk that trip `r` reads. -/
def chunkAt (i : grid0.Coords) (r : Fin 16) : Fin 16 := ⟨(i 2).val - r.val, by have h : (i 2).val < 16 := (i 2).isLt; omega⟩

set_option maxHeartbeats 4000000 in
theorem trip_piecesT (r : Fin 16) (h1 : 1 ≤ r.val) (h2 : r.val ≤ (i 2).val) (hchk : k0_chk1 i (BitVec.ofNat 32 r.val)) :
    View.PiecesOf (stepT x0 x1 x3 (chunkAt i r) T) (tripRun c i arg3 harg3 arg4 harg4 arg5 harg5 arg6 harg6 arg8 harg8 arg9 harg9 x0 x1 x2 x3 T A _ top hchk).1 := by
  unfold stepT
  simp only [tripRun, tripRun.sl.r, tripRun.sl.v488, tripRun.sl.v489, tripRun.sl.v490, tripRun.sl.v564, tripRun.sl.v587, tripRun.sl.v633, tripRun.sl.v655, tripRun.sl.v679, tripRun.sl.v701, tripRun.sl.v725, tripRun.sl.v747, tripRun.sl.v771, tripRun.sl.v784, tripRun.sl.v808, tripRun.sl.v821, tripRun.sl.v835, tripRun.sl.v849, tripRun.sl.v861, tripRun.sl.HS0_8, tripRun.sl.cst_342, tripRun.sl.r_1, tripRun.sl.r_2, tripRun.sl.r_3, tripRun.sl.r_4, tripRun.sl.r_5, tripRun.sl.r_6, tripRun.sl.r_7, tripRun.sl.r_8, tripRun.sl.r_9, tripRun.sl.r_10, tripRun.sl.r_11, tripRun.sl.r_12, tripRun.sl.r_13, tripRun.sl.r_14, tripRun.sl.r_15, tripRun.sl.r_16, tripRun.sl.r_17, tripRun.sl.r_18, tripRun.sl.r_19, tripRun.sl.r_20, tripRun.sl.r_21, tripRun.sl.r_22, tripRun.sl.r_23, tripRun.sl.r_24, tripRun.sl.r_25, tripRun.sl.r_26, tripRun.sl.r_27, tripRun.sl.r_28, tripRun.sl.r_29, tripRun.sl.r_30, tripRun.sl.r_31, tripRun.sl.r_32, tripRun.sl.r_33, tripRun.sl.r_34, tripRun.sl.r_35, tripRun.sl.r_36, tripRun.sl.r_37, tripRun.sl.r_38, tripRun.sl.r_39, tripRun.sl.r_40]
  refine ⟨?_, ?_, ?_, ?_, ?_, ?_, ?_, ?_, trivial⟩
  · refine piece8 (fun h => uTail (kB x1 (chunkAt i r) h) (qB x0 h) x3 (TB T h)) 7 inb_S8x1x256_S1x1x256_7_0_0 _ ?_
    rw [uTail_7, ld_k harg4 x1 (chunkAt i r) 7 _ _ (off13_at i r h1 h2), ld_q harg3 x0 7 ![0, 896] _ rfl, ld_n harg6 x3, ld_T harg8 T 7 ![7, 0, 0] _ rfl]
  · refine piece8 (fun h => uTail (kB x1 (chunkAt i r) h) (qB x0 h) x3 (TB T h)) 6 inb_S8x1x256_S1x1x256_6_0_0 _ ?_
    rw [uTail_6, ld_k harg4 x1 (chunkAt i r) 6 _ _ (off13_at i r h1 h2), ld_q harg3 x0 6 ![0, 768] _ rfl, ld_n harg6 x3, ld_T harg8 T 6 ![6, 0, 0] _ rfl]
  · refine piece8 (fun h => uTail (kB x1 (chunkAt i r) h) (qB x0 h) x3 (TB T h)) 5 inb_S8x1x256_S1x1x256_5_0_0 _ ?_
    rw [uTail_5, ld_k harg4 x1 (chunkAt i r) 5 _ _ (off11_at i r h1 h2), ld_q harg3 x0 5 ![0, 640] _ rfl, ld_n harg6 x3, ld_T harg8 T 5 ![5, 0, 0] _ rfl]
  · refine piece8 (fun h => uTail (kB x1 (chunkAt i r) h) (qB x0 h) x3 (TB T h)) 4 inb_S8x1x256_S1x1x256_4_0_0 _ ?_
    rw [uTail_4, ld_k harg4 x1 (chunkAt i r) 4 _ _ (off11_at i r h1 h2), ld_q harg3 x0 4 ![0, 512] _ rfl, ld_n harg6 x3, ld_T harg8 T 4 ![4, 0, 0] _ rfl]
  · refine piece8 (fun h => uTail (kB x1 (chunkAt i r) h) (qB x0 h) x3 (TB T h)) 3 inb_S8x1x256_S1x1x256_3_0_0 _ ?_
    rw [uTail_3, ld_k harg4 x1 (chunkAt i r) 3 _ _ (off10_at i r h1 h2), ld_q harg3 x0 3 ![0, 384] _ rfl, ld_n harg6 x3, ld_T harg8 T 3 ![3, 0, 0] _ rfl]
  · refine piece8 (fun h => uTail (kB x1 (chunkAt i r) h) (qB x0 h) x3 (TB T h)) 2 inb_S8x1x256_S1x1x256_2_0_0 _ ?_
    rw [uTail_2, ld_k harg4 x1 (chunkAt i r) 2 _ _ (off10_at i r h1 h2), ld_q harg3 x0 2 ![0, 256] _ rfl, ld_n harg6 x3, ld_T harg8 T 2 ![2, 0, 0] _ rfl]
  · refine piece8 (fun h => uTail (kB x1 (chunkAt i r) h) (qB x0 h) x3 (TB T h)) 1 inb_S8x1x256_S1x1x256_1_0_0 _ ?_
    rw [uTail_1, ld_k harg4 x1 (chunkAt i r) 1 _ _ (off9_at i r h1 h2), ld_q harg3 x0 1 ![0, 128] _ rfl, ld_n harg6 x3, ld_T harg8 T 1 ![1, 0, 0] _ rfl]
  · refine piece8 (fun h => uTail (kB x1 (chunkAt i r) h) (qB x0 h) x3 (TB T h)) 0 inb_S8x1x256_S1x1x256_0_0_0 _ ?_
    rw [uTail_0, ld_k harg4 x1 (chunkAt i r) 0 _ _ (off9_at i r h1 h2), ld_q harg3 x0 0 ![0, 0] _ rfl, ld_n harg6 x3, ld_T harg8 T 0 ![0, 0, 0] _ rfl]

set_option maxHeartbeats 4000000 in
theorem trip_piecesA (r : Fin 16) (h1 : 1 ≤ r.val) (h2 : r.val ≤ (i 2).val) (hchk : k0_chk1 i (BitVec.ofNat 32 r.val)) :
    View.PiecesOf (stepA x0 x1 x2 x3 (chunkAt i r) T A) (tripRun c i arg3 harg3 arg4 harg4 arg5 harg5 arg6 harg6 arg8 harg8 arg9 harg9 x0 x1 x2 x3 T A _ top hchk).2.1 := by
  unfold stepA
  simp only [tripRun, tripRun.sl.r, tripRun.sl.v488, tripRun.sl.v489, tripRun.sl.v490, tripRun.sl.v564, tripRun.sl.v587, tripRun.sl.v633, tripRun.sl.v655, tripRun.sl.v679, tripRun.sl.v701, tripRun.sl.v725, tripRun.sl.v747, tripRun.sl.v771, tripRun.sl.v784, tripRun.sl.v808, tripRun.sl.v821, tripRun.sl.v835, tripRun.sl.v849, tripRun.sl.v861, tripRun.sl.HS0_8, tripRun.sl.cst_342, tripRun.sl.r_1, tripRun.sl.r_2, tripRun.sl.r_3, tripRun.sl.r_4, tripRun.sl.r_5, tripRun.sl.r_6, tripRun.sl.r_7, tripRun.sl.r_8, tripRun.sl.r_9, tripRun.sl.r_10, tripRun.sl.r_11, tripRun.sl.r_12, tripRun.sl.r_13, tripRun.sl.r_14, tripRun.sl.r_15, tripRun.sl.r_16, tripRun.sl.r_17, tripRun.sl.r_18, tripRun.sl.r_19, tripRun.sl.r_20, tripRun.sl.r_21, tripRun.sl.r_22, tripRun.sl.r_23, tripRun.sl.r_24, tripRun.sl.r_25, tripRun.sl.r_26, tripRun.sl.r_27, tripRun.sl.r_28, tripRun.sl.r_29, tripRun.sl.r_30, tripRun.sl.r_31, tripRun.sl.r_32, tripRun.sl.r_33, tripRun.sl.r_34, tripRun.sl.r_35, tripRun.sl.r_36, tripRun.sl.r_37, tripRun.sl.r_38, tripRun.sl.r_39, tripRun.sl.r_40]
  refine ⟨?_, ?_, ?_, ?_, ?_, ?_, ?_, ?_, trivial⟩
  · refine piece9 (fun h => uAcc (kB x1 (chunkAt i r) h) (qB x0 h) x3 (TB T h) (AB A h) (vB x2 (chunkAt i r) h)) 7 inb_S8x128x256_S1x128x256_7_0_0 _ ?_
    rw [uAcc_7, ld_k harg4 x1 (chunkAt i r) 7 _ _ (off13_at i r h1 h2), ld_q harg3 x0 7 ![0, 896] _ rfl, ld_n harg6 x3, ld_T harg8 T 7 ![7, 0, 0] _ rfl, ld_A harg9 A 7 ![7, 0, 0] _ rfl, ld_v harg5 x2 (chunkAt i r) 7 _ _ (off16_at i r h1 h2)]
  · refine piece9 (fun h => uAcc (kB x1 (chunkAt i r) h) (qB x0 h) x3 (TB T h) (AB A h) (vB x2 (chunkAt i r) h)) 6 inb_S8x128x256_S1x128x256_6_0_0 _ ?_
    rw [uAcc_6, ld_k harg4 x1 (chunkAt i r) 6 _ _ (off13_at i r h1 h2), ld_q harg3 x0 6 ![0, 768] _ rfl, ld_n harg6 x3, ld_T harg8 T 6 ![6, 0, 0] _ rfl, ld_A harg9 A 6 ![6, 0, 0] _ rfl, ld_v harg5 x2 (chunkAt i r) 6 _ _ (off16_at i r h1 h2)]
  · refine piece9 (fun h => uAcc (kB x1 (chunkAt i r) h) (qB x0 h) x3 (TB T h) (AB A h) (vB x2 (chunkAt i r) h)) 5 inb_S8x128x256_S1x128x256_5_0_0 _ ?_
    rw [uAcc_5, ld_k harg4 x1 (chunkAt i r) 5 _ _ (off11_at i r h1 h2), ld_q harg3 x0 5 ![0, 640] _ rfl, ld_n harg6 x3, ld_T harg8 T 5 ![5, 0, 0] _ rfl, ld_A harg9 A 5 ![5, 0, 0] _ rfl, ld_v harg5 x2 (chunkAt i r) 5 _ _ (off15_at i r h1 h2)]
  · refine piece9 (fun h => uAcc (kB x1 (chunkAt i r) h) (qB x0 h) x3 (TB T h) (AB A h) (vB x2 (chunkAt i r) h)) 4 inb_S8x128x256_S1x128x256_4_0_0 _ ?_
    rw [uAcc_4, ld_k harg4 x1 (chunkAt i r) 4 _ _ (off11_at i r h1 h2), ld_q harg3 x0 4 ![0, 512] _ rfl, ld_n harg6 x3, ld_T harg8 T 4 ![4, 0, 0] _ rfl, ld_A harg9 A 4 ![4, 0, 0] _ rfl, ld_v harg5 x2 (chunkAt i r) 4 _ _ (off15_at i r h1 h2)]
  · refine piece9 (fun h => uAcc (kB x1 (chunkAt i r) h) (qB x0 h) x3 (TB T h) (AB A h) (vB x2 (chunkAt i r) h)) 3 inb_S8x128x256_S1x128x256_3_0_0 _ ?_
    rw [uAcc_3, ld_k harg4 x1 (chunkAt i r) 3 _ _ (off10_at i r h1 h2), ld_q harg3 x0 3 ![0, 384] _ rfl, ld_n harg6 x3, ld_T harg8 T 3 ![3, 0, 0] _ rfl, ld_A harg9 A 3 ![3, 0, 0] _ rfl, ld_v harg5 x2 (chunkAt i r) 3 _ _ (off14_at i r h1 h2)]
  · refine piece9 (fun h => uAcc (kB x1 (chunkAt i r) h) (qB x0 h) x3 (TB T h) (AB A h) (vB x2 (chunkAt i r) h)) 2 inb_S8x128x256_S1x128x256_2_0_0 _ ?_
    rw [uAcc_2, ld_k harg4 x1 (chunkAt i r) 2 _ _ (off10_at i r h1 h2), ld_q harg3 x0 2 ![0, 256] _ rfl, ld_n harg6 x3, ld_T harg8 T 2 ![2, 0, 0] _ rfl, ld_A harg9 A 2 ![2, 0, 0] _ rfl, ld_v harg5 x2 (chunkAt i r) 2 _ _ (off14_at i r h1 h2)]
  · refine piece9 (fun h => uAcc (kB x1 (chunkAt i r) h) (qB x0 h) x3 (TB T h) (AB A h) (vB x2 (chunkAt i r) h)) 1 inb_S8x128x256_S1x128x256_1_0_0 _ ?_
    rw [uAcc_1, ld_k harg4 x1 (chunkAt i r) 1 _ _ (off9_at i r h1 h2), ld_q harg3 x0 1 ![0, 128] _ rfl, ld_n harg6 x3, ld_T harg8 T 1 ![1, 0, 0] _ rfl, ld_A harg9 A 1 ![1, 0, 0] _ rfl, ld_v harg5 x2 (chunkAt i r) 1 _ _ (off12_at i r h1 h2)]
  · refine piece9 (fun h => uAcc (kB x1 (chunkAt i r) h) (qB x0 h) x3 (TB T h) (AB A h) (vB x2 (chunkAt i r) h)) 0 inb_S8x128x256_S1x128x256_0_0_0 _ ?_
    rw [uAcc_0, ld_k harg4 x1 (chunkAt i r) 0 _ _ (off9_at i r h1 h2), ld_q harg3 x0 0 ![0, 0] _ rfl, ld_n harg6 x3, ld_T harg8 T 0 ![0, 0, 0] _ rfl, ld_A harg9 A 0 ![0, 0, 0] _ rfl, ld_v harg5 x2 (chunkAt i r) 0 _ _ (off12_at i r h1 h2)]

theorem trip_coverT (r : BitVec 32) (hchk : k0_chk1 i r) : ∀ y : S8x1x256.Idx, ∃ pc ∈ (tripRun c i arg3 harg3 arg4 harg4 arg5 harg5 arg6 harg6 arg8 harg8 arg9 harg9 x0 x1 x2 x3 T A r top hchk).1, y ∈ pc.1.set :=
  View.cover_of_tiledL _ S1x1x256.size (by sl_kernel_rfl)

theorem trip_coverA (r : BitVec 32) (hchk : k0_chk1 i r) : ∀ y : S8x128x256.Idx, ∃ pc ∈ (tripRun c i arg3 harg3 arg4 harg4 arg5 harg5 arg6 harg6 arg8 harg8 arg9 harg9 x0 x1 x2 x3 T A r top hchk).2.1, y ∈ pc.1.set :=
  View.cover_of_tiledL _ S1x128x256.size (by sl_kernel_rfl)

theorem tripT_eq (r : Fin 16) (h1 : 1 ≤ r.val) (h2 : r.val ≤ (i 2).val) (hchk : k0_chk1 i (BitVec.ofNat 32 r.val)) :
    tripT c i arg3 harg3 arg4 harg4 arg5 harg5 arg6 harg6 arg8 harg8 arg9 harg9 x0 x1 x2 x3 T A _ top hchk = stepT x0 x1 x3 (chunkAt i r) T := by
  funext y
  exact View.read_writes_apply_of_pieces _ _ _ _ (View.PiecesOf.mem (trip_piecesT c i arg3 harg3 arg4 harg4 arg5 harg5 arg6 harg6 arg8 harg8 arg9 harg9 x0 x1 x2 x3 T A top r h1 h2 hchk)) y
    (trip_coverT c i arg3 harg3 arg4 harg4 arg5 harg5 arg6 harg6 arg8 harg8 arg9 harg9 x0 x1 x2 x3 T A top _ hchk y)

theorem tripA_eq (r : Fin 16) (h1 : 1 ≤ r.val) (h2 : r.val ≤ (i 2).val) (hchk : k0_chk1 i (BitVec.ofNat 32 r.val)) :
    tripA c i arg3 harg3 arg4 harg4 arg5 harg5 arg6 harg6 arg8 harg8 arg9 harg9 x0 x1 x2 x3 T A _ top hchk = stepA x0 x1 x2 x3 (chunkAt i r) T A := by
  funext y
  exact View.read_writes_apply_of_pieces _ _ _ _ (View.PiecesOf.mem (trip_piecesA c i arg3 harg3 arg4 harg4 arg5 harg5 arg6 harg6 arg8 harg8 arg9 harg9 x0 x1 x2 x3 T A top r h1 h2 hchk)) y
    (trip_coverA c i arg3 harg3 arg4 harg4 arg5 harg5 arg6 harg6 arg8 harg8 arg9 harg9 x0 x1 x2 x3 T A top _ hchk y)

/-- What a load of a whole covered buffer reads. -/
theorem readCov_whole8 (v : View sig .tc .vmem S8x1x256 .f32) (L : List (View.Piece (Elt Ideal) S8x1x256 .f32)) (G : Vec Ideal S8x1x256 .f32)
    (hG : View.PiecesOf G L) (hc : ∀ y, ∃ pc ∈ L, y ∈ pc.1.set) (inb : ∀ a, (![0, 0, 0] : Fin 3 → ℕ) a + S8x1x256.size a ≤ S8x1x256.size a) :
    v.readCov L (Rect.unit ![0, 0, 0] S8x1x256.size inb).toLoadRect = G := by
  rw [View.readCov_eq_canon']
  funext y
  show View.canon L _ = _
  have e : (Rect.unit ![0, 0, 0] S8x1x256.size inb).toLoadRect.idx y = y := by
    funext a
    match a with
    | ⟨0, _⟩ => exact Fin.ext (by show 0 + 1 * (y 0).val = (y 0).val; omega)
    | ⟨1, _⟩ => exact Fin.ext (by show 0 + 1 * (y 1).val = (y 1).val; omega)
    | ⟨2, _⟩ => exact Fin.ext (by show 0 + 1 * (y 2).val = (y 2).val; omega)
  rw [e]
  exact View.canon_apply_of_pieces G L hG.mem y (hc y)

theorem tripTop_eq (r : Fin 16) (h1 : 1 ≤ r.val) (h2 : r.val ≤ (i 2).val) (hchk : k0_chk1 i (BitVec.ofNat 32 r.val)) :
    tripTop c i arg3 harg3 arg4 harg4 arg5 harg5 arg6 harg6 arg8 harg8 arg9 harg9 x0 x1 x2 x3 T A _ top hchk = k0_pay5 (stepT x0 x1 x3 (chunkAt i r) T) :=
  congrArg k0_pay5 (readCov_whole8 _ _ _ (trip_piecesT c i arg3 harg3 arg4 harg4 arg5 harg5 arg6 harg6 arg8 harg8 arg9 harg9 x0 x1 x2 x3 T A top r h1 h2 hchk)
    (trip_coverT c i arg3 harg3 arg4 harg4 arg5 harg5 arg6 harg6 arg8 harg8 arg9 harg9 x0 x1 x2 x3 T A top _ hchk) _)

end Trip

end Cert.Proof.KI

end
-- ==== Proof.KI.BodyValue.lean ====
/-
  The body as a function of the blocks: the masked chunk over zeroed scratch buffers, the loop over the earlier chunks, and
  the accumulators transposed head by head into the output block.
-/
module

public import proofs.«01_k».proof.Proof.KI.TripValue
public import proofs.«01_k».proof.Proof.KI.Body

@[expose] public section

set_option maxRecDepth 16384

noncomputable section

namespace Cert.Proof.KI

open Cert.KernelIdeal Cert.KernelIdeal.Gen
open Idealize.ShloMosaic Idealize.ShloMosaic.TcCoe Idealize.ShloMosaic.Tactic

/-- The chunk on the diagonal. -/
def diag (i : grid0.Coords) : Fin 16 := ⟨(i 2).val, (i 2).isLt⟩

/-- The mask of the chunk on the diagonal. -/
def dmask (i : grid0.Coords) : IVec S256x256 1 := k0_pay9 (k0_pay6 i) (BitVec.ofNat 32 (i 2).val)

/-- The cleared scratch buffers. -/
def zeroT : Vec Ideal S8x1x256 .f32 := k0_pay7 (F := Ideal)
def zeroA : Vec Ideal S8x128x256 .f32 := k0_pay8 (F := Ideal)

/-- The tails after the masked chunk, -/
def startT (x0 : Vec Ideal S256x1024 .f32) (x1 : Vec Ideal S4096x512 .bf16) (x3 : Vec Ideal S264x256 .bf16) (i : grid0.Coords) : Vec Ideal S8x1x256 .f32 :=
  fun y => mTail (dmask i) (kB x1 (diag i) (y 0)) (qB x0 (y 0)) x3 (TB zeroT (y 0)) (ix3 0 0 (y 2))
/-- and the accumulators. -/
def startA (x0 : Vec Ideal S256x1024 .f32) (x1 : Vec Ideal S4096x512 .bf16) (x2 : Vec Ideal S1x16x512x256 .bf16) (x3 : Vec Ideal S264x256 .bf16) (i : grid0.Coords) : Vec Ideal S8x128x256 .f32 :=
  fun y => mAcc (dmask i) (kB x1 (diag i) (y 0)) (qB x0 (y 0)) x3 (TB zeroT (y 0)) (AB zeroA (y 0)) (vB x2 (diag i) (y 0)) (ix3 0 (y 1) (y 2))

theorem v33_eq : ∀ i : grid0.Coords, bodyRun.sl.v33 i = BitVec.ofNat 32 (i 2).val := by
  decide +kernel

theorem mask_eq (i : grid0.Coords) : bodyRun.sl.r i = dmask i := congrArg (k0_pay9 (k0_pay6 i)) (v33_eq i)

/-- Over an earlier fill, the stores that follow it. -/
theorem canon_take {s : Shape} (n : ℕ) (L : List (View.Piece (Elt Ideal) s .f32)) (G : s.Idx → EReal) (h : View.PiecesOf (Val := Elt Ideal) G (L.take n))
    (y : s.Idx) (hc : ∃ pc ∈ L.take n, y ∈ pc.1.set) : View.canon L y = G y := by
  rw [← List.take_append_drop n L]
  exact View.canon_append_of_piecesOf (Val := Elt Ideal) G (L.drop n) (L.take n) h y hc

theorem ld_zeroT (h : Fin 8) (inb : ∀ a, (![h.val, 0, 0] : Fin 3 → ℕ) a + S1x1x256.size a ≤ S8x1x256.size a) :
    View.ld zeroT (Rect.unit ![h.val, 0, 0] S1x1x256.size inb) = TB zeroT h := by
  funext y
  pointwise [TB, zeroT, k0_pay7]

theorem ld_zeroA (h : Fin 8) (inb : ∀ a, (![h.val, 0, 0] : Fin 3 → ℕ) a + S1x128x256.size a ≤ S8x128x256.size a) :
    View.ld zeroA (Rect.unit ![h.val, 0, 0] S1x128x256.size inb) = AB zeroA h := by
  funext y
  pointwise [AB, zeroA, k0_pay8]

section Body

variable (c : Dev nD) (i : grid0.Coords) (arg3 : Memref sig .tc .vmem S256x1024 .f32) (harg3 : arg3.IsWhole) (arg4 : Memref sig .tc .vmem S4096x512 .bf16) (harg4 : arg4.IsWhole) (arg5 : Memref sig .tc .vmem S1x16x512x256 .bf16) (harg5 : arg5.IsWhole) (arg6 : Memref sig .tc .vmem S264x256 .bf16) (harg6 : arg6.IsWhole) (arg7 : Memref sig .tc .vmem S256x1024 .bf16) (harg7 : arg7.IsWhole) (arg8 : Memref sig .tc .vmem S8x1x256 .f32) (harg8 : arg8.IsWhole) (arg9 : Memref sig .tc .vmem S8x128x256 .f32) (harg9 : arg9.IsWhole)
  (x0 : Vec Ideal S256x1024 .f32) (x1 : Vec Ideal S4096x512 .bf16) (x2 : Vec Ideal S1x16x512x256 .bf16) (x3 : Vec Ideal S264x256 .bf16)

/-! ## What the masked chunk reads of the scratch buffers -/

theorem readT_0 : bodyRun.sl.v93 (F := Ideal) c arg8 = TB zeroT 0 := by
  unfold bodyRun.sl.v93
  unfold bodyRun.sl.HS0_1
  rw [View.readCov_fill _ _ _ _ _ (by decide)]
  exact ld_zeroT 0 _

theorem readT_1 : bodyRun.sl.v118 c i arg3 harg3 arg4 harg4 arg6 harg6 arg8 x0 x1 x3 = TB zeroT 1 := by
  unfold bodyRun.sl.v118
  unfold bodyRun.sl.HS0_2
  rw [View.readCov_skip _ _ _ _ _ (by decide +kernel)]
  unfold bodyRun.sl.HS0_1
  rw [View.readCov_fill _ _ _ _ _ (by decide)]
  exact ld_zeroT 1 _

theorem readT_2 : bodyRun.sl.v143 c i arg3 harg3 arg4 harg4 arg6 harg6 arg8 x0 x1 x3 = TB zeroT 2 := by
  unfold bodyRun.sl.v143
  unfold bodyRun.sl.HS0_3
  rw [View.readCov_skip _ _ _ _ _ (by decide +kernel)]
  unfold bodyRun.sl.HS0_2
  rw [View.readCov_skip _ _ _ _ _ (by decide +kernel)]
  unfold bodyRun.sl.HS0_1
  rw [View.readCov_fill _ _ _ _ _ (by decide)]
  exact ld_zeroT 2 _

theorem readT_3 : bodyRun.sl.v193 c i arg3 harg3 arg4 harg4 arg6 harg6 arg8 x0 x1 x3 = TB zeroT 3 := by
  unfold bodyRun.sl.v193
  unfold bodyRun.sl.HS0_4
  rw [View.readCov_skip _ _ _ _ _ (by decide +kernel)]
  unfold bodyRun.sl.HS0_3
  rw [View.readCov_skip _ _ _ _ _ (by decide +kernel)]
  unfold bodyRun.sl.HS0_2
  rw [View.readCov_skip _ _ _ _ _ (by decide +kernel)]
  unfold bodyRun.sl.HS0_1
  rw [View.readCov_fill _ _ _ _ _ (by decide)]
  exact ld_zeroT 3 _

theorem readT_4 : bodyRun.sl.v243 c i arg3 harg3 arg4 harg4 arg6 harg6 arg8 x0 x1 x3 = TB zeroT 4 := by
  unfold bodyRun.sl.v243
  unfold bodyRun.sl.HS0_5
  rw [View.readCov_skip _ _ _ _ _ (by decide +kernel)]
  unfold bodyRun.sl.HS0_4
  rw [View.readCov_skip _ _ _ _ _ (by decide +kernel)]
  unfold bodyRun.sl.HS0_3
  rw [View.readCov_skip _ _ _ _ _ (by decide +kernel)]
  unfold bodyRun.sl.HS0_2
  rw [View.readCov_skip _ _ _ _ _ (by decide +kernel)]
  unfold bodyRun.sl.HS0_1
  rw [View.readCov_fill _ _ _ _ _ (by decide)]
  exact ld_zeroT 4 _

theorem readT_5 : bodyRun.sl.v293 c i arg3 harg3 arg4 harg4 arg6 harg6 arg8 x0 x1 x3 = TB zeroT 5 := by
  unfold bodyRun.sl.v293
  unfold bodyRun.sl.HS0_6
  rw [View.readCov_skip _ _ _ _ _ (by decide +kernel)]
  unfold bodyRun.sl.HS0_5
  rw [View.readCov_skip _ _ _ _ _ (by decide +kernel)]
  unfold bodyRun.sl.HS0_4
  rw [View.readCov_skip _ _ _ _ _ (by decide +kernel)]
  unfold bodyRun.sl.HS0_3
  rw [View.readCov_skip _ _ _ _ _ (by decide +kernel)]
  unfold bodyRun.sl.HS0_2
  rw [View.readCov_skip _ _ _ _ _ (by decide +kernel)]
  unfold bodyRun.sl.HS0_1
  rw [View.readCov_fill _ _ _ _ _ (by decide)]
  exact ld_zeroT 5 _

theorem readT_6 : bodyRun.sl.v343 c i arg3 harg3 arg4 harg4 arg6 harg6 arg8 x0 x1 x3 = TB zeroT 6 := by
  unfold bodyRun.sl.v343
  unfold bodyRun.sl.HS0_7
  rw [View.readCov_skip _ _ _ _ _ (by decide +kernel)]
  unfold bodyRun.sl.HS0_6
  rw [View.readCov_skip _ _ _ _ _ (by decide +kernel)]
  unfold bodyRun.sl.HS0_5
  rw [View.readCov_skip _ _ _ _ _ (by decide +kernel)]
  unfold bodyRun.sl.HS0_4
  rw [View.readCov_skip _ _ _ _ _ (by decide +kernel)]
  unfold bodyRun.sl.HS0_3
  rw [View.readCov_skip _ _ _ _ _ (by decide +kernel)]
  unfold bodyRun.sl.HS0_2
  rw [View.readCov_skip _ _ _ _ _ (by decide +kernel)]
  unfold bodyRun.sl.HS0_1
  rw [View.readCov_fill _ _ _ _ _ (by decide)]
  exact ld_zeroT 6 _

theorem readT_7 : bodyRun.sl.v384 c i arg3 harg3 arg4 harg4 arg6 harg6 arg8 x0 x1 x3 = TB zeroT 7 := by
  unfold bodyRun.sl.v384
  unfold bodyRun.sl.HS0_8
  rw [View.readCov_skip _ _ _ _ _ (by decide +kernel)]
  unfold bodyRun.sl.HS0_7
  rw [View.readCov_skip _ _ _ _ _ (by decide +kernel)]
  unfold bodyRun.sl.HS0_6
  rw [View.readCov_skip _ _ _ _ _ (by decide +kernel)]
  unfold bodyRun.sl.HS0_5
  rw [View.readCov_skip _ _ _ _ _ (by decide +kernel)]
  unfold bodyRun.sl.HS0_4
  rw [View.readCov_skip _ _ _ _ _ (by decide +kernel)]
  unfold bodyRun.sl.HS0_3
  rw [View.readCov_skip _ _ _ _ _ (by decide +kernel)]
  unfold bodyRun.sl.HS0_2
  rw [View.readCov_skip _ _ _ _ _ (by decide +kernel)]
  unfold bodyRun.sl.HS0_1
  rw [View.readCov_fill _ _ _ _ _ (by decide)]
  exact ld_zeroT 7 _

theorem readA_0 : bodyRun.sl.v167 (F := Ideal) c arg9 = AB zeroA 0 := by
  unfold bodyRun.sl.v167
  unfold bodyRun.sl.HS1_1
  rw [View.readCov_fill _ _ _ _ _ (by decide)]
  exact ld_zeroA 0 _

theorem readA_1 : bodyRun.sl.v217 c i arg3 harg3 arg4 harg4 arg5 harg5 arg6 harg6 arg8 arg9 x0 x1 x2 x3 = AB zeroA 1 := by
  unfold bodyRun.sl.v217
  unfold bodyRun.sl.HS1_2
  rw [View.readCov_skip _ _ _ _ _ (by decide +kernel)]
  unfold bodyRun.sl.HS1_1
  rw [View.readCov_fill _ _ _ _ _ (by decide)]
  exact ld_zeroA 1 _

theorem readA_2 : bodyRun.sl.v267 c i arg3 harg3 arg4 harg4 arg5 harg5 arg6 harg6 arg8 arg9 x0 x1 x2 x3 = AB zeroA 2 := by
  unfold bodyRun.sl.v267
  unfold bodyRun.sl.HS1_3
  rw [View.readCov_skip _ _ _ _ _ (by decide +kernel)]
  unfold bodyRun.sl.HS1_2
  rw [View.readCov_skip _ _ _ _ _ (by decide +kernel)]
  unfold bodyRun.sl.HS1_1
  rw [View.readCov_fill _ _ _ _ _ (by decide)]
  exact ld_zeroA 2 _

theorem readA_3 : bodyRun.sl.v317 c i arg3 harg3 arg4 harg4 arg5 harg5 arg6 harg6 arg8 arg9 x0 x1 x2 x3 = AB zeroA 3 := by
  unfold bodyRun.sl.v317
  unfold bodyRun.sl.HS1_4
  rw [View.readCov_skip _ _ _ _ _ (by decide +kernel)]
  unfold bodyRun.sl.HS1_3
  rw [View.readCov_skip _ _ _ _ _ (by decide +kernel)]
  unfold bodyRun.sl.HS1_2
  rw [View.readCov_skip _ _ _ _ _ (by decide +kernel)]
  unfold bodyRun.sl.HS1_1
  rw [View.readCov_fill _ _ _ _ _ (by decide)]
  exact ld_zeroA 3 _

theorem readA_4 : bodyRun.sl.v358 c i arg3 harg3 arg4 harg4 arg5 harg5 arg6 harg6 arg8 arg9 x0 x1 x2 x3 = AB zeroA 4 := by
  unfold bodyRun.sl.v358
  unfold bodyRun.sl.HS1_5
  rw [View.readCov_skip _ _ _ _ _ (by decide +kernel)]
  unfold bodyRun.sl.HS1_4
  rw [View.readCov_skip _ _ _ _ _ (by decide +kernel)]
  unfold bodyRun.sl.HS1_3
  rw [View.readCov_skip _ _ _ _ _ (by decide +kernel)]
  unfold bodyRun.sl.HS1_2
  rw [View.readCov_skip _ _ _ _ _ (by decide +kernel)]
  unfold bodyRun.sl.HS1_1
  rw [View.readCov_fill _ _ _ _ _ (by decide)]
  exact ld_zeroA 4 _

theorem readA_5 : bodyRun.sl.v399 c i arg3 harg3 arg4 harg4 arg5 harg5 arg6 harg6 arg8 arg9 x0 x1 x2 x3 = AB zeroA 5 := by
  unfold bodyRun.sl.v399
  unfold bodyRun.sl.HS1_6
  rw [View.readCov_skip _ _ _ _ _ (by decide +kernel)]
  unfold bodyRun.sl.HS1_5
  rw [View.readCov_skip _ _ _ _ _ (by decide +kernel)]
  unfold bodyRun.sl.HS1_4
  rw [View.readCov_skip _ _ _ _ _ (by decide +kernel)]
  unfold bodyRun.sl.HS1_3
  rw [View.readCov_skip _ _ _ _ _ (by decide +kernel)]
  unfold bodyRun.sl.HS1_2
  rw [View.readCov_skip _ _ _ _ _ (by decide +kernel)]
  unfold bodyRun.sl.HS1_1
  rw [View.readCov_fill _ _ _ _ _ (by decide)]
  exact ld_zeroA 5 _

theorem readA_6 : bodyRun.sl.v415 c i arg3 harg3 arg4 harg4 arg5 harg5 arg6 harg6 arg8 arg9 x0 x1 x2 x3 = AB zeroA 6 := by
  unfold bodyRun.sl.v415
  unfold bodyRun.sl.HS1_7
  rw [View.readCov_skip _ _ _ _ _ (by decide +kernel)]
  unfold bodyRun.sl.HS1_6
  rw [View.readCov_skip _ _ _ _ _ (by decide +kernel)]
  unfold bodyRun.sl.HS1_5
  rw [View.readCov_skip _ _ _ _ _ (by decide +kernel)]
  unfold bodyRun.sl.HS1_4
  rw [View.readCov_skip _ _ _ _ _ (by decide +kernel)]
  unfold bodyRun.sl.HS1_3
  rw [View.readCov_skip _ _ _ _ _ (by decide +kernel)]
  unfold bodyRun.sl.HS1_2
  rw [View.readCov_skip _ _ _ _ _ (by decide +kernel)]
  unfold bodyRun.sl.HS1_1
  rw [View.readCov_fill _ _ _ _ _ (by decide)]
  exact ld_zeroA 6 _

theorem readA_7 : bodyRun.sl.v431 c i arg3 harg3 arg4 harg4 arg5 harg5 arg6 harg6 arg8 arg9 x0 x1 x2 x3 = AB zeroA 7 := by
  unfold bodyRun.sl.v431
  unfold bodyRun.sl.HS1_8
  rw [View.readCov_skip _ _ _ _ _ (by decide +kernel)]
  unfold bodyRun.sl.HS1_7
  rw [View.readCov_skip _ _ _ _ _ (by decide +kernel)]
  unfold bodyRun.sl.HS1_6
  rw [View.readCov_skip _ _ _ _ _ (by decide +kernel)]
  unfold bodyRun.sl.HS1_5
  rw [View.readCov_skip _ _ _ _ _ (by decide +kernel)]
  unfold bodyRun.sl.HS1_4
  rw [View.readCov_skip _ _ _ _ _ (by decide +kernel)]
  unfold bodyRun.sl.HS1_3
  rw [View.readCov_skip _ _ _ _ _ (by decide +kernel)]
  unfold bodyRun.sl.HS1_2
  rw [View.readCov_skip _ _ _ _ _ (by decide +kernel)]
  unfold bodyRun.sl.HS1_1
  rw [View.readCov_fill _ _ _ _ _ (by decide)]
  exact ld_zeroA 7 _

/-! ## The masked chunk -/

set_option maxHeartbeats 4000000 in
theorem body_piecesT : View.PiecesOf (Val := Elt Ideal) (startT x0 x1 x3 i) ((bodyRun c i arg3 harg3 arg4 harg4 arg5 harg5 arg6 harg6 arg7 harg7 arg8 harg8 arg9 harg9 x0 x1 x2 x3).1.take 8) := by
  unfold startT
  simp only [bodyRun, bodyRun.sl.HS0_1, bodyRun.sl.HS0_2, bodyRun.sl.HS0_3, bodyRun.sl.HS0_4, bodyRun.sl.HS0_5, bodyRun.sl.HS0_6, bodyRun.sl.HS0_7, bodyRun.sl.HS0_8, bodyRun.sl.HS0_9, List.take_succ_cons, List.take_zero, bodyRun.sl.cst_192, bodyRun.sl.r_1, bodyRun.sl.r_2, bodyRun.sl.r_3, bodyRun.sl.r_4, bodyRun.sl.r_5, bodyRun.sl.r_6, bodyRun.sl.r_7, bodyRun.sl.r_8, bodyRun.sl.r_9, bodyRun.sl.r_10, bodyRun.sl.r_11, bodyRun.sl.r_12, bodyRun.sl.r_13, bodyRun.sl.r_14, bodyRun.sl.r_15, bodyRun.sl.r_16, bodyRun.sl.r_17, bodyRun.sl.r_18, bodyRun.sl.r_19, bodyRun.sl.r_20, bodyRun.sl.r_21, bodyRun.sl.r_22, bodyRun.sl.r_23, bodyRun.sl.r_24, bodyRun.sl.r_25, bodyRun.sl.r_26, bodyRun.sl.r_27, bodyRun.sl.r_28, bodyRun.sl.r_29, bodyRun.sl.r_30, bodyRun.sl.r_31, bodyRun.sl.r_32, bodyRun.sl.r_33, bodyRun.sl.r_34, bodyRun.sl.r_35, bodyRun.sl.r_36, bodyRun.sl.r_37, bodyRun.sl.r_38, bodyRun.sl.r_39, bodyRun.sl.r_40, bodyRun.sl.r_41, bodyRun.sl.r_42]
  refine ⟨?_, ?_, ?_, ?_, ?_, ?_, ?_, ?_, trivial⟩
  · refine piece8 (fun h => mTail (dmask i) (kB x1 (diag i) h) (qB x0 h) x3 (TB zeroT h)) 7 inb_S8x1x256_S1x1x256_7_0_0 _ ?_
    rw [mTail_7, mask_eq, ld_k harg4 x1 (diag i) 7 _ _ (k0_off5_eq i), ld_q harg3 x0 7 ![0, 896] _ rfl, ld_n harg6 x3, readT_7]
  · refine piece8 (fun h => mTail (dmask i) (kB x1 (diag i) h) (qB x0 h) x3 (TB zeroT h)) 6 inb_S8x1x256_S1x1x256_6_0_0 _ ?_
    rw [mTail_6, mask_eq, ld_k harg4 x1 (diag i) 6 _ _ (k0_off5_eq i), ld_q harg3 x0 6 ![0, 768] _ rfl, ld_n harg6 x3, readT_6]
  · refine piece8 (fun h => mTail (dmask i) (kB x1 (diag i) h) (qB x0 h) x3 (TB zeroT h)) 5 inb_S8x1x256_S1x1x256_5_0_0 _ ?_
    rw [mTail_5, mask_eq, ld_k harg4 x1 (diag i) 5 _ _ (k0_off3_eq i), ld_q harg3 x0 5 ![0, 640] _ rfl, ld_n harg6 x3, readT_5]
  · refine piece8 (fun h => mTail (dmask i) (kB x1 (diag i) h) (qB x0 h) x3 (TB zeroT h)) 4 inb_S8x1x256_S1x1x256_4_0_0 _ ?_
    rw [mTail_4, mask_eq, ld_k harg4 x1 (diag i) 4 _ _ (k0_off3_eq i), ld_q harg3 x0 4 ![0, 512] _ rfl, ld_n harg6 x3, readT_4]
  · refine piece8 (fun h => mTail (dmask i) (kB x1 (diag i) h) (qB x0 h) x3 (TB zeroT h)) 3 inb_S8x1x256_S1x1x256_3_0_0 _ ?_
    rw [mTail_3, mask_eq, ld_k harg4 x1 (diag i) 3 _ _ (k0_off2_eq i), ld_q harg3 x0 3 ![0, 384] _ rfl, ld_n harg6 x3, readT_3]
  · refine piece8 (fun h => mTail (dmask i) (kB x1 (diag i) h) (qB x0 h) x3 (TB zeroT h)) 2 inb_S8x1x256_S1x1x256_2_0_0 _ ?_
    rw [mTail_2, mask_eq, ld_k harg4 x1 (diag i) 2 _ _ (k0_off2_eq i), ld_q harg3 x0 2 ![0, 256] _ rfl, ld_n harg6 x3, readT_2]
  · refine piece8 (fun h => mTail (dmask i) (kB x1 (diag i) h) (qB x0 h) x3 (TB zeroT h)) 1 inb_S8x1x256_S1x1x256_1_0_0 _ ?_
    rw [mTail_1, mask_eq, ld_k harg4 x1 (diag i) 1 _ _ (k0_off1_eq i), ld_q harg3 x0 1 ![0, 128] _ rfl, ld_n harg6 x3, readT_1]
  · refine piece8 (fun h => mTail (dmask i) (kB x1 (diag i) h) (qB x0 h) x3 (TB zeroT h)) 0 inb_S8x1x256_S1x1x256_0_0_0 _ ?_
    rw [mTail_0, mask_eq, ld_k harg4 x1 (diag i) 0 _ _ (k0_off1_eq i), ld_q harg3 x0 0 ![0, 0] _ rfl, ld_n harg6 x3, readT_0]

theorem body_coverT : ∀ y : S8x1x256.Idx, ∃ pc ∈ (bodyRun c i arg3 harg3 arg4 harg4 arg5 harg5 arg6 harg6 arg7 harg7 arg8 harg8 arg9 harg9 x0 x1 x2 x3).1.take 8, y ∈ pc.1.set :=
  View.cover_of_tiledL _ S1x1x256.size (by sl_kernel_rfl)

set_option maxHeartbeats 4000000 in
theorem body_piecesA : View.PiecesOf (Val := Elt Ideal) (startA x0 x1 x2 x3 i) ((bodyRun c i arg3 harg3 arg4 harg4 arg5 harg5 arg6 harg6 arg7 harg7 arg8 harg8 arg9 harg9 x0 x1 x2 x3).2.1.take 8) := by
  unfold startA
  simp only [bodyRun, bodyRun.sl.HS1_1, bodyRun.sl.HS1_2, bodyRun.sl.HS1_3, bodyRun.sl.HS1_4, bodyRun.sl.HS1_5, bodyRun.sl.HS1_6, bodyRun.sl.HS1_7, bodyRun.sl.HS1_8, List.take_succ_cons, List.take_zero, bodyRun.sl.cst_192, bodyRun.sl.r_1, bodyRun.sl.r_2, bodyRun.sl.r_3, bodyRun.sl.r_4, bodyRun.sl.r_5, bodyRun.sl.r_6, bodyRun.sl.r_7, bodyRun.sl.r_8, bodyRun.sl.r_9, bodyRun.sl.r_10, bodyRun.sl.r_11, bodyRun.sl.r_12, bodyRun.sl.r_13, bodyRun.sl.r_14, bodyRun.sl.r_15, bodyRun.sl.r_16, bodyRun.sl.r_17, bodyRun.sl.r_18, bodyRun.sl.r_19, bodyRun.sl.r_20, bodyRun.sl.r_21, bodyRun.sl.r_22, bodyRun.sl.r_23, bodyRun.sl.r_24, bodyRun.sl.r_25, bodyRun.sl.r_26, bodyRun.sl.r_27, bodyRun.sl.r_28, bodyRun.sl.r_29, bodyRun.sl.r_30, bodyRun.sl.r_31, bodyRun.sl.r_32, bodyRun.sl.r_33, bodyRun.sl.r_34, bodyRun.sl.r_35, bodyRun.sl.r_36, bodyRun.sl.r_37, bodyRun.sl.r_38, bodyRun.sl.r_39, bodyRun.sl.r_40, bodyRun.sl.r_41, bodyRun.sl.r_42]
  refine ⟨?_, ?_, ?_, ?_, ?_, ?_, ?_, ?_, trivial⟩
  · refine piece9 (fun h => mAcc (dmask i) (kB x1 (diag i) h) (qB x0 h) x3 (TB zeroT h) (AB zeroA h) (vB x2 (diag i) h)) 7 inb_S8x128x256_S1x128x256_7_0_0 _ ?_
    rw [mAcc_7, mask_eq, ld_k harg4 x1 (diag i) 7 _ _ (k0_off5_eq i), ld_q harg3 x0 7 ![0, 896] _ rfl, ld_n harg6 x3, readT_7, readA_7, ld_v harg5 x2 (diag i) 7 _ _ (k0_off8_eq i)]
  · refine piece9 (fun h => mAcc (dmask i) (kB x1 (diag i) h) (qB x0 h) x3 (TB zeroT h) (AB zeroA h) (vB x2 (diag i) h)) 6 inb_S8x128x256_S1x128x256_6_0_0 _ ?_
    rw [mAcc_6, mask_eq, ld_k harg4 x1 (diag i) 6 _ _ (k0_off5_eq i), ld_q harg3 x0 6 ![0, 768] _ rfl, ld_n harg6 x3, readT_6, readA_6, ld_v harg5 x2 (diag i) 6 _ _ (k0_off8_eq i)]
  · refine piece9 (fun h => mAcc (dmask i) (kB x1 (diag i) h) (qB x0 h) x3 (TB zeroT h) (AB zeroA h) (vB x2 (diag i) h)) 5 inb_S8x128x256_S1x128x256_5_0_0 _ ?_
    rw [mAcc_5, mask_eq, ld_k harg4 x1 (diag i) 5 _ _ (k0_off3_eq i), ld_q harg3 x0 5 ![0, 640] _ rfl, ld_n harg6 x3, readT_5, readA_5, ld_v harg5 x2 (diag i) 5 _ _ (k0_off7_eq i)]
  · refine piece9 (fun h => mAcc (dmask i) (kB x1 (diag i) h) (qB x0 h) x3 (TB zeroT h) (AB zeroA h) (vB x2 (diag i) h)) 4 inb_S8x128x256_S1x128x256_4_0_0 _ ?_
    rw [mAcc_4, mask_eq, ld_k harg4 x1 (diag i) 4 _ _ (k0_off3_eq i), ld_q harg3 x0 4 ![0, 512] _ rfl, ld_n harg6 x3, readT_4, readA_4, ld_v harg5 x2 (diag i) 4 _ _ (k0_off7_eq i)]
  · refine piece9 (fun h => mAcc (dmask i) (kB x1 (diag i) h) (qB x0 h) x3 (TB zeroT h) (AB zeroA h) (vB x2 (diag i) h)) 3 inb_S8x128x256_S1x128x256_3_0_0 _ ?_
    rw [mAcc_3, mask_eq, ld_k harg4 x1 (diag i) 3 _ _ (k0_off2_eq i), ld_q harg3 x0 3 ![0, 384] _ rfl, ld_n harg6 x3, readT_3, readA_3, ld_v harg5 x2 (diag i) 3 _ _ (k0_off6_eq i)]
  · refine piece9 (fun h => mAcc (dmask i) (kB x1 (diag i) h) (qB x0 h) x3 (TB zeroT h) (AB zeroA h) (vB x2 (diag i) h)) 2 inb_S8x128x256_S1x128x256_2_0_0 _ ?_
    rw [mAcc_2, mask_eq, ld_k harg4 x1 (diag i) 2 _ _ (k0_off2_eq i), ld_q harg3 x0 2 ![0, 256] _ rfl, ld_n harg6 x3, readT_2, readA_2, ld_v harg5 x2 (diag i) 2 _ _ (k0_off6_eq i)]
  · refine piece9 (fun h => mAcc (dmask i) (kB x1 (diag i) h) (qB x0 h) x3 (TB zeroT h) (AB zeroA h) (vB x2 (diag i) h)) 1 inb_S8x128x256_S1x128x256_1_0_0 _ ?_
    rw [mAcc_1, mask_eq, ld_k harg4 x1 (diag i) 1 _ _ (k0_off1_eq i), ld_q harg3 x0 1 ![0, 128] _ rfl, ld_n harg6 x3, readT_1, readA_1, ld_v harg5 x2 (diag i) 1 _ _ (k0_off4_eq i)]
  · refine piece9 (fun h => mAcc (dmask i) (kB x1 (diag i) h) (qB x0 h) x3 (TB zeroT h) (AB zeroA h) (vB x2 (diag i) h)) 0 inb_S8x128x256_S1x128x256_0_0_0 _ ?_
    rw [mAcc_0, mask_eq, ld_k harg4 x1 (diag i) 0 _ _ (k0_off1_eq i), ld_q harg3 x0 0 ![0, 0] _ rfl, ld_n harg6 x3, readT_0, readA_0, ld_v harg5 x2 (diag i) 0 _ _ (k0_off4_eq i)]

theorem body_coverA : ∀ y : S8x128x256.Idx, ∃ pc ∈ (bodyRun c i arg3 harg3 arg4 harg4 arg5 harg5 arg6 harg6 arg7 harg7 arg8 harg8 arg9 harg9 x0 x1 x2 x3).2.1.take 8, y ∈ pc.1.set :=
  View.cover_of_tiledL _ S1x128x256.size (by sl_kernel_rfl)

theorem cover_of_take {s : Shape} (n : ℕ) (L : List (View.Piece (Elt Ideal) s .f32)) (y : s.Idx) (hc : ∃ pc ∈ L.take n, y ∈ pc.1.set) :
    ∃ pc ∈ L, y ∈ pc.1.set := by
  obtain ⟨pc, h, hy⟩ := hc
  exact ⟨pc, List.mem_of_mem_take h, hy⟩

theorem startT_eq : over8 (bodyRun c i arg3 harg3 arg4 harg4 arg5 harg5 arg6 harg6 arg7 harg7 arg8 harg8 arg9 harg9 x0 x1 x2 x3).1 = startT x0 x1 x3 i := by
  funext y
  have hc := body_coverT c i arg3 harg3 arg4 harg4 arg5 harg5 arg6 harg6 arg7 harg7 arg8 harg8 arg9 harg9 x0 x1 x2 x3 y
  exact (View.read_writes_apply_eq_canon _ _ y _ (cover_of_take 8 _ y hc)).trans (canon_take 8 _ _ (body_piecesT c i arg3 harg3 arg4 harg4 arg5 harg5 arg6 harg6 arg7 harg7 arg8 harg8 arg9 harg9 x0 x1 x2 x3) y hc)

theorem startA_eq : over9 (bodyRun c i arg3 harg3 arg4 harg4 arg5 harg5 arg6 harg6 arg7 harg7 arg8 harg8 arg9 harg9 x0 x1 x2 x3).2.1 = startA x0 x1 x2 x3 i := by
  funext y
  have hc := body_coverA c i arg3 harg3 arg4 harg4 arg5 harg5 arg6 harg6 arg7 harg7 arg8 harg8 arg9 harg9 x0 x1 x2 x3 y
  exact (View.read_writes_apply_eq_canon _ _ y _ (cover_of_take 8 _ y hc)).trans (canon_take 8 _ _ (body_piecesA c i arg3 harg3 arg4 harg4 arg5 harg5 arg6 harg6 arg7 harg7 arg8 harg8 arg9 harg9 x0 x1 x2 x3) y hc)

theorem startTop_eq : (bodyRun c i arg3 harg3 arg4 harg4 arg5 harg5 arg6 harg6 arg7 harg7 arg8 harg8 arg9 harg9 x0 x1 x2 x3).2.2.1 = k0_pay76 (startT x0 x1 x3 i) := by
  refine congrArg k0_pay76 ?_
  show arg8.view.readCov (bodyRun c i arg3 harg3 arg4 harg4 arg5 harg5 arg6 harg6 arg7 harg7 arg8 harg8 arg9 harg9 x0 x1 x2 x3).1 (Rect.unit ![0, 0, 0] S8x1x256.size inb_S8x1x256_S8x1x256_0_0_0).toLoadRect = _
  rw [View.readCov_eq_canon']
  funext y
  show View.canon _ _ = _
  have e : (Rect.unit ![0, 0, 0] S8x1x256.size inb_S8x1x256_S8x1x256_0_0_0).toLoadRect.idx y = y := by
    funext a
    match a with
    | ⟨0, _⟩ => exact Fin.ext (by show 0 + 1 * (y 0).val = (y 0).val; omega)
    | ⟨1, _⟩ => exact Fin.ext (by show 0 + 1 * (y 1).val = (y 1).val; omega)
    | ⟨2, _⟩ => exact Fin.ext (by show 0 + 1 * (y 2).val = (y 2).val; omega)
  rw [e]
  exact canon_take 8 _ _ (body_piecesT c i arg3 harg3 arg4 harg4 arg5 harg5 arg6 harg6 arg7 harg7 arg8 harg8 arg9 harg9 x0 x1 x2 x3) y (body_coverT c i arg3 harg3 arg4 harg4 arg5 harg5 arg6 harg6 arg7 harg7 arg8 harg8 arg9 harg9 x0 x1 x2 x3 y)

/-! ## The output -/

/-- The output block of accumulators `A`. -/
def outB (A : Vec Ideal S8x128x256 .f32) : Vec Ideal S256x1024 .bf16 :=
  fun y => A (ix3 (⟨(y 1).val / 128, by have : (y 1).val < 1024 := (y 1).isLt; omega⟩ : Fin 8) (⟨(y 1).val % 128, by omega⟩ : Fin 128) (y 0))

theorem piece7 (A : Vec Ideal S8x128x256 .f32) (h : Fin 8) (off : Fin 2 → ℕ) (hoff : off = ![0, 128 * h.val]) (inb : ∀ a, off a + (![256, 128] : Fin 2 → ℕ) a ≤ S256x1024.size a)
    (w : Vec Ideal S256x128 .bf16) (e : w = k0_pay77 (AB A h)) :
    ∀ x : (Rect.unit (s := S256x1024) off ![256, 128] inb).shape.Idx, w x = outB A ((Rect.unit (s := S256x1024) off ![256, 128] inb).emb x) := by
  intro x
  subst e hoff
  have h1 : (x 1).val < 128 := (x 1).isLt
  have h8 : h.val < 8 := h.isLt
  have e0 : k0_pay77 (AB A h) x = A (ix3 h (x 1) (x 0)) := by
    pointwise [k0_pay77, AB]
    try rfl
  rw [e0]
  unfold outB
  congr 1
  funext a
  match a with
  | ⟨0, _⟩ => exact Fin.ext (by show h.val = (128 * h.val + 1 * (x 1).val) / 128; omega)
  | ⟨1, _⟩ => exact Fin.ext (by show (x 1).val = (128 * h.val + 1 * (x 1).val) % 128; omega)
  | ⟨2, _⟩ => exact Fin.ext (by show (x 0).val = 0 + 1 * (x 0).val; omega)

set_option maxHeartbeats 4000000 in
theorem body_pieces4 : View.PiecesOf (Val := Elt Ideal) (outB (loopSt c i arg3 harg3 arg4 harg4 arg5 harg5 arg6 harg6 arg8 harg8 arg9 harg9 x0 x1 x2 x3 (i 2).val 1 (over8 (bodyRun c i arg3 harg3 arg4 harg4 arg5 harg5 arg6 harg6 arg7 harg7 arg8 harg8 arg9 harg9 x0 x1 x2 x3).1) (over9 (bodyRun c i arg3 harg3 arg4 harg4 arg5 harg5 arg6 harg6 arg7 harg7 arg8 harg8 arg9 harg9 x0 x1 x2 x3).2.1) (bodyRun c i arg3 harg3 arg4 harg4 arg5 harg5 arg6 harg6 arg7 harg7 arg8 harg8 arg9 harg9 x0 x1 x2 x3).2.2.1).2) (bodyRun c i arg3 harg3 arg4 harg4 arg5 harg5 arg6 harg6 arg7 harg7 arg8 harg8 arg9 harg9 x0 x1 x2 x3).2.2.2.1 := by
  refine ⟨?_, ?_, ?_, ?_, ?_, ?_, ?_, ?_, trivial⟩
  · exact piece7 _ 7 ![0, 896] rfl inb_S256x1024_S256x128_0_896 _ (congrArg k0_pay77 (ld_A harg9 _ 7 ![7, 0, 0] inb_S8x128x256_S1x128x256_7_0_0 rfl))
  · exact piece7 _ 6 ![0, 768] rfl inb_S256x1024_S256x128_0_768 _ (congrArg k0_pay77 (ld_A harg9 _ 6 ![6, 0, 0] inb_S8x128x256_S1x128x256_6_0_0 rfl))
  · exact piece7 _ 5 ![0, 640] rfl inb_S256x1024_S256x128_0_640 _ (congrArg k0_pay77 (ld_A harg9 _ 5 ![5, 0, 0] inb_S8x128x256_S1x128x256_5_0_0 rfl))
  · exact piece7 _ 4 ![0, 512] rfl inb_S256x1024_S256x128_0_512 _ (congrArg k0_pay77 (ld_A harg9 _ 4 ![4, 0, 0] inb_S8x128x256_S1x128x256_4_0_0 rfl))
  · exact piece7 _ 3 ![0, 384] rfl inb_S256x1024_S256x128_0_384 _ (congrArg k0_pay77 (ld_A harg9 _ 3 ![3, 0, 0] inb_S8x128x256_S1x128x256_3_0_0 rfl))
  · exact piece7 _ 2 ![0, 256] rfl inb_S256x1024_S256x128_0_256 _ (congrArg k0_pay77 (ld_A harg9 _ 2 ![2, 0, 0] inb_S8x128x256_S1x128x256_2_0_0 rfl))
  · exact piece7 _ 1 ![0, 128] rfl inb_S256x1024_S256x128_0_128 _ (congrArg k0_pay77 (ld_A harg9 _ 1 ![1, 0, 0] inb_S8x128x256_S1x128x256_1_0_0 rfl))
  · exact piece7 _ 0 ![0, 0] rfl inb_S256x1024_S256x128_0_0 _ (congrArg k0_pay77 (ld_A harg9 _ 0 ![0, 0, 0] inb_S8x128x256_S1x128x256_0_0_0 rfl))

theorem body_cover4 : ∀ y : S256x1024.Idx, ∃ pc ∈ (bodyRun c i arg3 harg3 arg4 harg4 arg5 harg5 arg6 harg6 arg7 harg7 arg8 harg8 arg9 harg9 x0 x1 x2 x3).2.2.2.1, y ∈ pc.1.set :=
  View.cover_of_tiledL _ S256x128.size (by sl_kernel_rfl)

end Body

end Cert.Proof.KI

end
-- ==== Proof.KI.Sums.lean ====
/-
  The mathematics of a stick-breaking chunk over ℕ-indexed positions: the sums over the 256 rows of a chunk as sums over an
  interval, and a chunk's contribution to the tails and to the accumulators joined to those of the chunks after it.
-/
module

public import proofs.«01_k».proof.Proof.KI.Head

@[expose] public section

noncomputable section

namespace Cert.Proof.KI

open Idealize.ShloMosaic Finset

/-- The softplus in base 2 of a real number. -/
def sp (z : ℝ) : ℝ := Real.log (1 + Real.rpow 2 z) * (Real.log 2)⁻¹

theorem rpow2_pos (z : ℝ) : 0 < Real.rpow 2 z := Real.rpow_pos_of_pos (by norm_num) z

theorem spf_coe (z : ℝ) : spf (z : EReal) = (sp z : EReal) := by
  have h : ¬ (1 + Real.rpow 2 z ≤ 0) := by have := rpow2_pos z; linarith
  show Ideal.log (1 + ((Real.rpow 2 z : ℝ) : EReal)) * _ = _
  rw [show (1 : EReal) + ((Real.rpow 2 z : ℝ) : EReal) = ((1 + Real.rpow 2 z : ℝ) : EReal) by norm_cast]
  show (if 1 + Real.rpow 2 z ≤ 0 then (⊥ : EReal) else ((Real.log (1 + Real.rpow 2 z) : ℝ) : EReal)) * _ = _
  rw [if_neg h, ← EReal.coe_mul]
  rfl

theorem exp2_coe (z : ℝ) : Ideal.exp2 (z : EReal) = ((Real.rpow 2 z : ℝ) : EReal) := rfl

section Intervals

variable {M : Type*} [AddCommMonoid M]

/-- The rows of a chunk from position `a` on. -/
theorem sum_chunk (a : ℕ) (f : ℕ → M) : ∑ j : Fin 256, f (a + j.val) = ∑ p ∈ Ico a (a + 256), f p := by
  rw [Fin.sum_univ_eq_sum_range (fun j => f (a + j)) 256, Finset.sum_Ico_eq_sum_range]
  simp

/-- The rows of a chunk before row `t`. -/
theorem sum_chunk_lt (a : ℕ) (t : Fin 256) (f : ℕ → M) : ∑ j : Fin 256, (if j < t then f (a + j.val) else 0) = ∑ p ∈ Ico a (a + t.val), f p := by
  have e : ∀ j : Fin 256, (if j < t then f (a + j.val) else 0) = (fun p => if p < a + t.val then f p else 0) (a + j.val) := by
    intro j
    have : (j < t) ↔ (a + j.val < a + t.val) := by rw [Fin.lt_def]; omega
    simp only [this]
  rw [Finset.sum_congr rfl fun j _ => e j, sum_chunk a (fun p => if p < a + t.val then f p else 0), ← Finset.sum_filter]
  refine Finset.sum_congr ?_ fun _ _ => rfl
  ext p
  have := t.isLt
  simp only [mem_filter, mem_Ico]
  omega

/-- The rows of a chunk after row `s`, -/
theorem sum_chunk_gt (a : ℕ) (s : Fin 256) (f : ℕ → M) : ∑ j : Fin 256, (if s < j then f (a + j.val) else 0) = ∑ p ∈ Ico (a + s.val + 1) (a + 256), f p := by
  have e : ∀ j : Fin 256, (if s < j then f (a + j.val) else 0) = (fun p => if a + s.val < p then f p else 0) (a + j.val) := by
    intro j
    have : (s < j) ↔ (a + s.val < a + j.val) := by rw [Fin.lt_def]; omega
    simp only [this]
  rw [Finset.sum_congr rfl fun j _ => e j, sum_chunk a (fun p => if a + s.val < p then f p else 0), ← Finset.sum_filter]
  refine Finset.sum_congr ?_ fun _ _ => rfl
  ext p
  have := s.isLt
  simp only [mem_filter, mem_Ico]
  omega

/-- and before row `t`. -/
theorem sum_chunk_gt_lt (a : ℕ) (s t : Fin 256) (f : ℕ → M) :
    ∑ j : Fin 256, (if j < t then (if s < j then f (a + j.val) else 0) else 0) = ∑ p ∈ Ico (a + s.val + 1) (a + t.val), f p := by
  have e : ∀ j : Fin 256, (if j < t then (if s < j then f (a + j.val) else 0) else 0)
      = (fun p => if a + s.val < p ∧ p < a + t.val then f p else 0) (a + j.val) := by
    intro j
    have h1 : (j < t) ↔ (a + j.val < a + t.val) := by rw [Fin.lt_def]; omega
    have h2 : (s < j) ↔ (a + s.val < a + j.val) := by rw [Fin.lt_def]; omega
    simp only [h1, h2]
    split_ifs <;> first | rfl | (exfalso; omega)
  rw [Finset.sum_congr rfl fun j _ => e j, sum_chunk a (fun p => if a + s.val < p ∧ p < a + t.val then f p else 0), ← Finset.sum_filter]
  refine Finset.sum_congr ?_ fun _ _ => rfl
  ext p
  have := t.isLt
  simp only [mem_filter, mem_Ico]
  omega

end Intervals

theorem coe_sum {ι : Type*} (s : Finset ι) (f : ι → ℝ) : ∑ x ∈ s, ((f x : ℝ) : EReal) = ((∑ x ∈ s, f x : ℝ) : EReal) := by
  classical
  induction s using Finset.induction_on with
  | empty => simp
  | insert a s ha ih => rw [Finset.sum_insert ha, Finset.sum_insert ha, ih, EReal.coe_add]

/-- The weight of position `p` for a query at position `e`. -/
def wt (Z : ℕ → ℝ) (e p : ℕ) : ℝ := Real.rpow 2 (Z p - ∑ p' ∈ Ico p e, sp (Z p'))

/-- The tail from position `b` on. -/
def tl (Z : ℕ → ℝ) (e b : ℕ) : ℝ := -∑ p ∈ Ico b e, sp (Z p)

theorem tl_succ (Z : ℕ → ℝ) (e b : ℕ) (h : b + 256 ≤ e) : tl Z e (b + 256) + ∑ j : Fin 256, (-1) * sp (Z (b + j.val)) = tl Z e b := by
  unfold tl
  rw [← Finset.mul_sum, sum_chunk b fun p => sp (Z p), ← Finset.sum_Ico_consecutive (fun p => sp (Z p)) (by omega : b ≤ b + 256) h]
  ring

theorem wt_succ (Z : ℕ → ℝ) (e b : ℕ) (h : b + 256 ≤ e) (s : Fin 256) :
    (Z (b + s.val) - sp (Z (b + s.val)) + tl Z e (b + 256)) + ∑ j : Fin 256, (if s < j then (-1 : ℝ) else 0) * sp (Z (b + j.val))
      = Z (b + s.val) - ∑ p' ∈ Ico (b + s.val) e, sp (Z p') := by
  have hs := s.isLt
  have e1 : ∀ j : Fin 256, (if s < j then (-1 : ℝ) else 0) * sp (Z (b + j.val)) = if s < j then (fun p => -sp (Z p)) (b + j.val) else 0 := by
    intro j; split_ifs <;> ring
  rw [Finset.sum_congr rfl fun j _ => e1 j, sum_chunk_gt b s fun p => -sp (Z p), Finset.sum_neg_distrib]
  unfold tl
  rw [← Finset.sum_Ico_consecutive (fun p => sp (Z p)) (by omega : b + s.val ≤ b + 256) h,
    Finset.sum_eq_sum_Ico_succ_bot (by omega : b + s.val < b + 256)]
  ring

theorem wt_first (Z : ℕ → ℝ) (b : ℕ) (s t : Fin 256) (hst : s < t) :
    (Z (b + s.val) - sp (Z (b + s.val)) + 0) + ∑ j : Fin 256, (if j < t then (if s < j then (-1 : ℝ) else 0) * sp (Z (b + j.val)) else 0)
      = Z (b + s.val) - ∑ p' ∈ Ico (b + s.val) (b + t.val), sp (Z p') := by
  rw [Fin.lt_def] at hst
  have e1 : ∀ j : Fin 256, (if j < t then (if s < j then (-1 : ℝ) else 0) * sp (Z (b + j.val)) else 0)
      = if j < t then (if s < j then (fun p => -sp (Z p)) (b + j.val) else 0) else 0 := by
    intro j; split_ifs <;> ring
  rw [Finset.sum_congr rfl fun j _ => e1 j, sum_chunk_gt_lt b s t fun p => -sp (Z p), Finset.sum_neg_distrib,
    Finset.sum_eq_sum_Ico_succ_bot (by omega : b + s.val < b + t.val)]
  ring

theorem tl_first (Z : ℕ → ℝ) (b : ℕ) (t : Fin 256) :
    (0 : ℝ) + ∑ j : Fin 256, (if j < t then (-1) * sp (Z (b + j.val)) else 0) = tl Z (b + t.val) b := by
  have e1 : ∀ j : Fin 256, (if j < t then (-1) * sp (Z (b + j.val)) else 0) = if j < t then (fun p => -sp (Z p)) (b + j.val) else 0 := by
    intro j; split_ifs <;> ring
  rw [Finset.sum_congr rfl fun j _ => e1 j, sum_chunk_lt b t fun p => -sp (Z p), Finset.sum_neg_distrib, zero_add]
  rfl

end Cert.Proof.KI

end
-- ==== Proof.KI.LoopValue.lean ====
/-
  The loop's value: the chunks before the diagonal are all taken, since a finite tail is above the exit's threshold, and
  after them the accumulators hold, for each query, the sum over every earlier key of its weight times its value.
-/
module

public import proofs.«01_k».proof.Proof.KI.BodyValue
public import proofs.«01_k».proof.Proof.KI.Frame
public import proofs.«01_k».proof.Proof.KI.Sums
public import Idealize.ShloMosaic.Lib.WordCmp

@[expose] public section

set_option maxRecDepth 16384

noncomputable section

namespace Cert.Proof.KI

open Cert.KernelIdeal Cert.KernelIdeal.Gen
open Idealize.ShloMosaic Idealize.ShloMosaic.TcCoe Idealize.ShloMosaic.Tactic Finset

theorem le264 : 256 ≤ 264 := by decide

theorem slt_rows (n : ℕ) (hn : n < 16) (j t : Fin 256) :
    IntOp.cmpi CmpIPredicate.slt (IntOp.addi (Scalar.muli (BitVec.ofNat 32 n) 256#32) (BitVec.ofNat 32 j.val))
      (IntOp.addi (Scalar.muli (BitVec.ofNat 32 n) 256#32) (BitVec.ofNat 32 t.val)) = if j < t then 1#1 else 0#1 := by
  have e : ∀ a : Fin 256, IntOp.addi (Scalar.muli (BitVec.ofNat 32 n) 256#32) (BitVec.ofNat 32 a.val) = BitVec.ofNat 32 (n * 256 + a.val) := by
    intro a
    show BitVec.ofNat 32 n * BitVec.ofNat 32 256 + BitVec.ofNat 32 a.val = _
    rw [BitVec.ofNat_add, BitVec.ofNat_mul]
  have hj := j.isLt
  have ht := t.isLt
  rw [e, e, WordCmp.cmpi_slt_ofNat (by omega) (by omega)]
  by_cases h : j < t
  · rw [if_pos h, decide_eq_true (by rw [Fin.lt_def] at h; omega)]; rfl
  · rw [if_neg h, decide_eq_false (by rw [Fin.lt_def] at h; omega)]; rfl

/-- The mask at a key row and a query row of the chunk on the diagonal. -/
theorem dmask_apply (i : grid0.Coords) (j t : Fin 256) : dmask i (ix2 j t) = if j < t then 1#1 else 0#1 := by
  pointwise [dmask, k0_pay9, k0_pay6]
  exact slt_rows _ (i 2).isLt j t

theorem sel_ite (p : Prop) [Decidable p] (a : EReal) : Scalar.select (if p then 1#1 else 0#1) a 0 = if p then a else 0 := by
  split_ifs
  · rfl
  · rfl

/-- The largest of tails of which one is a number is a number, or above. -/
theorem top_gt (T : Vec Ideal S8x1x256 .f32) (h : Fin 8) (t : Fin 256) (hT : (⊥ : EReal) < T (ix3 h 0 t)) : (⊥ : EReal) < k0_pay5 T := by
  have e : k0_pay5 T = Finset.fold max (Ideal.ofBits FTy.f32 4286578688#32) (fun x : S1x8x1x256.Idx => T (ix3 (x 1) 0 (x 3)))
      {i | reduces_S1x8x1x256_S1.drop i = ix1 0} := by
    pointwise [k0_pay5]
  rw [e]
  refine (Finset.lt_fold_max _).mpr (.inr ⟨ix4 0 h 0 t, ?_, hT⟩)
  refine Finset.mem_filter.mpr ⟨Finset.mem_univ _, ?_⟩
  funext a
  match a with
  | ⟨0, _⟩ => exact Subsingleton.elim (α := Fin 1) _ _

theorem live_pos (i : grid0.Coords) (r : Fin 17) (hr : r.val ≤ (i 2).val) (top : EReal) (h : ⊥ < top) :
    live (F := Ideal) i (BitVec.ofNat 32 r.val) top = 1#1 := by
  unfold live
  rw [slt_nkc, if_pos hr, named_exit]
  show IntOp.andi 1#1 (BitVec.ofBool (decide (⊥ < top))) = 1#1
  rw [decide_eq_true h]
  rfl

/-! ## The scratch buffers chunk by chunk -/

/-- The chunk `r` before the diagonal. -/
def ch (i : grid0.Coords) (r : ℕ) : Fin 16 := ⟨(i 2).val - r, by have h : (i 2).val < 16 := (i 2).isLt; omega⟩

section States

variable (x0 : Vec Ideal S256x1024 .f32) (x1 : Vec Ideal S4096x512 .bf16) (x2 : Vec Ideal S1x16x512x256 .bf16) (x3 : Vec Ideal S264x256 .bf16) (i : grid0.Coords)

/-- The tails after the chunk on the diagonal and the `r` before it, -/
def stT : ℕ → Vec Ideal S8x1x256 .f32
  | 0 => startT x0 x1 x3 i
  | r + 1 => stepT x0 x1 x3 (ch i (r + 1)) (stT r)
/-- and the accumulators. -/
def stA : ℕ → Vec Ideal S8x128x256 .f32
  | 0 => startA x0 x1 x2 x3 i
  | r + 1 => stepA x0 x1 x2 x3 (ch i (r + 1)) (stT x0 x1 x3 i r) (stA r)

variable (Z : Fin 8 → Fin 256 → ℕ → ℝ) (vN : Fin 8 → Fin 128 → ℕ → EReal)
  (hZ : ∀ (n : Fin 16) (h : Fin 8) (j t : Fin 256), zb (kB x1 n h) (qB x0 h) j t = ((Z h t (256 * n.val + j.val) : ℝ) : EReal))
  (hone : ∀ j : Fin 256, x3 (ix2 256 j) = ((-1 : ℝ) : EReal))
  (hlt : ∀ s j : Fin 256, x3 (ix2 (s.castLE le264 : Fin 264) j) = ((if s < j then (-1 : ℝ) else 0 : ℝ) : EReal))
  (hv : ∀ (n : Fin 16) (h : Fin 8) (d : Fin 128) (s : Fin 256), vB x2 n h (ix4 0 0 d s) = vN h d (256 * n.val + s.val))

include hZ hone

theorem startT_val (h : Fin 8) (t : Fin 256) :
    startT x0 x1 x3 i (ix3 h 0 t) = ((tl (Z h t) (256 * (i 2).val + t.val) (256 * (i 2).val) : ℝ) : EReal) := by
  show mTail (dmask i) (kB x1 (diag i) h) (qB x0 h) x3 (TB zeroT h) (ix3 0 0 t) = _
  have e0 : TB zeroT h (ix3 0 0 t) = ((0 : ℝ) : EReal) := by
    pointwise [TB, zeroT, k0_pay7]
    rfl
  have e : ∀ j : Fin 256, Scalar.select (dmask i (ix2 j t)) (x3 (ix2 256 j) * spf (zb (kB x1 (diag i) h) (qB x0 h) j t)) 0
      = ((if j < t then (-1) * sp (Z h t (256 * (i 2).val + j.val)) else 0 : ℝ) : EReal) := by
    intro j
    rw [dmask_apply, sel_ite, hZ, spf_coe, hone, ← EReal.coe_mul]
    split_ifs
    · rfl
    · rfl
  rw [mTail_apply, e0, Finset.sum_congr rfl fun j _ => e j, coe_sum, ← EReal.coe_add, tl_first]

theorem stepT_val (n : Fin 16) (T : Vec Ideal S8x1x256 .f32) (h : Fin 8) (t : Fin 256) (e : ℕ) (he : 256 * n.val + 256 ≤ e)
    (hT : T (ix3 h 0 t) = ((tl (Z h t) e (256 * n.val + 256) : ℝ) : EReal)) :
    stepT x0 x1 x3 n T (ix3 h 0 t) = ((tl (Z h t) e (256 * n.val) : ℝ) : EReal) := by
  show uTail (kB x1 n h) (qB x0 h) x3 (TB T h) (ix3 0 0 t) = _
  have e0 : TB T h (ix3 0 0 t) = T (ix3 h 0 t) := rfl
  have e1 : ∀ j : Fin 256, x3 (ix2 256 j) * spf (zb (kB x1 n h) (qB x0 h) j t) = (((-1) * sp (Z h t (256 * n.val + j.val)) : ℝ) : EReal) := by
    intro j
    rw [hZ, spf_coe, hone, ← EReal.coe_mul]
  rw [uTail_apply, e0, hT, Finset.sum_congr rfl fun j _ => e1 j, coe_sum, ← EReal.coe_add, tl_succ _ _ _ he]

theorem stT_val (r : ℕ) (hr : r ≤ (i 2).val) (h : Fin 8) (t : Fin 256) :
    stT x0 x1 x3 i r (ix3 h 0 t) = ((tl (Z h t) (256 * (i 2).val + t.val) (256 * ((i 2).val - r)) : ℝ) : EReal) := by
  induction r with
  | zero => exact startT_val x0 x1 x3 i Z hZ hone h t
  | succ r ih =>
    have en : (ch i (r + 1)).val = (i 2).val - (r + 1) := rfl
    refine (stepT_val x0 x1 x3 Z hZ hone (ch i (r + 1)) (stT x0 x1 x3 i r) h t (256 * (i 2).val + t.val) (by rw [en]; omega) ?_).trans (by rw [en])
    rw [ih (by omega), en]
    congr 2
    omega

theorem stT_top (r : ℕ) (hr : r ≤ (i 2).val) : (⊥ : EReal) < k0_pay5 (stT x0 x1 x3 i r) :=
  top_gt _ 0 0 (by rw [stT_val x0 x1 x3 i Z hZ hone r hr]; exact EReal.bot_lt_coe _)

include hlt hv

theorem startA_val (h : Fin 8) (d : Fin 128) (t : Fin 256) :
    startA x0 x1 x2 x3 i (ix3 h d t) = ∑ p ∈ Ico (256 * (i 2).val) (256 * (i 2).val + t.val), vN h d p * ((wt (Z h t) (256 * (i 2).val + t.val) p : ℝ) : EReal) := by
  show mAcc (dmask i) (kB x1 (diag i) h) (qB x0 h) x3 (TB zeroT h) (AB zeroA h) (vB x2 (diag i) h) (ix3 0 d t) = _
  have e0 : TB zeroT h (ix3 0 0 t) = ((0 : ℝ) : EReal) := by
    pointwise [TB, zeroT, k0_pay7]
    rfl
  have e0' : AB zeroA h (ix3 0 d t) = 0 := by
    pointwise [AB, zeroA, k0_pay8]
  have ej : ∀ s j : Fin 256, Scalar.select (dmask i (ix2 j t)) (x3 (ix2 (s.castLE le264 : Fin 264) j) * spf (zb (kB x1 (diag i) h) (qB x0 h) j t)) 0
      = ((if j < t then (if s < j then (-1 : ℝ) else 0) * sp (Z h t (256 * (i 2).val + j.val)) else 0 : ℝ) : EReal) := by
    intro s j
    rw [dmask_apply, sel_ite, hZ, spf_coe, hlt, ← EReal.coe_mul]
    split_ifs <;> rfl
  have e : ∀ s : Fin 256, Scalar.select (dmask i (ix2 s t)) (vB x2 (diag i) h (ix4 0 0 d s)
        * Ideal.exp2 ((zb (kB x1 (diag i) h) (qB x0 h) s t - spf (zb (kB x1 (diag i) h) (qB x0 h) s t) + TB zeroT h (ix3 0 0 t))
          + ∑ j, Scalar.select (dmask i (ix2 j t)) (x3 (ix2 (s.castLE le264 : Fin 264) j) * spf (zb (kB x1 (diag i) h) (qB x0 h) j t)) 0)) 0
      = if s < t then (fun p => vN h d p * ((wt (Z h t) (256 * (i 2).val + t.val) p : ℝ) : EReal)) (256 * (i 2).val + s.val) else 0 := by
    intro s
    rw [dmask_apply, sel_ite]
    by_cases hst : s < t
    · rw [if_pos hst, if_pos hst, Finset.sum_congr rfl fun j _ => ej s j, coe_sum, e0, hZ, spf_coe, hv, ← EReal.coe_sub, ← EReal.coe_add, ← EReal.coe_add, exp2_coe]
      refine congrArg (fun x : ℝ => vN h d (256 * (i 2).val + s.val) * ((Real.rpow 2 x : ℝ) : EReal)) ?_
      exact wt_first (Z h t) (256 * (i 2).val) s t hst
    · rw [if_neg hst, if_neg hst]
  rw [mAcc_apply, e0', zero_add, Finset.sum_congr rfl fun s _ => e s]
  exact sum_chunk_lt (256 * (i 2).val) t fun p => vN h d p * ((wt (Z h t) (256 * (i 2).val + t.val) p : ℝ) : EReal)

theorem stepA_val (n : Fin 16) (T : Vec Ideal S8x1x256 .f32) (A : Vec Ideal S8x128x256 .f32) (h : Fin 8) (d : Fin 128) (t : Fin 256) (e : ℕ) (he : 256 * n.val + 256 ≤ e)
    (hT : T (ix3 h 0 t) = ((tl (Z h t) e (256 * n.val + 256) : ℝ) : EReal))
    (hA : A (ix3 h d t) = ∑ p ∈ Ico (256 * n.val + 256) e, vN h d p * ((wt (Z h t) e p : ℝ) : EReal)) :
    stepA x0 x1 x2 x3 n T A (ix3 h d t) = ∑ p ∈ Ico (256 * n.val) e, vN h d p * ((wt (Z h t) e p : ℝ) : EReal) := by
  show uAcc (kB x1 n h) (qB x0 h) x3 (TB T h) (AB A h) (vB x2 n h) (ix3 0 d t) = _
  have e0 : TB T h (ix3 0 0 t) = T (ix3 h 0 t) := rfl
  have e0' : AB A h (ix3 0 d t) = A (ix3 h d t) := rfl
  have ej : ∀ s j : Fin 256, x3 (ix2 (s.castLE le264 : Fin 264) j) * spf (zb (kB x1 n h) (qB x0 h) j t)
      = (((if s < j then (-1 : ℝ) else 0) * sp (Z h t (256 * n.val + j.val)) : ℝ) : EReal) := by
    intro s j
    rw [hZ, spf_coe, hlt, ← EReal.coe_mul]
  have e1 : ∀ s : Fin 256, vB x2 n h (ix4 0 0 d s)
        * Ideal.exp2 ((zb (kB x1 n h) (qB x0 h) s t - spf (zb (kB x1 n h) (qB x0 h) s t) + TB T h (ix3 0 0 t))
          + ∑ j, x3 (ix2 (s.castLE le264 : Fin 264) j) * spf (zb (kB x1 n h) (qB x0 h) j t))
      = (fun p => vN h d p * ((wt (Z h t) e p : ℝ) : EReal)) (256 * n.val + s.val) := by
    intro s
    rw [Finset.sum_congr rfl fun j _ => ej s j, coe_sum, e0, hT, hZ, spf_coe, hv, ← EReal.coe_sub, ← EReal.coe_add, ← EReal.coe_add, exp2_coe]
    refine congrArg (fun x : ℝ => vN h d (256 * n.val + s.val) * ((Real.rpow 2 x : ℝ) : EReal)) ?_
    exact wt_succ (Z h t) e (256 * n.val) he s
  rw [uAcc_apply, e0', hA, Finset.sum_congr rfl fun s _ => e1 s, sum_chunk (256 * n.val) fun p => vN h d p * ((wt (Z h t) e p : ℝ) : EReal), add_comm]
  exact Finset.sum_Ico_consecutive _ (by omega) he

theorem stA_val (r : ℕ) (hr : r ≤ (i 2).val) (h : Fin 8) (d : Fin 128) (t : Fin 256) :
    stA x0 x1 x2 x3 i r (ix3 h d t)
      = ∑ p ∈ Ico (256 * ((i 2).val - r)) (256 * (i 2).val + t.val), vN h d p * ((wt (Z h t) (256 * (i 2).val + t.val) p : ℝ) : EReal) := by
  induction r with
  | zero => exact startA_val x0 x1 x2 x3 i Z vN hZ hone hlt hv h d t
  | succ r ih =>
    have en : (ch i (r + 1)).val = (i 2).val - (r + 1) := rfl
    have eb : 256 * (ch i (r + 1)).val + 256 = 256 * ((i 2).val - r) := by rw [en]; omega
    refine (stepA_val x0 x1 x2 x3 Z vN hZ hone hlt hv (ch i (r + 1)) (stT x0 x1 x3 i r) (stA x0 x1 x2 x3 i r) h d t (256 * (i 2).val + t.val) (by rw [en]; omega) ?_ ?_).trans (by rw [en])
    · rw [eb]; exact stT_val x0 x1 x3 i Z hZ hone r (by omega) h t
    · rw [eb]; exact ih (by omega)

end States

/-! ## The loop -/

section Loop

variable (c : Dev nD) (i : grid0.Coords) (arg3 : Memref sig .tc .vmem S256x1024 .f32) (harg3 : arg3.IsWhole) (arg4 : Memref sig .tc .vmem S4096x512 .bf16) (harg4 : arg4.IsWhole) (arg5 : Memref sig .tc .vmem S1x16x512x256 .bf16) (harg5 : arg5.IsWhole) (arg6 : Memref sig .tc .vmem S264x256 .bf16) (harg6 : arg6.IsWhole) (arg7 : Memref sig .tc .vmem S256x1024 .bf16) (harg7 : arg7.IsWhole) (arg8 : Memref sig .tc .vmem S8x1x256 .f32) (harg8 : arg8.IsWhole) (arg9 : Memref sig .tc .vmem S8x128x256 .f32) (harg9 : arg9.IsWhole)
  (x0 : Vec Ideal S256x1024 .f32) (x1 : Vec Ideal S4096x512 .bf16) (x2 : Vec Ideal S1x16x512x256 .bf16) (x3 : Vec Ideal S264x256 .bf16)
  (Z : Fin 8 → Fin 256 → ℕ → ℝ) (vN : Fin 8 → Fin 128 → ℕ → EReal)
  (hZ : ∀ (n : Fin 16) (h : Fin 8) (j t : Fin 256), zb (kB x1 n h) (qB x0 h) j t = ((Z h t (256 * n.val + j.val) : ℝ) : EReal))
  (hone : ∀ j : Fin 256, x3 (ix2 256 j) = ((-1 : ℝ) : EReal))
  (hlt : ∀ s j : Fin 256, x3 (ix2 (s.castLE le264 : Fin 264) j) = ((if s < j then (-1 : ℝ) else 0 : ℝ) : EReal))
  (hv : ∀ (n : Fin 16) (h : Fin 8) (d : Fin 128) (s : Fin 256), vB x2 n h (ix4 0 0 d s) = vN h d (256 * n.val + s.val))

include hZ hone

theorem loop_val (k r : ℕ) (hkr : r + k = (i 2).val) :
    loopSt c i arg3 harg3 arg4 harg4 arg5 harg5 arg6 harg6 arg8 harg8 arg9 harg9 x0 x1 x2 x3 k (r + 1) (stT x0 x1 x3 i r) (stA x0 x1 x2 x3 i r) (k0_pay5 (stT x0 x1 x3 i r))
      = (stT x0 x1 x3 i (i 2).val, stA x0 x1 x2 x3 i (i 2).val) := by
  induction k generalizing r with
  | zero =>
    have : r = (i 2).val := by omega
    subst this
    rfl
  | succ k ih =>
    have hi : (i 2).val < 16 := (i 2).isLt
    have hlive := live_pos i ⟨r + 1, by omega⟩ (by show r + 1 ≤ _; omega) _ (stT_top x0 x1 x3 i Z hZ hone r (by omega))
    have hchk : k0_chk1 i (BitVec.ofNat 32 (r + 1)) := chk_of_lt i ⟨r + 1, by omega⟩ (by show 1 ≤ r + 1; omega) (by show r + 1 ≤ _; omega)
    rw [loopSt, dif_pos ⟨hlive, hchk⟩]
    rw [tripT_eq c i arg3 harg3 arg4 harg4 arg5 harg5 arg6 harg6 arg8 harg8 arg9 harg9 x0 x1 x2 x3 _ _ _ ⟨r + 1, by omega⟩ (by show 1 ≤ r + 1; omega) (by show r + 1 ≤ _; omega) hchk,
      tripA_eq c i arg3 harg3 arg4 harg4 arg5 harg5 arg6 harg6 arg8 harg8 arg9 harg9 x0 x1 x2 x3 _ _ _ ⟨r + 1, by omega⟩ (by show 1 ≤ r + 1; omega) (by show r + 1 ≤ _; omega) hchk,
      tripTop_eq c i arg3 harg3 arg4 harg4 arg5 harg5 arg6 harg6 arg8 harg8 arg9 harg9 x0 x1 x2 x3 _ _ _ ⟨r + 1, by omega⟩ (by show 1 ≤ r + 1; omega) (by show r + 1 ≤ _; omega) hchk]
    exact ih (r + 1) (by omega)

include hlt hv

/-- The body's output block. -/
theorem outOf_val (t : Fin 256) (h : Fin 8) (d : Fin 128) (C : Fin 1024) (hC : C.val = 128 * h.val + d.val) :
    outOf c i arg3 harg3 arg4 harg4 arg5 harg5 arg6 harg6 arg7 harg7 arg8 harg8 arg9 harg9 x0 x1 x2 x3 (ix2 t C)
      = ∑ p ∈ Ico 0 (256 * (i 2).val + t.val), vN h d p * ((wt (Z h t) (256 * (i 2).val + t.val) p : ℝ) : EReal) := by
  have hd := d.isLt
  have hh := h.isLt
  have e1 : (loopSt c i arg3 harg3 arg4 harg4 arg5 harg5 arg6 harg6 arg8 harg8 arg9 harg9 x0 x1 x2 x3 (i 2).val 1 (over8 (bodyRun c i arg3 harg3 arg4 harg4 arg5 harg5 arg6 harg6 arg7 harg7 arg8 harg8 arg9 harg9 x0 x1 x2 x3).1) (over9 (bodyRun c i arg3 harg3 arg4 harg4 arg5 harg5 arg6 harg6 arg7 harg7 arg8 harg8 arg9 harg9 x0 x1 x2 x3).2.1) (bodyRun c i arg3 harg3 arg4 harg4 arg5 harg5 arg6 harg6 arg7 harg7 arg8 harg8 arg9 harg9 x0 x1 x2 x3).2.2.1).2 = stA x0 x1 x2 x3 i (i 2).val := by
    have key : ∀ T A top, T = startT x0 x1 x3 i → A = startA x0 x1 x2 x3 i → top = k0_pay76 (startT x0 x1 x3 i) →
        (loopSt c i arg3 harg3 arg4 harg4 arg5 harg5 arg6 harg6 arg8 harg8 arg9 harg9 x0 x1 x2 x3 (i 2).val 1 T A top).2 = stA x0 x1 x2 x3 i (i 2).val := by
      intro T A top hT hA hTop
      rw [hT, hA, hTop]
      have e0 := loop_val c i arg3 harg3 arg4 harg4 arg5 harg5 arg6 harg6 arg8 harg8 arg9 harg9 x0 x1 x2 x3 Z hZ hone (i 2).val 0 (Nat.zero_add _)
      rw [Nat.zero_add] at e0
      have e76 : k0_pay76 (startT x0 x1 x3 i) = k0_pay5 (stT x0 x1 x3 i 0) := rfl
      rw [e76]
      exact congrArg Prod.snd e0
    exact key _ _ _ (startT_eq c i arg3 harg3 arg4 harg4 arg5 harg5 arg6 harg6 arg7 harg7 arg8 harg8 arg9 harg9 x0 x1 x2 x3) (startA_eq c i arg3 harg3 arg4 harg4 arg5 harg5 arg6 harg6 arg7 harg7 arg8 harg8 arg9 harg9 x0 x1 x2 x3) (startTop_eq c i arg3 harg3 arg4 harg4 arg5 harg5 arg6 harg6 arg7 harg7 arg8 harg8 arg9 harg9 x0 x1 x2 x3)
  unfold outOf
  refine (View.read_writes_apply_of_pieces _ _ _ _ (View.PiecesOf.mem (body_pieces4 c i arg3 harg3 arg4 harg4 arg5 harg5 arg6 harg6 arg7 harg7 arg8 harg8 arg9 harg9 x0 x1 x2 x3)) _ (body_cover4 c i arg3 harg3 arg4 harg4 arg5 harg5 arg6 harg6 arg7 harg7 arg8 harg8 arg9 harg9 x0 x1 x2 x3 _)).trans ?_
  rw [e1]
  have e2 : outB (stA x0 x1 x2 x3 i (i 2).val) (ix2 t C) = stA x0 x1 x2 x3 i (i 2).val (ix3 h d t) := by
    unfold outB
    congr 1
    funext a
    match a with
    | ⟨0, _⟩ => exact Fin.ext (by show C.val / 128 = h.val; omega)
    | ⟨1, _⟩ => exact Fin.ext (by show C.val % 128 = d.val; omega)
    | ⟨2, _⟩ => rfl
  rw [e2, stA_val x0 x1 x2 x3 i Z vN hZ hone hlt hv (i 2).val (le_refl _) h d t, Nat.sub_self, Nat.mul_zero]

end Loop

end Cert.Proof.KI

end
-- ==== Proof.KI.Blocks.lean ====
/-
  The blocks a grid point reads, at an index, of the arguments.
-/
module

public import proofs.«01_k».proof.Proof.KI.Frame
public import Idealize.ShloMosaic.Lib.Pointwise
public import Idealize.ShloMosaic.Lib.StableHlo.Run
public import Idealize.ShloMosaic.Lib.WordCmp

@[expose] public section

set_option maxRecDepth 16384

noncomputable section

namespace Cert.Proof.KI

open Cert.KernelIdeal Cert.KernelIdeal.Gen
open Idealize.ShloMosaic Idealize.ShloMosaic.TcCoe Idealize.ShloMosaic.Tactic

variable (m : (ℓ : Loc nD τ sig) → Buf (Elt Ideal) ℓ) (c : Dev nD)

theorem idx0 : ∀ t : Fin grid0.N, win0_0.index t 0 = (grid0.coords t 0).val * 16 + (grid0.coords t 2).val ∧ win0_0.index t 1 = (grid0.coords t 1).val := by
  decide +kernel
theorem idx1 : ∀ t : Fin grid0.N, win0_1.index t 0 = (grid0.coords t 0).val ∧ win0_1.index t 1 = (grid0.coords t 1).val := by
  decide +kernel
theorem idx2 : ∀ t : Fin grid0.N, win0_2.index t 0 = (grid0.coords t 0).val ∧ win0_2.index t 1 = 0 ∧ win0_2.index t 2 = (grid0.coords t 1).val ∧ win0_2.index t 3 = 0 := by
  decide +kernel
theorem idx3 : ∀ t : Fin grid0.N, win0_3.index t 0 = 0 ∧ win0_3.index t 1 = 0 := by
  decide +kernel
theorem idx4 : ∀ t : Fin grid0.N, win0_4.index t 0 = (grid0.coords t 0).val * 16 + (grid0.coords t 2).val ∧ win0_4.index t 1 = (grid0.coords t 1).val := by
  decide +kernel

/-- The launch's copy of the queries, -/
theorem V_q : (V m c main_v0 : FVec Ideal S8192x2048 .f32) = shapeCast S8192x2048 (m ((c : Thread nD τ).loc main_arg0) : FVec Ideal S2x4096x16x128 .f32) shapeCasts_S2x4096x16x128_S8192x2048 := by
  unfold V
  after_results_simp
  rfl

theorem V_k : (V m c main_v3 : FVec Ideal S8192x1024 .bf16) = (truncf .bf16 (shapeCast S8192x1024 (m ((c : Thread nD τ).loc main_arg1) : FVec Ideal S2x4096x8x128 .f32) shapeCasts_S2x4096x8x128_S8192x1024 : FVec Ideal S8192x1024 .f32) bitsLt_bf16_f32 : FVec Ideal S8192x1024 .bf16) := by
  unfold V
  after_results_simp
  rfl

theorem V_v : (V m c main_v6 : FVec Ideal S2x16x1024x256 .bf16) = transpose S2x16x1024x256 [0, 1, 3, 2] (shapeCast S2x16x256x1024 (truncf .bf16 (shapeCast S8192x1024 (m ((c : Thread nD τ).loc main_arg2) : FVec Ideal S2x4096x8x128 .f32) shapeCasts_S2x4096x8x128_S8192x1024) bitsLt_bf16_f32 : FVec Ideal S8192x1024 .bf16) shapeCasts_S8192x1024_S2x16x256x1024) transposes_S2x16x256x1024_S2x16x1024x256_0_1_3_2 := by
  unfold V
  after_results_simp
  rfl

theorem V_ln : (V m c main_v16 : FVec Ideal S264x256 .bf16) = concatenate S264x256 0 [⟨S256x256, (Host.negf (transpose S256x256 [1, 0] (truncf .bf16 (uitofp .f32 (cmpi .sgt (iotaInDim S256x256 32 0) (iotaInDim S256x256 32 1)) : FVec Ideal S256x256 .f32) bitsLt_bf16_f32) transposes_S256x256_S256x256_1_0) : FVec Ideal S256x256 .bf16)⟩, ⟨S8x256, (Host.negf (broadcastInDim S8x256 ![] bcast_S_S8x256 (constant S_ .bf16 0x3F80#16 : FVec Ideal S_ .bf16)) : FVec Ideal S8x256 .bf16)⟩] concatenates_S256x256_S8x256_S264x256_d0 := by
  unfold V
  after_results_simp
  rfl

theorem blk_q (t : Fin grid0.N) (r : Fin 256) (C : Fin 1024) :
    (blkIn m c 0 t : FVec Ideal S256x1024 .f32) (ix2 r C)
      = (V m c main_v0 : FVec Ideal S8192x2048 .f32) (ix2 ⟨((grid0.coords t 0).val * 16 + (grid0.coords t 2).val) * 256 + r.val, by
          have h0 : (grid0.coords t 0).val < 2 := (grid0.coords t 0).isLt
          have h2 : (grid0.coords t 2).val < 16 := (grid0.coords t 2).isLt
          have := r.isLt; omega⟩ ⟨(grid0.coords t 1).val * 1024 + C.val, by
          have h1 : (grid0.coords t 1).val < 2 := (grid0.coords t 1).isLt
          have := C.isLt; omega⟩) := by
  refine congrArg (V m c main_v0 : FVec Ideal S8192x2048 .f32) ?_
  funext a
  match a with
  | ⟨0, _⟩ => exact Fin.ext ((win0_0.rect_emb_val t _ 0).trans (by rw [(idx0 t).1]; rfl))
  | ⟨1, _⟩ => exact Fin.ext ((win0_0.rect_emb_val t _ 1).trans (by rw [(idx0 t).2]; rfl))

theorem blk_k (t : Fin grid0.N) (p : Fin 4096) (C : Fin 512) :
    (blkIn m c 1 t : FVec Ideal S4096x512 .bf16) (ix2 p C)
      = (V m c main_v3 : FVec Ideal S8192x1024 .bf16) (ix2 ⟨(grid0.coords t 0).val * 4096 + p.val, by
          have h0 : (grid0.coords t 0).val < 2 := (grid0.coords t 0).isLt
          have := p.isLt; omega⟩ ⟨(grid0.coords t 1).val * 512 + C.val, by
          have h1 : (grid0.coords t 1).val < 2 := (grid0.coords t 1).isLt
          have := C.isLt; omega⟩) := by
  refine congrArg (V m c main_v3 : FVec Ideal S8192x1024 .bf16) ?_
  funext a
  match a with
  | ⟨0, _⟩ => exact Fin.ext ((win0_1.rect_emb_val t _ 0).trans (by rw [(idx1 t).1]; rfl))
  | ⟨1, _⟩ => exact Fin.ext ((win0_1.rect_emb_val t _ 1).trans (by rw [(idx1 t).2]; rfl))

theorem blk_v (t : Fin grid0.N) (n : Fin 16) (C : Fin 512) (s : Fin 256) :
    (blkIn m c 2 t : FVec Ideal S1x16x512x256 .bf16) (ix4 0 n C s)
      = (V m c main_v6 : FVec Ideal S2x16x1024x256 .bf16) (ix4 (grid0.coords t 0) n ⟨(grid0.coords t 1).val * 512 + C.val, by
          have h1 : (grid0.coords t 1).val < 2 := (grid0.coords t 1).isLt
          have := C.isLt; omega⟩ s) := by
  refine congrArg (V m c main_v6 : FVec Ideal S2x16x1024x256 .bf16) ?_
  funext a
  match a with
  | ⟨0, _⟩ => exact Fin.ext ((win0_2.rect_emb_val t _ 0).trans (by rw [(idx2 t).1]; exact Nat.mul_one _))
  | ⟨1, _⟩ => exact Fin.ext ((win0_2.rect_emb_val t _ 1).trans (by rw [(idx2 t).2.1]; exact (congrArg (· + n.val) (Nat.zero_mul _)).trans (Nat.zero_add _)))
  | ⟨2, _⟩ => exact Fin.ext ((win0_2.rect_emb_val t _ 2).trans (by rw [(idx2 t).2.2.1]; rfl))
  | ⟨3, _⟩ => exact Fin.ext ((win0_2.rect_emb_val t _ 3).trans (by rw [(idx2 t).2.2.2]; exact (congrArg (· + s.val) (Nat.zero_mul _)).trans (Nat.zero_add _)))

theorem blk_ln (t : Fin grid0.N) (r : Fin 264) (j : Fin 256) :
    (blkIn m c 3 t : FVec Ideal S264x256 .bf16) (ix2 r j) = (V m c main_v16 : FVec Ideal S264x256 .bf16) (ix2 r j) := by
  refine congrArg (V m c main_v16 : FVec Ideal S264x256 .bf16) ?_
  funext a
  match a with
  | ⟨0, _⟩ => exact Fin.ext ((win0_3.rect_emb_val t _ 0).trans (by rw [(idx3 t).1]; exact (congrArg (· + r.val) (Nat.zero_mul _)).trans (Nat.zero_add _)))
  | ⟨1, _⟩ => exact Fin.ext ((win0_3.rect_emb_val t _ 1).trans (by rw [(idx3 t).2]; exact (congrArg (· + j.val) (Nat.zero_mul _)).trans (Nat.zero_add _)))

/-- An element of the output array, in the block of the point that leaves it. -/
theorem out_elem (t : Fin grid0.N) (r : Fin 256) (C : Fin 1024) :
    ((dats m 0 c).arrAt 4 (cfg0 (F := Ideal)).N : FVec Ideal S8192x2048 .bf16) (ix2 ⟨((grid0.coords t 0).val * 16 + (grid0.coords t 2).val) * 256 + r.val, by
          have h0 : (grid0.coords t 0).val < 2 := (grid0.coords t 0).isLt
          have h2 : (grid0.coords t 2).val < 16 := (grid0.coords t 2).isLt
          have := r.isLt; omega⟩ ⟨(grid0.coords t 1).val * 1024 + C.val, by
          have h1 : (grid0.coords t 1).val < 2 := (grid0.coords t 1).isLt
          have := C.isLt; omega⟩)
      = outAt m c t (ix2 r C) := by
  have e := congrFun (block_out m c t) (ix2 r C)
  refine Eq.trans ?_ e
  refine congrArg ((dats m 0 c).arrAt 4 (cfg0 (F := Ideal)).N : FVec Ideal S8192x2048 .bf16) ?_
  funext a
  match a with
  | ⟨0, _⟩ => exact Fin.ext ((win0_4.rect_emb_val t _ 0).trans (by rw [(idx4 t).1]; rfl)).symm
  | ⟨1, _⟩ => exact Fin.ext ((win0_4.rect_emb_val t _ 1).trans (by rw [(idx4 t).2]; rfl)).symm

theorem cast_q (x : FVec Ideal S2x4096x16x128 .f32) (R : Fin 8192) (C : Fin 2048) :
    shapeCast S8192x2048 x shapeCasts_S2x4096x16x128_S8192x2048 (ix2 R C)
      = x (ix4 ⟨R.val / 4096, by have := R.isLt; omega⟩ ⟨R.val % 4096, by omega⟩ ⟨C.val / 128, by have := C.isLt; omega⟩ ⟨C.val % 128, by omega⟩) := by
  pointwise

theorem cast_k (x : FVec Ideal S2x4096x8x128 .f32) (R : Fin 8192) (C : Fin 1024) :
    (truncf .bf16 (shapeCast S8192x1024 x shapeCasts_S2x4096x8x128_S8192x1024 : FVec Ideal S8192x1024 .f32) bitsLt_bf16_f32 : FVec Ideal S8192x1024 .bf16) (ix2 R C)
      = x (ix4 ⟨R.val / 4096, by have := R.isLt; omega⟩ ⟨R.val % 4096, by omega⟩ ⟨C.val / 128, by have := C.isLt; omega⟩ ⟨C.val % 128, by omega⟩) := by
  pointwise

theorem cast_v (x : FVec Ideal S8192x1024 .bf16) (b : Fin 2) (n : Fin 16) (C : Fin 1024) (s : Fin 256) :
    transpose S2x16x1024x256 [0, 1, 3, 2] (shapeCast S2x16x256x1024 x shapeCasts_S8192x1024_S2x16x256x1024) transposes_S2x16x256x1024_S2x16x1024x256_0_1_3_2 (ix4 b n C s)
      = x (ix2 ⟨b.val * 4096 + n.val * 256 + s.val, by omega⟩ C) := by
  pointwise

theorem ln_apply (s : Fin 256) (j : Fin 256) :
    (V m c main_v16 : FVec Ideal S264x256 .bf16) (ix2 (s.castLE (by decide) : Fin 264) j) = ((if s < j then -1 else 0 : ℝ) : EReal) := by
  rw [V_ln]
  pointwise
  have hs := s.isLt
  have hj := j.isLt
  rw [dif_pos (show (s.castLE (by decide : 256 ≤ 264) : Fin 264).val < 256 from s.isLt), show (s.castLE (by decide : 256 ≤ 264) : Fin 264).val = s.val from rfl,
    WordCmp.cmpi_sgt_ofNat (by omega) (by omega)]
  by_cases h : s < j
  · rw [if_pos h, decide_eq_true (by rwa [Fin.lt_def] at h)]
    show -(((1#1 : BitVec 1).toNat : ℝ) : EReal) = _
    norm_num
  · rw [if_neg h, decide_eq_false (by rwa [Fin.lt_def] at h)]
    show -(((0#1 : BitVec 1).toNat : ℝ) : EReal) = _
    norm_num

theorem ln_one (j : Fin 256) :
    (V m c main_v16 : FVec Ideal S264x256 .bf16) (ix2 256 j) = ((-1 : ℝ) : EReal) := by
  rw [V_ln]
  pointwise
  rfl

end Cert.Proof.KI

end
-- ==== Proof.KI.Value.lean ====
/-
  The kernel's output array at an index, of finite queries and keys: the sum over the earlier positions of their weights
  times their values.
-/
module

public import proofs.«01_k».proof.Proof.KI.LoopValue
public import proofs.«01_k».proof.Proof.KI.Blocks

@[expose] public section

set_option maxRecDepth 16384

noncomputable section

namespace Cert.Proof.KI

open Cert.KernelIdeal Cert.KernelIdeal.Gen
open Idealize.ShloMosaic Idealize.ShloMosaic.TcCoe Idealize.ShloMosaic.Tactic Finset

/-- The queries' scale, a real number. -/
def sclR : ℝ := (11863283 / 134217728) * (Real.log 2)⁻¹

/-- The base-2 logits of query `tq` of head `hh` against position `p`. -/
def Zg (qr : S2x4096x16x128.Idx → ℝ) (kr : S2x4096x8x128.Idx → ℝ) (b : Fin 2) (hh : Fin 16) (tq : Fin 4096) (p : ℕ) : ℝ :=
  if hp : p < 4096 then ∑ d : Fin 128, kr (ix4 b ⟨p, hp⟩ ⟨hh.val / 2, by have := hh.isLt; omega⟩ d) * (qr (ix4 b tq hh d) * sclR) else 0

/-- Lane `d` of the value of head `hh` at position `p`. -/
def vG (v : S2x4096x8x128.Idx → EReal) (b : Fin 2) (hh : Fin 16) (d : Fin 128) (p : ℕ) : EReal :=
  if hp : p < 4096 then v (ix4 b ⟨p, hp⟩ ⟨hh.val / 2, by have := hh.isLt; omega⟩ d) else 0

theorem point_of : ∀ (b g : Fin 2) (i : Fin 16), ∃ t : Fin grid0.N, (grid0.coords t 0).val = b.val ∧ (grid0.coords t 1).val = g.val ∧ (grid0.coords t 2).val = i.val := by
  decide +kernel

variable (m : (ℓ : Loc nD τ sig) → Buf (Elt Ideal) ℓ) (c : Dev nD)

theorem q_elem (R : Fin 8192) (C : Fin 2048) (b : Fin 2) (p : Fin 4096) (h : Fin 16) (d : Fin 128) (hR : R.val = b.val * 4096 + p.val) (hC : C.val = h.val * 128 + d.val) :
    (V m c main_v0 : FVec Ideal S8192x2048 .f32) (ix2 R C) = (m ((c : Thread nD τ).loc main_arg0) : FVec Ideal S2x4096x16x128 .f32) (ix4 b p h d) := by
  have hp := p.isLt
  have hd := d.isLt
  rw [V_q, cast_q]
  refine congrArg (m ((c : Thread nD τ).loc main_arg0) : FVec Ideal S2x4096x16x128 .f32) ?_
  funext a
  match a with
  | ⟨0, _⟩ => exact Fin.ext (by show R.val / 4096 = b.val; omega)
  | ⟨1, _⟩ => exact Fin.ext (by show R.val % 4096 = p.val; omega)
  | ⟨2, _⟩ => exact Fin.ext (by show C.val / 128 = h.val; omega)
  | ⟨3, _⟩ => exact Fin.ext (by show C.val % 128 = d.val; omega)

theorem k_elem (R : Fin 8192) (C : Fin 1024) (b : Fin 2) (p : Fin 4096) (h : Fin 8) (d : Fin 128) (hR : R.val = b.val * 4096 + p.val) (hC : C.val = h.val * 128 + d.val) :
    (V m c main_v3 : FVec Ideal S8192x1024 .bf16) (ix2 R C) = (m ((c : Thread nD τ).loc main_arg1) : FVec Ideal S2x4096x8x128 .f32) (ix4 b p h d) := by
  have hp := p.isLt
  have hd := d.isLt
  rw [V_k, cast_k]
  refine congrArg (m ((c : Thread nD τ).loc main_arg1) : FVec Ideal S2x4096x8x128 .f32) ?_
  funext a
  match a with
  | ⟨0, _⟩ => exact Fin.ext (by show R.val / 4096 = b.val; omega)
  | ⟨1, _⟩ => exact Fin.ext (by show R.val % 4096 = p.val; omega)
  | ⟨2, _⟩ => exact Fin.ext (by show C.val / 128 = h.val; omega)
  | ⟨3, _⟩ => exact Fin.ext (by show C.val % 128 = d.val; omega)

theorem v_elem (bb : Fin 2) (n : Fin 16) (C : Fin 1024) (s : Fin 256) (b : Fin 2) (p : Fin 4096) (h : Fin 8) (d : Fin 128) (hb : bb = b) (hp' : p.val = n.val * 256 + s.val)
    (hC : C.val = h.val * 128 + d.val) :
    (V m c main_v6 : FVec Ideal S2x16x1024x256 .bf16) (ix4 bb n C s) = (m ((c : Thread nD τ).loc main_arg2) : FVec Ideal S2x4096x8x128 .f32) (ix4 b p h d) := by
  have hp := p.isLt
  have hd := d.isLt
  have hbl := b.isLt
  subst hb
  rw [V_v, cast_v, cast_k]
  refine congrArg (m ((c : Thread nD τ).loc main_arg2) : FVec Ideal S2x4096x8x128 .f32) ?_
  funext a
  match a with
  | ⟨0, _⟩ => exact Fin.ext (by show (bb.val * 4096 + n.val * 256 + s.val) / 4096 = bb.val; omega)
  | ⟨1, _⟩ => exact Fin.ext (by show (bb.val * 4096 + n.val * 256 + s.val) % 4096 = p.val; omega)
  | ⟨2, _⟩ => exact Fin.ext (by show C.val / 128 = h.val; omega)
  | ⟨3, _⟩ => exact Fin.ext (by show C.val % 128 = d.val; omega)

theorem kernel_val (qr : S2x4096x16x128.Idx → ℝ) (kr : S2x4096x8x128.Idx → ℝ)
    (hq : ∀ y, (m ((c : Thread nD τ).loc main_arg0) : FVec Ideal S2x4096x16x128 .f32) y = ((qr y : ℝ) : EReal))
    (hk : ∀ y, (m ((c : Thread nD τ).loc main_arg1) : FVec Ideal S2x4096x8x128 .f32) y = ((kr y : ℝ) : EReal))
    (b : Fin 2) (tq : Fin 4096) (hh : Fin 16) (d : Fin 128) (R : Fin 8192) (C : Fin 2048) (hR : R.val = b.val * 4096 + tq.val) (hC : C.val = hh.val * 128 + d.val) :
    ((dats m 0 c).arrAt 4 (cfg0 (F := Ideal)).N : FVec Ideal S8192x2048 .bf16) (ix2 R C)
      = ∑ p ∈ Ico 0 tq.val, vG (m ((c : Thread nD τ).loc main_arg2)) b hh d p * ((wt (Zg qr kr b hh tq) tq.val p : ℝ) : EReal) := by
  have hbl := b.isLt
  have htl := tq.isLt
  have hhl := hh.isLt
  have hdl := d.isLt
  obtain ⟨t, h0, h1, h2⟩ := point_of b ⟨hh.val / 8, by omega⟩ ⟨tq.val / 256, by omega⟩
  replace h1 : (grid0.coords t 1).val = hh.val / 8 := h1
  replace h2 : (grid0.coords t 2).val = tq.val / 256 := h2
  have hb0 : (grid0.coords t 0 : Fin 2) = b := Fin.ext h0
  let qrow : Fin 256 → Fin 4096 := fun r => ⟨256 * (tq.val / 256) + r.val, by have := r.isLt; omega⟩
  let head : Fin 8 → Fin 16 := fun h => ⟨8 * (hh.val / 8) + h.val, by have := h.isLt; omega⟩
  have hZ : ∀ (n : Fin 16) (h : Fin 8) (j r : Fin 256), zb (kB (blkIn m c 1 t) n h) (qB (blkIn m c 0 t) h) j r
      = ((Zg qr kr b (head h) (qrow r) (256 * n.val + j.val) : ℝ) : EReal) := by
    intro n h j r
    have hn := n.isLt
    have hhh := h.isLt
    have hj := j.isLt
    have hr := r.isLt
    have hp : 256 * n.val + j.val < 4096 := by omega
    unfold zb Zg
    rw [dif_pos hp, ← coe_sum]
    refine Finset.sum_congr rfl fun x _ => ?_
    have hx := x.isLt
    have ek : kB (blkIn m c 1 t) n h (ix2 j x) = ((kr (ix4 b ⟨256 * n.val + j.val, hp⟩ ⟨(head h).val / 2, by have := (head h).isLt; omega⟩ x) : ℝ) : EReal) := by
      rw [← hk]
      refine (blk_k m c t ⟨256 * n.val + j.val, hp⟩ ⟨128 * (h.val / 2) + x.val, by omega⟩).trans ?_
      refine k_elem m c _ _ b ⟨256 * n.val + j.val, hp⟩ ⟨(8 * (hh.val / 8) + h.val) / 2, by omega⟩ x ?_ ?_
      · show (grid0.coords t 0).val * 4096 + (256 * n.val + j.val) = _; rw [h0]
      · show (grid0.coords t 1).val * 512 + (128 * (h.val / 2) + x.val) = (8 * (hh.val / 8) + h.val) / 2 * 128 + x.val; rw [h1]; omega
    have eq : qB (blkIn m c 0 t) h (ix2 r x) = ((qr (ix4 b (qrow r) (head h) x) : ℝ) : EReal) := by
      rw [← hq]
      refine (blk_q m c t r ⟨128 * h.val + x.val, by omega⟩).trans ?_
      refine q_elem m c _ _ b (qrow r) (head h) x ?_ ?_
      · show ((grid0.coords t 0).val * 16 + (grid0.coords t 2).val) * 256 + r.val = b.val * 4096 + (256 * (tq.val / 256) + r.val); rw [h0, h2]; omega
      · show (grid0.coords t 1).val * 1024 + (128 * h.val + x.val) = (8 * (hh.val / 8) + h.val) * 128 + x.val; rw [h1]; omega
    rw [ek, eq, EReal.coe_mul, EReal.coe_mul]
    rfl
  have hv : ∀ (n : Fin 16) (h : Fin 8) (d : Fin 128) (s : Fin 256), vB (blkIn m c 2 t) n h (ix4 0 0 d s)
      = vG (m ((c : Thread nD τ).loc main_arg2)) b (head h) d (256 * n.val + s.val) := by
    intro n h d s
    have hn := n.isLt
    have hhh := h.isLt
    have hs := s.isLt
    have hd := d.isLt
    have hp : 256 * n.val + s.val < 4096 := by omega
    unfold vG
    rw [dif_pos hp]
    refine (blk_v m c t n ⟨128 * (h.val / 2) + d.val, by omega⟩ s).trans ?_
    refine v_elem m c _ n _ s b ⟨256 * n.val + s.val, hp⟩ ⟨(8 * (hh.val / 8) + h.val) / 2, by omega⟩ d hb0 ?_ ?_
    · show 256 * n.val + s.val = _; omega
    · show (grid0.coords t 1).val * 512 + (128 * (h.val / 2) + d.val) = (8 * (hh.val / 8) + h.val) / 2 * 128 + d.val; rw [h1]; omega
  have hone : ∀ j : Fin 256, (blkIn m c 3 t : FVec Ideal S264x256 .bf16) (ix2 256 j) = ((-1 : ℝ) : EReal) := fun j => (blk_ln m c t 256 j).trans (ln_one m c j)
  have hlt : ∀ s j : Fin 256, (blkIn m c 3 t : FVec Ideal S264x256 .bf16) (ix2 (s.castLE le264 : Fin 264) j) = ((if s < j then (-1 : ℝ) else 0 : ℝ) : EReal) :=
    fun s j => (blk_ln m c t _ j).trans (ln_apply m c s j)
  have eR : R = ⟨((grid0.coords t 0).val * 16 + (grid0.coords t 2).val) * 256 + tq.val % 256, by rw [h0, h2]; omega⟩ := Fin.ext (by
    show R.val = ((grid0.coords t 0).val * 16 + (grid0.coords t 2).val) * 256 + tq.val % 256; rw [h0, h2]; omega)
  have eC : C = ⟨(grid0.coords t 1).val * 1024 + (128 * (hh.val % 8) + d.val), by rw [h1]; omega⟩ := Fin.ext (by
    show C.val = (grid0.coords t 1).val * 1024 + (128 * (hh.val % 8) + d.val); rw [h1]; omega)
  have eh : head ⟨hh.val % 8, by omega⟩ = hh := Fin.ext (by show 8 * (hh.val / 8) + hh.val % 8 = hh.val; omega)
  have et : qrow ⟨tq.val % 256, by omega⟩ = tq := Fin.ext (by show 256 * (tq.val / 256) + tq.val % 256 = tq.val; omega)
  have en : 256 * (grid0.coords t 2).val + tq.val % 256 = tq.val := by rw [h2]; omega
  rw [eR, eC]
  refine (out_elem m c t ⟨tq.val % 256, by omega⟩ ⟨128 * (hh.val % 8) + d.val, by omega⟩).trans ((outOf_val c (grid0.coords t) _ _ _ _ _ _ _ _ _ _ _ _ _ _ (blkIn m c 0 t) (blkIn m c 1 t) (blkIn m c 2 t) (blkIn m c 3 t)
    (fun h r p => Zg qr kr b (head h) (qrow r) p) (fun h d p => vG (m ((c : Thread nD τ).loc main_arg2)) b (head h) d p) hZ hone hlt hv ⟨tq.val % 256, by omega⟩ ⟨hh.val % 8, by omega⟩ d _ rfl).trans ?_)
  show ∑ p ∈ Ico 0 (256 * (grid0.coords t 2).val + tq.val % 256), vG (m ((c : Thread nD τ).loc main_arg2)) b (head ⟨hh.val % 8, by omega⟩) d p
    * ((wt (Zg qr kr b (head ⟨hh.val % 8, by omega⟩) (qrow ⟨tq.val % 256, by omega⟩)) (256 * (grid0.coords t 2).val + tq.val % 256) p : ℝ) : EReal) = _
  rw [eh, et, en]

end Cert.Proof.KI

end
-- ==== Proof.Ref.lean ====
/-
  The reference, read at an index: the logits, the keep and take logarithms, the suffix sums, the weights and the output.
-/
module

public import proofs.«01_k».proof.Proof.Gen.ReferenceIdeal.Run
public import Idealize.ShloMosaic.Lib.Pointwise
public import Idealize.ShloMosaic.Lib.WordCmp

@[expose] public section

set_option maxRecDepth 16384

noncomputable section

namespace Cert.Proof.Ref

open Cert.ReferenceIdeal Cert.ReferenceIdeal.Gen
open Idealize.ShloMosaic Idealize.ShloMosaic.TcCoe

/-- The shape of the logits. -/
abbrev B : Shape := S2x8x2x4096x4096

abbrev zeroB : FVec Ideal B .f32 := broadcastInDim S2x8x2x4096x4096 ![] bcast_S_S2x8x2x4096x4096 (constant S_ .f32 0x00000000#32)

/-- The scaled logits. -/
def lg (q : FVec Ideal S2x4096x16x128 .f32) (k : FVec Ideal S2x4096x8x128 .f32) : FVec Ideal B .f32 :=
  mulf (transpose S2x8x2x4096x4096 [0, 1, 4, 3, 2] (Host.dotGeneral dot_S2x4096x8x128_S2x4096x8x2x128_S2x8x4096x4096x2_3_4_1_13_02_02 none k (shapeCast S2x4096x8x2x128 q shapeCasts_S2x4096x16x128_S2x4096x8x2x128)) transposes_S2x8x4096x4096x2_S2x8x2x4096x4096_0_1_4_3_2)
    (broadcastInDim S2x8x2x4096x4096 ![] bcast_S_S2x8x2x4096x4096 (constant S_ .f32 0x3DB504F3#32))

/-- The softplus as the host computes it. -/
def spl (x : FVec Ideal B .f32) : FVec Ideal B .f32 :=
  select (cmpf .une (subf x zeroB) (subf x zeroB)) (addf x zeroB)
    (addf (maximumf x zeroB) (Host.log1p (Host.exp (Host.negf (Host.absf (subf x zeroB))))))

/-- The mask. -/
def msk : IVec B 1 :=
  broadcastInDim S2x8x2x4096x4096 ![0, 1, 2, 3, 4] bcast_S1x1x1x4096x4096_S2x8x2x4096x4096_0_1_2_3_4
    (broadcastInDim S1x1x1x4096x4096 ![0, 3, 4] bcast_S1x4096x4096_S1x1x1x4096x4096_0_3_4
      (cmpi .slt (broadcastInDim S1x4096x4096 ![0, 1, 2] bcast_S1x1x4096_S1x4096x4096_0_1_2 (broadcastInDim S1x1x4096 ![2] bcast_S4096_S1x1x4096_2 (iotaInDim S4096 32 0)))
        (broadcastInDim S1x4096x4096 ![0, 1, 2] bcast_S1x4096x1_S1x4096x4096_0_1_2 (broadcastInDim S1x4096x1 ![1] bcast_S4096_S1x4096x1_1 (iotaInDim S4096 32 0)))))

/-- The logarithms of what each position leaves. -/
def lk (z : FVec Ideal B .f32) : FVec Ideal B .f32 :=
  select msk (Host.negf (spl (Host.negf (Host.negf z)))) (broadcastInDim S2x8x2x4096x4096 ![] bcast_S_S2x8x2x4096x4096 (id (constant S_ .f32 0x00000000#32)))

/-- Their suffix sums. -/
def cs (x : FVec Ideal B .f32) : FVec Ideal B .f32 :=
  Host.reduceWindowAdd ![1, 1, 1, 1, 4096] ![1, 1, 1, 1, 1] ![0, 0, 0, 0, 0] ![0, 0, 0, 0, 4095] x (broadcastInDim S_ ![] bcast_S_S_ (constant S_ .f32 0x00000000#32)) reduceWindows_S2x8x2x4096x4096_S2x8x2x4096x4096_w1s1p0_0_w1s1p0_0_w1s1p0_0_w1s1p0_0_w4096s1p0_4095 h_S_

/-- The weights. -/
def wts (z : FVec Ideal B .f32) : FVec Ideal B .f32 :=
  select msk (Host.exp (addf (Host.negf (spl (Host.negf z))) (subf (cs (lk z)) (lk z)))) (broadcastInDim S2x8x2x4096x4096 ![] bcast_S_S2x8x2x4096x4096 (id (constant S_ .f32 0x00000000#32)))

/-- The output of weights. -/
def out (v : FVec Ideal S2x4096x8x128 .f32) (a : FVec Ideal B .f32) : FVec Ideal S8192x2048 .bf16 :=
  truncf .bf16 (shapeCast S8192x2048 (transpose S2x4096x8x2x128 [0, 4, 1, 3, 2] (Host.dotGeneral dot_S2x4096x8x128_S2x8x2x4096x4096_S2x8x128x2x4096_1_4_3_23_02_01 none v a) transposes_S2x8x128x2x4096_S2x4096x8x2x128_0_4_1_3_2) shapeCasts_S2x4096x8x2x128_S8192x2048) bitsLt_bf16_f32

theorem res_eq (m : (ℓ : Loc nD τ sig) → Buf (Elt Ideal) ℓ) (c : Dev nD) :
    Value.res_main_v24 m c = out (m ((c.tc : Thread nD τ).loc main_arg2)) (wts (lg (m ((c.tc : Thread nD τ).loc main_arg0)) (m ((c.tc : Thread nD τ).loc main_arg1)))) := by
  unfold Value.res_main_v24
  rfl

theorem scale_bits : Ideal.ofBits FTy.f32 1035273459#32 = ((11863283 / 134217728 : ℝ) : EReal) := by
  simp [Ideal.ofBits, Ideal.ieee, -EReal.coe_mul]
  norm_num

theorem lg_apply (q : FVec Ideal S2x4096x16x128 .f32) (k : FVec Ideal S2x4096x8x128 .f32) (b : Fin 2) (n : Fin 8) (g : Fin 2) (t s : Fin 4096) :
    lg q k (ix5 b n g t s) = (∑ d : Fin 128, k (ix4 b s n d) * q (ix4 b t ⟨n.val * 2 + g.val, by omega⟩ d)) * ((11863283 / 134217728 : ℝ) : EReal) := by
  pointwise [lg]
  rw [scale_bits]

/-- The softplus of a real number. -/
def L (r : ℝ) : ℝ := Real.log (1 + Real.exp r)

theorem L_neg (r : ℝ) : -L (-r) = r - L r := by
  unfold L
  have h : 1 + Real.exp r = Real.exp r * (1 + Real.exp (-r)) := by
    rw [mul_add, ← Real.exp_add]; simp [add_comm]
  rw [h, Real.log_mul (Real.exp_pos r).ne' (by have := Real.exp_pos (-r); positivity), Real.log_exp]
  ring

theorem L_max (r : ℝ) : max r 0 + Real.log (1 + Real.exp (-max r (-r))) = L r := by
  rcases le_total 0 r with h | h
  · rw [max_eq_left h, max_eq_left (by linarith)]
    have := L_neg r
    unfold L at this ⊢
    linarith
  · rw [max_eq_right h, max_eq_right (by linarith), neg_neg, zero_add]
    rfl

theorem log1p_coe (r : ℝ) (h : 0 < 1 + r) : Ideal.log1p ((r : ℝ) : EReal) = ((Real.log (1 + r) : ℝ) : EReal) := by
  show Ideal.log (1 + ((r : ℝ) : EReal)) = _
  rw [show (1 : EReal) + ((r : ℝ) : EReal) = ((1 + r : ℝ) : EReal) by norm_cast]
  exact if_neg (not_le.mpr h)

theorem spl_val (x : FVec Ideal B .f32) (b : Fin 2) (n : Fin 8) (g : Fin 2) (t s : Fin 4096) (r : ℝ) (h : x (ix5 b n g t s) = ((r : ℝ) : EReal)) :
    spl x (ix5 b n g t s) = ((L r : ℝ) : EReal) := by
  pointwise [spl, zeroB]
  rw [if_neg (not_not.mpr rfl), h]
  show max ((r : ℝ) : EReal) ((0 : ℝ) : EReal) + Ideal.log1p (Ideal.exp (-max ((r : ℝ) : EReal) (-((r : ℝ) : EReal)))) = _
  rw [← EReal.coe_neg, ← EReal.coe_strictMono.monotone.map_max, ← EReal.coe_strictMono.monotone.map_max, ← EReal.coe_neg]
  show _ + Ideal.log1p ((Real.exp (-max r (-r)) : ℝ) : EReal) = _
  rw [log1p_coe _ (by have := Real.exp_pos (-max r (-r)); linarith), ← EReal.coe_add, L_max]

theorem msk_apply (b : Fin 2) (n : Fin 8) (g : Fin 2) (t s : Fin 4096) :
    msk (ix5 b n g t s) = if s < t then 1#1 else 0#1 := by
  pointwise [msk]
  have hs := s.isLt
  have ht := t.isLt
  rw [WordCmp.cmpi_slt_ofNat (by omega) (by omega)]
  by_cases h : s < t
  · rw [if_pos h, decide_eq_true (by rwa [Fin.lt_def] at h)]; rfl
  · rw [if_neg h, decide_eq_false (by rwa [Fin.lt_def] at h)]; rfl

theorem sel_ite (p : Prop) [Decidable p] (a b : EReal) : Scalar.select (if p then 1#1 else 0#1) a b = if p then a else b := by
  split_ifs
  · rfl
  · rfl

theorem zero_const : (id (constant S_ FTy.f32 0#32) ix0 : Ideal .f32) = ((0 : ℝ) : EReal) := by
  show constant S_ FTy.f32 0#32 ix0 = _
  pointwise
  rfl

theorem lk_val (z : FVec Ideal B .f32) (b : Fin 2) (n : Fin 8) (g : Fin 2) (t s : Fin 4096) (r : ℝ) (h : z (ix5 b n g t s) = ((r : ℝ) : EReal)) :
    lk z (ix5 b n g t s) = ((if s.val < t.val then -L r else 0 : ℝ) : EReal) := by
  have e : spl (Host.negf (Host.negf z)) (ix5 b n g t s) = ((L r : ℝ) : EReal) :=
    spl_val _ b n g t s r (by
      show -(-z (ix5 b n g t s)) = _
      rw [neg_neg, h])
  pointwise [lk]
  rw [msk_apply, sel_ite, e, zero_const, ← EReal.coe_neg]
  by_cases hst : s < t
  · rw [if_pos hst, if_pos (by rwa [Fin.lt_def] at hst)]
  · rw [if_neg hst, if_neg (by rwa [Fin.lt_def] at hst)]

theorem foldl_sum {α : Type*} (f : α → EReal) (l : List α) (r : EReal) : l.foldl (fun r n => r + f n) r = r + (l.map f).sum := by
  induction l generalizing r with
  | nil => simp
  | cons a l ih => rw [List.foldl_cons, ih, List.map_cons, List.sum_cons, add_assoc]

/-- The window of the suffix sums. -/
abbrev W : Shape := ⟨5, ![1, 1, 1, 1, 4096]⟩

theorem sum_W (f : W.Idx → EReal) : ∑ w, f w = ∑ e : Fin 4096, f (ix5 0 0 0 0 e) := by
  symm
  refine Finset.sum_bij' (fun e _ => ix5 0 0 0 0 e) (fun w _ => w 4) (fun _ _ => Finset.mem_univ _) (fun _ _ => Finset.mem_univ _) (fun _ _ => rfl) ?_ (fun _ _ => rfl)
  intro w _
  funext a
  match a with
  | ⟨0, _⟩ => exact Subsingleton.elim (α := Fin 1) _ _
  | ⟨1, _⟩ => exact Subsingleton.elim (α := Fin 1) _ _
  | ⟨2, _⟩ => exact Subsingleton.elim (α := Fin 1) _ _
  | ⟨3, _⟩ => exact Subsingleton.elim (α := Fin 1) _ _
  | ⟨4, _⟩ => rfl

theorem cs_val (x : FVec Ideal B .f32) (b : Fin 2) (n : Fin 8) (g : Fin 2) (t s : Fin 4096) (X : ℕ → EReal) (h : ∀ p : Fin 4096, x (ix5 b n g t p) = X p.val) :
    cs x (ix5 b n g t s) = ∑ p ∈ Finset.Ico s.val 4096, X p := by
  have hb := b.isLt
  have hn := n.isLt
  have hg := g.isLt
  have ht := t.isLt
  have hs := s.isLt
  let F : W.Idx → EReal := fun w =>
    if hin : ∀ a : Fin 5, (![0, 0, 0, 0, 0] : Fin 5 → ℕ) a ≤ ((ix5 b n g t s : B.Idx) a).val * (![1, 1, 1, 1, 1] : Fin 5 → ℕ) a + (w a).val
        ∧ ((ix5 b n g t s : B.Idx) a).val * (![1, 1, 1, 1, 1] : Fin 5 → ℕ) a + (w a).val - (![0, 0, 0, 0, 0] : Fin 5 → ℕ) a < B.size a
      then x (fun a => ⟨((ix5 b n g t s : B.Idx) a).val * (![1, 1, 1, 1, 1] : Fin 5 → ℕ) a + (w a).val - (![0, 0, 0, 0, 0] : Fin 5 → ℕ) a, (hin a).2⟩) else 0
  have e1 : cs x (ix5 b n g t s) = (List.finRange W.numel).foldl (fun r m => r + F (W.rowMajor.symm m)) 0 := by
    have hz : (broadcastInDim S_ ![] bcast_S_S_ (constant S_ .f32 0x00000000#32) : FVec Ideal S_ .f32) = fun _ => (0 : EReal) := by
      funext y
      pointwise
    unfold cs Host.reduceWindowAdd
    rw [hz, Ideal.hostReduceWindowAdd_def]
    unfold Ideal.hostReduceWindowAdd Host.reduceWindow
    refine congrArg (fun f => List.foldl f (0 : EReal) (List.finRange W.numel)) ?_
    funext r m
    refine congrArg (fun e => r + e) ?_
    by_cases hin : ∀ a : Fin 5, (![0, 0, 0, 0, 0] : Fin 5 → ℕ) a ≤ ((ix5 b n g t s : B.Idx) a).val * (![1, 1, 1, 1, 1] : Fin 5 → ℕ) a + (W.rowMajor.symm m a).val
        ∧ ((ix5 b n g t s : B.Idx) a).val * (![1, 1, 1, 1, 1] : Fin 5 → ℕ) a + (W.rowMajor.symm m a).val - (![0, 0, 0, 0, 0] : Fin 5 → ℕ) a < B.size a
    · have eF : F (W.rowMajor.symm m) = x (fun a => ⟨((ix5 b n g t s : B.Idx) a).val * (![1, 1, 1, 1, 1] : Fin 5 → ℕ) a + (W.rowMajor.symm m a).val - (![0, 0, 0, 0, 0] : Fin 5 → ℕ) a, (hin a).2⟩) := by
        simp only [F]
        exact dif_pos hin
      rw [eF]
      exact dif_pos hin
    · have eF : F (W.rowMajor.symm m) = 0 := by
        simp only [F]
        exact dif_neg hin
      rw [eF]
      exact dif_neg hin
  have e2 : ∀ e : Fin 4096, F (ix5 0 0 0 0 e) = (fun e => if s.val + e < 4096 then X (s.val + e) else 0) e.val := by
    intro e
    show F (ix5 0 0 0 0 e) = if s.val + e.val < 4096 then X (s.val + e.val) else 0
    by_cases he : s.val + e.val < 4096
    · rw [if_pos he, show X (s.val + e.val) = x (ix5 b n g t ⟨s.val + e.val, he⟩) from (h ⟨_, he⟩).symm]
      have hin : ∀ a : Fin 5, (![0, 0, 0, 0, 0] : Fin 5 → ℕ) a ≤ ((ix5 b n g t s : B.Idx) a).val * (![1, 1, 1, 1, 1] : Fin 5 → ℕ) a + ((ix5 0 0 0 0 e : W.Idx) a).val
        ∧ ((ix5 b n g t s : B.Idx) a).val * (![1, 1, 1, 1, 1] : Fin 5 → ℕ) a + ((ix5 0 0 0 0 e : W.Idx) a).val - (![0, 0, 0, 0, 0] : Fin 5 → ℕ) a < B.size a := by
        intro a
        match a with
        | ⟨0, _⟩ => exact ⟨Nat.zero_le _, by show b.val * 1 + 0 - 0 < 2; omega⟩
        | ⟨1, _⟩ => exact ⟨Nat.zero_le _, by show n.val * 1 + 0 - 0 < 8; omega⟩
        | ⟨2, _⟩ => exact ⟨Nat.zero_le _, by show g.val * 1 + 0 - 0 < 2; omega⟩
        | ⟨3, _⟩ => exact ⟨Nat.zero_le _, by show t.val * 1 + 0 - 0 < 4096; omega⟩
        | ⟨4, _⟩ => exact ⟨Nat.zero_le _, by show s.val * 1 + e.val - 0 < 4096; omega⟩
      refine (dif_pos hin).trans (congrArg x ?_)
      funext a
      match a with
      | ⟨0, _⟩ => exact Fin.ext (by show b.val * 1 + 0 - 0 = b.val; omega)
      | ⟨1, _⟩ => exact Fin.ext (by show n.val * 1 + 0 - 0 = n.val; omega)
      | ⟨2, _⟩ => exact Fin.ext (by show g.val * 1 + 0 - 0 = g.val; omega)
      | ⟨3, _⟩ => exact Fin.ext (by show t.val * 1 + 0 - 0 = t.val; omega)
      | ⟨4, _⟩ => exact Fin.ext (by show s.val * 1 + e.val - 0 = s.val + e.val; omega)
    · rw [if_neg he]
      refine dif_neg fun hin => he ?_
      have := (hin 4).2
      have h' : s.val * 1 + e.val - 0 < 4096 := this
      omega
  have e3 : ∑ e ∈ Finset.range 4096, (if s.val + e < 4096 then X (s.val + e) else 0) = ∑ p ∈ Finset.Ico s.val (s.val + 4096), if p < 4096 then X p else 0 := by
    rw [Finset.sum_Ico_eq_sum_range, Nat.add_sub_cancel_left]
  rw [e1, foldl_sum, zero_add, ← Fin.sum_univ_def, Equiv.sum_comp W.rowMajor.symm F, sum_W, Finset.sum_congr rfl fun e _ => e2 e,
    Fin.sum_univ_eq_sum_range (fun e => if s.val + e < 4096 then X (s.val + e) else 0) 4096, e3, ← Finset.sum_filter]
  refine Finset.sum_congr ?_ fun _ _ => rfl
  ext p
  simp only [Finset.mem_filter, Finset.mem_Ico]
  omega

theorem coe_sum {ι : Type*} (s : Finset ι) (f : ι → ℝ) : ∑ x ∈ s, ((f x : ℝ) : EReal) = ((∑ x ∈ s, f x : ℝ) : EReal) := by
  classical
  induction s using Finset.induction_on with
  | empty => simp
  | insert a s ha ih => rw [Finset.sum_insert ha, Finset.sum_insert ha, ih, EReal.coe_add]

/-- The weight of position `s` for a query at `t`, of the row `ζ` of its logits. -/
def rwt (ζ : ℕ → ℝ) (t s : ℕ) : ℝ := Real.exp (ζ s - ∑ p ∈ Finset.Ico s t, L (ζ p))

theorem wts_val (z : FVec Ideal B .f32) (b : Fin 2) (n : Fin 8) (g : Fin 2) (t : Fin 4096) (ζ : ℕ → ℝ)
    (h : ∀ p : Fin 4096, z (ix5 b n g t p) = ((ζ p.val : ℝ) : EReal)) (s : Fin 4096) :
    wts z (ix5 b n g t s) = if s.val < t.val then ((rwt ζ t.val s.val : ℝ) : EReal) else 0 := by
  have ht := t.isLt
  have ec : cs (lk z) (ix5 b n g t s) = ((∑ p ∈ Finset.Ico s.val 4096, (if p < t.val then -L (ζ p) else 0) : ℝ) : EReal) := by
    rw [cs_val (lk z) b n g t s (fun p => ((if p < t.val then -L (ζ p) else 0 : ℝ) : EReal)) fun p => lk_val z b n g t p _ (h p)]
    exact coe_sum _ _
  have es : spl (Host.negf z) (ix5 b n g t s) = ((L (-ζ s.val) : ℝ) : EReal) :=
    spl_val _ b n g t s _ (by
      show -z (ix5 b n g t s) = _
      rw [h, EReal.coe_neg])
  pointwise [wts]
  rw [msk_apply, sel_ite, ec, es, lk_val z b n g t s _ (h s), zero_const]
  by_cases hst : s < t
  · have hst' : s.val < t.val := by rwa [Fin.lt_def] at hst
    rw [if_pos hst, if_pos hst', if_pos hst', ← EReal.coe_neg, ← EReal.coe_sub, ← EReal.coe_add]
    show ((Real.exp _ : ℝ) : EReal) = _
    unfold rwt
    refine congrArg (fun r : ℝ => ((Real.exp r : ℝ) : EReal)) ?_
    have e3 : ∑ p ∈ Finset.Ico s.val 4096, (if p < t.val then -L (ζ p) else 0) = -∑ p ∈ Finset.Ico s.val t.val, L (ζ p) := by
      rw [← Finset.sum_filter, ← Finset.sum_neg_distrib]
      refine Finset.sum_congr ?_ fun _ _ => rfl
      ext p
      simp only [Finset.mem_filter, Finset.mem_Ico]
      omega
    rw [e3, L_neg]
    ring
  · rw [if_neg hst, if_neg (by rwa [Fin.lt_def] at hst)]
    rfl

/-- The reference at an index. -/
theorem out_val (v : FVec Ideal S2x4096x8x128 .f32) (z : FVec Ideal B .f32) (b : Fin 2) (n : Fin 8) (g : Fin 2) (t : Fin 4096) (d : Fin 128) (ζ : ℕ → ℝ)
    (h : ∀ p : Fin 4096, z (ix5 b n g t p) = ((ζ p.val : ℝ) : EReal)) (vN : ℕ → EReal) (hv : ∀ p : Fin 4096, v (ix4 b p n d) = vN p.val)
    (R : Fin 8192) (C : Fin 2048) (hR : R.val = b.val * 4096 + t.val) (hC : C.val = n.val * 256 + g.val * 128 + d.val) :
    out v (wts z) (ix2 R C) = ∑ p ∈ Finset.Ico 0 t.val, vN p * ((rwt ζ t.val p : ℝ) : EReal) := by
  have hb := b.isLt
  have hn := n.isLt
  have hg := g.isLt
  have ht := t.isLt
  have hd := d.isLt
  have e : out v (wts z) (ix2 R C) = ∑ x : Fin 4096, v (ix4 b x n d) * wts z (ix5 b n g t x) := by
    pointwise [out]
    refine Finset.sum_congr rfl fun x _ => congrArg₂ (· * ·) (congrArg v ?_) (congrArg (wts z) ?_)
    · funext a
      match a with
      | ⟨0, _⟩ => exact Fin.ext (by show R.val / 4096 = b.val; omega)
      | ⟨1, _⟩ => rfl
      | ⟨2, _⟩ => exact Fin.ext (by show C.val / 256 = n.val; omega)
      | ⟨3, _⟩ => exact Fin.ext (by show C.val % 128 = d.val; omega)
    · funext a
      match a with
      | ⟨0, _⟩ => exact Fin.ext (by show R.val / 4096 = b.val; omega)
      | ⟨1, _⟩ => exact Fin.ext (by show C.val / 256 = n.val; omega)
      | ⟨2, _⟩ => exact Fin.ext (by show C.val / 128 % 2 = g.val; omega)
      | ⟨3, _⟩ => exact Fin.ext (by show R.val % 4096 = t.val; omega)
      | ⟨4, _⟩ => rfl
  have e2 : ∀ x : Fin 4096, v (ix4 b x n d) * wts z (ix5 b n g t x) = (fun p => if p < t.val then vN p * ((rwt ζ t.val p : ℝ) : EReal) else 0) x.val := by
    intro x
    rw [wts_val z b n g t ζ h x, hv]
    show _ = if x.val < t.val then _ else _
    split_ifs
    · rfl
    · exact mul_zero _
  rw [e, Finset.sum_congr rfl fun x _ => e2 x, Fin.sum_univ_eq_sum_range (fun p => if p < t.val then vN p * ((rwt ζ t.val p : ℝ) : EReal) else 0) 4096, ← Finset.sum_filter]
  refine Finset.sum_congr ?_ fun _ _ => rfl
  ext p
  simp only [Finset.mem_filter, Finset.mem_range, Finset.mem_Ico]
  omega

end Cert.Proof.Ref

end
-- ==== Proof.Algebraic.lean ====
/-
  The kernel and the reference at extended reals: of finite queries and keys the two result arrays are equal.
-/
module

public import proofs.«01_k».proof.Defs
public import proofs.«01_k».proof.Proof.KI.Value
public import proofs.«01_k».proof.Proof.Ref
public import Idealize.ShloMosaic.Lib.ReduceAll

@[expose] public section

set_option maxRecDepth 16384

noncomputable section

namespace Cert.Proof

open Idealize.ShloMosaic Idealize.ShloMosaic.TcCoe Idealize.SL.Sem Finset

/-- The base-2 weights of base-2 logits are the natural ones of natural logits. -/
theorem wt_eq (ζ : ℕ → ℝ) (e p : ℕ) : KI.wt (fun x => ζ x * (Real.log 2)⁻¹) e p = Ref.rwt ζ e p := by
  have h2 : Real.log 2 ≠ 0 := (Real.log_pos (by norm_num)).ne'
  have e2 : ∀ y : ℝ, Real.rpow 2 y = Real.exp (Real.log 2 * y) := fun y => Real.rpow_def_of_pos (by norm_num) y
  have es : ∀ x : ℕ, KI.sp (ζ x * (Real.log 2)⁻¹) = Ref.L (ζ x) * (Real.log 2)⁻¹ := by
    intro x
    unfold KI.sp Ref.L
    rw [e2, show Real.log 2 * (ζ x * (Real.log 2)⁻¹) = ζ x by field_simp]
  unfold KI.wt Ref.rwt
  rw [e2]
  simp only [es]
  rw [← Finset.sum_mul]
  congr 1
  field_simp

/-! ## The precondition read -/

theorem real_of_abs_lt (x : EReal) (h : max x (-x) < ⊤) : ∃ r : ℝ, x = (r : EReal) := by
  induction x using EReal.rec with
  | bot => simp at h
  | top => simp at h
  | coe r => exact ⟨r, rfl⟩

theorem inf_bits : Ideal.ofBits FTy.f32 0x7F800000#32 = ⊤ := by
  simp [Ideal.ofBits, Ideal.ieee]

instance : Subsingleton Cert.Pre_finite.S_.Idx := ⟨fun a b => funext fun i => i.elim0⟩

theorem pre_read [Cert.Pre_finite.Facts] (q : FVec Ideal Cert.Pre_finite.S2x4096x16x128 .f32) (k v : FVec Ideal Cert.Pre_finite.S2x4096x8x128 .f32)
    (h : Cert.Pre_finite.fn q k v = fun _ => 1#1) : (∀ y, ∃ r : ℝ, q y = (r : EReal)) ∧ ∀ y, ∃ r : ℝ, k y = (r : EReal) := by
  have h0 := congrFun h (fun i => i.elim0)
  unfold Cert.Pre_finite.fn at h0
  obtain ⟨h1, h2⟩ := IntOp.andi_eq_one.1 h0
  have key : ∀ x : EReal, Scalar.cmpf (F := Ideal) (φ := .f32) .olt (max x (-x)) (Ideal.ofBits FTy.f32 0x7F800000#32) = 1#1 → ∃ r : ℝ, x = (r : EReal) := by
    intro x hx
    rw [inf_bits] at hx
    refine real_of_abs_lt x ?_
    by_contra hn
    revert hx
    show ¬ (BitVec.ofBool (decide (max x (-x) < ⊤)) = 1#1)
    rw [decide_eq_false hn]
    decide
  exact ⟨fun y => key _ (Host.reduce_andi_all _ _ _ _ _ h1 y), fun y => key _ (Host.reduce_andi_all _ _ _ _ _ h2 y)⟩

/-! ## The results -/

theorem result_eq (m : (ℓ : Loc Cert.KernelIdeal.nD Cert.KernelIdeal.τ Cert.KernelIdeal.sig) → Buf (Elt Ideal) ℓ) (c : Dev Cert.KernelIdeal.nD)
    (q : FVec Ideal Cert.KernelIdeal.S2x4096x16x128 .f32) (k v : FVec Ideal Cert.KernelIdeal.S2x4096x8x128 .f32)
    (eq : m ((c : Thread Cert.KernelIdeal.nD Cert.KernelIdeal.τ).loc Cert.KernelIdeal.main_arg0) = q)
    (ek : m ((c : Thread Cert.KernelIdeal.nD Cert.KernelIdeal.τ).loc Cert.KernelIdeal.main_arg1) = k)
    (ev : m ((c : Thread Cert.KernelIdeal.nD Cert.KernelIdeal.τ).loc Cert.KernelIdeal.main_arg2) = v)
    (hq : ∀ y, ∃ r : ℝ, q y = (r : EReal)) (hk : ∀ y, ∃ r : ℝ, k y = (r : EReal)) :
    Ref.out v (Ref.wts (Ref.lg q k)) = ((KI.dats m 0 c).arrAt 4 (Cert.KernelIdeal.cfg0 (F := Ideal)).N : FVec Ideal Cert.KernelIdeal.S8192x2048 .bf16) := by
  choose qr hqr using hq
  choose kr hkr using hk
  funext y
  obtain ⟨R, C, rfl⟩ : ∃ (R : Fin 8192) (C : Fin 2048), y = ix2 R C := ⟨y 0, y 1, by
    funext a
    match a with
    | ⟨0, _⟩ => rfl
    | ⟨1, _⟩ => rfl⟩
  have hR := R.isLt
  have hC := C.isLt
  let b : Fin 2 := ⟨R.val / 4096, by omega⟩
  let t : Fin 4096 := ⟨R.val % 4096, by omega⟩
  let hh : Fin 16 := ⟨C.val / 128, by omega⟩
  let n : Fin 8 := ⟨C.val / 256, by omega⟩
  let g : Fin 2 := ⟨C.val / 128 % 2, by omega⟩
  let d : Fin 128 := ⟨C.val % 128, by omega⟩
  let ζ : ℕ → ℝ := fun p => if hp : p < 4096 then (∑ x : Fin 128, kr (ix4 b ⟨p, hp⟩ n x) * qr (ix4 b t hh x)) * (11863283 / 134217728) else 0
  have en : ∀ hn, (⟨hh.val / 2, hn⟩ : Fin 8) = n := fun _ => Fin.ext (by show C.val / 128 / 2 = C.val / 256; omega)
  have eZ : KI.Zg qr kr b hh t = fun p => ζ p * (Real.log 2)⁻¹ := by
    funext p
    show KI.Zg qr kr b hh t p = (if hp : p < 4096 then (∑ x : Fin 128, kr (ix4 b ⟨p, hp⟩ n x) * qr (ix4 b t hh x)) * (11863283 / 134217728) else 0) * (Real.log 2)⁻¹
    unfold KI.Zg KI.sclR
    by_cases hp : p < 4096
    · rw [dif_pos hp, dif_pos hp, Finset.sum_mul, Finset.sum_mul, en]
      exact Finset.sum_congr rfl fun x _ => by ring
    · rw [dif_neg hp, dif_neg hp, zero_mul]
  have e1 := KI.kernel_val m c qr kr (fun y => (congrFun eq y).trans (hqr y)) (fun y => (congrFun ek y).trans (hkr y)) b t hh d R C
    (by show R.val = R.val / 4096 * 4096 + R.val % 4096; omega) (by show C.val = C.val / 128 * 128 + C.val % 128; omega)
  rw [eZ, ev] at e1
  simp only [wt_eq] at e1
  refine Eq.trans ?_ e1.symm
  refine Ref.out_val v _ b n g t d ζ ?_ _ ?_ R C (by show R.val = R.val / 4096 * 4096 + R.val % 4096; omega)
    (by show C.val = C.val / 256 * 256 + C.val / 128 % 2 * 128 + C.val % 128; omega)
  · intro p
    rw [Ref.lg_apply]
    show _ = (((if hp : p.val < 4096 then (∑ x : Fin 128, kr (ix4 b ⟨p.val, hp⟩ n x) * qr (ix4 b t hh x)) * (11863283 / 134217728) else 0 : ℝ)) : EReal)
    rw [dif_pos p.isLt, EReal.coe_mul, ← Ref.coe_sum]
    refine congrArg (· * ((11863283 / 134217728 : ℝ) : EReal)) (Finset.sum_congr rfl fun x _ => ?_)
    have eh : ∀ hn, (⟨n.val * 2 + g.val, hn⟩ : Fin 16) = hh := fun _ => Fin.ext (by show C.val / 256 * 2 + C.val / 128 % 2 = C.val / 128; omega)
    rw [EReal.coe_mul, ← hkr, ← hqr, eh]
  · intro p
    unfold KI.vG
    rw [dif_pos p.isLt, en]

theorem algebraic [Cert.Pre_finite.Facts] : algebraic_KernelIdeal_ReferenceIdeal_pre_finite := by
  intro m g m' g' hpre hargs
  refine ⟨fun c => (KI.dats m 0 c).arrAt 4 (Cert.KernelIdeal.cfg0 (F := Ideal)).N, KI.run_out m g, ?_⟩
  refine (θ_run Cert.ReferenceIdeal.defs _ _).mono (fun r h c => ⟨(h c).1.trans ?_, (h c).2⟩) (Cert.ReferenceIdeal.Value.run m' g')
  obtain ⟨e0, e1, e2⟩ := hargs c
  obtain ⟨hq, hk⟩ := pre_read _ _ _ (hpre c)
  refine (Ref.res_eq m' c).trans ?_
  exact result_eq m c _ _ _ e0.symm e1.symm e2.symm (e0 ▸ hq) (e1 ▸ hk)

end Cert.Proof

end
-- ==== Proof.Ffn.Body.lean ====
/-
  The kernel's body at a grid point, at any float values: the runs that store the weights' tiles and the runs that find them.
-/
module

public import proofs.«01_k».proof.Proof.Gen.KernelFfnIdeal.Launch
public import proofs.«01_k».proof.Proof.Gen.KernelFfnIdeal.Points
public import proofs.«01_k».proof.Proof.Gen.KernelFfnIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.Proof.Ffn

open Cert.KernelFfnIdeal Cert.KernelFfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A load of a whole memref reads what it holds. -/
theorem ld_full {s : Shape} {e : EltTy} {a : Memref sig .tc .vmem s e} (ha : a.IsWhole) (x : s.Idx → Elt F e) {off : Fin s.rank → ℕ} (inb : ∀ b, off b + s.size b ≤ s.size b) :
    a.view.readAt (Elt F) (Rect.unit off s.size inb).toLoadRect (ha.unread x) = x :=
  (View.readAt_full _ _ _).trans (ha.read_unread x)

theorem congr3 {α β γ δ : Type} (f : α → β → γ → δ) {a a' : α} {b b' : β} {c c' : γ} (ha : a = a') (hb : b = b') (hc : c = c') : f a b c = f a' b' c' := by
  subst ha hb hc; rfl

/-! ## The two runs of the body -/

set_option maxHeartbeats 1000000 in
/-- Where the point's second coordinate is 0 the body stores the weights' tiles and the samples' block, then the prompt's block. -/
theorem body_first (c : Dev nD) (i : grid0.Coords) (arg2 : Memref sig .tc .vmem S1024x2048 .bf16) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S32x2048 .bf16) (harg5 : arg5.IsWhole) (arg6 : Memref sig .tc .vmem S1024x512 .bf16) (harg6 : arg6.IsWhole) (arg7 : Memref sig .tc .vmem S32x512 .bf16) (harg7 : arg7.IsWhole) (arg8 : Memref sig .tc .vmem S2048x512 .bf16) (harg8 : arg8.IsWhole) (arg9 : Memref sig .tc .vmem S2048x512 .bf16) (harg9 : arg9.IsWhole) (hc : k0_cond1 i = 1#1)
    (x0 : Vec F S1024x2048 .bf16) (x1 : Vec F S1x2048x512 .f32) (x2 : Vec F S1x2048x512 .f32) (x3 : Vec F S32x2048 .bf16) (E : Set ℕ) (K : PUnit → sProp 𝕄) :
    iprop(owns (c : Thread nD τ) arg2 fullShare (x0) ∗ owns (c : Thread nD τ) arg3 fullShare (x1) ∗ owns (c : Thread nD τ) arg4 fullShare (x2) ∗ owns (c : Thread nD τ) arg5 fullShare (x3) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare (x0) ∗ owns (c : Thread nD τ) arg3 fullShare (x1) ∗ owns (c : Thread nD τ) arg4 fullShare (x2) ∗ owns (c : Thread nD τ) arg5 fullShare (x3) ∗ owns (c : Thread nD τ) arg6 fullShare (k0_pay4 x0 (k0_pay1 x1) (k0_pay2 x2)) ∗ owns (c : Thread nD τ) arg7 fullShare (k0_pay3 x3 (k0_pay1 x1) (k0_pay2 x2)) ∗ owns (c : Thread nD τ) arg8 fullShare ((k0_pay1 x1)) ∗ owns (c : Thread nD τ) arg9 fullShare ((k0_pay2 x2))) -∗ K ⟨⟩))
      ⊢ wp frame (wpE (defs₀ (F := F)) Variants.none c none) E (cc0_swiglu i arg2 harg2 arg3 harg3 arg4 harg4 arg5 harg5 arg6 harg6 arg7 harg7 arg8 harg8 arg9 harg9) K := by
  simp only [cc0_swiglu_eq_skeleton]; unfold cc0_swiglu_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, Hk⟩
  obtain rfl := harg2.eq_unread hf0; obtain rfl := harg3.eq_unread hf1; obtain rfl := harg4.eq_unread hf2; obtain rfl := harg5.eq_unread hf3
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro; sl_unfold_run_names; exact (View.read_writes_full _ _ _ _ _).trans (congr3 k0_pay4 (ld_full harg2 _ _) ((View.readCov_full _ _ _ _ _).trans (congrArg k0_pay1 (ld_full harg3 _ _))) ((View.readCov_full _ _ _ _ _).trans (congrArg k0_pay2 (ld_full harg4 _ _))))
  isplitl [H5]
  · iexists _; isplitr
    swap; · iexact H5
    ipureintro; sl_unfold_run_names; exact (View.read_writes_full _ _ _ _ _).trans (congr3 k0_pay3 (ld_full harg5 _ _) ((View.readCov_full _ _ _ _ _).trans (congrArg k0_pay1 (ld_full harg3 _ _))) ((View.readCov_full _ _ _ _ _).trans (congrArg k0_pay2 (ld_full harg4 _ _))))
  isplitl [H6]
  · iexists _; isplitr
    swap; · iexact H6
    ipureintro; sl_unfold_run_names; exact (View.read_writes_full _ _ _ _ _).trans (congrArg k0_pay1 (ld_full harg3 _ _))
  iexists _; isplitr
  swap; · iexact H7
  ipureintro; sl_unfold_run_names; exact (View.read_writes_full _ _ _ _ _).trans (congrArg k0_pay2 (ld_full harg4 _ _))

set_option maxHeartbeats 1000000 in
/-- Elsewhere it finds the tiles and stores the prompt's block alone. -/
theorem body_later (c : Dev nD) (i : grid0.Coords) (arg2 : Memref sig .tc .vmem S1024x2048 .bf16) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S32x2048 .bf16) (harg5 : arg5.IsWhole) (arg6 : Memref sig .tc .vmem S1024x512 .bf16) (harg6 : arg6.IsWhole) (arg7 : Memref sig .tc .vmem S32x512 .bf16) (harg7 : arg7.IsWhole) (arg8 : Memref sig .tc .vmem S2048x512 .bf16) (harg8 : arg8.IsWhole) (arg9 : Memref sig .tc .vmem S2048x512 .bf16) (harg9 : arg9.IsWhole) (hc : ¬ k0_cond1 i = 1#1)
    (x0 : Vec F S1024x2048 .bf16) (x1 : Vec F S1x2048x512 .f32) (x2 : Vec F S1x2048x512 .f32) (x3 : Vec F S32x2048 .bf16) (z : Vec F S32x512 .bf16) (y0 : Vec F S2048x512 .bf16) (y1 : Vec F S2048x512 .bf16) (E : Set ℕ) (K : PUnit → sProp 𝕄) :
    iprop(owns (c : Thread nD τ) arg2 fullShare (x0) ∗ owns (c : Thread nD τ) arg3 fullShare (x1) ∗ owns (c : Thread nD τ) arg4 fullShare (x2) ∗ owns (c : Thread nD τ) arg5 fullShare (x3) ∗ (∃ d, owns (c : Thread nD τ) arg6 fullShare d) ∗ owns (c : Thread nD τ) arg7 fullShare (z) ∗ owns (c : Thread nD τ) arg8 fullShare (y0) ∗ owns (c : Thread nD τ) arg9 fullShare (y1)
        ∗ (iprop(owns (c : Thread nD τ) arg2 fullShare (x0) ∗ owns (c : Thread nD τ) arg3 fullShare (x1) ∗ owns (c : Thread nD τ) arg4 fullShare (x2) ∗ owns (c : Thread nD τ) arg5 fullShare (x3) ∗ owns (c : Thread nD τ) arg6 fullShare (k0_pay4 x0 y0 y1) ∗ owns (c : Thread nD τ) arg7 fullShare (z) ∗ owns (c : Thread nD τ) arg8 fullShare (y0) ∗ owns (c : Thread nD τ) arg9 fullShare (y1)) -∗ K ⟨⟩))
      ⊢ wp frame (wpE (defs₀ (F := F)) Variants.none c none) E (cc0_swiglu i arg2 harg2 arg3 harg3 arg4 harg4 arg5 harg5 arg6 harg6 arg7 harg7 arg8 harg8 arg9 harg9) K := by
  simp only [cc0_swiglu_eq_skeleton]; unfold cc0_swiglu_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%f7, %hf7, H7⟩, Hk⟩
  obtain rfl := harg2.eq_unread hf0; obtain rfl := harg3.eq_unread hf1; obtain rfl := harg4.eq_unread hf2; obtain rfl := harg5.eq_unread hf3; obtain rfl := harg7.eq_unread hf5; obtain rfl := harg8.eq_unread hf6; obtain rfl := harg9.eq_unread hf7
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro; sl_unfold_run_names; exact (View.read_writes_full _ _ _ _ _).trans (congr3 k0_pay4 (ld_full harg2 _ _) (ld_full harg8 _ _) (ld_full harg9 _ _))
  isplitl [H5]
  · iexists _; isplitr; · ipureintro; exact harg7.read_unread _
    iexact H5
  isplitl [H6]
  · iexists _; isplitr; · ipureintro; exact harg8.read_unread _
    iexact H6
  iexists _; isplitr; · ipureintro; exact harg9.read_unread _
  iexact H7

end Cert.Proof.Ffn

end
-- ==== Proof.Ffn.Frame.lean ====
/-
  The launch at any float values: what a grid point leaves in the two outputs' blocks, the pipeline's proof data, the body
  at any point, the run of the whole program, and the two output arrays after it, block by block.

  A point leaves the tiles of the weights that belong to its first coordinate, so every point of one column of the grid
  finds and leaves the same tiles, and the samples' block stored at the column's first point stays what it is to the last.
-/
module

public import proofs.«01_k».proof.Proof.Ffn.Body
public import Idealize.ShloMosaic.Lib.Claim
public import Idealize.ShloMosaic.Lib.Pipeline.Frame
public import Idealize.ShloMosaic.Lib.Pipeline.Cells
public import Idealize.ShloMosaic.Lib.Pipeline.Value
public import Idealize.ShloMosaic.Lib.Pipeline.TableIdle

@[expose] public section

set_option maxRecDepth 16384

noncomputable section

namespace Cert.Proof.Ffn

open Cert.KernelFfnIdeal Cert.KernelFfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host's operations before the launch -/

/-- Core `c`'s arrays as the launch finds them. -/
abbrev V (c : Dev nD) (b : Ref sig .tc) : Buf (Elt F) ((c : Thread nD τ).loc b) := StableHlo.after hostOps0 (fun b => m (c, b)) b

theorem host_fresh : (hostOps0 : List (HloOp τ sig (Elt F))).Forall fun op => op.fresh = ∅ := by
  simp only [List.Forall]; repeat' constructor

set_option maxHeartbeats 800000 in
theorem host_main (W : Variants) : Pipeline.HMain (Ix := Unit) (Name := ℕ) (U := UR sig nD τ) (Lvl := ℕ) cfgs 0 defs₀ W m (main (F := F)) (V m) :=
  Pipeline.hmain_prefix cfgs 0 defs₀ W m main hostOps0 hostOps0_sub host_fresh main_chain

theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

theorem V_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

/-! ## The blocks -/

/-- Window `w`'s block at point `t`, off its array as the launch finds it. -/
def blkIn (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

abbrev st0 (t : Fin cfg0.N) : Memref sig .tc .vmem S1024x2048 .bf16 := win0_0.stage (cfg0.slots t 0)
abbrev st1 (t : Fin cfg0.N) : Memref sig .tc .vmem S1x2048x512 .f32 := win0_1.stage (cfg0.slots t 1)
abbrev st2 (t : Fin cfg0.N) : Memref sig .tc .vmem S1x2048x512 .f32 := win0_2.stage (cfg0.slots t 2)
abbrev st3 (t : Fin cfg0.N) : Memref sig .tc .vmem S32x2048 .bf16 := win0_3.stage (cfg0.slots t 3)
abbrev st4 (t : Fin cfg0.N) : Memref sig .tc .vmem S1024x512 .bf16 := win0_4.stage (cfg0.slots t 4)
abbrev st5 (t : Fin cfg0.N) : Memref sig .tc .vmem S32x512 .bf16 := win0_5.stage (cfg0.slots t 5)
abbrev scr0 : Memref sig .tc .vmem S2048x512 .bf16 := Memref.whole cc0_scratch0
abbrev scr1 : Memref sig .tc .vmem S2048x512 .bf16 := Memref.whole cc0_scratch1

/-- Input 0's block at point `t`. -/
abbrev in0 (c : Dev nD) (t : Fin cfg0.N) : Vec F S1024x2048 .bf16 := blkIn m c 0 t
/-- Input 1's block at point `t`. -/
abbrev in1 (c : Dev nD) (t : Fin cfg0.N) : Vec F S1x2048x512 .f32 := blkIn m c 1 t
/-- Input 2's block at point `t`. -/
abbrev in2 (c : Dev nD) (t : Fin cfg0.N) : Vec F S1x2048x512 .f32 := blkIn m c 2 t
/-- Input 3's block at point `t`. -/
abbrev in3 (c : Dev nD) (t : Fin cfg0.N) : Vec F S32x2048 .bf16 := blkIn m c 3 t

/-- The tile of the weights point `t` leaves in scratch 0. -/
def tile0 (c : Dev nD) (t : Fin cfg0.N) : Vec F S2048x512 .bf16 := k0_pay1 (in1 m c t)
/-- The tile of the weights point `t` leaves in scratch 1. -/
def tile1 (c : Dev nD) (t : Fin cfg0.N) : Vec F S2048x512 .bf16 := k0_pay2 (in2 m c t)
/-- What point `t` leaves in the prompt's block. -/
def outP (c : Dev nD) (t : Fin cfg0.N) : Vec F S1024x512 .bf16 := k0_pay4 (in0 m c t) (tile0 m c t) (tile1 m c t)
/-- What point `t` leaves in the samples' block. -/
def outS (c : Dev nD) (t : Fin cfg0.N) : Vec F S32x512 .bf16 := k0_pay3 (in3 m c t) (tile0 m c t) (tile1 m c t)

theorem inv_eq (c : Dev nD) :
    (Pipeline.ΦA spec0 c : sProp 𝕄)
      = iprop(iprop((∃ d, owns (c : Thread nD τ) scr0 fullShare d) ∗ (∃ d, owns (c : Thread nD τ) scr1 fullShare d)) ∗ (∃ r, prngReg c r)) := by
  unfold Pipeline.ΦA; rw [scopedRest0_eq]; simp only [scr0, scr1, owns_whole]; try rfl

/-- The invariant before point `n`: the scratch at anything before the first, and after point `n` at that point's tiles. -/
def Inv (c : Dev nD) : (n : ℕ) → n ≤ cfg0.N → sProp 𝕄
  | 0, _ => Pipeline.ΦA spec0 c
  | n + 1, hn => iprop(iprop(owns (c : Thread nD τ) scr0 fullShare (tile0 m c ⟨n, hn⟩) ∗ owns (c : Thread nD τ) scr1 fullShare (tile1 m c ⟨n, hn⟩)) ∗ (∃ r, prngReg c r))

theorem Inv_zero (c : Dev nD) (n : ℕ) (h : n ≤ cfg0.N) (hz : n = 0) : Inv m c n h = Pipeline.ΦA spec0 c := by subst hz; rfl

theorem Inv_pos (c : Dev nD) (n : ℕ) (h : n ≤ cfg0.N) (hz : n ≠ 0) :
    Inv m c n h = iprop(iprop(owns (c : Thread nD τ) scr0 fullShare (tile0 m c ⟨n - 1, by omega⟩) ∗ owns (c : Thread nD τ) scr1 fullShare (tile1 m c ⟨n - 1, by omega⟩)) ∗ (∃ r, prngReg c r)) := by
  cases n with
  | zero => exact absurd rfl hz
  | succ k => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => blkIn m c 0 t
    | ⟨1, _⟩ => blkIn m c 1 t
    | ⟨2, _⟩ => blkIn m c 2 t
    | ⟨3, _⟩ => blkIn m c 3 t
    | ⟨4, _⟩ => outP m c t
    | ⟨5, _⟩ => outS m c t
  Φ t := Inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem inv_before (c : Dev nD) (t : Fin cfg0.N) : (dats m 0 c).Φ t.castSucc = Inv m c t.val (Nat.le_of_lt t.isLt) := by
  dsimp only [dats]; exact Pipeline.Dat.Φ_castSucc (Inv m c) t

theorem after4 (c : Dev nD) (t : Fin cfg0.N) : (dats m 0 c).after 4 t = outP m c t := by dsimp only [dats]
theorem after5 (c : Dev nD) (t : Fin cfg0.N) : (dats m 0 c).after 5 t = outS m c t := by dsimp only [dats]
theorem after0 (c : Dev nD) (t : Fin cfg0.N) : (dats m 0 c).after 0 t = blkIn m c 0 t := by dsimp only [dats]
theorem before0 (c : Dev nD) (t : Fin cfg0.N) (d) : (dats m 0 c).before 0 t d = blkIn m c 0 t :=
  ((dats m 0 c).before_in_eq_fetched 0 rfl (fun _ => rfl) (fun _ _ _ => rfl) (fun t => by rw [after0]; unfold Dat.blockOf blkIn; rw [A_eq]; try rfl) t d).trans
    (by unfold Dat.fetched Dat.blockOf blkIn; rw [A_eq]; try rfl)
theorem after1 (c : Dev nD) (t : Fin cfg0.N) : (dats m 0 c).after 1 t = blkIn m c 1 t := by dsimp only [dats]
theorem before1 (c : Dev nD) (t : Fin cfg0.N) (d) : (dats m 0 c).before 1 t d = blkIn m c 1 t :=
  ((dats m 0 c).before_in_eq_fetched 1 rfl (fun _ => rfl) (fun _ _ _ => rfl) (fun t => by rw [after1]; unfold Dat.blockOf blkIn; rw [A_eq]; try rfl) t d).trans
    (by unfold Dat.fetched Dat.blockOf blkIn; rw [A_eq]; try rfl)
theorem after2 (c : Dev nD) (t : Fin cfg0.N) : (dats m 0 c).after 2 t = blkIn m c 2 t := by dsimp only [dats]
theorem before2 (c : Dev nD) (t : Fin cfg0.N) (d) : (dats m 0 c).before 2 t d = blkIn m c 2 t :=
  ((dats m 0 c).before_in_eq_fetched 2 rfl (fun _ => rfl) (fun _ _ _ => rfl) (fun t => by rw [after2]; unfold Dat.blockOf blkIn; rw [A_eq]; try rfl) t d).trans
    (by unfold Dat.fetched Dat.blockOf blkIn; rw [A_eq]; try rfl)
theorem after3 (c : Dev nD) (t : Fin cfg0.N) : (dats m 0 c).after 3 t = blkIn m c 3 t := by dsimp only [dats]
theorem before3 (c : Dev nD) (t : Fin cfg0.N) (d) : (dats m 0 c).before 3 t d = blkIn m c 3 t :=
  ((dats m 0 c).before_in_eq_fetched 3 rfl (fun _ => rfl) (fun _ _ _ => rfl) (fun t => by rw [after3]; unfold Dat.blockOf blkIn; rw [A_eq]; try rfl) t d).trans
    (by unfold Dat.fetched Dat.blockOf blkIn; rw [A_eq]; try rfl)

/-! ## The columns of the grid -/

theorem points : cfg0.N = 88 := N_0

/-- The body stores the tiles at the points that begin a column. -/
theorem cond_iff : ∀ t : Fin cfg0.N, k0_cond1 (grid0.coords t) = 1#1 ↔ t.val % 8 = 0 :=
  (by decide +kernel : ∀ t : Fin grid0.N, k0_cond1 (grid0.coords t) = 1#1 ↔ t.val % 8 = 0)

/-- The point before `t`. -/
abbrev prev (t : Fin cfg0.N) : Fin cfg0.N := ⟨t.val - 1, Nat.lt_of_le_of_lt (Nat.sub_le _ _) t.isLt⟩

theorem carry1 (c : Dev nD) (t : Fin cfg0.N) (h : t.val % 8 ≠ 0) : in1 m c t = in1 m c (prev t) := by
  have hf : (cfg0.win 1).fetch t = false := Bool.eq_false_iff.mpr fun hh => h (by have := (fetch0_1 t).mp hh; omega)
  have e1 := (dats m 0 c).before_unfetched_in 1 rfl t hf (fun _ => rfl) (in1 m c t)
  rw [before1] at e1
  exact e1.trans ((Pipeline.fill_of_clip_none 1 _ (fun _ => rfl) _ ((dats m 0 c).after 1 (prev t)) _).trans (((cfg0.win 1).fill_cut _ _).trans (after1 m c (prev t))))

theorem carry2 (c : Dev nD) (t : Fin cfg0.N) (h : t.val % 8 ≠ 0) : in2 m c t = in2 m c (prev t) := by
  have hf : (cfg0.win 2).fetch t = false := Bool.eq_false_iff.mpr fun hh => h (by have := (fetch0_2 t).mp hh; omega)
  have e1 := (dats m 0 c).before_unfetched_in 2 rfl t hf (fun _ => rfl) (in2 m c t)
  rw [before2] at e1
  exact e1.trans ((Pipeline.fill_of_clip_none 2 _ (fun _ => rfl) _ ((dats m 0 c).after 2 (prev t)) _).trans (((cfg0.win 2).fill_cut _ _).trans (after2 m c (prev t))))

theorem carry3 (c : Dev nD) (t : Fin cfg0.N) (h : t.val % 8 ≠ 0) : in3 m c t = in3 m c (prev t) := by
  have hf : (cfg0.win 3).fetch t = false := Bool.eq_false_iff.mpr fun hh => h (by have := (fetch0_3 t).mp hh; omega)
  have e1 := (dats m 0 c).before_unfetched_in 3 rfl t hf (fun _ => rfl) (in3 m c t)
  rw [before3] at e1
  exact e1.trans ((Pipeline.fill_of_clip_none 3 _ (fun _ => rfl) _ ((dats m 0 c).after 3 (prev t)) _).trans (((cfg0.win 3).fill_cut _ _).trans (after3 m c (prev t))))

theorem carry_tile0 (c : Dev nD) (t : Fin cfg0.N) (h : t.val % 8 ≠ 0) : tile0 m c t = tile0 m c (prev t) := by
  unfold tile0; rw [carry1 m c t h]

theorem carry_tile1 (c : Dev nD) (t : Fin cfg0.N) (h : t.val % 8 ≠ 0) : tile1 m c t = tile1 m c (prev t) := by
  unfold tile1; rw [carry2 m c t h]

theorem carry_out (c : Dev nD) (t : Fin cfg0.N) (h : t.val % 8 ≠ 0) : outS m c t = outS m c (prev t) := by
  unfold outS; rw [carry3 m c t h, carry_tile0 m c t h, carry_tile1 m c t h]

theorem idle_iff (t : Fin cfg0.N) : cfg0.idle 5 (cfg0.grid.coords t) = true ↔ t.val % 8 ≠ 0 := by
  show (!(k0_cond1 (grid0.coords t) == 1#1)) = true ↔ _
  rw [Bool.not_eq_true', beq_eq_false_iff_ne, ne_eq, cond_iff t]

theorem fresh_first (t : Fin cfg0.N) (h : cfg0.fresh 5 t.val = true) : t.val % 8 = 0 := by
  obtain ⟨n, hn⟩ := t
  induction n with
  | zero => rfl
  | succ k ih =>
    have hk : k < cfg0.N := by omega
    have hN : cfg0.N = 88 := points
    by_contra hc
    change ¬ (k + 1) % 8 = 0 at hc
    change cfg0.fresh 5 (k + 1) = true at h
    rw [Pipeline.Cfg.fresh_succ cfg0 5 k hk, Bool.or_eq_true, Bool.and_eq_true] at h
    rcases h with h | ⟨h1, h2⟩
    · have := (flush0_5 ⟨k, hk⟩).mp h
      change k % 8 = 7 at this
      omega
    · exact (idle_iff ⟨k, hk⟩).mp h1 (ih hk h2)

/-- Inside a column the samples' block is what the column's first point stored. -/
theorem before5 (c : Dev nD) (t : Fin cfg0.N) (h : t.val % 8 ≠ 0) (d) : (dats m 0 c).before 5 t d = outS m c t := by
  have hfr : cfg0.fresh 5 t.val = false := Bool.eq_false_iff.mpr fun hh => h (fresh_first t hh)
  have e := (dats m 0 c).before_out_traj 5 rfl (fun _ _ => rfl)
    (fun t _ hi _ => by rw [after5, after5]; exact carry_out m c t ((idle_iff t).mp hi)) t.val t rfl d
  rw [e, if_neg (by rw [hfr]; exact Bool.false_ne_true), after5]
  exact (carry_out m c t h).symm

/-! ## The body at any point -/

def pointPre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d)))

def pointPost (c : Dev nD) (t : Fin cfg0.N) : sProp 𝕄 :=
  iprop((dats m 0 c).Φ t.succ ∗ (dats m 0 c).owesAt () t.succ
    ∗ owns (c : Thread nD τ) (st0 t) fullShare ((dats m 0 c).after 0 t)
    ∗ owns (c : Thread nD τ) (st1 t) fullShare ((dats m 0 c).after 1 t)
    ∗ owns (c : Thread nD τ) (st2 t) fullShare ((dats m 0 c).after 2 t)
    ∗ owns (c : Thread nD τ) (st3 t) fullShare ((dats m 0 c).after 3 t)
    ∗ owns (c : Thread nD τ) (st4 t) fullShare ((dats m 0 c).after 4 t)
    ∗ owns (c : Thread nD τ) (st5 t) fullShare ((dats m 0 c).after 5 t))

theorem point_body (c : Dev nD) (t : Fin cfg0.N) :
    pointPre m c t ⊢ wp frame (wpE (defs₀ (F := F)) Variants.none c none) Set.univ (bodyAt0 t) (fun _ => pointPost m c t) := by
  unfold pointPre pointPost bodyAt0
  simp only [before0, before1, before2, before3]
  rw [show (dats m 0 c).owesAt () t.succ = (dats m 0 c).owesAt () t.castSucc from rfl,
    after0, after1, after2, after3, after4, after5]
  rw [show (dats m 0 c).Φ t.succ = iprop(iprop(owns (c : Thread nD τ) scr0 fullShare (tile0 m c t) ∗ owns (c : Thread nD τ) scr1 fullShare (tile1 m c t)) ∗ (∃ r, prngReg c r)) from rfl, inv_before]
  by_cases h0 : t.val % 8 = 0
  · have hpre : Inv m c t.val (Nat.le_of_lt t.isLt) ⊢ iprop(iprop((∃ d, owns (c : Thread nD τ) scr0 fullShare d) ∗ (∃ d, owns (c : Thread nD τ) scr1 fullShare d)) ∗ (∃ r, prngReg c r)) := by
      by_cases hz : t.val = 0
      · rw [Inv_zero m c _ _ hz, inv_eq]
      · rw [Inv_pos m c _ _ hz]
        iintro ⟨⟨HS0, HS1⟩, Hg⟩
        isplitl [HS0 HS1]
        · isplitl [HS0]
          · iexists _; iexact HS0
          iexists _; iexact HS1
        iexact Hg
    refine (sep_mono hpre .rfl).trans ?_
    iintro ⟨⟨⟨HS0, HS1⟩, Hg⟩, Ho, ⟨%d0, H0⟩, ⟨%d1, H1⟩, ⟨%d2, H2⟩, ⟨%d3, H3⟩, ⟨%d4, H4⟩, ⟨%d5, H5⟩⟩
    iapply (body_first c (grid0.coords t) _ _ _ _ _ _ _ _ _ _ _ _ _ _ _ _ ((cond_iff t).mpr h0) (blkIn m c 0 t) (blkIn m c 1 t) (blkIn m c 2 t) (blkIn m c 3 t) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    isplitl [HS1]; · iexact HS1
    iintro ⟨H0, H1, H2, H3, H4, H5, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    iexact H5
  · have hz : t.val ≠ 0 := fun h => h0 (by rw [h])
    simp only [before5 m c t h0]
    rw [Inv_pos m c _ _ hz, ← show tile0 m c t = tile0 m c ⟨t.val - 1, _⟩ from carry_tile0 m c t h0, ← show tile1 m c t = tile1 m c ⟨t.val - 1, _⟩ from carry_tile1 m c t h0]
    iintro ⟨⟨⟨HS0, HS1⟩, Hg⟩, Ho, ⟨%d0, H0⟩, ⟨%d1, H1⟩, ⟨%d2, H2⟩, ⟨%d3, H3⟩, ⟨%d4, H4⟩, ⟨%d5, H5⟩⟩
    iapply (body_later c (grid0.coords t) _ _ _ _ _ _ _ _ _ _ _ _ _ _ _ _ (fun h => h0 ((cond_iff t).mp h)) (blkIn m c 0 t) (blkIn m c 1 t) (blkIn m c 2 t) (blkIn m c 3 t) (outS m c t) (tile0 m c t) (tile1 m c t) Set.univ _)
    isplitl [H0]; · iexact H0
    isplitl [H1]; · iexact H1
    isplitl [H2]; · iexact H2
    isplitl [H3]; · iexact H3
    isplitl [H4]; · iexists _; iexact H4
    isplitl [H5]; · iexact H5
    isplitl [HS0]; · iexact HS0
    isplitl [HS1]; · iexact HS1
    iintro ⟨H0, H1, H2, H3, H4, H5, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    iexact H5

theorem body_row (t : Fin cfg0.N) :
    defs₀ (F := F) .tc cfg0.body (cfg0.bodyArgs t (cfg0.slots t)) = bodyAt0 t := by
  unfold defs₀; rw [Defs.onTc_tc]

/-- The samples' block after a point, as the obligation asks for it at a point that stores nothing there. -/
theorem leaves (c : Dev nD) (t : Fin cfg0.N) : owns (c : Thread nD τ) (st5 t) fullShare ((dats m 0 c).after 5 t)
    ⊢ (match cfg0.idle 5 (cfg0.grid.coords t) with
        | true =>
          match (cfg0.win 5).flush t with
          | false => iprop(∃ d, owns (c : Thread nD τ) (st5 t) fullShare ((dats m 0 c).before 5 t d))
          | true => owns (c : Thread nD τ) (st5 t) fullShare ((dats m 0 c).after 5 t)
        | false => owns (c : Thread nD τ) (st5 t) fullShare ((dats m 0 c).after 5 t) : sProp 𝕄) := by
  cases hi : cfg0.idle 5 (cfg0.grid.coords t)
  · exact .rfl
  · cases hf : (cfg0.win 5).flush t
    · simp only [before5 m c t ((idle_iff t).mp hi), after5]
      iintro H
      iexists (outS m c t); iexact H
    · exact .rfl

theorem obligation (c : Dev nD) : BodyObligation (dats (F := F) m 0 c) (defs₀ (F := F)) Variants.none () Set.univ := fun t => by
  rw [bigSep_W0, bigSep_W0, body_row]
  refine triple_restated (point_body m c t) rfl .rfl fun _ => ?_
  unfold pointPost
  exact sep_mono .rfl (sep_mono .rfl (sep_mono .rfl (sep_mono .rfl (sep_mono .rfl (sep_mono .rfl (sep_mono .rfl (leaves m c t)))))))

theorem inv_in (c : Dev nD) : Pipeline.ΦA spec0 c ⊢ (dats m 0 c).Φ 0 := by
  rw [show (dats m 0 c).Φ 0 = Inv m c 0 (Nat.zero_le _) from rfl, Inv_zero m c 0 _ rfl]
  try exact Idealize.SL.BI.Entails.refl _

theorem inv_out (c : Dev nD) : (dats m 0 c).Φ (Fin.last cfg0.N) ⊢ Pipeline.ΦA spec0 c := by
  rw [show (dats m 0 c).Φ (Fin.last cfg0.N) = Inv m c (Fin.last cfg0.N).val (Nat.le_of_lt_succ (Fin.last cfg0.N).isLt) from rfl,
    Inv_pos m c _ _ (by rw [Fin.val_last, points]; decide), inv_eq]
  iintro ⟨⟨HS0, HS1⟩, Hg⟩
  isplitl [HS0 HS1]
  · isplitl [HS0]
    · iexists _; iexact HS0
    iexists _; iexact HS1
  iexact Hg

/-! ## The run -/

set_option backward.isDefEq.respectTransparency.types false in
theorem run_quiet : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := host_main m Variants.none) (hA := A_eq m) (hin := inv_in m) (hout := inv_out m)

theorem kept0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (fun w => (by decide : ∀ w : Fin 6, (spec0 w).arr.view.ref ≠ main_arg0) w))).trans (V_arg0 m c)
theorem kept1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (fun w => (by decide : ∀ w : Fin 6, (spec0 w).arr.view.ref ≠ main_arg1) w))).trans (V_arg1 m c)
theorem kept2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 1).trans (((dats m 0 c).arrAt_in 1 rfl _).trans ((A_eq m c 1).trans (V_arg2 m c)))
theorem kept3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 2).trans (((dats m 0 c).arrAt_in 2 rfl _).trans ((A_eq m c 2).trans (V_arg3 m c)))

/-- Every execution ends, the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => ⟨kept0 m r h.1 c, kept1 m r h.1 c, kept2 m r h.1 c, kept3 m r h.1 c⟩, h.2⟩) (run_quiet m ρ)

/-! ## The output arrays, block by block -/

theorem index_inj : ∀ t t' : Fin cfg0.N, win0_4.index t = win0_4.index t' → t = t' :=
  (by decide +kernel : ∀ t t' : Fin grid0.N, win0_4.index t = win0_4.index t' → t = t')

theorem blocks_apart : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne (index_inj t t' h)

theorem index_injS : ∀ t t' : Fin cfg0.N, t.val % 8 = 7 → t'.val % 8 = 7 → win0_5.index t = win0_5.index t' → t = t' :=
  (by decide +kernel : ∀ t t' : Fin grid0.N, t.val % 8 = 7 → t'.val % 8 = 7 → win0_5.index t = win0_5.index t' → t = t')

theorem blocks_apartS : ∀ t t' : Fin cfg0.N, (cfg0.win 5).flush t = true → (cfg0.win 5).flush t' = true → t ≠ t' →
    Disjoint ((cfg0.win 5).blk t).view.set ((cfg0.win 5).blk t').view.set :=
  fun t t' hf hf' hne => (cfg0.win 5).disjoint_blk fun h => hne (index_injS t t' ((flush0_5 t).mp hf) ((flush0_5 t').mp hf') h)

/-- Block `t` of the prompt's final array is what point `t` left. -/
theorem block_out (c : Dev nD) (t : Fin cfg0.N) :
    ((cfg0.win 4).blk t).view.read (Elt F) ((dats m 0 c).arrAt 4 cfg0.N) = (cfg0.win 4).cut (grid0.coords t) (outP m c t) := by
  rw [(dats m 0 c).read_blk_arrAt_eq_flushed 4 blocks_apart cfg0.N t t.isLt (flush0_4 t)]
  show (cfg0.win 4).cut (grid0.coords t) ((dats m 0 c).after 4 t) = _
  rw [after4]

/-- The block of the samples' final array a column's last point writes back is what that column left. -/
theorem block_outS (c : Dev nD) (t : Fin cfg0.N) (h : t.val % 8 = 7) :
    ((cfg0.win 5).blk t).view.read (Elt F) ((dats m 0 c).arrAt 5 cfg0.N) = (cfg0.win 5).cut (grid0.coords t) (outS m c t) := by
  rw [(dats m 0 c).read_blk_arrAt_eq_flushed 5 blocks_apartS cfg0.N t t.isLt ((flush0_5 t).mpr h)]
  show (cfg0.win 5).cut (grid0.coords t) ((dats m 0 c).after 5 t) = _
  rw [after5]

theorem run_out : θ_run defs (onTc (τ := τ) (main (F := F))) ⟨m, fun _ => 0, ρ⟩ fun r => ∀ c : Dev nD,
      r.2.mem ((c.tc : Thread nD τ).loc main_v4_0) = (dats m 0 c).arrAt 4 cfg0.N
      ∧ r.2.mem ((c.tc : Thread nD τ).loc main_v4_1) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h.1 c).1 4, (h.1 c).1 5, kept0 m r h.1 c, kept1 m r h.1 c, kept2 m r h.1 c, kept3 m r h.1 c⟩) (run_quiet m ρ)

end Cert.Proof.Ffn

end
-- ==== Proof.Ffn.Elem.lean ====
/-
  The values of the body's stores, entry by entry.
-/
module

public import proofs.«01_k».proof.Proof.Gen.KernelFfnIdeal.Skeleton
public import Idealize.ShloMosaic.Lib.Pointwise

@[expose] public section

set_option maxRecDepth 16384

noncomputable section

namespace Cert.Proof.Ffn

open Cert.KernelFfnIdeal Cert.KernelFfnIdeal.Gen
open Idealize.ShloMosaic Idealize.ShloMosaic.TcCoe

theorem pay1_apply (x : FVec Ideal S1x2048x512 .f32) (k : Fin 2048) (q : Fin 512) : k0_pay1 (F := Ideal) x (ix2 k q) = x (ix3 0 k q) := by
  pointwise [k0_pay1]

theorem pay2_apply (x : FVec Ideal S1x2048x512 .f32) (k : Fin 2048) (q : Fin 512) : k0_pay2 (F := Ideal) x (ix2 k q) = x (ix3 0 k q) := by
  pointwise [k0_pay2]

theorem pay4_apply (a : FVec Ideal S1024x2048 .bf16) (g u : FVec Ideal S2048x512 .bf16) (r : Fin 1024) (q : Fin 512) :
    k0_pay4 (F := Ideal) a g u (ix2 r q)
      = (∑ x : Fin 2048, a (ix2 r x) * g (ix2 x q)) * Ideal.logistic (∑ x : Fin 2048, a (ix2 r x) * g (ix2 x q)) * ∑ x : Fin 2048, a (ix2 r x) * u (ix2 x q) := by
  pointwise [k0_pay4]

theorem pay3_apply (a : FVec Ideal S32x2048 .bf16) (g u : FVec Ideal S2048x512 .bf16) (r : Fin 32) (q : Fin 512) :
    k0_pay3 (F := Ideal) a g u (ix2 r q)
      = (∑ x : Fin 2048, a (ix2 r x) * g (ix2 x q)) * Ideal.logistic (∑ x : Fin 2048, a (ix2 r x) * g (ix2 x q)) * ∑ x : Fin 2048, a (ix2 r x) * u (ix2 x q) := by
  pointwise [k0_pay3]

theorem castP_apply (h : FVec Ideal S2x4096x2048 .f32) (R : Fin 8192) (k : Fin 2048) (b : Fin 2) (t : Fin 4096) (hR : R.val = b.val * 4096 + t.val) :
    (truncf .bf16 (shapeCast S8192x2048 h shapeCasts_S2x4096x2048_S8192x2048 : FVec Ideal S8192x2048 .f32) bitsLt_bf16_f32 : FVec Ideal S8192x2048 .bf16) (ix2 R k) = h (ix3 b t k) := by
  have ht := t.isLt
  pointwise
  congr 1
  congr 1 <;> exact Fin.ext (by dsimp only; omega)

theorem castS_apply (h : FVec Ideal S8x4x2048 .f32) (R : Fin 32) (k : Fin 2048) (b : Fin 8) (t : Fin 4) (hR : R.val = b.val * 4 + t.val) :
    (truncf .bf16 (shapeCast S32x2048 h shapeCasts_S8x4x2048_S32x2048 : FVec Ideal S32x2048 .f32) bitsLt_bf16_f32 : FVec Ideal S32x2048 .bf16) (ix2 R k) = h (ix3 b t k) := by
  have ht := t.isLt
  pointwise
  congr 1
  congr 1 <;> exact Fin.ext (by dsimp only; omega)

end Cert.Proof.Ffn

end
-- ==== Proof.Ffn.Ref.lean ====
/-
  The reference of the gated feed-forward call, entry by entry.
-/
module

public import proofs.«01_k».proof.Proof.Gen.ReferenceFfnIdeal.Run
public import Idealize.ShloMosaic.Lib.Pointwise

@[expose] public section

set_option maxRecDepth 16384

noncomputable section

namespace Cert.Proof.Ffn.Ref

open Cert.ReferenceFfnIdeal Cert.ReferenceFfnIdeal.Gen
open Idealize.ShloMosaic Idealize.ShloMosaic.TcCoe

/-- The call's weights. -/
def wgt (w : FVec Ideal S4x2048x5632 .f32) : FVec Ideal S2048x5632 .f32 :=
  shapeCast S2048x5632 (extractStridedSlice S1x2048x5632 ![1, 0, 0] w slices_S4x2048x5632_S1x2048x5632_1_0_0) shapeCasts_S1x2048x5632_S2048x5632

/-- The prompt's products. -/
def dotP (h : FVec Ideal S2x4096x2048 .f32) (w : FVec Ideal S2048x5632 .f32) : FVec Ideal S2x4096x5632 .f32 :=
  Host.dotGeneral dot_S2x4096x2048_S2048x5632_S2x4096x5632_2_0_01_1_n_n none h w

/-- The samples' products. -/
def dotS (h : FVec Ideal S8x4x2048 .f32) (w : FVec Ideal S2048x5632 .f32) : FVec Ideal S8x4x5632 .f32 :=
  Host.dotGeneral dot_S8x4x2048_S2048x5632_S8x4x5632_2_0_01_1_n_n none h w

def gateP (a b : FVec Ideal S2x4096x5632 .f32) : FVec Ideal S8192x5632 .bf16 :=
  truncf .bf16 (shapeCast S8192x5632 (mulf (mulf a (Host.divf (broadcastInDim S2x4096x5632 ![] bcast_S_S2x4096x5632 (constant S_ .f32 0x3F800000#32)) (addf (broadcastInDim S2x4096x5632 ![] bcast_S_S2x4096x5632 (constant S_ .f32 0x3F800000#32)) (Host.exp (Host.negf a))))) b) shapeCasts_S2x4096x5632_S8192x5632) bitsLt_bf16_f32

def gateS (a b : FVec Ideal S8x4x5632 .f32) : FVec Ideal S32x5632 .bf16 :=
  truncf .bf16 (shapeCast S32x5632 (mulf (mulf a (Host.divf (broadcastInDim S8x4x5632 ![] bcast_S_S8x4x5632 (constant S_ .f32 0x3F800000#32)) (addf (broadcastInDim S8x4x5632 ![] bcast_S_S8x4x5632 (constant S_ .f32 0x3F800000#32)) (Host.exp (Host.negf a))))) b) shapeCasts_S8x4x5632_S32x5632) bitsLt_bf16_f32

theorem wgt_apply (w : FVec Ideal S4x2048x5632 .f32) (k : Fin 2048) (q : Fin 5632) : wgt w (ix2 k q) = w (ix3 1 k q) := by
  pointwise [wgt]

theorem dotP_apply (h : FVec Ideal S2x4096x2048 .f32) (w : FVec Ideal S2048x5632 .f32) (b : Fin 2) (t : Fin 4096) (q : Fin 5632) :
    dotP h w (ix3 b t q) = ∑ k : Fin 2048, h (ix3 b t k) * w (ix2 k q) := by
  pointwise [dotP]

theorem dotS_apply (h : FVec Ideal S8x4x2048 .f32) (w : FVec Ideal S2048x5632 .f32) (b : Fin 8) (t : Fin 4) (q : Fin 5632) :
    dotS h w (ix3 b t q) = ∑ k : Fin 2048, h (ix3 b t k) * w (ix2 k q) := by
  pointwise [dotS]

/-- The sigmoid linear unit. -/
def sil (x : EReal) : EReal := x * Ideal.logistic x

theorem gateP_apply (a b : FVec Ideal S2x4096x5632 .f32) (R : Fin 8192) (q : Fin 5632) (bb : Fin 2) (t : Fin 4096) (hR : R.val = bb.val * 4096 + t.val) :
    gateP a b (ix2 R q) = sil (a (ix3 bb t q)) * b (ix3 bb t q) := by
  have ht := t.isLt
  pointwise [gateP]
  have e1 : ∀ h1 h2, (ix3 (⟨R.val / 4096, h1⟩ : Fin 2) (⟨R.val % 4096, h2⟩ : Fin 4096) q : S2x4096x5632.Idx) = ix3 bb t q := fun h1 h2 => by
    congr 1 <;> exact Fin.ext (by dsimp only; omega)
  rw [e1]
  rfl

theorem gateS_apply (a b : FVec Ideal S8x4x5632 .f32) (R : Fin 32) (q : Fin 5632) (bb : Fin 8) (t : Fin 4) (hR : R.val = bb.val * 4 + t.val) :
    gateS a b (ix2 R q) = sil (a (ix3 bb t q)) * b (ix3 bb t q) := by
  have ht := t.isLt
  pointwise [gateS]
  have e1 : ∀ h1 h2, (ix3 (⟨R.val / 4, h1⟩ : Fin 8) (⟨R.val % 4, h2⟩ : Fin 4) q : S8x4x5632.Idx) = ix3 bb t q := fun h1 h2 => by
    congr 1 <;> exact Fin.ext (by dsimp only; omega)
  rw [e1]
  rfl

/-- The two results, as functions of the arguments. -/
def resP (h : FVec Ideal S2x4096x2048 .f32) (w1 w2 : FVec Ideal S4x2048x5632 .f32) : FVec Ideal S8192x5632 .bf16 :=
  gateP (dotP h (wgt w1)) (dotP h (wgt w2))

def resS (h : FVec Ideal S8x4x2048 .f32) (w1 w2 : FVec Ideal S4x2048x5632 .f32) : FVec Ideal S32x5632 .bf16 :=
  gateS (dotS h (wgt w1)) (dotS h (wgt w2))

theorem resP_apply (h : FVec Ideal S2x4096x2048 .f32) (w1 w2 : FVec Ideal S4x2048x5632 .f32) (R : Fin 8192) (q : Fin 5632) (bb : Fin 2) (t : Fin 4096) (hR : R.val = bb.val * 4096 + t.val) :
    resP h w1 w2 (ix2 R q) = sil (∑ k : Fin 2048, h (ix3 bb t k) * w1 (ix3 1 k q)) * ∑ k : Fin 2048, h (ix3 bb t k) * w2 (ix3 1 k q) := by
  unfold resP
  rw [gateP_apply _ _ R q bb t hR, dotP_apply, dotP_apply]
  simp only [wgt_apply]

theorem resS_apply (h : FVec Ideal S8x4x2048 .f32) (w1 w2 : FVec Ideal S4x2048x5632 .f32) (R : Fin 32) (q : Fin 5632) (bb : Fin 8) (t : Fin 4) (hR : R.val = bb.val * 4 + t.val) :
    resS h w1 w2 (ix2 R q) = sil (∑ k : Fin 2048, h (ix3 bb t k) * w1 (ix3 1 k q)) * ∑ k : Fin 2048, h (ix3 bb t k) * w2 (ix3 1 k q) := by
  unfold resS
  rw [gateS_apply _ _ R q bb t hR, dotS_apply, dotS_apply]
  simp only [wgt_apply]

/-- The reference's run. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v9) = resP (m ((c.tc : Thread nD τ).loc main_arg0)) (m ((c.tc : Thread nD τ).loc main_arg2)) (m ((c.tc : Thread nD τ).loc main_arg3))
      ∧ r.2.mem ((c.tc : Thread nD τ).loc main_v19) = resS (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans rfl, (h c).2.1.trans rfl, (h c).2.2⟩) (Value.run m ρ)

end Cert.Proof.Ffn.Ref

end
-- ==== Proof.Ffn.Value.lean ====
/-
  The two output arrays of the gated feed-forward call, entry by entry, and their equality with the reference's.
-/
module

public import proofs.«01_k».proof.Proof.Ffn.Frame
public import proofs.«01_k».proof.Proof.Ffn.Elem
public import proofs.«01_k».proof.Proof.Ffn.Ref
public import proofs.«01_k».proof.Defs
public import Idealize.ShloMosaic.Lib.Pointwise
public import Idealize.ShloMosaic.Lib.StableHlo.Run

@[expose] public section

set_option maxRecDepth 16384

noncomputable section

namespace Cert.Proof.Ffn

open Cert.KernelFfnIdeal Cert.KernelFfnIdeal.Gen
open Idealize.ShloMosaic Idealize.ShloMosaic.TcCoe Idealize.ShloMosaic.Tactic

variable (m : (ℓ : Loc nD τ sig) → Buf (Elt Ideal) ℓ) (c : Dev nD)

theorem idx0 : ∀ t : Fin grid0.N, win0_0.index t 0 = (grid0.coords t 1).val ∧ win0_0.index t 1 = 0 := by decide +kernel
theorem idx1 : ∀ t : Fin grid0.N, win0_1.index t 0 = 1 ∧ win0_1.index t 1 = 0 ∧ win0_1.index t 2 = (grid0.coords t 0).val := by decide +kernel
theorem idx2 : ∀ t : Fin grid0.N, win0_2.index t 0 = 1 ∧ win0_2.index t 1 = 0 ∧ win0_2.index t 2 = (grid0.coords t 0).val := by decide +kernel
theorem idx3 : ∀ t : Fin grid0.N, win0_3.index t 0 = 0 ∧ win0_3.index t 1 = 0 := by decide +kernel
theorem idx4 : ∀ t : Fin grid0.N, win0_4.index t 0 = (grid0.coords t 1).val ∧ win0_4.index t 1 = (grid0.coords t 0).val := by decide +kernel
theorem idx5 : ∀ t : Fin grid0.N, win0_5.index t 0 = 0 ∧ win0_5.index t 1 = (grid0.coords t 0).val := by decide +kernel

/-- The launch's copies of the activations. -/
theorem V_h : (V m c main_v1 : FVec Ideal S8192x2048 .bf16) = (truncf .bf16 (shapeCast S8192x2048 (m ((c : Thread nD τ).loc main_arg0) : FVec Ideal S2x4096x2048 .f32) shapeCasts_S2x4096x2048_S8192x2048 : FVec Ideal S8192x2048 .f32) bitsLt_bf16_f32 : FVec Ideal S8192x2048 .bf16) := by
  unfold V
  after_results_simp
  rfl

theorem V_hs : (V m c main_v3 : FVec Ideal S32x2048 .bf16) = (truncf .bf16 (shapeCast S32x2048 (m ((c : Thread nD τ).loc main_arg1) : FVec Ideal S8x4x2048 .f32) shapeCasts_S8x4x2048_S32x2048 : FVec Ideal S32x2048 .f32) bitsLt_bf16_f32 : FVec Ideal S32x2048 .bf16) := by
  unfold V
  after_results_simp
  rfl

/-! ## The blocks -/

theorem blk0 (t : Fin grid0.N) (r : Fin 1024) (k : Fin 2048) (R : Fin 8192) (hR : R.val = (grid0.coords t 1).val * 1024 + r.val) :
    (in0 m c t : FVec Ideal S1024x2048 .bf16) (ix2 r k) = (V m c main_v1 : FVec Ideal S8192x2048 .bf16) (ix2 R k) := by
  refine congrArg (V m c main_v1 : FVec Ideal S8192x2048 .bf16) ?_
  funext a
  match a with
  | ⟨0, _⟩ => exact Fin.ext ((win0_0.rect_emb_val t _ 0).trans (by rw [(idx0 t).1]; exact hR.symm))
  | ⟨1, _⟩ => exact Fin.ext ((win0_0.rect_emb_val t _ 1).trans (by rw [(idx0 t).2]; show 0 * 2048 + k.val = k.val; omega))

theorem blk1 (t : Fin grid0.N) (k : Fin 2048) (q : Fin 512) (Q : Fin 5632) (hQ : Q.val = (grid0.coords t 0).val * 512 + q.val) :
    (in1 m c t : FVec Ideal S1x2048x512 .f32) (ix3 0 k q) = (m ((c : Thread nD τ).loc main_arg2) : FVec Ideal S4x2048x5632 .f32) (ix3 1 k Q) := by
  rw [← V_arg2 m c]
  refine congrArg (V m c main_arg2 : FVec Ideal S4x2048x5632 .f32) ?_
  funext a
  match a with
  | ⟨0, _⟩ => exact Fin.ext ((win0_1.rect_emb_val t _ 0).trans (by rw [(idx1 t).1]; rfl))
  | ⟨1, _⟩ => exact Fin.ext ((win0_1.rect_emb_val t _ 1).trans (by rw [(idx1 t).2.1]; show 0 * 2048 + k.val = k.val; omega))
  | ⟨2, _⟩ => exact Fin.ext ((win0_1.rect_emb_val t _ 2).trans (by rw [(idx1 t).2.2]; exact hQ.symm))

theorem blk2 (t : Fin grid0.N) (k : Fin 2048) (q : Fin 512) (Q : Fin 5632) (hQ : Q.val = (grid0.coords t 0).val * 512 + q.val) :
    (in2 m c t : FVec Ideal S1x2048x512 .f32) (ix3 0 k q) = (m ((c : Thread nD τ).loc main_arg3) : FVec Ideal S4x2048x5632 .f32) (ix3 1 k Q) := by
  rw [← V_arg3 m c]
  refine congrArg (V m c main_arg3 : FVec Ideal S4x2048x5632 .f32) ?_
  funext a
  match a with
  | ⟨0, _⟩ => exact Fin.ext ((win0_2.rect_emb_val t _ 0).trans (by rw [(idx2 t).1]; rfl))
  | ⟨1, _⟩ => exact Fin.ext ((win0_2.rect_emb_val t _ 1).trans (by rw [(idx2 t).2.1]; show 0 * 2048 + k.val = k.val; omega))
  | ⟨2, _⟩ => exact Fin.ext ((win0_2.rect_emb_val t _ 2).trans (by rw [(idx2 t).2.2]; exact hQ.symm))

theorem blk3 (t : Fin grid0.N) (r : Fin 32) (k : Fin 2048) :
    (in3 m c t : FVec Ideal S32x2048 .bf16) (ix2 r k) = (V m c main_v3 : FVec Ideal S32x2048 .bf16) (ix2 r k) := by
  refine congrArg (V m c main_v3 : FVec Ideal S32x2048 .bf16) ?_
  funext a
  match a with
  | ⟨0, _⟩ => exact Fin.ext ((win0_3.rect_emb_val t _ 0).trans (by rw [(idx3 t).1]; show 0 * 32 + r.val = r.val; omega))
  | ⟨1, _⟩ => exact Fin.ext ((win0_3.rect_emb_val t _ 1).trans (by rw [(idx3 t).2]; show 0 * 2048 + k.val = k.val; omega))

theorem elemP (t : Fin grid0.N) (r : Fin 1024) (q : Fin 512) (R : Fin 8192) (Q : Fin 5632) (hR : R.val = (grid0.coords t 1).val * 1024 + r.val)
    (hQ : Q.val = (grid0.coords t 0).val * 512 + q.val) :
    ((dats m 0 c).arrAt 4 cfg0.N : FVec Ideal S8192x5632 .bf16) (ix2 R Q) = outP m c t (ix2 r q) := by
  have e := congrFun (block_out m c t) (ix2 r q)
  refine Eq.trans ?_ e
  refine congrArg ((dats m 0 c).arrAt 4 cfg0.N : FVec Ideal S8192x5632 .bf16) ?_
  funext a
  match a with
  | ⟨0, _⟩ => exact Fin.ext ((win0_4.rect_emb_val t _ 0).trans (by rw [(idx4 t).1]; exact hR.symm)).symm
  | ⟨1, _⟩ => exact Fin.ext ((win0_4.rect_emb_val t _ 1).trans (by rw [(idx4 t).2]; exact hQ.symm)).symm

theorem elemS (t : Fin grid0.N) (ht : t.val % 8 = 7) (r : Fin 32) (q : Fin 512) (Q : Fin 5632)
    (hQ : Q.val = (grid0.coords t 0).val * 512 + q.val) :
    ((dats m 0 c).arrAt 5 cfg0.N : FVec Ideal S32x5632 .bf16) (ix2 r Q) = outS m c t (ix2 r q) := by
  have e := congrFun (block_outS m c t ht) (ix2 r q)
  refine Eq.trans ?_ e
  refine congrArg ((dats m 0 c).arrAt 5 cfg0.N : FVec Ideal S32x5632 .bf16) ?_
  funext a
  match a with
  | ⟨0, _⟩ => exact Fin.ext ((win0_5.rect_emb_val t _ 0).trans (by rw [(idx5 t).1]; show 0 * 32 + r.val = r.val; omega)).symm
  | ⟨1, _⟩ => exact Fin.ext ((win0_5.rect_emb_val t _ 1).trans (by rw [(idx5 t).2]; exact hQ.symm)).symm

/-! ## The entries -/

theorem point_of : ∀ (j : Fin 11) (i : Fin 8), ∃ t : Fin grid0.N, (grid0.coords t 0).val = j.val ∧ (grid0.coords t 1).val = i.val := by
  decide +kernel

theorem last_of : ∀ (j : Fin 11), ∃ t : Fin grid0.N, t.val % 8 = 7 ∧ (grid0.coords t 0).val = j.val := by
  decide +kernel

theorem valueP (R : Fin 8192) (Q : Fin 5632) (b : Fin 2) (s : Fin 4096) (hR : R.val = b.val * 4096 + s.val) :
    ((dats m 0 c).arrAt 4 cfg0.N : FVec Ideal S8192x5632 .bf16) (ix2 R Q)
      = Ref.resP (m ((c : Thread nD τ).loc main_arg0)) (m ((c : Thread nD τ).loc main_arg2)) (m ((c : Thread nD τ).loc main_arg3)) (ix2 R Q) := by
  have hRl := R.isLt
  have hQl := Q.isLt
  obtain ⟨t, h0, h1⟩ := point_of ⟨Q.val / 512, by omega⟩ ⟨R.val / 1024, by omega⟩
  replace h0 : (grid0.coords t 0).val = Q.val / 512 := h0
  replace h1 : (grid0.coords t 1).val = R.val / 1024 := h1
  have hR' : R.val = (grid0.coords t 1).val * 1024 + R.val % 1024 := by rw [h1]; omega
  have hQ' : Q.val = (grid0.coords t 0).val * 512 + Q.val % 512 := by rw [h0]; omega
  rw [elemP m c t ⟨R.val % 1024, by omega⟩ ⟨Q.val % 512, by omega⟩ R Q hR' hQ', Ref.resP_apply _ _ _ R Q b s hR]
  have ea : ∀ k : Fin 2048, (in0 m c t : FVec Ideal S1024x2048 .bf16) (ix2 ⟨R.val % 1024, by omega⟩ k) = (m ((c : Thread nD τ).loc main_arg0) : FVec Ideal S2x4096x2048 .f32) (ix3 b s k) := fun k =>
    (blk0 m c t _ k R hR').trans ((congrFun (V_h m c) _).trans (castP_apply _ R k b s hR))
  have eg : ∀ k : Fin 2048, (tile0 m c t : FVec Ideal S2048x512 .bf16) (ix2 k ⟨Q.val % 512, by omega⟩) = (m ((c : Thread nD τ).loc main_arg2) : FVec Ideal S4x2048x5632 .f32) (ix3 1 k Q) := fun k =>
    (pay1_apply _ k _).trans (blk1 m c t k _ Q hQ')
  have eu : ∀ k : Fin 2048, (tile1 m c t : FVec Ideal S2048x512 .bf16) (ix2 k ⟨Q.val % 512, by omega⟩) = (m ((c : Thread nD τ).loc main_arg3) : FVec Ideal S4x2048x5632 .f32) (ix3 1 k Q) := fun k =>
    (pay2_apply _ k _).trans (blk2 m c t k _ Q hQ')
  refine (pay4_apply _ _ _ _ _).trans ?_
  simp only [ea, eg, eu]
  rfl

theorem valueS (R : Fin 32) (Q : Fin 5632) (b : Fin 8) (s : Fin 4) (hR : R.val = b.val * 4 + s.val) :
    ((dats m 0 c).arrAt 5 cfg0.N : FVec Ideal S32x5632 .bf16) (ix2 R Q)
      = Ref.resS (m ((c : Thread nD τ).loc main_arg1)) (m ((c : Thread nD τ).loc main_arg2)) (m ((c : Thread nD τ).loc main_arg3)) (ix2 R Q) := by
  have hQl := Q.isLt
  obtain ⟨t, ht, h0⟩ := last_of ⟨Q.val / 512, by omega⟩
  replace h0 : (grid0.coords t 0).val = Q.val / 512 := h0
  have hQ' : Q.val = (grid0.coords t 0).val * 512 + Q.val % 512 := by rw [h0]; omega
  rw [elemS m c t ht R ⟨Q.val % 512, by omega⟩ Q hQ', Ref.resS_apply _ _ _ R Q b s hR]
  have ea : ∀ k : Fin 2048, (in3 m c t : FVec Ideal S32x2048 .bf16) (ix2 R k) = (m ((c : Thread nD τ).loc main_arg1) : FVec Ideal S8x4x2048 .f32) (ix3 b s k) := fun k =>
    (blk3 m c t R k).trans ((congrFun (V_hs m c) _).trans (castS_apply _ R k b s hR))
  have eg : ∀ k : Fin 2048, (tile0 m c t : FVec Ideal S2048x512 .bf16) (ix2 k ⟨Q.val % 512, by omega⟩) = (m ((c : Thread nD τ).loc main_arg2) : FVec Ideal S4x2048x5632 .f32) (ix3 1 k Q) := fun k =>
    (pay1_apply _ k _).trans (blk1 m c t k _ Q hQ')
  have eu : ∀ k : Fin 2048, (tile1 m c t : FVec Ideal S2048x512 .bf16) (ix2 k ⟨Q.val % 512, by omega⟩) = (m ((c : Thread nD τ).loc main_arg3) : FVec Ideal S4x2048x5632 .f32) (ix3 1 k Q) := fun k =>
    (pay2_apply _ k _).trans (blk2 m c t k _ Q hQ')
  refine (pay3_apply _ _ _ _ _).trans ?_
  simp only [ea, eg, eu]
  rfl

theorem arrayP : ((dats m 0 c).arrAt 4 cfg0.N : FVec Ideal S8192x5632 .bf16)
      = Ref.resP (m ((c : Thread nD τ).loc main_arg0)) (m ((c : Thread nD τ).loc main_arg2)) (m ((c : Thread nD τ).loc main_arg3)) := by
  funext y
  obtain ⟨R, Q, rfl⟩ : ∃ (R : Fin 8192) (Q : Fin 5632), y = ix2 R Q := ⟨y 0, y 1, by
    funext a
    match a with
    | ⟨0, _⟩ => rfl
    | ⟨1, _⟩ => rfl⟩
  have hR := R.isLt
  exact valueP m c R Q ⟨R.val / 4096, by omega⟩ ⟨R.val % 4096, by omega⟩ (by show R.val = R.val / 4096 * 4096 + R.val % 4096; omega)

theorem arrayS : ((dats m 0 c).arrAt 5 cfg0.N : FVec Ideal S32x5632 .bf16)
      = Ref.resS (m ((c : Thread nD τ).loc main_arg1)) (m ((c : Thread nD τ).loc main_arg2)) (m ((c : Thread nD τ).loc main_arg3)) := by
  funext y
  obtain ⟨R, Q, rfl⟩ : ∃ (R : Fin 32) (Q : Fin 5632), y = ix2 R Q := ⟨y 0, y 1, by
    funext a
    match a with
    | ⟨0, _⟩ => rfl
    | ⟨1, _⟩ => rfl⟩
  have hR := R.isLt
  exact valueS m c R Q ⟨R.val / 4, by omega⟩ ⟨R.val % 4, by omega⟩ (by show R.val = R.val / 4 * 4 + R.val % 4; omega)

/-- The kernel's two results are the reference's. -/
theorem algebraic : algebraic_KernelFfnIdeal_ReferenceFfnIdeal := by
  intro m g m' g' hpre hargs
  refine ⟨fun c => (dats m 0 c).arrAt 4 cfg0.N, fun c => (dats m 0 c).arrAt 5 cfg0.N, run_out m g, ?_⟩
  refine (θ_run Cert.ReferenceFfnIdeal.defs _ _).mono (fun r h c => ⟨(h c).1.trans ?_, (h c).2.1.trans ?_, (h c).2.2⟩) (Ref.run m' g')
  · obtain ⟨e0, e1, e2, e3⟩ := hargs c
    rw [e0, e2, e3]; exact (arrayP m c).symm
  · obtain ⟨e0, e1, e2, e3⟩ := hargs c
    rw [e1, e2, e3]; exact (arrayS m c).symm

end Cert.Proof.Ffn

end
-- ==== Proof.Down.Body.lean ====
/-
  The kernel's body at a grid point, at any float values: the runs that store the weights' tiles and the runs that find them.
-/
module

public import proofs.«01_k».proof.Proof.Gen.KernelDownIdeal.Launch
public import proofs.«01_k».proof.Proof.Gen.KernelDownIdeal.Points
public import proofs.«01_k».proof.Proof.Gen.KernelDownIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.Proof.Down

open Cert.KernelDownIdeal Cert.KernelDownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A load of a whole memref reads what it holds. -/
theorem ld_full {s : Shape} {e : EltTy} {a : Memref sig .tc .vmem s e} (ha : a.IsWhole) (x : s.Idx → Elt F e) {off : Fin s.rank → ℕ} (inb : ∀ b, off b + s.size b ≤ s.size b) :
    a.view.readAt (Elt F) (Rect.unit off s.size inb).toLoadRect (ha.unread x) = x :=
  (View.readAt_full _ _ _).trans (ha.read_unread x)

theorem congr4 {α β γ δ ε : Type} (f : α → β → γ → δ → ε) {a a' : α} {b b' : β} {c c' : γ} {d d' : δ} (ha : a = a') (hb : b = b') (hc : c = c') (hd : d = d') :
    f a b c d = f a' b' c' d' := by
  subst ha hb hc hd; rfl

/-! ## The two runs of the body -/

set_option maxHeartbeats 1000000 in
/-- Where the point's second coordinate is 0 the body stores the weights' tiles and the samples' block, then the prompt's block. -/
theorem body_first (c : Dev nD) (i : grid0.Coords) (arg2 : Memref sig .tc .vmem S512x5632 .bf16) (harg2 : arg2.IsWhole) (arg3 : Memref sig .tc .vmem S1x5632x512 .f32) (harg3 : arg3.IsWhole) (arg4 : Memref sig .tc .vmem S512x512 .f32) (harg4 : arg4.IsWhole) (arg5 : Memref sig .tc .vmem S1x1x512 .f32) (harg5 : arg5.IsWhole) (arg6 : Memref sig .tc .vmem S32x5632 .bf16) (harg6 : arg6.IsWhole) (arg7 : Memref sig .tc .vmem S32x512 .f32) (harg7 : arg7.IsWhole) (arg8 : Memref sig .tc .vmem S32x512 .f32) (harg8 : arg8.IsWhole) (arg9 : Memref sig .tc .vmem S512x512 .f32) (harg9 : arg9.IsWhole) (arg10 : Memref sig .tc .vmem S32x512 .f32) (harg10 : arg10.IsWhole) (arg11 : Memref sig .tc .vmem S5632x512 .bf16) (harg11 : arg11.IsWhole) (hc : k0_cond1 i = 1#1)
    (x0 : Vec F S512x5632 .bf16) (x1 : Vec F S1x5632x512 .f32) (x2 : Vec F S512x512 .f32) (x3 : Vec F S1x1x512 .f32) (x4 : Vec F S32x5632 .bf16) (x5 : Vec F S32x512 .f32) (x6 : Vec F S32x512 .f32) (E : Set ℕ) (K : PUnit → sProp 𝕄) :
    iprop(owns (c : Thread nD τ) arg2 fullShare (x0) ∗ owns (c : Thread nD τ) arg3 fullShare (x1) ∗ owns (c : Thread nD τ) arg4 fullShare (x2) ∗ owns (c : Thread nD τ) arg5 fullShare (x3) ∗ owns (c : Thread nD τ) arg6 fullShare (x4) ∗ owns (c : Thread nD τ) arg7 fullShare (x5) ∗ owns (c : Thread nD τ) arg8 fullShare (x6) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare (x0) ∗ owns (c : Thread nD τ) arg3 fullShare (x1) ∗ owns (c : Thread nD τ) arg4 fullShare (x2) ∗ owns (c : Thread nD τ) arg5 fullShare (x3) ∗ owns (c : Thread nD τ) arg6 fullShare (x4) ∗ owns (c : Thread nD τ) arg7 fullShare (x5) ∗ owns (c : Thread nD τ) arg8 fullShare (x6) ∗ owns (c : Thread nD τ) arg9 fullShare (k0_pay3 x0 (k0_pay1 x1) x2 x3) ∗ owns (c : Thread nD τ) arg10 fullShare (k0_pay2 x5 x6 x4 (k0_pay1 x1)) ∗ owns (c : Thread nD τ) arg11 fullShare ((k0_pay1 x1))) -∗ K ⟨⟩))
      ⊢ wp frame (wpE (defs₀ (F := F)) Variants.none c none) E (cc0_gated_residual i arg2 harg2 arg3 harg3 arg4 harg4 arg5 harg5 arg6 harg6 arg7 harg7 arg8 harg8 arg9 harg9 arg10 harg10 arg11 harg11) K := by
  simp only [cc0_gated_residual_eq_skeleton]; unfold cc0_gated_residual_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr
    swap; · iexact H7
    ipureintro; sl_unfold_run_names; exact (View.read_writes_full _ _ _ _ _).trans (congr4 k0_pay3 (ld_full harg2 _ _) ((View.readCov_full _ _ _ _ _).trans (congrArg k0_pay1 (ld_full harg3 _ _))) (ld_full harg4 _ _) (ld_full harg5 _ _))
  isplitl [H8]
  · iexists _; isplitr
    swap; · iexact H8
    ipureintro; sl_unfold_run_names; exact (View.read_writes_full _ _ _ _ _).trans (congr4 k0_pay2 (ld_full harg7 _ _) (ld_full harg8 _ _) (ld_full harg6 _ _) ((View.readCov_full _ _ _ _ _).trans (congrArg k0_pay1 (ld_full harg3 _ _))))
  iexists _; isplitr
  swap; · iexact H9
  ipureintro; sl_unfold_run_names; exact (View.read_writes_full _ _ _ _ _).trans (congrArg k0_pay1 (ld_full harg3 _ _))

set_option maxHeartbeats 1000000 in
/-- Elsewhere it finds the tiles and stores the prompt's block alone. -/
theorem body_later (c : Dev nD) (i : grid0.Coords) (arg2 : Memref sig .tc .vmem S512x5632 .bf16) (harg2 : arg2.IsWhole) (arg3 : Memref sig .tc .vmem S1x5632x512 .f32) (harg3 : arg3.IsWhole) (arg4 : Memref sig .tc .vmem S512x512 .f32) (harg4 : arg4.IsWhole) (arg5 : Memref sig .tc .vmem S1x1x512 .f32) (harg5 : arg5.IsWhole) (arg6 : Memref sig .tc .vmem S32x5632 .bf16) (harg6 : arg6.IsWhole) (arg7 : Memref sig .tc .vmem S32x512 .f32) (harg7 : arg7.IsWhole) (arg8 : Memref sig .tc .vmem S32x512 .f32) (harg8 : arg8.IsWhole) (arg9 : Memref sig .tc .vmem S512x512 .f32) (harg9 : arg9.IsWhole) (arg10 : Memref sig .tc .vmem S32x512 .f32) (harg10 : arg10.IsWhole) (arg11 : Memref sig .tc .vmem S5632x512 .bf16) (harg11 : arg11.IsWhole) (hc : ¬ k0_cond1 i = 1#1)
    (x0 : Vec F S512x5632 .bf16) (x1 : Vec F S1x5632x512 .f32) (x2 : Vec F S512x512 .f32) (x3 : Vec F S1x1x512 .f32) (x4 : Vec F S32x5632 .bf16) (x5 : Vec F S32x512 .f32) (x6 : Vec F S32x512 .f32) (z : Vec F S32x512 .f32) (y0 : Vec F S5632x512 .bf16) (E : Set ℕ) (K : PUnit → sProp 𝕄) :
    iprop(owns (c : Thread nD τ) arg2 fullShare (x0) ∗ owns (c : Thread nD τ) arg3 fullShare (x1) ∗ owns (c : Thread nD τ) arg4 fullShare (x2) ∗ owns (c : Thread nD τ) arg5 fullShare (x3) ∗ owns (c : Thread nD τ) arg6 fullShare (x4) ∗ owns (c : Thread nD τ) arg7 fullShare (x5) ∗ owns (c : Thread nD τ) arg8 fullShare (x6) ∗ (∃ d, owns (c : Thread nD τ) arg9 fullShare d) ∗ owns (c : Thread nD τ) arg10 fullShare (z) ∗ owns (c : Thread nD τ) arg11 fullShare (y0)
        ∗ (iprop(owns (c : Thread nD τ) arg2 fullShare (x0) ∗ owns (c : Thread nD τ) arg3 fullShare (x1) ∗ owns (c : Thread nD τ) arg4 fullShare (x2) ∗ owns (c : Thread nD τ) arg5 fullShare (x3) ∗ owns (c : Thread nD τ) arg6 fullShare (x4) ∗ owns (c : Thread nD τ) arg7 fullShare (x5) ∗ owns (c : Thread nD τ) arg8 fullShare (x6) ∗ owns (c : Thread nD τ) arg9 fullShare (k0_pay3 x0 y0 x2 x3) ∗ owns (c : Thread nD τ) arg10 fullShare (z) ∗ owns (c : Thread nD τ) arg11 fullShare (y0)) -∗ K ⟨⟩))
      ⊢ wp frame (wpE (defs₀ (F := F)) Variants.none c none) E (cc0_gated_residual i arg2 harg2 arg3 harg3 arg4 harg4 arg5 harg5 arg6 harg6 arg7 harg7 arg8 harg8 arg9 harg9 arg10 harg10 arg11 harg11) K := by
  simp only [cc0_gated_residual_eq_skeleton]; unfold cc0_gated_residual_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hf8; obtain rfl := harg11.eq_unread hf9
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr
    swap; · iexact H7
    ipureintro; sl_unfold_run_names; exact (View.read_writes_full _ _ _ _ _).trans (congr4 k0_pay3 (ld_full harg2 _ _) (ld_full harg11 _ _) (ld_full harg4 _ _) (ld_full harg5 _ _))
  isplitl [H8]
  · iexists _; isplitr; · ipureintro; exact harg10.read_unread _
    iexact H8
  iexists _; isplitr; · ipureintro; exact harg11.read_unread _
  iexact H9

end Cert.Proof.Down

end
-- ==== Proof.Down.Frame.lean ====
/-
  The launch at any float values: what a grid point leaves in the two outputs' blocks, the pipeline's proof data, the body
  at any point, the run of the whole program, and the two output arrays after it, block by block.

  A point leaves the tiles of the weights that belong to its first coordinate, so every point of one column of the grid
  finds and leaves the same tiles, and the samples' block stored at the column's first point stays what it is to the last.
-/
module

public import proofs.«01_k».proof.Proof.Down.Body
public import Idealize.ShloMosaic.Lib.Claim
public import Idealize.ShloMosaic.Lib.Pipeline.Frame
public import Idealize.ShloMosaic.Lib.Pipeline.Cells
public import Idealize.ShloMosaic.Lib.Pipeline.Value
public import Idealize.ShloMosaic.Lib.Pipeline.TableIdle

@[expose] public section

set_option maxRecDepth 16384

noncomputable section

namespace Cert.Proof.Down

open Cert.KernelDownIdeal Cert.KernelDownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host's operations before the launch -/

/-- Core `c`'s arrays as the launch finds them. -/
abbrev V (c : Dev nD) (b : Ref sig .tc) : Buf (Elt F) ((c : Thread nD τ).loc b) := StableHlo.after hostOps0 (fun b => m (c, b)) b

theorem host_fresh : (hostOps0 : List (HloOp τ sig (Elt F))).Forall fun op => op.fresh = ∅ := by
  simp only [List.Forall]; repeat' constructor

set_option maxHeartbeats 800000 in
theorem host_main (W : Variants) : Pipeline.HMain (Ix := Unit) (Name := ℕ) (U := UR sig nD τ) (Lvl := ℕ) cfgs 0 defs₀ W m (main (F := F)) (V m) :=
  Pipeline.hmain_prefix cfgs 0 defs₀ W m main hostOps0 hostOps0_sub host_fresh main_chain

theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

theorem V_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

theorem V_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

theorem V_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

theorem V_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

/-! ## The blocks -/

/-- Window `w`'s block at point `t`, off its array as the launch finds it. -/
def blkIn (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

abbrev st0 (t : Fin cfg0.N) : Memref sig .tc .vmem S512x5632 .bf16 := win0_0.stage (cfg0.slots t 0)
abbrev st1 (t : Fin cfg0.N) : Memref sig .tc .vmem S1x5632x512 .f32 := win0_1.stage (cfg0.slots t 1)
abbrev st2 (t : Fin cfg0.N) : Memref sig .tc .vmem S512x512 .f32 := win0_2.stage (cfg0.slots t 2)
abbrev st3 (t : Fin cfg0.N) : Memref sig .tc .vmem S1x1x512 .f32 := win0_3.stage (cfg0.slots t 3)
abbrev st4 (t : Fin cfg0.N) : Memref sig .tc .vmem S32x5632 .bf16 := win0_4.stage (cfg0.slots t 4)
abbrev st5 (t : Fin cfg0.N) : Memref sig .tc .vmem S32x512 .f32 := win0_5.stage (cfg0.slots t 5)
abbrev st6 (t : Fin cfg0.N) : Memref sig .tc .vmem S32x512 .f32 := win0_6.stage (cfg0.slots t 6)
abbrev st7 (t : Fin cfg0.N) : Memref sig .tc .vmem S512x512 .f32 := win0_7.stage (cfg0.slots t 7)
abbrev st8 (t : Fin cfg0.N) : Memref sig .tc .vmem S32x512 .f32 := win0_8.stage (cfg0.slots t 8)
abbrev scr0 : Memref sig .tc .vmem S5632x512 .bf16 := Memref.whole cc0_scratch0

/-- Input 0's block at point `t`. -/
abbrev in0 (c : Dev nD) (t : Fin cfg0.N) : Vec F S512x5632 .bf16 := blkIn m c 0 t
/-- Input 1's block at point `t`. -/
abbrev in1 (c : Dev nD) (t : Fin cfg0.N) : Vec F S1x5632x512 .f32 := blkIn m c 1 t
/-- Input 2's block at point `t`. -/
abbrev in2 (c : Dev nD) (t : Fin cfg0.N) : Vec F S512x512 .f32 := blkIn m c 2 t
/-- Input 3's block at point `t`. -/
abbrev in3 (c : Dev nD) (t : Fin cfg0.N) : Vec F S1x1x512 .f32 := blkIn m c 3 t
/-- Input 4's block at point `t`. -/
abbrev in4 (c : Dev nD) (t : Fin cfg0.N) : Vec F S32x5632 .bf16 := blkIn m c 4 t
/-- Input 5's block at point `t`. -/
abbrev in5 (c : Dev nD) (t : Fin cfg0.N) : Vec F S32x512 .f32 := blkIn m c 5 t
/-- Input 6's block at point `t`. -/
abbrev in6 (c : Dev nD) (t : Fin cfg0.N) : Vec F S32x512 .f32 := blkIn m c 6 t

/-- The tile of the weights point `t` leaves in scratch 0. -/
def tile0 (c : Dev nD) (t : Fin cfg0.N) : Vec F S5632x512 .bf16 := k0_pay1 (in1 m c t)
/-- What point `t` leaves in the prompt's block. -/
def outP (c : Dev nD) (t : Fin cfg0.N) : Vec F S512x512 .f32 := k0_pay3 (in0 m c t) (tile0 m c t) (in2 m c t) (in3 m c t)
/-- What point `t` leaves in the samples' block. -/
def outS (c : Dev nD) (t : Fin cfg0.N) : Vec F S32x512 .f32 := k0_pay2 (in5 m c t) (in6 m c t) (in4 m c t) (tile0 m c t)

theorem inv_eq (c : Dev nD) :
    (Pipeline.ΦA spec0 c : sProp 𝕄)
      = iprop((∃ d, owns (c : Thread nD τ) scr0 fullShare d) ∗ (∃ r, prngReg c r)) := by
  unfold Pipeline.ΦA; rw [scopedRest0_eq]; simp only [scr0, owns_whole]; try rfl

/-- The invariant before point `n`: the scratch at anything before the first, and after point `n` at that point's tiles. -/
def Inv (c : Dev nD) : (n : ℕ) → n ≤ cfg0.N → sProp 𝕄
  | 0, _ => Pipeline.ΦA spec0 c
  | n + 1, hn => iprop(owns (c : Thread nD τ) scr0 fullShare (tile0 m c ⟨n, hn⟩) ∗ (∃ r, prngReg c r))

theorem Inv_zero (c : Dev nD) (n : ℕ) (h : n ≤ cfg0.N) (hz : n = 0) : Inv m c n h = Pipeline.ΦA spec0 c := by subst hz; rfl

theorem Inv_pos (c : Dev nD) (n : ℕ) (h : n ≤ cfg0.N) (hz : n ≠ 0) :
    Inv m c n h = iprop(owns (c : Thread nD τ) scr0 fullShare (tile0 m c ⟨n - 1, by omega⟩) ∗ (∃ r, prngReg c r)) := by
  cases n with
  | zero => exact absurd rfl hz
  | succ k => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => blkIn m c 0 t
    | ⟨1, _⟩ => blkIn m c 1 t
    | ⟨2, _⟩ => blkIn m c 2 t
    | ⟨3, _⟩ => blkIn m c 3 t
    | ⟨4, _⟩ => blkIn m c 4 t
    | ⟨5, _⟩ => blkIn m c 5 t
    | ⟨6, _⟩ => blkIn m c 6 t
    | ⟨7, _⟩ => outP m c t
    | ⟨8, _⟩ => outS m c t
  Φ t := Inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem inv_before (c : Dev nD) (t : Fin cfg0.N) : (dats m 0 c).Φ t.castSucc = Inv m c t.val (Nat.le_of_lt t.isLt) := by
  dsimp only [dats]; exact Pipeline.Dat.Φ_castSucc (Inv m c) t

theorem after7 (c : Dev nD) (t : Fin cfg0.N) : (dats m 0 c).after 7 t = outP m c t := by dsimp only [dats]
theorem after8 (c : Dev nD) (t : Fin cfg0.N) : (dats m 0 c).after 8 t = outS m c t := by dsimp only [dats]
theorem after0 (c : Dev nD) (t : Fin cfg0.N) : (dats m 0 c).after 0 t = blkIn m c 0 t := by dsimp only [dats]
theorem before0 (c : Dev nD) (t : Fin cfg0.N) (d) : (dats m 0 c).before 0 t d = blkIn m c 0 t :=
  ((dats m 0 c).before_in_eq_fetched 0 rfl (fun _ => rfl) (fun _ _ _ => rfl) (fun t => by rw [after0]; unfold Dat.blockOf blkIn; rw [A_eq]; try rfl) t d).trans
    (by unfold Dat.fetched Dat.blockOf blkIn; rw [A_eq]; try rfl)
theorem after1 (c : Dev nD) (t : Fin cfg0.N) : (dats m 0 c).after 1 t = blkIn m c 1 t := by dsimp only [dats]
theorem before1 (c : Dev nD) (t : Fin cfg0.N) (d) : (dats m 0 c).before 1 t d = blkIn m c 1 t :=
  ((dats m 0 c).before_in_eq_fetched 1 rfl (fun _ => rfl) (fun _ _ _ => rfl) (fun t => by rw [after1]; unfold Dat.blockOf blkIn; rw [A_eq]; try rfl) t d).trans
    (by unfold Dat.fetched Dat.blockOf blkIn; rw [A_eq]; try rfl)
theorem after2 (c : Dev nD) (t : Fin cfg0.N) : (dats m 0 c).after 2 t = blkIn m c 2 t := by dsimp only [dats]
theorem before2 (c : Dev nD) (t : Fin cfg0.N) (d) : (dats m 0 c).before 2 t d = blkIn m c 2 t :=
  ((dats m 0 c).before_in_eq_fetched 2 rfl (fun _ => rfl) (fun _ _ _ => rfl) (fun t => by rw [after2]; unfold Dat.blockOf blkIn; rw [A_eq]; try rfl) t d).trans
    (by unfold Dat.fetched Dat.blockOf blkIn; rw [A_eq]; try rfl)
theorem after3 (c : Dev nD) (t : Fin cfg0.N) : (dats m 0 c).after 3 t = blkIn m c 3 t := by dsimp only [dats]
theorem before3 (c : Dev nD) (t : Fin cfg0.N) (d) : (dats m 0 c).before 3 t d = blkIn m c 3 t :=
  ((dats m 0 c).before_in_eq_fetched 3 rfl (fun _ => rfl) (fun _ _ _ => rfl) (fun t => by rw [after3]; unfold Dat.blockOf blkIn; rw [A_eq]; try rfl) t d).trans
    (by unfold Dat.fetched Dat.blockOf blkIn; rw [A_eq]; try rfl)
theorem after4 (c : Dev nD) (t : Fin cfg0.N) : (dats m 0 c).after 4 t = blkIn m c 4 t := by dsimp only [dats]
theorem before4 (c : Dev nD) (t : Fin cfg0.N) (d) : (dats m 0 c).before 4 t d = blkIn m c 4 t :=
  ((dats m 0 c).before_in_eq_fetched 4 rfl (fun _ => rfl) (fun _ _ _ => rfl) (fun t => by rw [after4]; unfold Dat.blockOf blkIn; rw [A_eq]; try rfl) t d).trans
    (by unfold Dat.fetched Dat.blockOf blkIn; rw [A_eq]; try rfl)
theorem after5 (c : Dev nD) (t : Fin cfg0.N) : (dats m 0 c).after 5 t = blkIn m c 5 t := by dsimp only [dats]
theorem before5 (c : Dev nD) (t : Fin cfg0.N) (d) : (dats m 0 c).before 5 t d = blkIn m c 5 t :=
  ((dats m 0 c).before_in_eq_fetched 5 rfl (fun _ => rfl) (fun _ _ _ => rfl) (fun t => by rw [after5]; unfold Dat.blockOf blkIn; rw [A_eq]; try rfl) t d).trans
    (by unfold Dat.fetched Dat.blockOf blkIn; rw [A_eq]; try rfl)
theorem after6 (c : Dev nD) (t : Fin cfg0.N) : (dats m 0 c).after 6 t = blkIn m c 6 t := by dsimp only [dats]
theorem before6 (c : Dev nD) (t : Fin cfg0.N) (d) : (dats m 0 c).before 6 t d = blkIn m c 6 t :=
  ((dats m 0 c).before_in_eq_fetched 6 rfl (fun _ => rfl) (fun _ _ _ => rfl) (fun t => by rw [after6]; unfold Dat.blockOf blkIn; rw [A_eq]; try rfl) t d).trans
    (by unfold Dat.fetched Dat.blockOf blkIn; rw [A_eq]; try rfl)

/-! ## The columns of the grid -/

theorem points : cfg0.N = 64 := N_0

/-- The body stores the tiles at the points that begin a column. -/
theorem cond_iff : ∀ t : Fin cfg0.N, k0_cond1 (grid0.coords t) = 1#1 ↔ t.val % 16 = 0 :=
  (by decide +kernel : ∀ t : Fin grid0.N, k0_cond1 (grid0.coords t) = 1#1 ↔ t.val % 16 = 0)

/-- The point before `t`. -/
abbrev prev (t : Fin cfg0.N) : Fin cfg0.N := ⟨t.val - 1, Nat.lt_of_le_of_lt (Nat.sub_le _ _) t.isLt⟩

theorem carry1 (c : Dev nD) (t : Fin cfg0.N) (h : t.val % 16 ≠ 0) : in1 m c t = in1 m c (prev t) := by
  have hf : (cfg0.win 1).fetch t = false := Bool.eq_false_iff.mpr fun hh => h (by have := (fetch0_1 t).mp hh; omega)
  have e1 := (dats m 0 c).before_unfetched_in 1 rfl t hf (fun _ => rfl) (in1 m c t)
  rw [before1] at e1
  exact e1.trans ((Pipeline.fill_of_clip_none 1 _ (fun _ => rfl) _ ((dats m 0 c).after 1 (prev t)) _).trans (((cfg0.win 1).fill_cut _ _).trans (after1 m c (prev t))))

theorem carry4 (c : Dev nD) (t : Fin cfg0.N) (h : t.val % 16 ≠ 0) : in4 m c t = in4 m c (prev t) := by
  have hf : (cfg0.win 4).fetch t = false := Bool.eq_false_iff.mpr fun hh => h (by have := (fetch0_4 t).mp hh; omega)
  have e1 := (dats m 0 c).before_unfetched_in 4 rfl t hf (fun _ => rfl) (in4 m c t)
  rw [before4] at e1
  exact e1.trans ((Pipeline.fill_of_clip_none 4 _ (fun _ => rfl) _ ((dats m 0 c).after 4 (prev t)) _).trans (((cfg0.win 4).fill_cut _ _).trans (after4 m c (prev t))))

theorem carry5 (c : Dev nD) (t : Fin cfg0.N) (h : t.val % 16 ≠ 0) : in5 m c t = in5 m c (prev t) := by
  have hf : (cfg0.win 5).fetch t = false := Bool.eq_false_iff.mpr fun hh => h (by have := (fetch0_5 t).mp hh; omega)
  have e1 := (dats m 0 c).before_unfetched_in 5 rfl t hf (fun _ => rfl) (in5 m c t)
  rw [before5] at e1
  exact e1.trans ((Pipeline.fill_of_clip_none 5 _ (fun _ => rfl) _ ((dats m 0 c).after 5 (prev t)) _).trans (((cfg0.win 5).fill_cut _ _).trans (after5 m c (prev t))))

theorem carry6 (c : Dev nD) (t : Fin cfg0.N) (h : t.val % 16 ≠ 0) : in6 m c t = in6 m c (prev t) := by
  have hf : (cfg0.win 6).fetch t = false := Bool.eq_false_iff.mpr fun hh => h (by have := (fetch0_6 t).mp hh; omega)
  have e1 := (dats m 0 c).before_unfetched_in 6 rfl t hf (fun _ => rfl) (in6 m c t)
  rw [before6] at e1
  exact e1.trans ((Pipeline.fill_of_clip_none 6 _ (fun _ => rfl) _ ((dats m 0 c).after 6 (prev t)) _).trans (((cfg0.win 6).fill_cut _ _).trans (after6 m c (prev t))))

theorem carry_tile0 (c : Dev nD) (t : Fin cfg0.N) (h : t.val % 16 ≠ 0) : tile0 m c t = tile0 m c (prev t) := by
  unfold tile0; rw [carry1 m c t h]

theorem carry_out (c : Dev nD) (t : Fin cfg0.N) (h : t.val % 16 ≠ 0) : outS m c t = outS m c (prev t) := by
  unfold outS; rw [carry4 m c t h, carry5 m c t h, carry6 m c t h, carry_tile0 m c t h]

theorem idle_iff (t : Fin cfg0.N) : cfg0.idle 8 (cfg0.grid.coords t) = true ↔ t.val % 16 ≠ 0 := by
  show (!(k0_cond1 (grid0.coords t) == 1#1)) = true ↔ _
  rw [Bool.not_eq_true', beq_eq_false_iff_ne, ne_eq, cond_iff t]

theorem fresh_first (t : Fin cfg0.N) (h : cfg0.fresh 8 t.val = true) : t.val % 16 = 0 := by
  obtain ⟨n, hn⟩ := t
  induction n with
  | zero => rfl
  | succ k ih =>
    have hk : k < cfg0.N := by omega
    have hN : cfg0.N = 64 := points
    by_contra hc
    change ¬ (k + 1) % 16 = 0 at hc
    change cfg0.fresh 8 (k + 1) = true at h
    rw [Pipeline.Cfg.fresh_succ cfg0 8 k hk, Bool.or_eq_true, Bool.and_eq_true] at h
    rcases h with h | ⟨h1, h2⟩
    · have := (flush0_8 ⟨k, hk⟩).mp h
      change k % 16 = 15 at this
      omega
    · exact (idle_iff ⟨k, hk⟩).mp h1 (ih hk h2)

/-- Inside a column the samples' block is what the column's first point stored. -/
theorem before8 (c : Dev nD) (t : Fin cfg0.N) (h : t.val % 16 ≠ 0) (d) : (dats m 0 c).before 8 t d = outS m c t := by
  have hfr : cfg0.fresh 8 t.val = false := Bool.eq_false_iff.mpr fun hh => h (fresh_first t hh)
  have e := (dats m 0 c).before_out_traj 8 rfl (fun _ _ => rfl)
    (fun t _ hi _ => by rw [after8, after8]; exact carry_out m c t ((idle_iff t).mp hi)) t.val t rfl d
  rw [e, if_neg (by rw [hfr]; exact Bool.false_ne_true), after8]
  exact (carry_out m c t h).symm

/-! ## The body at any point -/

def pointPre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d))
    ∗ (∃ d, owns (c : Thread nD τ) (st6 t) fullShare ((dats m 0 c).before 6 t d))
    ∗ (∃ d, owns (c : Thread nD τ) (st7 t) fullShare ((dats m 0 c).before 7 t d))
    ∗ (∃ d, owns (c : Thread nD τ) (st8 t) fullShare ((dats m 0 c).before 8 t d)))

def pointPost (c : Dev nD) (t : Fin cfg0.N) : sProp 𝕄 :=
  iprop((dats m 0 c).Φ t.succ ∗ (dats m 0 c).owesAt () t.succ
    ∗ owns (c : Thread nD τ) (st0 t) fullShare ((dats m 0 c).after 0 t)
    ∗ owns (c : Thread nD τ) (st1 t) fullShare ((dats m 0 c).after 1 t)
    ∗ owns (c : Thread nD τ) (st2 t) fullShare ((dats m 0 c).after 2 t)
    ∗ owns (c : Thread nD τ) (st3 t) fullShare ((dats m 0 c).after 3 t)
    ∗ owns (c : Thread nD τ) (st4 t) fullShare ((dats m 0 c).after 4 t)
    ∗ owns (c : Thread nD τ) (st5 t) fullShare ((dats m 0 c).after 5 t)
    ∗ owns (c : Thread nD τ) (st6 t) fullShare ((dats m 0 c).after 6 t)
    ∗ owns (c : Thread nD τ) (st7 t) fullShare ((dats m 0 c).after 7 t)
    ∗ owns (c : Thread nD τ) (st8 t) fullShare ((dats m 0 c).after 8 t))

theorem point_body (c : Dev nD) (t : Fin cfg0.N) :
    pointPre m c t ⊢ wp frame (wpE (defs₀ (F := F)) Variants.none c none) Set.univ (bodyAt0 t) (fun _ => pointPost m c t) := by
  unfold pointPre pointPost bodyAt0
  simp only [before0, before1, before2, before3, before4, before5, before6]
  rw [show (dats m 0 c).owesAt () t.succ = (dats m 0 c).owesAt () t.castSucc from rfl,
    after0, after1, after2, after3, after4, after5, after6, after7, after8]
  rw [show (dats m 0 c).Φ t.succ = iprop(owns (c : Thread nD τ) scr0 fullShare (tile0 m c t) ∗ (∃ r, prngReg c r)) from rfl, inv_before]
  by_cases h0 : t.val % 16 = 0
  · have hpre : Inv m c t.val (Nat.le_of_lt t.isLt) ⊢ iprop((∃ d, owns (c : Thread nD τ) scr0 fullShare d) ∗ (∃ r, prngReg c r)) := by
      by_cases hz : t.val = 0
      · rw [Inv_zero m c _ _ hz, inv_eq]
      · rw [Inv_pos m c _ _ hz]
        iintro ⟨HS0, Hg⟩
        isplitl [HS0]
        · iexists _; iexact HS0
        iexact Hg
    refine (sep_mono hpre .rfl).trans ?_
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (body_first c (grid0.coords t) _ _ _ _ _ _ _ _ _ _ _ _ _ _ _ _ _ _ _ _ ((cond_iff t).mpr h0) (blkIn m c 0 t) (blkIn m c 1 t) (blkIn m c 2 t) (blkIn m c 3 t) (blkIn m c 4 t) (blkIn m c 5 t) (blkIn m c 6 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [HS0]; · iexact HS0
    iintro ⟨H0, H1, H2, H3, H4, H5, H6, H7, H8, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · have hz : t.val ≠ 0 := fun h => h0 (by rw [h])
    simp only [before8 m c t h0]
    rw [Inv_pos m c _ _ hz, ← show tile0 m c t = tile0 m c ⟨t.val - 1, _⟩ from carry_tile0 m c t h0]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (body_later c (grid0.coords t) _ _ _ _ _ _ _ _ _ _ _ _ _ _ _ _ _ _ _ _ (fun h => h0 ((cond_iff t).mp h)) (blkIn m c 0 t) (blkIn m c 1 t) (blkIn m c 2 t) (blkIn m c 3 t) (blkIn m c 4 t) (blkIn m c 5 t) (blkIn m c 6 t) (outS m c t) (tile0 m c t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [HS0]; · iexact HS0
    iintro ⟨H0, H1, H2, H3, H4, H5, H6, H7, H8, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

theorem body_row (t : Fin cfg0.N) :
    defs₀ (F := F) .tc cfg0.body (cfg0.bodyArgs t (cfg0.slots t)) = bodyAt0 t := by
  unfold defs₀; rw [Defs.onTc_tc]

/-- The samples' block after a point, as the obligation asks for it at a point that stores nothing there. -/
theorem leaves (c : Dev nD) (t : Fin cfg0.N) : owns (c : Thread nD τ) (st8 t) fullShare ((dats m 0 c).after 8 t)
    ⊢ (match cfg0.idle 8 (cfg0.grid.coords t) with
        | true =>
          match (cfg0.win 8).flush t with
          | false => iprop(∃ d, owns (c : Thread nD τ) (st8 t) fullShare ((dats m 0 c).before 8 t d))
          | true => owns (c : Thread nD τ) (st8 t) fullShare ((dats m 0 c).after 8 t)
        | false => owns (c : Thread nD τ) (st8 t) fullShare ((dats m 0 c).after 8 t) : sProp 𝕄) := by
  cases hi : cfg0.idle 8 (cfg0.grid.coords t)
  · exact .rfl
  · cases hf : (cfg0.win 8).flush t
    · simp only [before8 m c t ((idle_iff t).mp hi), after8]
      iintro H
      iexists (outS m c t); iexact H
    · exact .rfl

theorem obligation (c : Dev nD) : BodyObligation (dats (F := F) m 0 c) (defs₀ (F := F)) Variants.none () Set.univ := fun t => by
  rw [bigSep_W0, bigSep_W0, body_row]
  refine triple_restated (point_body m c t) rfl .rfl fun _ => ?_
  unfold pointPost
  exact sep_mono .rfl (sep_mono .rfl (sep_mono .rfl (sep_mono .rfl (sep_mono .rfl (sep_mono .rfl (sep_mono .rfl (sep_mono .rfl (sep_mono .rfl (sep_mono .rfl (leaves m c t))))))))))

theorem inv_in (c : Dev nD) : Pipeline.ΦA spec0 c ⊢ (dats m 0 c).Φ 0 := by
  rw [show (dats m 0 c).Φ 0 = Inv m c 0 (Nat.zero_le _) from rfl, Inv_zero m c 0 _ rfl]
  try exact Idealize.SL.BI.Entails.refl _

theorem inv_out (c : Dev nD) : (dats m 0 c).Φ (Fin.last cfg0.N) ⊢ Pipeline.ΦA spec0 c := by
  rw [show (dats m 0 c).Φ (Fin.last cfg0.N) = Inv m c (Fin.last cfg0.N).val (Nat.le_of_lt_succ (Fin.last cfg0.N).isLt) from rfl,
    Inv_pos m c _ _ (by rw [Fin.val_last, points]; decide), inv_eq]
  iintro ⟨HS0, Hg⟩
  isplitl [HS0]
  · iexists _; iexact HS0
  iexact Hg

/-! ## The run -/

set_option backward.isDefEq.respectTransparency.types false in
theorem run_quiet : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := host_main m Variants.none) (hA := A_eq m) (hin := inv_in m) (hout := inv_out m)

theorem kept0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (fun w => (by decide : ∀ w : Fin 9, (spec0 w).arr.view.ref ≠ main_arg0) w))).trans (V_arg0 m c)
theorem kept1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (fun w => (by decide : ∀ w : Fin 9, (spec0 w).arr.view.ref ≠ main_arg1) w))).trans (V_arg1 m c)
theorem kept2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 1).trans (((dats m 0 c).arrAt_in 1 rfl _).trans ((A_eq m c 1).trans (V_arg2 m c)))
theorem kept3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (fun w => (by decide : ∀ w : Fin 9, (spec0 w).arr.view.ref ≠ main_arg3) w))).trans (V_arg3 m c)
theorem kept4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (fun w => (by decide : ∀ w : Fin 9, (spec0 w).arr.view.ref ≠ main_arg4) w))).trans (V_arg4 m c)
theorem kept5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 3).trans (((dats m 0 c).arrAt_in 3 rfl _).trans ((A_eq m c 3).trans (V_arg5 m c)))
theorem kept6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (fun w => (by decide : ∀ w : Fin 9, (spec0 w).arr.view.ref ≠ main_arg6) w))).trans (V_arg6 m c)

/-- Every execution ends, the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => ⟨kept0 m r h.1 c, kept1 m r h.1 c, kept2 m r h.1 c, kept3 m r h.1 c, kept4 m r h.1 c, kept5 m r h.1 c, kept6 m r h.1 c⟩, h.2⟩) (run_quiet m ρ)

/-! ## The output arrays, block by block -/

theorem index_inj : ∀ t t' : Fin cfg0.N, win0_7.index t = win0_7.index t' → t = t' :=
  (by decide +kernel : ∀ t t' : Fin grid0.N, win0_7.index t = win0_7.index t' → t = t')

theorem blocks_apart : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (index_inj t t' h)

theorem index_injS : ∀ t t' : Fin cfg0.N, t.val % 16 = 15 → t'.val % 16 = 15 → win0_8.index t = win0_8.index t' → t = t' :=
  (by decide +kernel : ∀ t t' : Fin grid0.N, t.val % 16 = 15 → t'.val % 16 = 15 → win0_8.index t = win0_8.index t' → t = t')

theorem blocks_apartS : ∀ t t' : Fin cfg0.N, (cfg0.win 8).flush t = true → (cfg0.win 8).flush t' = true → t ≠ t' →
    Disjoint ((cfg0.win 8).blk t).view.set ((cfg0.win 8).blk t').view.set :=
  fun t t' hf hf' hne => (cfg0.win 8).disjoint_blk fun h => hne (index_injS t t' ((flush0_8 t).mp hf) ((flush0_8 t').mp hf') h)

/-- Block `t` of the prompt's final array is what point `t` left. -/
theorem block_out (c : Dev nD) (t : Fin cfg0.N) :
    ((cfg0.win 7).blk t).view.read (Elt F) ((dats m 0 c).arrAt 7 cfg0.N) = (cfg0.win 7).cut (grid0.coords t) (outP m c t) := by
  rw [(dats m 0 c).read_blk_arrAt_eq_flushed 7 blocks_apart cfg0.N t t.isLt (flush0_7 t)]
  show (cfg0.win 7).cut (grid0.coords t) ((dats m 0 c).after 7 t) = _
  rw [after7]

/-- The block of the samples' final array a column's last point writes back is what that column left. -/
theorem block_outS (c : Dev nD) (t : Fin cfg0.N) (h : t.val % 16 = 15) :
    ((cfg0.win 8).blk t).view.read (Elt F) ((dats m 0 c).arrAt 8 cfg0.N) = (cfg0.win 8).cut (grid0.coords t) (outS m c t) := by
  rw [(dats m 0 c).read_blk_arrAt_eq_flushed 8 blocks_apartS cfg0.N t t.isLt ((flush0_8 t).mpr h)]
  show (cfg0.win 8).cut (grid0.coords t) ((dats m 0 c).after 8 t) = _
  rw [after8]

theorem run_out : θ_run defs (onTc (τ := τ) (main (F := F))) ⟨m, fun _ => 0, ρ⟩ fun r => ∀ c : Dev nD,
      r.2.mem ((c.tc : Thread nD τ).loc main_v9_0) = (dats m 0 c).arrAt 7 cfg0.N
      ∧ r.2.mem ((c.tc : Thread nD τ).loc main_v9_1) = (dats m 0 c).arrAt 8 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨(h.1 c).1 7, (h.1 c).1 8, kept0 m r h.1 c, kept1 m r h.1 c, kept2 m r h.1 c, kept3 m r h.1 c, kept4 m r h.1 c, kept5 m r h.1 c, kept6 m r h.1 c⟩) (run_quiet m ρ)

end Cert.Proof.Down

end
-- ==== Proof.Down.Elem.lean ====
/-
  The values of the body's stores and of the host's operations, entry by entry.
-/
module

public import proofs.«01_k».proof.Proof.Gen.KernelDownIdeal.Skeleton
public import Idealize.ShloMosaic.Lib.Pointwise

@[expose] public section

set_option maxRecDepth 16384

noncomputable section

namespace Cert.Proof.Down

open Cert.KernelDownIdeal Cert.KernelDownIdeal.Gen
open Idealize.ShloMosaic Idealize.ShloMosaic.TcCoe

theorem pay1_apply (x : FVec Ideal S1x5632x512 .f32) (k : Fin 5632) (q : Fin 512) : k0_pay1 (F := Ideal) x (ix2 k q) = x (ix3 0 k q) := by
  pointwise [k0_pay1]

theorem pay3_apply (a : FVec Ideal S512x5632 .bf16) (w : FVec Ideal S5632x512 .bf16) (x : FVec Ideal S512x512 .f32) (g : FVec Ideal S1x1x512 .f32) (r : Fin 512) (q : Fin 512) :
    k0_pay3 (F := Ideal) a w x g (ix2 r q) = x (ix2 r q) + g (ix3 0 0 q) * ∑ k : Fin 5632, a (ix2 r k) * w (ix2 k q) := by
  pointwise [k0_pay3]

theorem pay2_apply (x g : FVec Ideal S32x512 .f32) (a : FVec Ideal S32x5632 .bf16) (w : FVec Ideal S5632x512 .bf16) (r : Fin 32) (q : Fin 512) :
    k0_pay2 (F := Ideal) x g a w (ix2 r q) = x (ix2 r q) + g (ix2 r q) * ∑ k : Fin 5632, a (ix2 r k) * w (ix2 k q) := by
  pointwise [k0_pay2]

theorem castP_apply (h : FVec Ideal S2x4096x5632 .f32) (R : Fin 8192) (k : Fin 5632) (b : Fin 2) (t : Fin 4096) (hR : R.val = b.val * 4096 + t.val) :
    (truncf .bf16 (shapeCast S8192x5632 h shapeCasts_S2x4096x5632_S8192x5632 : FVec Ideal S8192x5632 .f32) bitsLt_bf16_f32 : FVec Ideal S8192x5632 .bf16) (ix2 R k) = h (ix3 b t k) := by
  have ht := t.isLt
  pointwise
  congr 1
  congr 1 <;> exact Fin.ext (by dsimp only; omega)

theorem castS_apply (h : FVec Ideal S8x4x5632 .f32) (R : Fin 32) (k : Fin 5632) (b : Fin 8) (t : Fin 4) (hR : R.val = b.val * 4 + t.val) :
    (truncf .bf16 (shapeCast S32x5632 h shapeCasts_S8x4x5632_S32x5632 : FVec Ideal S32x5632 .f32) bitsLt_bf16_f32 : FVec Ideal S32x5632 .bf16) (ix2 R k) = h (ix3 b t k) := by
  have ht := t.isLt
  pointwise
  congr 1
  congr 1 <;> exact Fin.ext (by dsimp only; omega)

theorem rowsP_apply (h : FVec Ideal S2x4096x2048 .f32) (R : Fin 8192) (k : Fin 2048) (b : Fin 2) (t : Fin 4096) (hR : R.val = b.val * 4096 + t.val) :
    (shapeCast S8192x2048 h shapeCasts_S2x4096x2048_S8192x2048 : FVec Ideal S8192x2048 .f32) (ix2 R k) = h (ix3 b t k) := by
  have ht := t.isLt
  pointwise
  congr 1
  congr 1 <;> exact Fin.ext (by dsimp only; omega)

theorem rowsS_apply (h : FVec Ideal S8x4x2048 .f32) (R : Fin 32) (k : Fin 2048) (b : Fin 8) (t : Fin 4) (hR : R.val = b.val * 4 + t.val) :
    (shapeCast S32x2048 h shapeCasts_S8x4x2048_S32x2048 : FVec Ideal S32x2048 .f32) (ix2 R k) = h (ix3 b t k) := by
  have ht := t.isLt
  pointwise
  congr 1
  congr 1 <;> exact Fin.ext (by dsimp only; omega)

theorem gateRow_apply (g : FVec Ideal S8x1x2048 .f32) (b : Fin 8) (t : Fin 4) (k : Fin 2048) :
    (broadcastInDim S8x4x2048 ![0, 2] bcast_S8x2048_S8x4x2048_0_2 (shapeCast S8x2048 g shapeCasts_S8x1x2048_S8x2048 : FVec Ideal S8x2048 .f32) : FVec Ideal S8x4x2048 .f32) (ix3 b t k) = g (ix3 b 0 k) := by
  pointwise

end Cert.Proof.Down

end
-- ==== Proof.Down.Ref.lean ====
/-
  The reference of the gated residual call, entry by entry.
-/
module

public import proofs.«01_k».proof.Proof.Gen.ReferenceDownIdeal.Run
public import Idealize.ShloMosaic.Lib.Pointwise

@[expose] public section

set_option maxRecDepth 16384

noncomputable section

namespace Cert.Proof.Down.Ref

open Cert.ReferenceDownIdeal Cert.ReferenceDownIdeal.Gen
open Idealize.ShloMosaic Idealize.ShloMosaic.TcCoe

/-- The call's weights. -/
def wgt (w : FVec Ideal S4x5632x2048 .f32) : FVec Ideal S5632x2048 .f32 :=
  shapeCast S5632x2048 (extractStridedSlice S1x5632x2048 ![1, 0, 0] w slices_S4x5632x2048_S1x5632x2048_1_0_0) shapeCasts_S1x5632x2048_S5632x2048

/-- The prompt's products. -/
def dotP (a : FVec Ideal S2x4096x5632 .f32) (w : FVec Ideal S5632x2048 .f32) : FVec Ideal S2x4096x2048 .f32 :=
  Host.dotGeneral dot_S2x4096x5632_S5632x2048_S2x4096x2048_2_0_01_1_n_n none a w

/-- The samples' products. -/
def dotS (a : FVec Ideal S8x4x5632 .f32) (w : FVec Ideal S5632x2048 .f32) : FVec Ideal S8x4x2048 .f32 :=
  Host.dotGeneral dot_S8x4x5632_S5632x2048_S8x4x2048_2_0_01_1_n_n none a w

def addP (x d : FVec Ideal S2x4096x2048 .f32) (g : FVec Ideal S2x1x2048 .f32) : FVec Ideal S8192x2048 .f32 :=
  shapeCast S8192x2048 (addf x (mulf (broadcastInDim S2x4096x2048 ![0, 1, 2] bcast_S2x1x2048_S2x4096x2048_0_1_2 g) d)) shapeCasts_S2x4096x2048_S8192x2048

def addS (x d : FVec Ideal S8x4x2048 .f32) (g : FVec Ideal S8x1x2048 .f32) : FVec Ideal S32x2048 .f32 :=
  shapeCast S32x2048 (addf x (mulf (broadcastInDim S8x4x2048 ![0, 1, 2] bcast_S8x1x2048_S8x4x2048_0_1_2 g) d)) shapeCasts_S8x4x2048_S32x2048

theorem wgt_apply (w : FVec Ideal S4x5632x2048 .f32) (k : Fin 5632) (q : Fin 2048) : wgt w (ix2 k q) = w (ix3 1 k q) := by
  pointwise [wgt]

theorem dotP_apply (a : FVec Ideal S2x4096x5632 .f32) (w : FVec Ideal S5632x2048 .f32) (b : Fin 2) (t : Fin 4096) (q : Fin 2048) :
    dotP a w (ix3 b t q) = ∑ k : Fin 5632, a (ix3 b t k) * w (ix2 k q) := by
  pointwise [dotP]

theorem dotS_apply (a : FVec Ideal S8x4x5632 .f32) (w : FVec Ideal S5632x2048 .f32) (b : Fin 8) (t : Fin 4) (q : Fin 2048) :
    dotS a w (ix3 b t q) = ∑ k : Fin 5632, a (ix3 b t k) * w (ix2 k q) := by
  pointwise [dotS]

theorem addP_apply (x d : FVec Ideal S2x4096x2048 .f32) (g : FVec Ideal S2x1x2048 .f32) (R : Fin 8192) (q : Fin 2048) (b : Fin 2) (t : Fin 4096) (hR : R.val = b.val * 4096 + t.val) :
    addP x d g (ix2 R q) = x (ix3 b t q) + g (ix3 b 0 q) * d (ix3 b t q) := by
  have ht := t.isLt
  have e1 : ∀ h1 h2, (ix3 (⟨R.val / 4096, h1⟩ : Fin 2) (⟨R.val % 4096, h2⟩ : Fin 4096) q : S2x4096x2048.Idx) = ix3 b t q := fun h1 h2 => by
    congr 1 <;> exact Fin.ext (by dsimp only; omega)
  have e2 : ∀ h1, (ix3 (⟨R.val / 4096, h1⟩ : Fin 2) 0 q : S2x1x2048.Idx) = ix3 b 0 q := fun h1 => by
    congr 1; exact Fin.ext (by dsimp only; omega)
  pointwise [addP]
  exact congrArg₂ (· + ·) (congrArg x (e1 _ _)) (congrArg₂ (· * ·) (congrArg g (e2 _)) (congrArg d (e1 _ _)))

theorem addS_apply (x d : FVec Ideal S8x4x2048 .f32) (g : FVec Ideal S8x1x2048 .f32) (R : Fin 32) (q : Fin 2048) (b : Fin 8) (t : Fin 4) (hR : R.val = b.val * 4 + t.val) :
    addS x d g (ix2 R q) = x (ix3 b t q) + g (ix3 b 0 q) * d (ix3 b t q) := by
  have ht := t.isLt
  have e1 : ∀ h1 h2, (ix3 (⟨R.val / 4, h1⟩ : Fin 8) (⟨R.val % 4, h2⟩ : Fin 4) q : S8x4x2048.Idx) = ix3 b t q := fun h1 h2 => by
    congr 1 <;> exact Fin.ext (by dsimp only; omega)
  have e2 : ∀ h1, (ix3 (⟨R.val / 4, h1⟩ : Fin 8) 0 q : S8x1x2048.Idx) = ix3 b 0 q := fun h1 => by
    congr 1; exact Fin.ext (by dsimp only; omega)
  pointwise [addS]
  exact congrArg₂ (· + ·) (congrArg x (e1 _ _)) (congrArg₂ (· * ·) (congrArg g (e2 _)) (congrArg d (e1 _ _)))

/-- The two results, as functions of the arguments. -/
def resP (a : FVec Ideal S2x4096x5632 .f32) (w : FVec Ideal S4x5632x2048 .f32) (x : FVec Ideal S2x4096x2048 .f32) (g : FVec Ideal S2x1x2048 .f32) : FVec Ideal S8192x2048 .f32 :=
  addP x (dotP a (wgt w)) g

def resS (a : FVec Ideal S8x4x5632 .f32) (w : FVec Ideal S4x5632x2048 .f32) (x : FVec Ideal S8x4x2048 .f32) (g : FVec Ideal S8x1x2048 .f32) : FVec Ideal S32x2048 .f32 :=
  addS x (dotS a (wgt w)) g

theorem resP_apply (a : FVec Ideal S2x4096x5632 .f32) (w : FVec Ideal S4x5632x2048 .f32) (x : FVec Ideal S2x4096x2048 .f32) (g : FVec Ideal S2x1x2048 .f32)
    (R : Fin 8192) (q : Fin 2048) (b : Fin 2) (t : Fin 4096) (hR : R.val = b.val * 4096 + t.val) :
    resP a w x g (ix2 R q) = x (ix3 b t q) + g (ix3 b 0 q) * ∑ k : Fin 5632, a (ix3 b t k) * w (ix3 1 k q) := by
  unfold resP
  rw [addP_apply _ _ _ R q b t hR, dotP_apply]
  simp only [wgt_apply]

theorem resS_apply (a : FVec Ideal S8x4x5632 .f32) (w : FVec Ideal S4x5632x2048 .f32) (x : FVec Ideal S8x4x2048 .f32) (g : FVec Ideal S8x1x2048 .f32)
    (R : Fin 32) (q : Fin 2048) (b : Fin 8) (t : Fin 4) (hR : R.val = b.val * 4 + t.val) :
    resS a w x g (ix2 R q) = x (ix3 b t q) + g (ix3 b 0 q) * ∑ k : Fin 5632, a (ix3 b t k) * w (ix3 1 k q) := by
  unfold resS
  rw [addS_apply _ _ _ R q b t hR, dotS_apply]
  simp only [wgt_apply]

/-- The reference's run. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v6) = resP (m ((c.tc : Thread nD τ).loc main_arg0)) (m ((c.tc : Thread nD τ).loc main_arg2)) (m ((c.tc : Thread nD τ).loc main_arg3)) (m ((c.tc : Thread nD τ).loc main_arg5))
      ∧ r.2.mem ((c.tc : Thread nD τ).loc main_v13) = resS (m ((c.tc : Thread nD τ).loc main_arg1)) (m ((c.tc : Thread nD τ).loc main_arg2)) (m ((c.tc : Thread nD τ).loc main_arg4)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨(h c).1.trans rfl, (h c).2.1.trans rfl, (h c).2.2⟩) (Value.run m ρ)

end Cert.Proof.Down.Ref

end
-- ==== Proof.Down.Value.lean ====
/-
  The two output arrays of the gated residual call, entry by entry, and their equality with the reference's.
-/
module

public import proofs.«01_k».proof.Proof.Down.Frame
public import proofs.«01_k».proof.Proof.Down.Elem
public import proofs.«01_k».proof.Proof.Down.Ref
public import proofs.«01_k».proof.Defs
public import Idealize.ShloMosaic.Lib.Pointwise
public import Idealize.ShloMosaic.Lib.StableHlo.Run

@[expose] public section

set_option maxRecDepth 16384

noncomputable section

namespace Cert.Proof.Down

open Cert.KernelDownIdeal Cert.KernelDownIdeal.Gen
open Idealize.ShloMosaic Idealize.ShloMosaic.TcCoe Idealize.ShloMosaic.Tactic

variable (m : (ℓ : Loc nD τ sig) → Buf (Elt Ideal) ℓ) (c : Dev nD)

theorem idx0 : ∀ t : Fin grid0.N, win0_0.index t 0 = (grid0.coords t 1).val ∧ win0_0.index t 1 = 0 := by decide +kernel
theorem idx1 : ∀ t : Fin grid0.N, win0_1.index t 0 = 1 ∧ win0_1.index t 1 = 0 ∧ win0_1.index t 2 = (grid0.coords t 0).val := by decide +kernel
theorem idx2 : ∀ t : Fin grid0.N, win0_2.index t 0 = (grid0.coords t 1).val ∧ win0_2.index t 1 = (grid0.coords t 0).val := by decide +kernel
theorem idx3 : ∀ t : Fin grid0.N, win0_3.index t 0 = (grid0.coords t 1).val / 8 ∧ win0_3.index t 1 = 0 ∧ win0_3.index t 2 = (grid0.coords t 0).val := by decide +kernel
theorem idx4 : ∀ t : Fin grid0.N, win0_4.index t 0 = 0 ∧ win0_4.index t 1 = 0 := by decide +kernel
theorem idx5 : ∀ t : Fin grid0.N, win0_5.index t 0 = 0 ∧ win0_5.index t 1 = (grid0.coords t 0).val := by decide +kernel
theorem idx6 : ∀ t : Fin grid0.N, win0_6.index t 0 = 0 ∧ win0_6.index t 1 = (grid0.coords t 0).val := by decide +kernel
theorem idx7 : ∀ t : Fin grid0.N, win0_7.index t 0 = (grid0.coords t 1).val ∧ win0_7.index t 1 = (grid0.coords t 0).val := by decide +kernel
theorem idx8 : ∀ t : Fin grid0.N, win0_8.index t 0 = 0 ∧ win0_8.index t 1 = (grid0.coords t 0).val := by decide +kernel

/-! ## The host's copies of the arguments -/

theorem V_a : (V m c main_v1 : FVec Ideal S8192x5632 .bf16) = (truncf .bf16 (shapeCast S8192x5632 (m ((c : Thread nD τ).loc main_arg0) : FVec Ideal S2x4096x5632 .f32) shapeCasts_S2x4096x5632_S8192x5632 : FVec Ideal S8192x5632 .f32) bitsLt_bf16_f32 : FVec Ideal S8192x5632 .bf16) := by
  unfold V
  after_results_simp
  rfl

theorem V_x : (V m c main_v2 : FVec Ideal S8192x2048 .f32) = (shapeCast S8192x2048 (m ((c : Thread nD τ).loc main_arg3) : FVec Ideal S2x4096x2048 .f32) shapeCasts_S2x4096x2048_S8192x2048 : FVec Ideal S8192x2048 .f32) := by
  unfold V
  after_results_simp
  rfl

theorem V_as : (V m c main_v4 : FVec Ideal S32x5632 .bf16) = (truncf .bf16 (shapeCast S32x5632 (m ((c : Thread nD τ).loc main_arg1) : FVec Ideal S8x4x5632 .f32) shapeCasts_S8x4x5632_S32x5632 : FVec Ideal S32x5632 .f32) bitsLt_bf16_f32 : FVec Ideal S32x5632 .bf16) := by
  unfold V
  after_results_simp
  rfl

theorem V_xs : (V m c main_v5 : FVec Ideal S32x2048 .f32) = (shapeCast S32x2048 (m ((c : Thread nD τ).loc main_arg4) : FVec Ideal S8x4x2048 .f32) shapeCasts_S8x4x2048_S32x2048 : FVec Ideal S32x2048 .f32) := by
  unfold V
  after_results_simp
  rfl

theorem V_gs : (V m c main_v8 : FVec Ideal S32x2048 .f32) = (shapeCast S32x2048 (broadcastInDim S8x4x2048 ![0, 2] bcast_S8x2048_S8x4x2048_0_2 (shapeCast S8x2048 (m ((c : Thread nD τ).loc main_arg6) : FVec Ideal S8x1x2048 .f32) shapeCasts_S8x1x2048_S8x2048 : FVec Ideal S8x2048 .f32) : FVec Ideal S8x4x2048 .f32) shapeCasts_S8x4x2048_S32x2048 : FVec Ideal S32x2048 .f32) := by
  unfold V
  after_results_simp
  rfl

/-! ## The blocks -/

theorem blk0 (t : Fin grid0.N) (r : Fin 512) (k : Fin 5632) (R : Fin 8192) (hR : R.val = (grid0.coords t 1).val * 512 + r.val) :
    (in0 m c t : FVec Ideal S512x5632 .bf16) (ix2 r k) = (V m c main_v1 : FVec Ideal S8192x5632 .bf16) (ix2 R k) := by
  refine congrArg (V m c main_v1 : FVec Ideal S8192x5632 .bf16) ?_
  funext a
  match a with
  | ⟨0, _⟩ => exact Fin.ext ((win0_0.rect_emb_val t _ 0).trans (by rw [(idx0 t).1]; exact hR.symm))
  | ⟨1, _⟩ => exact Fin.ext ((win0_0.rect_emb_val t _ 1).trans (by rw [(idx0 t).2]; show 0 * 5632 + k.val = k.val; omega))

theorem blk1 (t : Fin grid0.N) (k : Fin 5632) (q : Fin 512) (Q : Fin 2048) (hQ : Q.val = (grid0.coords t 0).val * 512 + q.val) :
    (in1 m c t : FVec Ideal S1x5632x512 .f32) (ix3 0 k q) = (V m c main_arg2 : FVec Ideal S4x5632x2048 .f32) (ix3 1 k Q) := by
  refine congrArg (V m c main_arg2 : FVec Ideal S4x5632x2048 .f32) ?_
  funext a
  match a with
  | ⟨0, _⟩ => exact Fin.ext ((win0_1.rect_emb_val t _ 0).trans (by rw [(idx1 t).1]; rfl))
  | ⟨1, _⟩ => exact Fin.ext ((win0_1.rect_emb_val t _ 1).trans (by rw [(idx1 t).2.1]; show 0 * 5632 + k.val = k.val; omega))
  | ⟨2, _⟩ => exact Fin.ext ((win0_1.rect_emb_val t _ 2).trans (by rw [(idx1 t).2.2]; exact hQ.symm))

theorem blk2 (t : Fin grid0.N) (r : Fin 512) (q : Fin 512) (Q : Fin 2048) (R : Fin 8192) (hR : R.val = (grid0.coords t 1).val * 512 + r.val) (hQ : Q.val = (grid0.coords t 0).val * 512 + q.val) :
    (in2 m c t : FVec Ideal S512x512 .f32) (ix2 r q) = (V m c main_v2 : FVec Ideal S8192x2048 .f32) (ix2 R Q) := by
  refine congrArg (V m c main_v2 : FVec Ideal S8192x2048 .f32) ?_
  funext a
  match a with
  | ⟨0, _⟩ => exact Fin.ext ((win0_2.rect_emb_val t _ 0).trans (by rw [(idx2 t).1]; exact hR.symm))
  | ⟨1, _⟩ => exact Fin.ext ((win0_2.rect_emb_val t _ 1).trans (by rw [(idx2 t).2]; exact hQ.symm))

theorem blk3 (t : Fin grid0.N) (q : Fin 512) (Q : Fin 2048) (b : Fin 2) (hb : b.val = (grid0.coords t 1).val / 8) (hQ : Q.val = (grid0.coords t 0).val * 512 + q.val) :
    (in3 m c t : FVec Ideal S1x1x512 .f32) (ix3 0 0 q) = (V m c main_arg5 : FVec Ideal S2x1x2048 .f32) (ix3 b 0 Q) := by
  refine congrArg (V m c main_arg5 : FVec Ideal S2x1x2048 .f32) ?_
  funext a
  match a with
  | ⟨0, _⟩ => exact Fin.ext ((win0_3.rect_emb_val t _ 0).trans (by rw [(idx3 t).1]; show (grid0.coords t 1).val / 8 * 1 + 0 = b.val; omega))
  | ⟨1, _⟩ => exact Fin.ext ((win0_3.rect_emb_val t _ 1).trans (by rw [(idx3 t).2.1]; rfl))
  | ⟨2, _⟩ => exact Fin.ext ((win0_3.rect_emb_val t _ 2).trans (by rw [(idx3 t).2.2]; exact hQ.symm))

theorem blk4 (t : Fin grid0.N) (r : Fin 32) (k : Fin 5632) :
    (in4 m c t : FVec Ideal S32x5632 .bf16) (ix2 r k) = (V m c main_v4 : FVec Ideal S32x5632 .bf16) (ix2 r k) := by
  refine congrArg (V m c main_v4 : FVec Ideal S32x5632 .bf16) ?_
  funext a
  match a with
  | ⟨0, _⟩ => exact Fin.ext ((win0_4.rect_emb_val t _ 0).trans (by rw [(idx4 t).1]; show 0 * 32 + r.val = r.val; omega))
  | ⟨1, _⟩ => exact Fin.ext ((win0_4.rect_emb_val t _ 1).trans (by rw [(idx4 t).2]; show 0 * 5632 + k.val = k.val; omega))

theorem blk5 (t : Fin grid0.N) (r : Fin 32) (q : Fin 512) (Q : Fin 2048) (hQ : Q.val = (grid0.coords t 0).val * 512 + q.val) :
    (in5 m c t : FVec Ideal S32x512 .f32) (ix2 r q) = (V m c main_v5 : FVec Ideal S32x2048 .f32) (ix2 r Q) := by
  refine congrArg (V m c main_v5 : FVec Ideal S32x2048 .f32) ?_
  funext a
  match a with
  | ⟨0, _⟩ => exact Fin.ext ((win0_5.rect_emb_val t _ 0).trans (by rw [(idx5 t).1]; show 0 * 32 + r.val = r.val; omega))
  | ⟨1, _⟩ => exact Fin.ext ((win0_5.rect_emb_val t _ 1).trans (by rw [(idx5 t).2]; exact hQ.symm))

theorem blk6 (t : Fin grid0.N) (r : Fin 32) (q : Fin 512) (Q : Fin 2048) (hQ : Q.val = (grid0.coords t 0).val * 512 + q.val) :
    (in6 m c t : FVec Ideal S32x512 .f32) (ix2 r q) = (V m c main_v8 : FVec Ideal S32x2048 .f32) (ix2 r Q) := by
  refine congrArg (V m c main_v8 : FVec Ideal S32x2048 .f32) ?_
  funext a
  match a with
  | ⟨0, _⟩ => exact Fin.ext ((win0_6.rect_emb_val t _ 0).trans (by rw [(idx6 t).1]; show 0 * 32 + r.val = r.val; omega))
  | ⟨1, _⟩ => exact Fin.ext ((win0_6.rect_emb_val t _ 1).trans (by rw [(idx6 t).2]; exact hQ.symm))

theorem elemP (t : Fin grid0.N) (r : Fin 512) (R : Fin 8192) (q : Fin 512) (Q : Fin 2048) (hR : R.val = (grid0.coords t 1).val * 512 + r.val) (hQ : Q.val = (grid0.coords t 0).val * 512 + q.val) :
    ((dats m 0 c).arrAt 7 cfg0.N : FVec Ideal S8192x2048 .f32) (ix2 R Q) = outP m c t (ix2 r q) := by
  have e := congrFun (block_out m c t) (ix2 r q)
  refine Eq.trans ?_ e
  refine congrArg ((dats m 0 c).arrAt 7 cfg0.N : FVec Ideal S8192x2048 .f32) ?_
  funext a
  match a with
  | ⟨0, _⟩ => exact Fin.ext ((win0_7.rect_emb_val t _ 0).trans (by rw [(idx7 t).1]; exact hR.symm)).symm
  | ⟨1, _⟩ => exact Fin.ext ((win0_7.rect_emb_val t _ 1).trans (by rw [(idx7 t).2]; exact hQ.symm)).symm

theorem elemS (t : Fin grid0.N) (ht : t.val % 16 = 15) (r : Fin 32) (q : Fin 512) (Q : Fin 2048) (hQ : Q.val = (grid0.coords t 0).val * 512 + q.val) :
    ((dats m 0 c).arrAt 8 cfg0.N : FVec Ideal S32x2048 .f32) (ix2 r Q) = outS m c t (ix2 r q) := by
  have e := congrFun (block_outS m c t ht) (ix2 r q)
  refine Eq.trans ?_ e
  refine congrArg ((dats m 0 c).arrAt 8 cfg0.N : FVec Ideal S32x2048 .f32) ?_
  funext a
  match a with
  | ⟨0, _⟩ => exact Fin.ext ((win0_8.rect_emb_val t _ 0).trans (by rw [(idx8 t).1]; show 0 * 32 + r.val = r.val; omega)).symm
  | ⟨1, _⟩ => exact Fin.ext ((win0_8.rect_emb_val t _ 1).trans (by rw [(idx8 t).2]; exact hQ.symm)).symm

/-! ## The entries -/

theorem point_of : ∀ (j : Fin 4) (i : Fin 16), ∃ t : Fin grid0.N, (grid0.coords t 0).val = j.val ∧ (grid0.coords t 1).val = i.val := by
  decide +kernel

theorem last_of : ∀ (j : Fin 4), ∃ t : Fin grid0.N, t.val % 16 = 15 ∧ (grid0.coords t 0).val = j.val := by
  decide +kernel

theorem valueP (R : Fin 8192) (Q : Fin 2048) (b : Fin 2) (s : Fin 4096) (hR : R.val = b.val * 4096 + s.val) :
    ((dats m 0 c).arrAt 7 cfg0.N : FVec Ideal S8192x2048 .f32) (ix2 R Q)
      = Ref.resP (m ((c : Thread nD τ).loc main_arg0)) (m ((c : Thread nD τ).loc main_arg2)) (m ((c : Thread nD τ).loc main_arg3)) (m ((c : Thread nD τ).loc main_arg5)) (ix2 R Q) := by
  have hRl := R.isLt
  have hQl := Q.isLt
  have hsl := s.isLt
  obtain ⟨t, h0, h1⟩ := point_of ⟨Q.val / 512, by omega⟩ ⟨R.val / 512, by omega⟩
  replace h0 : (grid0.coords t 0).val = Q.val / 512 := h0
  replace h1 : (grid0.coords t 1).val = R.val / 512 := h1
  have hR' : R.val = (grid0.coords t 1).val * 512 + R.val % 512 := by rw [h1]; omega
  have hQ' : Q.val = (grid0.coords t 0).val * 512 + Q.val % 512 := by rw [h0]; omega
  have hb : b.val = (grid0.coords t 1).val / 8 := by rw [h1]; omega
  rw [elemP m c t ⟨R.val % 512, by omega⟩ R ⟨Q.val % 512, by omega⟩ Q hR' hQ', Ref.resP_apply _ _ _ _ R Q b s hR]
  have ea : ∀ k : Fin 5632, (in0 m c t : FVec Ideal S512x5632 .bf16) (ix2 ⟨R.val % 512, by omega⟩ k) = (m ((c : Thread nD τ).loc main_arg0) : FVec Ideal S2x4096x5632 .f32) (ix3 b s k) := fun k =>
    (blk0 m c t _ k R hR').trans ((congrFun (V_a m c) _).trans (castP_apply _ R k b s hR))
  have ew : ∀ k : Fin 5632, (tile0 m c t : FVec Ideal S5632x512 .bf16) (ix2 k ⟨Q.val % 512, by omega⟩) = (m ((c : Thread nD τ).loc main_arg2) : FVec Ideal S4x5632x2048 .f32) (ix3 1 k Q) := fun k =>
    (pay1_apply _ k _).trans ((blk1 m c t k _ Q hQ').trans (congrFun (V_arg2 m c) _))
  have ex : (in2 m c t : FVec Ideal S512x512 .f32) (ix2 ⟨R.val % 512, by omega⟩ ⟨Q.val % 512, by omega⟩) = (m ((c : Thread nD τ).loc main_arg3) : FVec Ideal S2x4096x2048 .f32) (ix3 b s Q) :=
    (blk2 m c t _ _ Q R hR' hQ').trans ((congrFun (V_x m c) _).trans (rowsP_apply _ R Q b s hR))
  have eg : (in3 m c t : FVec Ideal S1x1x512 .f32) (ix3 0 0 ⟨Q.val % 512, by omega⟩) = (m ((c : Thread nD τ).loc main_arg5) : FVec Ideal S2x1x2048 .f32) (ix3 b 0 Q) :=
    (blk3 m c t _ Q b hb hQ').trans (congrFun (V_arg5 m c) _)
  refine (pay3_apply _ _ _ _ _ _).trans ?_
  simp only [ea, ew, ex, eg]

theorem valueS (R : Fin 32) (Q : Fin 2048) (b : Fin 8) (s : Fin 4) (hR : R.val = b.val * 4 + s.val) :
    ((dats m 0 c).arrAt 8 cfg0.N : FVec Ideal S32x2048 .f32) (ix2 R Q)
      = Ref.resS (m ((c : Thread nD τ).loc main_arg1)) (m ((c : Thread nD τ).loc main_arg2)) (m ((c : Thread nD τ).loc main_arg4)) (m ((c : Thread nD τ).loc main_arg6)) (ix2 R Q) := by
  have hQl := Q.isLt
  obtain ⟨t, ht, h0⟩ := last_of ⟨Q.val / 512, by omega⟩
  replace h0 : (grid0.coords t 0).val = Q.val / 512 := h0
  have hQ' : Q.val = (grid0.coords t 0).val * 512 + Q.val % 512 := by rw [h0]; omega
  rw [elemS m c t ht R ⟨Q.val % 512, by omega⟩ Q hQ', Ref.resS_apply _ _ _ _ R Q b s hR]
  have ea : ∀ k : Fin 5632, (in4 m c t : FVec Ideal S32x5632 .bf16) (ix2 R k) = (m ((c : Thread nD τ).loc main_arg1) : FVec Ideal S8x4x5632 .f32) (ix3 b s k) := fun k =>
    (blk4 m c t R k).trans ((congrFun (V_as m c) _).trans (castS_apply _ R k b s hR))
  have ew : ∀ k : Fin 5632, (tile0 m c t : FVec Ideal S5632x512 .bf16) (ix2 k ⟨Q.val % 512, by omega⟩) = (m ((c : Thread nD τ).loc main_arg2) : FVec Ideal S4x5632x2048 .f32) (ix3 1 k Q) := fun k =>
    (pay1_apply _ k _).trans ((blk1 m c t k _ Q hQ').trans (congrFun (V_arg2 m c) _))
  have ex : (in5 m c t : FVec Ideal S32x512 .f32) (ix2 R ⟨Q.val % 512, by omega⟩) = (m ((c : Thread nD τ).loc main_arg4) : FVec Ideal S8x4x2048 .f32) (ix3 b s Q) :=
    (blk5 m c t R _ Q hQ').trans ((congrFun (V_xs m c) _).trans (rowsS_apply _ R Q b s hR))
  have eg : (in6 m c t : FVec Ideal S32x512 .f32) (ix2 R ⟨Q.val % 512, by omega⟩) = (m ((c : Thread nD τ).loc main_arg6) : FVec Ideal S8x1x2048 .f32) (ix3 b 0 Q) :=
    (blk6 m c t R _ Q hQ').trans ((congrFun (V_gs m c) _).trans ((rowsS_apply _ R Q b s hR).trans (gateRow_apply _ b s Q)))
  refine (pay2_apply _ _ _ _ _ _).trans ?_
  simp only [ea, ew, ex, eg]

theorem arrayP : ((dats m 0 c).arrAt 7 cfg0.N : FVec Ideal S8192x2048 .f32)
      = Ref.resP (m ((c : Thread nD τ).loc main_arg0)) (m ((c : Thread nD τ).loc main_arg2)) (m ((c : Thread nD τ).loc main_arg3)) (m ((c : Thread nD τ).loc main_arg5)) := by
  funext y
  obtain ⟨R, Q, rfl⟩ : ∃ (R : Fin 8192) (Q : Fin 2048), y = ix2 R Q := ⟨y 0, y 1, by
    funext a
    match a with
    | ⟨0, _⟩ => rfl
    | ⟨1, _⟩ => rfl⟩
  have hR := R.isLt
  exact valueP m c R Q ⟨R.val / 4096, by omega⟩ ⟨R.val % 4096, by omega⟩ (by show R.val = R.val / 4096 * 4096 + R.val % 4096; omega)

theorem arrayS : ((dats m 0 c).arrAt 8 cfg0.N : FVec Ideal S32x2048 .f32)
      = Ref.resS (m ((c : Thread nD τ).loc main_arg1)) (m ((c : Thread nD τ).loc main_arg2)) (m ((c : Thread nD τ).loc main_arg4)) (m ((c : Thread nD τ).loc main_arg6)) := by
  funext y
  obtain ⟨R, Q, rfl⟩ : ∃ (R : Fin 32) (Q : Fin 2048), y = ix2 R Q := ⟨y 0, y 1, by
    funext a
    match a with
    | ⟨0, _⟩ => rfl
    | ⟨1, _⟩ => rfl⟩
  have hR := R.isLt
  exact valueS m c R Q ⟨R.val / 4, by omega⟩ ⟨R.val % 4, by omega⟩ (by show R.val = R.val / 4 * 4 + R.val % 4; omega)

/-- The kernel's two results are the reference's. -/
theorem algebraic : algebraic_KernelDownIdeal_ReferenceDownIdeal := by
  intro m g m' g' hpre hargs
  refine ⟨fun c => (dats m 0 c).arrAt 7 cfg0.N, fun c => (dats m 0 c).arrAt 8 cfg0.N, run_out m g, ?_⟩
  refine (θ_run Cert.ReferenceDownIdeal.defs _ _).mono (fun r h c => ⟨(h c).1.trans ?_, (h c).2.1.trans ?_, (h c).2.2⟩) (Ref.run m' g')
  · obtain ⟨e0, e1, e2, e3, e4, e5, e6⟩ := hargs c
    rw [e0, e2, e3, e5]; exact (arrayP m c).symm
  · obtain ⟨e0, e1, e2, e3, e4, e5, e6⟩ := hargs c
    rw [e1, e2, e4, e6]; exact (arrayS m c).symm

end Cert.Proof.Down

end
-- ==== Proof.Norm.lean ====
/-
  The root-mean-square norm of a row.
-/
module

public import Idealize.ShloMosaic.Lib.Pointwise

@[expose] public section

set_option maxRecDepth 16384

noncomputable section

namespace Cert.Proof

open Idealize.ShloMosaic

/-- The row `x` over its root mean square, at `q`. -/
def rms (x : Fin 2048 → EReal) (q : Fin 2048) : EReal :=
  x q * Ideal.rsqrt (Ideal.div (∑ k : Fin 2048, x k * x k) (Scalar.ofBits (F := Ideal) .f32 0x45000000#32) + Scalar.ofBits (F := Ideal) .f32 0x358637BD#32)

end Cert.Proof

end
-- ==== Proof.Out.Elem.lean ====
/-
  The values of the body's stores and of the host's operations, entry by entry.
-/
module

public import proofs.«01_k».proof.Proof.Gen.KernelOutIdeal.Skeleton
public import proofs.«01_k».proof.Proof.Norm
public import Idealize.ShloMosaic.Lib.Pointwise

@[expose] public section

set_option maxRecDepth 16384

noncomputable section

namespace Cert.Proof.Out

open Cert.KernelOutIdeal Cert.KernelOutIdeal.Gen
open Idealize.ShloMosaic Idealize.ShloMosaic.TcCoe

theorem pay2_apply (x : FVec Ideal S256x2048 .f32) (gate : FVec Ideal S1x1x2048 .f32) (a : FVec Ideal S256x2048 .bf16) (w : FVec Ideal S1x2048x2048 .bf16) (r : Fin 256) (q : Fin 2048) :
    k0_pay2 (F := Ideal) x gate a w (ix2 r q) = x (ix2 r q) + gate (ix3 0 0 q) * ∑ k : Fin 2048, a (ix2 r k) * w (ix3 0 k q) := by
  pointwise [k0_pay2]

/-- The norm, the row's gain and the modulation of the new rows `x`. -/
def modulated (x : FVec Ideal S256x2048 .f32) (g : FVec Ideal S1x2048 .f32) (sc sh : FVec Ideal S1x1x2048 .f32) : FVec Ideal S256x2048 .bf16 :=
  truncf .bf16 (addf (mulf (mulf (mulf x (broadcastTo S256x2048 (rsqrt (addf (divf (shapeCast S256x1 (multiReduction .add [1] S256 (mulf x x) 0x00000000#32 reduces_S256x2048_S256 (.inl rfl) rfl : FVec Ideal S256 .f32) shapeCasts_S256_S256x1)
      (broadcast S256x1 (Scalar.ofBits .f32 0x45000000#32))) (broadcast S256x1 (Scalar.ofBits .f32 0x358637BD#32)))) broadcasts_S256x1_S256x2048))
      (broadcastTo S256x2048 (shapeCast S1x2048 g shapeCasts_S1x2048_S1x2048) broadcasts_S1x2048_S256x2048))
      (broadcastTo S256x2048 (addf (broadcast S1x2048 (Scalar.ofBits .f32 0x3F800000#32)) (shapeCast S1x2048 sc shapeCasts_S1x1x2048_S1x2048)) broadcasts_S1x2048_S256x2048))
      (broadcastTo S256x2048 (shapeCast S1x2048 sh shapeCasts_S1x1x2048_S1x2048) broadcasts_S1x2048_S256x2048)) bitsLt_bf16_f32

theorem pay1_eq (x : FVec Ideal S256x2048 .f32) (gate : FVec Ideal S1x1x2048 .f32) (a : FVec Ideal S256x2048 .bf16) (w : FVec Ideal S1x2048x2048 .bf16) (g : FVec Ideal S1x2048 .f32) (sc sh : FVec Ideal S1x1x2048 .f32) :
    k0_pay1 (F := Ideal) (k0_pay3 x gate a w g sc) sh = modulated (k0_pay2 x gate a w) g sc sh := rfl

theorem modulated_apply (x : FVec Ideal S256x2048 .f32) (g : FVec Ideal S1x2048 .f32) (sc sh : FVec Ideal S1x1x2048 .f32) (r : Fin 256) (q : Fin 2048) :
    modulated x g sc sh (ix2 r q) = rms (fun k => x (ix2 r k)) q * g (ix2 0 q) * (1 + sc (ix3 0 0 q)) + sh (ix3 0 0 q) := by
  unfold rms
  pointwise [modulated]

theorem cast_apply (h : FVec Ideal S2x4096x2048 .f32) (R : Fin 8192) (k : Fin 2048) (b : Fin 2) (t : Fin 4096) (hR : R.val = b.val * 4096 + t.val) :
    (truncf .bf16 (shapeCast S8192x2048 h shapeCasts_S2x4096x2048_S8192x2048 : FVec Ideal S8192x2048 .f32) bitsLt_bf16_f32 : FVec Ideal S8192x2048 .bf16) (ix2 R k) = h (ix3 b t k) := by
  have ht := t.isLt
  pointwise
  congr 1
  congr 1 <;> exact Fin.ext (by dsimp only; omega)

theorem rows_apply (h : FVec Ideal S2x4096x2048 .f32) (R : Fin 8192) (k : Fin 2048) (b : Fin 2) (t : Fin 4096) (hR : R.val = b.val * 4096 + t.val) :
    (shapeCast S8192x2048 h shapeCasts_S2x4096x2048_S8192x2048 : FVec Ideal S8192x2048 .f32) (ix2 R k) = h (ix3 b t k) := by
  have ht := t.isLt
  pointwise
  congr 1
  congr 1 <;> exact Fin.ext (by dsimp only; omega)

theorem castW_apply (w : FVec Ideal S4x2048x2048 .f32) (i : Fin 4) (k q : Fin 2048) :
    (truncf .bf16 w bitsLt_bf16_f32 : FVec Ideal S4x2048x2048 .bf16) (ix3 i k q) = w (ix3 i k q) := by
  pointwise

theorem gain_apply (g : FVec Ideal S4x2048 .f32) (k : Fin 2048) :
    (shapeCast S1x2048 (shapeCast S2048 (extractStridedSlice S1x2048 ![1, 0] g slices_S4x2048_S1x2048_1_0 : FVec Ideal S1x2048 .f32) shapeCasts_S1x2048_S2048 : FVec Ideal S2048 .f32) shapeCasts_S2048_S1x2048 : FVec Ideal S1x2048 .f32) (ix2 0 k) = g (ix2 1 k) := by
  pointwise

end Cert.Proof.Out

end
-- ==== Proof.Out.Ref.lean ====
/-
  The reference of the output projection with its norm, entry by entry.
-/
module

public import proofs.«01_k».proof.Proof.Gen.ReferenceOutIdeal.Run
public import proofs.«01_k».proof.Proof.Norm
public import Idealize.ShloMosaic.Lib.Pointwise

@[expose] public section

set_option maxRecDepth 16384

noncomputable section

namespace Cert.Proof.Out.Ref

open Cert.ReferenceOutIdeal Cert.ReferenceOutIdeal.Gen
open Idealize.ShloMosaic Idealize.ShloMosaic.TcCoe

/-- The call's weights. -/
def wgt (w : FVec Ideal S4x2048x2048 .f32) : FVec Ideal S2048x2048 .f32 :=
  shapeCast S2048x2048 (extractStridedSlice S1x2048x2048 ![1, 0, 0] w slices_S4x2048x2048_S1x2048x2048_1_0_0) shapeCasts_S1x2048x2048_S2048x2048

/-- The products. -/
def dot (a : FVec Ideal S2x4096x2048 .f32) (w : FVec Ideal S2048x2048 .f32) : FVec Ideal S2x4096x2048 .f32 :=
  Host.dotGeneral dot_S2x4096x2048_S2048x2048_S2x4096x2048_2_0_01_1_n_n none a w

/-- The gated residual. -/
def added (x d : FVec Ideal S2x4096x2048 .f32) (gate : FVec Ideal S2x1x2048 .f32) : FVec Ideal S2x4096x2048 .f32 :=
  addf x (mulf (broadcastInDim S2x4096x2048 ![0, 1, 2] bcast_S2x1x2048_S2x4096x2048_0_1_2 gate) d)

theorem wgt_apply (w : FVec Ideal S4x2048x2048 .f32) (k : Fin 2048) (q : Fin 2048) : wgt w (ix2 k q) = w (ix3 1 k q) := by
  pointwise [wgt]

theorem dot_apply (a : FVec Ideal S2x4096x2048 .f32) (w : FVec Ideal S2048x2048 .f32) (b : Fin 2) (t : Fin 4096) (q : Fin 2048) :
    dot a w (ix3 b t q) = ∑ k : Fin 2048, a (ix3 b t k) * w (ix2 k q) := by
  pointwise [dot]

theorem added_apply (x d : FVec Ideal S2x4096x2048 .f32) (gate : FVec Ideal S2x1x2048 .f32) (b : Fin 2) (t : Fin 4096) (q : Fin 2048) :
    added x d gate (ix3 b t q) = x (ix3 b t q) + gate (ix3 b 0 q) * d (ix3 b t q) := by
  pointwise [added]

/-- The rows over their root mean square. -/
def normed (x : FVec Ideal S2x4096x2048 .f32) : FVec Ideal S2x4096x2048 .f32 :=
  mulf x (broadcastInDim S2x4096x2048 ![0, 1, 2] bcast_S2x4096x1_S2x4096x2048_0_1_2 (Host.rsqrt (addf (Host.divf (broadcastInDim S2x4096x1 ![0, 1] bcast_S2x4096_S2x4096x1_0_1 (Host.reduceAdd (mulf x x) (constant S_ .f32 0x00000000#32) reducesTo_S2x4096x2048_S2x4096_d2 h_S_)) (broadcastInDim S2x4096x1 ![] bcast_S_S2x4096x1 (constant S_ .f32 0x45000000#32))) (broadcastInDim S2x4096x1 ![] bcast_S_S2x4096x1 (constant S_ .f32 0x358637BD#32)))))

theorem normed_apply (x : FVec Ideal S2x4096x2048 .f32) (b : Fin 2) (t : Fin 4096) (q : Fin 2048) :
    normed x (ix3 b t q) = rms (fun k => x (ix3 b t k)) q := by
  unfold rms
  pointwise [normed]

theorem rows_apply (h : FVec Ideal S2x4096x2048 .f32) (R : Fin 8192) (k : Fin 2048) (b : Fin 2) (t : Fin 4096) (hR : R.val = b.val * 4096 + t.val) :
    (shapeCast S8192x2048 h shapeCasts_S2x4096x2048_S8192x2048 : FVec Ideal S8192x2048 .f32) (ix2 R k) = h (ix3 b t k) := by
  have ht := t.isLt
  pointwise
  congr 1
  congr 1 <;> exact Fin.ext (by dsimp only; omega)

theorem cast_apply (h : FVec Ideal S2x4096x2048 .f32) (R : Fin 8192) (k : Fin 2048) (b : Fin 2) (t : Fin 4096) (hR : R.val = b.val * 4096 + t.val) :
    (truncf .bf16 (shapeCast S8192x2048 h shapeCasts_S2x4096x2048_S8192x2048 : FVec Ideal S8192x2048 .f32) bitsLt_bf16_f32 : FVec Ideal S8192x2048 .bf16) (ix2 R k) = h (ix3 b t k) := by
  have ht := t.isLt
  pointwise
  congr 1
  congr 1 <;> exact Fin.ext (by dsimp only; omega)

/-- The gain and the modulation. -/
def modulated (y : FVec Ideal S2x4096x2048 .f32) (g : FVec Ideal S4x2048 .f32) (sc sh : FVec Ideal S2x1x2048 .f32) : FVec Ideal S2x4096x2048 .f32 :=
  addf (mulf (mulf y (broadcastInDim S2x4096x2048 ![0, 1, 2] bcast_S1x1x2048_S2x4096x2048_0_1_2 (broadcastInDim S1x1x2048 ![2] bcast_S2048_S1x1x2048_2 (shapeCast S2048 (extractStridedSlice S1x2048 ![1, 0] g slices_S4x2048_S1x2048_1_0) shapeCasts_S1x2048_S2048))))
    (broadcastInDim S2x4096x2048 ![0, 1, 2] bcast_S2x1x2048_S2x4096x2048_0_1_2 (addf (broadcastInDim S2x1x2048 ![] bcast_S_S2x1x2048 (constant S_ .f32 0x3F800000#32)) sc)))
    (broadcastInDim S2x4096x2048 ![0, 1, 2] bcast_S2x1x2048_S2x4096x2048_0_1_2 sh)

theorem modulated_apply (y : FVec Ideal S2x4096x2048 .f32) (g : FVec Ideal S4x2048 .f32) (sc sh : FVec Ideal S2x1x2048 .f32) (b : Fin 2) (t : Fin 4096) (q : Fin 2048) :
    modulated y g sc sh (ix3 b t q) = y (ix3 b t q) * g (ix2 1 q) * (1 + sc (ix3 b 0 q)) + sh (ix3 b 0 q) := by
  pointwise [modulated]

/-- The new rows. -/
def newRows (a : FVec Ideal S2x4096x2048 .f32) (w : FVec Ideal S4x2048x2048 .f32) (x : FVec Ideal S2x4096x2048 .f32) (gate : FVec Ideal S2x1x2048 .f32) : FVec Ideal S2x4096x2048 .f32 :=
  added x (dot a (wgt w)) gate

theorem newRows_apply (a : FVec Ideal S2x4096x2048 .f32) (w : FVec Ideal S4x2048x2048 .f32) (x : FVec Ideal S2x4096x2048 .f32) (gate : FVec Ideal S2x1x2048 .f32) (b : Fin 2) (t : Fin 4096) (q : Fin 2048) :
    newRows a w x gate (ix3 b t q) = x (ix3 b t q) + gate (ix3 b 0 q) * ∑ k : Fin 2048, a (ix3 b t k) * w (ix3 1 k q) := by
  unfold newRows
  rw [added_apply, dot_apply]
  simp only [wgt_apply]

/-- The two results, as functions of the arguments. -/
def resX (a : FVec Ideal S2x4096x2048 .f32) (w : FVec Ideal S4x2048x2048 .f32) (x : FVec Ideal S2x4096x2048 .f32) (gate : FVec Ideal S2x1x2048 .f32) : FVec Ideal S8192x2048 .f32 :=
  shapeCast S8192x2048 (newRows a w x gate) shapeCasts_S2x4096x2048_S8192x2048

def resH (a : FVec Ideal S2x4096x2048 .f32) (w : FVec Ideal S4x2048x2048 .f32) (x : FVec Ideal S2x4096x2048 .f32) (gate : FVec Ideal S2x1x2048 .f32) (g : FVec Ideal S4x2048 .f32) (sc sh : FVec Ideal S2x1x2048 .f32) : FVec Ideal S8192x2048 .bf16 :=
  truncf .bf16 (shapeCast S8192x2048 (modulated (normed (newRows a w x gate)) g sc sh) shapeCasts_S2x4096x2048_S8192x2048 : FVec Ideal S8192x2048 .f32) bitsLt_bf16_f32

theorem resX_apply (a : FVec Ideal S2x4096x2048 .f32) (w : FVec Ideal S4x2048x2048 .f32) (x : FVec Ideal S2x4096x2048 .f32) (gate : FVec Ideal S2x1x2048 .f32)
    (R : Fin 8192) (q : Fin 2048) (b : Fin 2) (t : Fin 4096) (hR : R.val = b.val * 4096 + t.val) :
    resX a w x gate (ix2 R q) = newRows a w x gate (ix3 b t q) := by
  unfold resX
  rw [rows_apply _ R q b t hR]

theorem resH_apply (a : FVec Ideal S2x4096x2048 .f32) (w : FVec Ideal S4x2048x2048 .f32) (x : FVec Ideal S2x4096x2048 .f32) (gate : FVec Ideal S2x1x2048 .f32) (g : FVec Ideal S4x2048 .f32) (sc sh : FVec Ideal S2x1x2048 .f32)
    (R : Fin 8192) (q : Fin 2048) (b : Fin 2) (t : Fin 4096) (hR : R.val = b.val * 4096 + t.val) :
    resH a w x gate g sc sh (ix2 R q) = rms (fun k => newRows a w x gate (ix3 b t k)) q * g (ix2 1 q) * (1 + sc (ix3 b 0 q)) + sh (ix3 b 0 q) := by
  unfold resH
  rw [cast_apply _ R q b t hR, modulated_apply, normed_apply]

/-- The reference's run. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v27) = resX (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v29) = resH (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨(h c).1.trans rfl, (h c).2.1.trans rfl, (h c).2.2⟩) (Value.run m ρ)

end Cert.Proof.Out.Ref

end
-- ==== Proof.Out.Value.lean ====
/-
  The two output arrays of the output projection, entry by entry, and their equality with the reference's.
-/
module

public import proofs.«01_k».proof.Proof.Gen.KernelOutIdeal.Value
public import proofs.«01_k».proof.Proof.Out.Elem
public import proofs.«01_k».proof.Proof.Out.Ref
public import proofs.«01_k».proof.Defs
public import Idealize.ShloMosaic.Lib.Pointwise
public import Idealize.ShloMosaic.Lib.StableHlo.Run

@[expose] public section

set_option maxRecDepth 16384

noncomputable section

namespace Cert.Proof.Out

open Cert.KernelOutIdeal Cert.KernelOutIdeal.Gen
open Idealize.ShloMosaic Idealize.ShloMosaic.TcCoe Idealize.ShloMosaic.Tactic

variable (m : (ℓ : Loc nD τ sig) → Buf (Elt Ideal) ℓ) (c : Dev nD)

theorem idx0 : ∀ t : Fin grid0.N, win0_0.index t 0 = (grid0.coords t 0).val ∧ win0_0.index t 1 = 0 := by decide +kernel
theorem idx1 : ∀ t : Fin grid0.N, win0_1.index t 0 = 1 ∧ win0_1.index t 1 = 0 ∧ win0_1.index t 2 = 0 := by decide +kernel
theorem idx2 : ∀ t : Fin grid0.N, win0_2.index t 0 = (grid0.coords t 0).val ∧ win0_2.index t 1 = 0 := by decide +kernel
theorem idx3 : ∀ t : Fin grid0.N, win0_3.index t 0 = (grid0.coords t 0).val / 16 ∧ win0_3.index t 1 = 0 ∧ win0_3.index t 2 = 0 := by decide +kernel
theorem idx5 : ∀ t : Fin grid0.N, win0_5.index t 0 = (grid0.coords t 0).val / 16 ∧ win0_5.index t 1 = 0 ∧ win0_5.index t 2 = 0 := by decide +kernel
theorem idx6 : ∀ t : Fin grid0.N, win0_6.index t 0 = (grid0.coords t 0).val / 16 ∧ win0_6.index t 1 = 0 ∧ win0_6.index t 2 = 0 := by decide +kernel
theorem idx4 : ∀ t : Fin grid0.N, win0_4.index t 0 = 0 ∧ win0_4.index t 1 = 0 := by decide +kernel
theorem idx7 : ∀ t : Fin grid0.N, win0_7.index t 0 = (grid0.coords t 0).val ∧ win0_7.index t 1 = 0 := by decide +kernel
theorem idx8 : ∀ t : Fin grid0.N, win0_8.index t 0 = (grid0.coords t 0).val ∧ win0_8.index t 1 = 0 := by decide +kernel

theorem V_a : (V m c main_v1 : FVec Ideal S8192x2048 .bf16) = (truncf .bf16 (shapeCast S8192x2048 (m ((c : Thread nD τ).loc main_arg0) : FVec Ideal S2x4096x2048 .f32) shapeCasts_S2x4096x2048_S8192x2048 : FVec Ideal S8192x2048 .f32) bitsLt_bf16_f32 : FVec Ideal S8192x2048 .bf16) := by
  unfold V
  after_results_simp
  rfl

theorem V_w : (V m c main_v2 : FVec Ideal S4x2048x2048 .bf16) = (truncf .bf16 (m ((c : Thread nD τ).loc main_arg1) : FVec Ideal S4x2048x2048 .f32) bitsLt_bf16_f32 : FVec Ideal S4x2048x2048 .bf16) := by
  unfold V
  after_results_simp

theorem V_x : (V m c main_v3 : FVec Ideal S8192x2048 .f32) = (shapeCast S8192x2048 (m ((c : Thread nD τ).loc main_arg2) : FVec Ideal S2x4096x2048 .f32) shapeCasts_S2x4096x2048_S8192x2048 : FVec Ideal S8192x2048 .f32) := by
  unfold V
  after_results_simp
  rfl

theorem V_g : (V m c main_v6 : FVec Ideal S1x2048 .f32) = (shapeCast S1x2048 (shapeCast S2048 (extractStridedSlice S1x2048 ![1, 0] (m ((c : Thread nD τ).loc main_arg4) : FVec Ideal S4x2048 .f32) slices_S4x2048_S1x2048_1_0 : FVec Ideal S1x2048 .f32) shapeCasts_S1x2048_S2048 : FVec Ideal S2048 .f32) shapeCasts_S2048_S1x2048 : FVec Ideal S1x2048 .f32) := by
  unfold V
  after_results_simp
  rfl

theorem blk0 (t : Fin grid0.N) (r : Fin 256) (k : Fin 2048) (R : Fin 8192) (hR : R.val = (grid0.coords t 0).val * 256 + r.val) :
    (iblk m c 0 t : FVec Ideal S256x2048 .bf16) (ix2 r k) = (V m c main_v1 : FVec Ideal S8192x2048 .bf16) (ix2 R k) := by
  refine congrArg (V m c main_v1 : FVec Ideal S8192x2048 .bf16) ?_
  funext a
  match a with
  | ⟨0, _⟩ => exact Fin.ext ((win0_0.rect_emb_val t _ 0).trans (by rw [(idx0 t).1]; exact hR.symm))
  | ⟨1, _⟩ => exact Fin.ext ((win0_0.rect_emb_val t _ 1).trans (by rw [(idx0 t).2]; show 0 * 2048 + k.val = k.val; omega))

theorem blk2 (t : Fin grid0.N) (r : Fin 256) (k : Fin 2048) (R : Fin 8192) (hR : R.val = (grid0.coords t 0).val * 256 + r.val) :
    (iblk m c 2 t : FVec Ideal S256x2048 .f32) (ix2 r k) = (V m c main_v3 : FVec Ideal S8192x2048 .f32) (ix2 R k) := by
  refine congrArg (V m c main_v3 : FVec Ideal S8192x2048 .f32) ?_
  funext a
  match a with
  | ⟨0, _⟩ => exact Fin.ext ((win0_2.rect_emb_val t _ 0).trans (by rw [(idx2 t).1]; exact hR.symm))
  | ⟨1, _⟩ => exact Fin.ext ((win0_2.rect_emb_val t _ 1).trans (by rw [(idx2 t).2]; show 0 * 2048 + k.val = k.val; omega))

theorem blk1 (t : Fin grid0.N) (k q : Fin 2048) :
    (iblk m c 1 t : FVec Ideal S1x2048x2048 .bf16) (ix3 0 k q) = (V m c main_v2 : FVec Ideal S4x2048x2048 .bf16) (ix3 1 k q) := by
  refine congrArg (V m c main_v2 : FVec Ideal S4x2048x2048 .bf16) ?_
  funext a
  match a with
  | ⟨0, _⟩ => exact Fin.ext ((win0_1.rect_emb_val t _ 0).trans (by rw [(idx1 t).1]; rfl))
  | ⟨1, _⟩ => exact Fin.ext ((win0_1.rect_emb_val t _ 1).trans (by rw [(idx1 t).2.1]; show 0 * 2048 + k.val = k.val; omega))
  | ⟨2, _⟩ => exact Fin.ext ((win0_1.rect_emb_val t _ 2).trans (by rw [(idx1 t).2.2]; show 0 * 2048 + q.val = q.val; omega))

theorem blk3 (t : Fin grid0.N) (q : Fin 2048) (b : Fin 2) (hb : b.val = (grid0.coords t 0).val / 16) :
    (iblk m c 3 t : FVec Ideal S1x1x2048 .f32) (ix3 0 0 q) = (V m c main_arg3 : FVec Ideal S2x1x2048 .f32) (ix3 b 0 q) := by
  refine congrArg (V m c main_arg3 : FVec Ideal S2x1x2048 .f32) ?_
  funext a
  match a with
  | ⟨0, _⟩ => exact Fin.ext ((win0_3.rect_emb_val t _ 0).trans (by rw [(idx3 t).1]; show (grid0.coords t 0).val / 16 * 1 + 0 = b.val; omega))
  | ⟨1, _⟩ => exact Fin.ext ((win0_3.rect_emb_val t _ 1).trans (by rw [(idx3 t).2.1]; rfl))
  | ⟨2, _⟩ => exact Fin.ext ((win0_3.rect_emb_val t _ 2).trans (by rw [(idx3 t).2.2]; show 0 * 2048 + q.val = q.val; omega))

theorem blk5 (t : Fin grid0.N) (q : Fin 2048) (b : Fin 2) (hb : b.val = (grid0.coords t 0).val / 16) :
    (iblk m c 5 t : FVec Ideal S1x1x2048 .f32) (ix3 0 0 q) = (V m c main_arg5 : FVec Ideal S2x1x2048 .f32) (ix3 b 0 q) := by
  refine congrArg (V m c main_arg5 : FVec Ideal S2x1x2048 .f32) ?_
  funext a
  match a with
  | ⟨0, _⟩ => exact Fin.ext ((win0_5.rect_emb_val t _ 0).trans (by rw [(idx5 t).1]; show (grid0.coords t 0).val / 16 * 1 + 0 = b.val; omega))
  | ⟨1, _⟩ => exact Fin.ext ((win0_5.rect_emb_val t _ 1).trans (by rw [(idx5 t).2.1]; rfl))
  | ⟨2, _⟩ => exact Fin.ext ((win0_5.rect_emb_val t _ 2).trans (by rw [(idx5 t).2.2]; show 0 * 2048 + q.val = q.val; omega))

theorem blk6 (t : Fin grid0.N) (q : Fin 2048) (b : Fin 2) (hb : b.val = (grid0.coords t 0).val / 16) :
    (iblk m c 6 t : FVec Ideal S1x1x2048 .f32) (ix3 0 0 q) = (V m c main_arg6 : FVec Ideal S2x1x2048 .f32) (ix3 b 0 q) := by
  refine congrArg (V m c main_arg6 : FVec Ideal S2x1x2048 .f32) ?_
  funext a
  match a with
  | ⟨0, _⟩ => exact Fin.ext ((win0_6.rect_emb_val t _ 0).trans (by rw [(idx6 t).1]; show (grid0.coords t 0).val / 16 * 1 + 0 = b.val; omega))
  | ⟨1, _⟩ => exact Fin.ext ((win0_6.rect_emb_val t _ 1).trans (by rw [(idx6 t).2.1]; rfl))
  | ⟨2, _⟩ => exact Fin.ext ((win0_6.rect_emb_val t _ 2).trans (by rw [(idx6 t).2.2]; show 0 * 2048 + q.val = q.val; omega))

theorem blk4 (t : Fin grid0.N) (k : Fin 2048) :
    (iblk m c 4 t : FVec Ideal S1x2048 .f32) (ix2 0 k) = (V m c main_v6 : FVec Ideal S1x2048 .f32) (ix2 0 k) := by
  refine congrArg (V m c main_v6 : FVec Ideal S1x2048 .f32) ?_
  funext a
  match a with
  | ⟨0, _⟩ => exact Fin.ext ((win0_4.rect_emb_val t _ 0).trans (by rw [(idx4 t).1]; rfl))
  | ⟨1, _⟩ => exact Fin.ext ((win0_4.rect_emb_val t _ 1).trans (by rw [(idx4 t).2]; show 0 * 2048 + k.val = k.val; omega))

/-- The new rows point `t` leaves, and their modulated norm. -/
def outX (t : Fin cfg0.N) : FVec Ideal S256x2048 .f32 := k0_pay2 (F := Ideal) (iblk m c 2 t) (iblk m c 3 t) (iblk m c 0 t) (iblk m c 1 t)

def outH (t : Fin cfg0.N) : FVec Ideal S256x2048 .bf16 := modulated (outX m c t) (iblk m c 4 t) (iblk m c 5 t) (iblk m c 6 t)

theorem ld_mix (x : Vec Ideal S256x2048 .bf16) : View.ld x r0_0 = x := View.ld_unit_zero (funext fun a => by fin_cases a <;> rfl) _ _
theorem ld_w (x : Vec Ideal S1x2048x2048 .bf16) : View.ld x r0_2 = x := View.ld_unit_zero (funext fun a => by fin_cases a <;> rfl) _ _
theorem ld_x (x : Vec Ideal S256x2048 .f32) : View.ld x r0_0 = x := View.ld_unit_zero (funext fun a => by fin_cases a <;> rfl) _ _
theorem ld_row (x : Vec Ideal S1x1x2048 .f32) : View.ld x r0_1 = x := View.ld_unit_zero (funext fun a => by fin_cases a <;> rfl) _ _
theorem ld_gain (x : Vec Ideal S1x2048 .f32) : View.ld x r0_3 = x := View.ld_unit_zero (funext fun a => by fin_cases a <;> rfl) _ _

theorem storedX (x0 : Vec Ideal S256x2048 .bf16) (x1 : Vec Ideal S1x2048x2048 .bf16) (x2 : Vec Ideal S256x2048 .f32) (x3 : Vec Ideal S1x1x2048 .f32) (x4 : Vec Ideal S1x2048 .f32) (x5 x6 : Vec Ideal S1x1x2048 .f32) :
    out0_7 x0 x1 x2 x3 x4 x5 x6 = k0_pay2 x2 x3 x0 x1 := by
  unfold out0_7
  refine (View.canon_unit_zero (funext fun a => by fin_cases a <;> rfl) _ _).trans ?_
  rw [ld_mix, ld_w, ld_x, ld_row]

theorem storedH (x0 : Vec Ideal S256x2048 .bf16) (x1 : Vec Ideal S1x2048x2048 .bf16) (x2 : Vec Ideal S256x2048 .f32) (x3 : Vec Ideal S1x1x2048 .f32) (x4 : Vec Ideal S1x2048 .f32) (x5 x6 : Vec Ideal S1x1x2048 .f32) :
    out0_8 x0 x1 x2 x3 x4 x5 x6 = modulated (k0_pay2 x2 x3 x0 x1) x4 x5 x6 := by
  unfold out0_8
  refine (View.canon_unit_zero (funext fun a => by fin_cases a <;> rfl) _ _).trans ?_
  rw [ld_mix, ld_w, ld_x, ld_row, ld_gain, ld_row, ld_row]
  exact pay1_eq _ _ _ _ _ _ _

theorem outX_eq (t : Fin cfg0.N) : out0_7 (F := Ideal) (iblk m c 0 t) (iblk m c 1 t) (iblk m c 2 t) (iblk m c 3 t) (iblk m c 4 t) (iblk m c 5 t) (iblk m c 6 t) = outX m c t := storedX _ _ _ _ _ _ _

theorem outH_eq (t : Fin cfg0.N) : out0_8 (F := Ideal) (iblk m c 0 t) (iblk m c 1 t) (iblk m c 2 t) (iblk m c 3 t) (iblk m c 4 t) (iblk m c 5 t) (iblk m c 6 t) = outH m c t := storedH _ _ _ _ _ _ _

theorem block_outX (t : Fin cfg0.N) :
    ((cfg0.win 7).blk t).view.read (Elt Ideal) ((dats m 0 c).arrAt 7 cfg0.N) = (cfg0.win 7).cut (grid0.coords t) (outX m c t) :=
  (Value.blocks7 m c t (flush0_7 t)).trans ((Value.flushed7 m c t).trans (congrArg ((cfg0.win 7).cut (grid0.coords t)) (outX_eq m c t)))

theorem block_outH (t : Fin cfg0.N) :
    ((cfg0.win 8).blk t).view.read (Elt Ideal) ((dats m 0 c).arrAt 8 cfg0.N) = (cfg0.win 8).cut (grid0.coords t) (outH m c t) :=
  (Value.blocks8 m c t (flush0_8 t)).trans ((Value.flushed8 m c t).trans (congrArg ((cfg0.win 8).cut (grid0.coords t)) (outH_eq m c t)))

theorem elemX (t : Fin grid0.N) (r : Fin 256) (q : Fin 2048) (R : Fin 8192) (hR : R.val = (grid0.coords t 0).val * 256 + r.val) :
    ((dats m 0 c).arrAt 7 cfg0.N : FVec Ideal S8192x2048 .f32) (ix2 R q) = outX m c t (ix2 r q) := by
  have e := congrFun (block_outX m c t) (ix2 r q)
  refine Eq.trans ?_ e
  refine congrArg ((dats m 0 c).arrAt 7 cfg0.N : FVec Ideal S8192x2048 .f32) ?_
  funext a
  match a with
  | ⟨0, _⟩ => exact Fin.ext ((win0_7.rect_emb_val t _ 0).trans (by rw [(idx7 t).1]; exact hR.symm)).symm
  | ⟨1, _⟩ => exact Fin.ext ((win0_7.rect_emb_val t _ 1).trans (by rw [(idx7 t).2]; show 0 * 2048 + q.val = q.val; omega)).symm

theorem elemH (t : Fin grid0.N) (r : Fin 256) (q : Fin 2048) (R : Fin 8192) (hR : R.val = (grid0.coords t 0).val * 256 + r.val) :
    ((dats m 0 c).arrAt 8 cfg0.N : FVec Ideal S8192x2048 .bf16) (ix2 R q) = outH m c t (ix2 r q) := by
  have e := congrFun (block_outH m c t) (ix2 r q)
  refine Eq.trans ?_ e
  refine congrArg ((dats m 0 c).arrAt 8 cfg0.N : FVec Ideal S8192x2048 .bf16) ?_
  funext a
  match a with
  | ⟨0, _⟩ => exact Fin.ext ((win0_8.rect_emb_val t _ 0).trans (by rw [(idx8 t).1]; exact hR.symm)).symm
  | ⟨1, _⟩ => exact Fin.ext ((win0_8.rect_emb_val t _ 1).trans (by rw [(idx8 t).2]; show 0 * 2048 + q.val = q.val; omega)).symm

theorem point_of : ∀ i : Fin 32, ∃ t : Fin grid0.N, (grid0.coords t 0).val = i.val := by
  decide +kernel

theorem rows (t : Fin grid0.N) (r : Fin 256) (q : Fin 2048) (R : Fin 8192) (b : Fin 2) (s : Fin 4096) (hR : R.val = (grid0.coords t 0).val * 256 + r.val) (hb : b.val = (grid0.coords t 0).val / 16) (hs : R.val = b.val * 4096 + s.val) :
    outX m c t (ix2 r q) = Ref.newRows (m ((c : Thread nD τ).loc main_arg0)) (m ((c : Thread nD τ).loc main_arg1)) (m ((c : Thread nD τ).loc main_arg2)) (m ((c : Thread nD τ).loc main_arg3)) (ix3 b s q) := by
  rw [Ref.newRows_apply]
  have ea : ∀ k : Fin 2048, (iblk m c 0 t : FVec Ideal S256x2048 .bf16) (ix2 r k) = (m ((c : Thread nD τ).loc main_arg0) : FVec Ideal S2x4096x2048 .f32) (ix3 b s k) := fun k =>
    (blk0 m c t _ k R hR).trans ((congrFun (V_a m c) _).trans (cast_apply _ R k b s hs))
  have ew : ∀ k : Fin 2048, (iblk m c 1 t : FVec Ideal S1x2048x2048 .bf16) (ix3 0 k q) = (m ((c : Thread nD τ).loc main_arg1) : FVec Ideal S4x2048x2048 .f32) (ix3 1 k q) := fun k =>
    (blk1 m c t k q).trans ((congrFun (V_w m c) _).trans (castW_apply _ 1 k q))
  have ex : (iblk m c 2 t : FVec Ideal S256x2048 .f32) (ix2 r q) = (m ((c : Thread nD τ).loc main_arg2) : FVec Ideal S2x4096x2048 .f32) (ix3 b s q) :=
    (blk2 m c t _ q R hR).trans ((congrFun (V_x m c) _).trans (rows_apply _ R q b s hs))
  have eg : (iblk m c 3 t : FVec Ideal S1x1x2048 .f32) (ix3 0 0 q) = (m ((c : Thread nD τ).loc main_arg3) : FVec Ideal S2x1x2048 .f32) (ix3 b 0 q) :=
    (blk3 m c t q b hb).trans (congrFun (V_main_arg3 m c) _)
  refine (pay2_apply _ _ _ _ _ _).trans ?_
  simp only [ea, ew, ex, eg]

theorem valueX (R : Fin 8192) (q : Fin 2048) (b : Fin 2) (s : Fin 4096) (hR : R.val = b.val * 4096 + s.val) :
    ((dats m 0 c).arrAt 7 cfg0.N : FVec Ideal S8192x2048 .f32) (ix2 R q) = Ref.resX (m ((c : Thread nD τ).loc main_arg0)) (m ((c : Thread nD τ).loc main_arg1)) (m ((c : Thread nD τ).loc main_arg2)) (m ((c : Thread nD τ).loc main_arg3)) (ix2 R q) := by
  have hRl := R.isLt
  have hsl := s.isLt
  obtain ⟨t, h0⟩ := point_of ⟨R.val / 256, by omega⟩
  replace h0 : (grid0.coords t 0).val = R.val / 256 := h0
  have hR' : R.val = (grid0.coords t 0).val * 256 + R.val % 256 := by rw [h0]; omega
  have hb : b.val = (grid0.coords t 0).val / 16 := by rw [h0]; omega
  rw [elemX m c t ⟨R.val % 256, by omega⟩ q R hR', Ref.resX_apply _ _ _ _ R q b s hR]
  exact rows m c t _ q R b s hR' hb hR

theorem valueH (R : Fin 8192) (q : Fin 2048) (b : Fin 2) (s : Fin 4096) (hR : R.val = b.val * 4096 + s.val) :
    ((dats m 0 c).arrAt 8 cfg0.N : FVec Ideal S8192x2048 .bf16) (ix2 R q) = Ref.resH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 R q) := by
  have hRl := R.isLt
  have hsl := s.isLt
  obtain ⟨t, h0⟩ := point_of ⟨R.val / 256, by omega⟩
  replace h0 : (grid0.coords t 0).val = R.val / 256 := h0
  have hR' : R.val = (grid0.coords t 0).val * 256 + R.val % 256 := by rw [h0]; omega
  have hb : b.val = (grid0.coords t 0).val / 16 := by rw [h0]; omega
  rw [elemH m c t ⟨R.val % 256, by omega⟩ q R hR', Ref.resH_apply _ _ _ _ _ _ _ R q b s hR]
  have ex : ∀ k : Fin 2048, outX m c t (ix2 ⟨R.val % 256, by omega⟩ k) = Ref.newRows (m ((c : Thread nD τ).loc main_arg0)) (m ((c : Thread nD τ).loc main_arg1)) (m ((c : Thread nD τ).loc main_arg2)) (m ((c : Thread nD τ).loc main_arg3)) (ix3 b s k) := fun k => rows m c t _ k R b s hR' hb hR
  have eg : (iblk m c 4 t : FVec Ideal S1x2048 .f32) (ix2 0 q) = (m ((c : Thread nD τ).loc main_arg4) : FVec Ideal S4x2048 .f32) (ix2 1 q) :=
    (blk4 m c t q).trans ((congrFun (V_g m c) _).trans (gain_apply _ q))
  have ec : (iblk m c 5 t : FVec Ideal S1x1x2048 .f32) (ix3 0 0 q) = (m ((c : Thread nD τ).loc main_arg5) : FVec Ideal S2x1x2048 .f32) (ix3 b 0 q) :=
    (blk5 m c t q b hb).trans (congrFun (V_main_arg5 m c) _)
  have eh : (iblk m c 6 t : FVec Ideal S1x1x2048 .f32) (ix3 0 0 q) = (m ((c : Thread nD τ).loc main_arg6) : FVec Ideal S2x1x2048 .f32) (ix3 b 0 q) :=
    (blk6 m c t q b hb).trans (congrFun (V_main_arg6 m c) _)
  refine (modulated_apply _ _ _ _ _ _).trans ?_
  simp only [ex, eg, ec, eh]

theorem arrayX : ((dats m 0 c).arrAt 7 cfg0.N : FVec Ideal S8192x2048 .f32)
      = Ref.resX (m ((c : Thread nD τ).loc main_arg0)) (m ((c : Thread nD τ).loc main_arg1)) (m ((c : Thread nD τ).loc main_arg2)) (m ((c : Thread nD τ).loc main_arg3)) := by
  funext y
  obtain ⟨R, q, rfl⟩ : ∃ (R : Fin 8192) (q : Fin 2048), y = ix2 R q := ⟨y 0, y 1, by
    funext a
    match a with
    | ⟨0, _⟩ => rfl
    | ⟨1, _⟩ => rfl⟩
  have hR := R.isLt
  exact valueX m c R q ⟨R.val / 4096, by omega⟩ ⟨R.val % 4096, by omega⟩ (by show R.val = R.val / 4096 * 4096 + R.val % 4096; omega)

theorem arrayH : ((dats m 0 c).arrAt 8 cfg0.N : FVec Ideal S8192x2048 .bf16)
      = Ref.resH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  funext y
  obtain ⟨R, q, rfl⟩ : ∃ (R : Fin 8192) (q : Fin 2048), y = ix2 R q := ⟨y 0, y 1, by
    funext a
    match a with
    | ⟨0, _⟩ => rfl
    | ⟨1, _⟩ => rfl⟩
  have hR := R.isLt
  exact valueH m c R q ⟨R.val / 4096, by omega⟩ ⟨R.val % 4096, by omega⟩ (by show R.val = R.val / 4096 * 4096 + R.val % 4096; omega)

/-- The kernel's two results are the reference's. -/
theorem algebraic : algebraic_KernelOutIdeal_ReferenceOutIdeal := by
  intro m g m' g' hpre hargs
  refine ⟨fun c => (dats m 0 c).arrAt 7 cfg0.N, fun c => (dats m 0 c).arrAt 8 cfg0.N, Value.run_blocks m g, ?_⟩
  refine (θ_run Cert.ReferenceOutIdeal.defs _ _).mono (fun r h c => ⟨(h c).1.trans ?_, (h c).2.1.trans ?_, (h c).2.2⟩) (Ref.run m' g')
  · obtain ⟨e0, e1, e2, e3, e4, e5, e6⟩ := hargs c
    rw [e0, e1, e2, e3]; exact (arrayX m c).symm
  · obtain ⟨e0, e1, e2, e3, e4, e5, e6⟩ := hargs c
    rw [e0, e1, e2, e3, e4, e5, e6]; exact (arrayH m c).symm

end Cert.Proof.Out

end
-- ==== Proof.Final.Elem.lean ====
/-
  The values of the body's store and of the host's operations, entry by entry.
-/
module

public import proofs.«01_k».proof.Proof.Gen.KernelFinalIdeal.Skeleton
public import proofs.«01_k».proof.Proof.Norm
public import Idealize.ShloMosaic.Lib.Pointwise

@[expose] public section

set_option maxRecDepth 16384

noncomputable section

namespace Cert.Proof.Final

open Cert.KernelFinalIdeal Cert.KernelFinalIdeal.Gen
open Idealize.ShloMosaic Idealize.ShloMosaic.TcCoe

theorem pay1_apply (x : FVec Ideal S1024x2048 .f32) (g : FVec Ideal S1x2048 .f32) (r : Fin 1024) (q : Fin 2048) :
    k0_pay1 (F := Ideal) x g (ix2 r q) = rms (fun k => x (ix2 r k)) q * g (ix2 0 q) := by
  unfold rms
  pointwise [k0_pay1]

theorem rows_apply (h : FVec Ideal S2x4096x2048 .f32) (R : Fin 8192) (k : Fin 2048) (b : Fin 2) (t : Fin 4096) (hR : R.val = b.val * 4096 + t.val) :
    (shapeCast S8192x2048 h shapeCasts_S2x4096x2048_S8192x2048 : FVec Ideal S8192x2048 .f32) (ix2 R k) = h (ix3 b t k) := by
  have ht := t.isLt
  pointwise
  congr 1
  congr 1 <;> exact Fin.ext (by dsimp only; omega)

theorem row_apply (g : FVec Ideal S2048 .f32) (k : Fin 2048) :
    (shapeCast S1x2048 g shapeCasts_S2048_S1x2048 : FVec Ideal S1x2048 .f32) (ix2 0 k) = g (ix1 k) := by
  pointwise

end Cert.Proof.Final

end
-- ==== Proof.Final.Ref.lean ====
/-
  The reference of the final norm, entry by entry.
-/
module

public import proofs.«01_k».proof.Proof.Gen.ReferenceFinalIdeal.Run
public import proofs.«01_k».proof.Proof.Norm
public import Idealize.ShloMosaic.Lib.Pointwise

@[expose] public section

set_option maxRecDepth 16384

noncomputable section

namespace Cert.Proof.Final.Ref

open Cert.ReferenceFinalIdeal Cert.ReferenceFinalIdeal.Gen
open Idealize.ShloMosaic Idealize.ShloMosaic.TcCoe

/-- The rows over their root mean square. -/
def normed (x : FVec Ideal S2x4096x2048 .f32) : FVec Ideal S2x4096x2048 .f32 :=
  mulf x (broadcastInDim S2x4096x2048 ![0, 1, 2] bcast_S2x4096x1_S2x4096x2048_0_1_2 (Host.rsqrt (addf (Host.divf (broadcastInDim S2x4096x1 ![0, 1] bcast_S2x4096_S2x4096x1_0_1 (Host.reduceAdd (mulf x x) (constant S_ .f32 0x00000000#32) reducesTo_S2x4096x2048_S2x4096_d2 h_S_)) (broadcastInDim S2x4096x1 ![] bcast_S_S2x4096x1 (constant S_ .f32 0x45000000#32))) (broadcastInDim S2x4096x1 ![] bcast_S_S2x4096x1 (constant S_ .f32 0x358637BD#32)))))

theorem normed_apply (x : FVec Ideal S2x4096x2048 .f32) (b : Fin 2) (t : Fin 4096) (q : Fin 2048) :
    normed x (ix3 b t q) = rms (fun k => x (ix3 b t k)) q := by
  unfold rms
  pointwise [normed]

theorem rows_apply (h : FVec Ideal S2x4096x2048 .f32) (R : Fin 8192) (k : Fin 2048) (b : Fin 2) (t : Fin 4096) (hR : R.val = b.val * 4096 + t.val) :
    (shapeCast S8192x2048 h shapeCasts_S2x4096x2048_S8192x2048 : FVec Ideal S8192x2048 .f32) (ix2 R k) = h (ix3 b t k) := by
  have ht := t.isLt
  pointwise
  congr 1
  congr 1 <;> exact Fin.ext (by dsimp only; omega)

/-- The result, as a function of the arguments. -/
def res (x : FVec Ideal S2x4096x2048 .f32) (g : FVec Ideal S2048 .f32) : FVec Ideal S8192x2048 .f32 :=
  shapeCast S8192x2048 (mulf (normed x) (broadcastInDim S2x4096x2048 ![0, 1, 2] bcast_S1x1x2048_S2x4096x2048_0_1_2 (broadcastInDim S1x1x2048 ![2] bcast_S2048_S1x1x2048_2 g))) shapeCasts_S2x4096x2048_S8192x2048

theorem scaled_apply (x : FVec Ideal S2x4096x2048 .f32) (g : FVec Ideal S2048 .f32) (b : Fin 2) (t : Fin 4096) (q : Fin 2048) :
    (mulf x (broadcastInDim S2x4096x2048 ![0, 1, 2] bcast_S1x1x2048_S2x4096x2048_0_1_2 (broadcastInDim S1x1x2048 ![2] bcast_S2048_S1x1x2048_2 g)) : FVec Ideal S2x4096x2048 .f32) (ix3 b t q)
      = x (ix3 b t q) * g (ix1 q) := by
  pointwise

theorem res_apply (x : FVec Ideal S2x4096x2048 .f32) (g : FVec Ideal S2048 .f32) (R : Fin 8192) (q : Fin 2048) (b : Fin 2) (t : Fin 4096) (hR : R.val = b.val * 4096 + t.val) :
    res x g (ix2 R q) = rms (fun k => x (ix3 b t k)) q * g (ix1 q) := by
  unfold res
  rw [rows_apply _ R q b t hR, scaled_apply, normed_apply]

/-- The reference's run. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v13) = res (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans rfl, (h c).2⟩) (Value.run m ρ)

end Cert.Proof.Final.Ref

end
-- ==== Proof.Final.Value.lean ====
/-
  The output array of the final norm, entry by entry, and its equality with the reference's.
-/
module

public import proofs.«01_k».proof.Proof.Gen.KernelFinalIdeal.Value
public import proofs.«01_k».proof.Proof.Final.Elem
public import proofs.«01_k».proof.Proof.Final.Ref
public import proofs.«01_k».proof.Defs
public import Idealize.ShloMosaic.Lib.Pointwise
public import Idealize.ShloMosaic.Lib.StableHlo.Run

@[expose] public section

set_option maxRecDepth 16384

noncomputable section

namespace Cert.Proof.Final

open Cert.KernelFinalIdeal Cert.KernelFinalIdeal.Gen
open Idealize.ShloMosaic Idealize.ShloMosaic.TcCoe Idealize.ShloMosaic.Tactic

variable (m : (ℓ : Loc nD τ sig) → Buf (Elt Ideal) ℓ) (c : Dev nD)

theorem idx0 : ∀ t : Fin grid0.N, win0_0.index t 0 = (grid0.coords t 0).val ∧ win0_0.index t 1 = 0 := by decide +kernel
theorem idx1 : ∀ t : Fin grid0.N, win0_1.index t 0 = 0 ∧ win0_1.index t 1 = 0 := by decide +kernel
theorem idx2 : ∀ t : Fin grid0.N, win0_2.index t 0 = (grid0.coords t 0).val ∧ win0_2.index t 1 = 0 := by decide +kernel

theorem V_x : (V m c main_v0 : FVec Ideal S8192x2048 .f32) = (shapeCast S8192x2048 (m ((c : Thread nD τ).loc main_arg0) : FVec Ideal S2x4096x2048 .f32) shapeCasts_S2x4096x2048_S8192x2048 : FVec Ideal S8192x2048 .f32) := by
  unfold V
  after_results_simp
  rfl

theorem V_g : (V m c main_v1 : FVec Ideal S1x2048 .f32) = (shapeCast S1x2048 (m ((c : Thread nD τ).loc main_arg1) : FVec Ideal S2048 .f32) shapeCasts_S2048_S1x2048 : FVec Ideal S1x2048 .f32) := by
  unfold V
  after_results_simp
  rfl

theorem blk0 (t : Fin grid0.N) (r : Fin 1024) (k : Fin 2048) (R : Fin 8192) (hR : R.val = (grid0.coords t 0).val * 1024 + r.val) :
    (iblk m c 0 t : FVec Ideal S1024x2048 .f32) (ix2 r k) = (V m c main_v0 : FVec Ideal S8192x2048 .f32) (ix2 R k) := by
  refine congrArg (V m c main_v0 : FVec Ideal S8192x2048 .f32) ?_
  funext a
  match a with
  | ⟨0, _⟩ => exact Fin.ext ((win0_0.rect_emb_val t _ 0).trans (by rw [(idx0 t).1]; exact hR.symm))
  | ⟨1, _⟩ => exact Fin.ext ((win0_0.rect_emb_val t _ 1).trans (by rw [(idx0 t).2]; show 0 * 2048 + k.val = k.val; omega))

theorem blk1 (t : Fin grid0.N) (k : Fin 2048) :
    (iblk m c 1 t : FVec Ideal S1x2048 .f32) (ix2 0 k) = (V m c main_v1 : FVec Ideal S1x2048 .f32) (ix2 0 k) := by
  refine congrArg (V m c main_v1 : FVec Ideal S1x2048 .f32) ?_
  funext a
  match a with
  | ⟨0, _⟩ => exact Fin.ext ((win0_1.rect_emb_val t _ 0).trans (by rw [(idx1 t).1]; rfl))
  | ⟨1, _⟩ => exact Fin.ext ((win0_1.rect_emb_val t _ 1).trans (by rw [(idx1 t).2]; show 0 * 2048 + k.val = k.val; omega))

/-- What point `t` leaves in the output's block. -/
def out (t : Fin cfg0.N) : FVec Ideal S1024x2048 .f32 := k0_pay1 (F := Ideal) (iblk m c 0 t) (iblk m c 1 t)

theorem out_eq (t : Fin cfg0.N) : out0_2 (F := Ideal) (iblk m c 0 t) (iblk m c 1 t) = out m c t := by
  unfold out0_2 out
  refine (View.canon_unit_zero (funext fun a => by fin_cases a <;> rfl) _ _).trans ?_
  exact congrArg₂ k0_pay1 (View.ld_unit_zero (funext fun a => by fin_cases a <;> rfl) _ _) (View.ld_unit_zero (funext fun a => by fin_cases a <;> rfl) _ _)

theorem block_out (t : Fin cfg0.N) :
    ((cfg0.win 2).blk t).view.read (Elt Ideal) ((dats m 0 c).arrAt 2 cfg0.N) = (cfg0.win 2).cut (grid0.coords t) (out m c t) :=
  (Value.blocks2 m c t (flush0_2 t)).trans ((Value.flushed2 m c t).trans (congrArg ((cfg0.win 2).cut (grid0.coords t)) (out_eq m c t)))

theorem elem (t : Fin grid0.N) (r : Fin 1024) (q : Fin 2048) (R : Fin 8192) (hR : R.val = (grid0.coords t 0).val * 1024 + r.val) :
    ((dats m 0 c).arrAt 2 cfg0.N : FVec Ideal S8192x2048 .f32) (ix2 R q) = out m c t (ix2 r q) := by
  have e := congrFun (block_out m c t) (ix2 r q)
  refine Eq.trans ?_ e
  refine congrArg ((dats m 0 c).arrAt 2 cfg0.N : FVec Ideal S8192x2048 .f32) ?_
  funext a
  match a with
  | ⟨0, _⟩ => exact Fin.ext ((win0_2.rect_emb_val t _ 0).trans (by rw [(idx2 t).1]; exact hR.symm)).symm
  | ⟨1, _⟩ => exact Fin.ext ((win0_2.rect_emb_val t _ 1).trans (by rw [(idx2 t).2]; show 0 * 2048 + q.val = q.val; omega)).symm

theorem point_of : ∀ i : Fin 8, ∃ t : Fin grid0.N, (grid0.coords t 0).val = i.val := by
  decide +kernel

theorem value (R : Fin 8192) (q : Fin 2048) (b : Fin 2) (s : Fin 4096) (hR : R.val = b.val * 4096 + s.val) :
    ((dats m 0 c).arrAt 2 cfg0.N : FVec Ideal S8192x2048 .f32) (ix2 R q) = Ref.res (m ((c : Thread nD τ).loc main_arg0)) (m ((c : Thread nD τ).loc main_arg1)) (ix2 R q) := by
  have hRl := R.isLt
  obtain ⟨t, h0⟩ := point_of ⟨R.val / 1024, by omega⟩
  replace h0 : (grid0.coords t 0).val = R.val / 1024 := h0
  have hR' : R.val = (grid0.coords t 0).val * 1024 + R.val % 1024 := by rw [h0]; omega
  rw [elem m c t ⟨R.val % 1024, by omega⟩ q R hR', Ref.res_apply _ _ R q b s hR]
  have ex : ∀ k : Fin 2048, (iblk m c 0 t : FVec Ideal S1024x2048 .f32) (ix2 ⟨R.val % 1024, by omega⟩ k) = (m ((c : Thread nD τ).loc main_arg0) : FVec Ideal S2x4096x2048 .f32) (ix3 b s k) := fun k =>
    (blk0 m c t _ k R hR').trans ((congrFun (V_x m c) _).trans (rows_apply _ R k b s hR))
  have eg : (iblk m c 1 t : FVec Ideal S1x2048 .f32) (ix2 0 q) = (m ((c : Thread nD τ).loc main_arg1) : FVec Ideal S2048 .f32) (ix1 q) :=
    (blk1 m c t q).trans ((congrFun (V_g m c) _).trans (row_apply _ q))
  refine (pay1_apply _ _ _ _).trans ?_
  simp only [ex, eg]

theorem array : ((dats m 0 c).arrAt 2 cfg0.N : FVec Ideal S8192x2048 .f32)
      = Ref.res (m ((c : Thread nD τ).loc main_arg0)) (m ((c : Thread nD τ).loc main_arg1)) := by
  funext y
  obtain ⟨R, q, rfl⟩ : ∃ (R : Fin 8192) (q : Fin 2048), y = ix2 R q := ⟨y 0, y 1, by
    funext a
    match a with
    | ⟨0, _⟩ => rfl
    | ⟨1, _⟩ => rfl⟩
  have hR := R.isLt
  exact value m c R q ⟨R.val / 4096, by omega⟩ ⟨R.val % 4096, by omega⟩ (by show R.val = R.val / 4096 * 4096 + R.val % 4096; omega)

/-- The kernel's result is the reference's. -/
theorem algebraic : algebraic_KernelFinalIdeal_ReferenceFinalIdeal := by
  intro m g m' g' hpre hargs
  refine ⟨fun c => (dats m 0 c).arrAt 2 cfg0.N, Value.run_blocks m g, ?_⟩
  refine (θ_run Cert.ReferenceFinalIdeal.defs _ _).mono (fun r h c => ⟨(h c).1.trans ?_, (h c).2⟩) (Ref.run m' g')
  · obtain ⟨e0, e1⟩ := hargs c
    rw [e0, e1]; exact (array m c).symm

end Cert.Proof.Final

end
-- ==== Proof.Query.Elem.lean ====
/-
  The values of the body's stores and of the host's operations, entry by entry.
-/
module

public import proofs.«01_k».proof.Proof.Gen.KernelQueryIdeal.Skeleton
public import Idealize.ShloMosaic.Lib.Pointwise

@[expose] public section

set_option maxRecDepth 16384

noncomputable section

namespace Cert.Proof.Query

open Cert.KernelQueryIdeal Cert.KernelQueryIdeal.Gen
open Idealize.ShloMosaic Idealize.ShloMosaic.TcCoe

theorem pay1_apply (w : FVec Ideal S1x2048x1024 .f32) (k : Fin 2048) (q : Fin 1024) :
    k0_pay1 (F := Ideal) w (ix2 k q) = w (ix3 0 k q) := by
  pointwise [k0_pay1]

theorem pay2_apply (h : FVec Ideal S512x2048 .bf16) (w : FVec Ideal S2048x1024 .bf16) (r : Fin 512) (q : Fin 1024) :
    k0_pay2 (F := Ideal) h w (ix2 r q) = ∑ k : Fin 2048, h (ix2 r k) * w (ix2 k q) := by
  pointwise [k0_pay2]

theorem cast_apply (h : FVec Ideal S2x4096x2048 .f32) (R : Fin 8192) (k : Fin 2048) (b : Fin 2) (t : Fin 4096) (hR : R.val = b.val * 4096 + t.val) :
    (truncf .bf16 (shapeCast S8192x2048 h shapeCasts_S2x4096x2048_S8192x2048 : FVec Ideal S8192x2048 .f32) bitsLt_bf16_f32 : FVec Ideal S8192x2048 .bf16) (ix2 R k) = h (ix3 b t k) := by
  have ht := t.isLt
  pointwise
  congr 1
  congr 1 <;> exact Fin.ext (by dsimp only; omega)

end Cert.Proof.Query

end
-- ==== Proof.Query.Ref.lean ====
/-
  The reference of the projection to queries, entry by entry.
-/
module

public import proofs.«01_k».proof.Proof.Gen.ReferenceQueryIdeal.Run
public import Idealize.ShloMosaic.Lib.Pointwise

@[expose] public section

set_option maxRecDepth 16384

noncomputable section

namespace Cert.Proof.Query.Ref

open Cert.ReferenceQueryIdeal Cert.ReferenceQueryIdeal.Gen
open Idealize.ShloMosaic Idealize.ShloMosaic.TcCoe

/-- The call's weights. -/
def wgt (w : FVec Ideal S2x2048x4096 .f32) : FVec Ideal S2048x4096 .f32 :=
  shapeCast S2048x4096 (extractStridedSlice S1x2048x4096 ![0, 0, 0] w slices_S2x2048x4096_S1x2048x4096_0_0_0) shapeCasts_S1x2048x4096_S2048x4096

/-- The products. -/
def dot (h : FVec Ideal S2x4096x2048 .f32) (w : FVec Ideal S2048x4096 .f32) : FVec Ideal S2x4096x4096 .f32 :=
  Host.dotGeneral dot_S2x4096x2048_S2048x4096_S2x4096x4096_2_0_01_1_n_n none h w

/-- The queries' columns. -/
def cols (d : FVec Ideal S2x4096x4096 .f32) : FVec Ideal S2x4096x2048 .f32 :=
  extractStridedSlice S2x4096x2048 ![0, 0, 0] d slices_S2x4096x4096_S2x4096x2048_0_0_0

theorem wgt_apply (w : FVec Ideal S2x2048x4096 .f32) (k : Fin 2048) (q : Fin 4096) : wgt w (ix2 k q) = w (ix3 0 k q) := by
  pointwise [wgt]

theorem dot_apply (h : FVec Ideal S2x4096x2048 .f32) (w : FVec Ideal S2048x4096 .f32) (b : Fin 2) (t : Fin 4096) (q : Fin 4096) :
    dot h w (ix3 b t q) = ∑ k : Fin 2048, h (ix3 b t k) * w (ix2 k q) := by
  pointwise [dot]

theorem cols_apply (d : FVec Ideal S2x4096x4096 .f32) (b : Fin 2) (t : Fin 4096) (q : Fin 2048) (Q : Fin 4096) (hQ : Q.val = q.val) :
    cols d (ix3 b t q) = d (ix3 b t Q) := by
  pointwise [cols]
  exact congrArg (fun z => d (ix3 b t z)) (Fin.ext hQ.symm)

theorem cast_apply (h : FVec Ideal S2x4096x2048 .f32) (R : Fin 8192) (k : Fin 2048) (b : Fin 2) (t : Fin 4096) (hR : R.val = b.val * 4096 + t.val) :
    (truncf .bf16 (shapeCast S8192x2048 h shapeCasts_S2x4096x2048_S8192x2048 : FVec Ideal S8192x2048 .f32) bitsLt_bf16_f32 : FVec Ideal S8192x2048 .bf16) (ix2 R k) = h (ix3 b t k) := by
  have ht := t.isLt
  pointwise
  congr 1
  congr 1 <;> exact Fin.ext (by dsimp only; omega)

/-- The result, as a function of the arguments. -/
def res (h : FVec Ideal S2x4096x2048 .f32) (w : FVec Ideal S2x2048x4096 .f32) : FVec Ideal S8192x2048 .bf16 :=
  truncf .bf16 (shapeCast S8192x2048 (cols (dot h (wgt w))) shapeCasts_S2x4096x2048_S8192x2048 : FVec Ideal S8192x2048 .f32) bitsLt_bf16_f32

theorem res_apply (h : FVec Ideal S2x4096x2048 .f32) (w : FVec Ideal S2x2048x4096 .f32) (R : Fin 8192) (q : Fin 2048) (Q : Fin 4096) (b : Fin 2) (t : Fin 4096) (hR : R.val = b.val * 4096 + t.val) (hQ : Q.val = q.val) :
    res h w (ix2 R q) = ∑ k : Fin 2048, h (ix3 b t k) * w (ix3 0 k Q) := by
  unfold res
  rw [cast_apply _ R q b t hR, cols_apply _ b t q Q hQ, dot_apply]
  simp only [wgt_apply]

/-- The reference's run. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v5) = res (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans rfl, (h c).2⟩) (Value.run m ρ)

end Cert.Proof.Query.Ref

end
-- ==== Proof.Query.Value.lean ====
/-
  The output array of the projection to queries, entry by entry, and its equality with the reference's.
-/
module

public import proofs.«01_k».proof.Proof.Gen.KernelQueryIdeal.Value
public import proofs.«01_k».proof.Proof.Query.Elem
public import Idealize.ShloMosaic.Lib.Pipeline.FrameBody
public import Idealize.ShloMosaic.Lib.Ring
public import Idealize.ShloMosaic.Lib.VecWindow
public import proofs.«01_k».proof.Proof.Query.Ref
public import proofs.«01_k».proof.Defs
public import Idealize.ShloMosaic.Lib.Pointwise
public import Idealize.ShloMosaic.Lib.StableHlo.Run

@[expose] public section

set_option maxRecDepth 16384

noncomputable section

namespace Cert.Proof.Query

open Cert.KernelQueryIdeal Cert.KernelQueryIdeal.Gen
open Idealize.ShloMosaic Idealize.ShloMosaic.TcCoe Idealize.ShloMosaic.Tactic

variable (m : (ℓ : Loc nD τ sig) → Buf (Elt Ideal) ℓ) (c : Dev nD)

theorem idx0 : ∀ t : Fin grid0.N, win0_0.index t 0 = (grid0.coords t 1).val ∧ win0_0.index t 1 = 0 := by decide +kernel
theorem idx1 : ∀ t : Fin grid0.N, win0_1.index t 0 = 0 ∧ win0_1.index t 1 = 0 ∧ win0_1.index t 2 = (grid0.coords t 0).val := by decide +kernel
theorem idx4 : ∀ t : Fin grid0.N, win0_4.index t 0 = (grid0.coords t 1).val ∧ win0_4.index t 1 = (grid0.coords t 0).val := by decide +kernel

theorem V_h : (V m c main_v21 : FVec Ideal S8192x2048 .bf16) = (truncf .bf16 (shapeCast S8192x2048 (m ((c : Thread nD τ).loc main_arg0) : FVec Ideal S2x4096x2048 .f32) shapeCasts_S2x4096x2048_S8192x2048 : FVec Ideal S8192x2048 .f32) bitsLt_bf16_f32 : FVec Ideal S8192x2048 .bf16) := by
  unfold V
  after_results_simp
  rfl

theorem blk0 (t : Fin grid0.N) (r : Fin 512) (k : Fin 2048) (R : Fin 8192) (hR : R.val = (grid0.coords t 1).val * 512 + r.val) :
    (iblk m c 0 t : FVec Ideal S512x2048 .bf16) (ix2 r k) = (V m c main_v21 : FVec Ideal S8192x2048 .bf16) (ix2 R k) := by
  refine congrArg (V m c main_v21 : FVec Ideal S8192x2048 .bf16) ?_
  funext a
  match a with
  | ⟨0, _⟩ => exact Fin.ext ((win0_0.rect_emb_val t _ 0).trans (by rw [(idx0 t).1]; exact hR.symm))
  | ⟨1, _⟩ => exact Fin.ext ((win0_0.rect_emb_val t _ 1).trans (by rw [(idx0 t).2]; show 0 * 2048 + k.val = k.val; omega))

theorem blk1 (t : Fin grid0.N) (k : Fin 2048) (q : Fin 1024) (Q : Fin 4096) (hQ : Q.val = (grid0.coords t 0).val * 1024 + q.val) :
    (iblk m c 1 t : FVec Ideal S1x2048x1024 .f32) (ix3 0 k q) = (V m c main_arg1 : FVec Ideal S2x2048x4096 .f32) (ix3 0 k Q) := by
  refine congrArg (V m c main_arg1 : FVec Ideal S2x2048x4096 .f32) ?_
  funext a
  match a with
  | ⟨0, _⟩ => exact Fin.ext ((win0_1.rect_emb_val t _ 0).trans (by rw [(idx1 t).1]; rfl))
  | ⟨1, _⟩ => exact Fin.ext ((win0_1.rect_emb_val t _ 1).trans (by rw [(idx1 t).2.1]; show 0 * 2048 + k.val = k.val; omega))
  | ⟨2, _⟩ => exact Fin.ext ((win0_1.rect_emb_val t _ 2).trans (by rw [(idx1 t).2.2]; exact hQ.symm))

/-! ## What a point leaves -/

/-- A load of a whole memref reads what it holds. -/
theorem ld_full {s : Shape} {e : EltTy} {a : Memref sig .tc .vmem s e} (ha : a.IsWhole) (x : s.Idx → Elt Ideal e) {off : Fin s.rank → ℕ} (inb : ∀ b, off b + s.size b ≤ s.size b) :
    a.view.readAt (Elt Ideal) (Rect.unit off s.size inb).toLoadRect (ha.unread x) = x :=
  (View.readAt_full _ _ _).trans (ha.read_unread x)

/-- The tile of the weights point `t` computes with. -/
def tile (t : Fin cfg0.N) : FVec Ideal S2048x1024 .bf16 := k0_pay1 (F := Ideal) (iblk m c 1 t)

/-- What point `t` leaves in the output's block. -/
def out (t : Fin cfg0.N) : FVec Ideal S512x1024 .bf16 := k0_pay2 (F := Ideal) (iblk m c 0 t) (tile m c t)

theorem first_tile (t : Fin cfg0.N) (h : cond0_0 (grid0.coords t)) :
    sout0_A_0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) h (iblk m c 0 t) (iblk m c 1 t) (iblk m c 2 t) (iblk m c 3 t) = tile m c t := by
  unfold sout0_A_0 kernelRun0_A tile
  exact (View.read_writes_full _ _ _ _ _).trans (congrArg k0_pay1 (ld_full (hs0_1 t) _ _))

theorem first_out (t : Fin cfg0.N) (h : cond0_0 (grid0.coords t)) :
    out0_A_4 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) h (iblk m c 0 t) (iblk m c 1 t) (iblk m c 2 t) (iblk m c 3 t) = out m c t := by
  unfold out0_A_4 kernelRun0_A out tile
  exact (View.read_writes_full _ _ _ _ _).trans (congrArg₂ k0_pay2 (ld_full (hs0_0 t) _ _) ((View.readCov_full _ _ _ _ _).trans (congrArg k0_pay1 (ld_full (hs0_1 t) _ _))))

theorem later_out (t : Fin cfg0.N) (h : ¬cond0_0 (grid0.coords t)) (w : FVec Ideal S2048x1024 .bf16) :
    out0_B_4 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) h (iblk m c 0 t) (iblk m c 1 t) (iblk m c 2 t) (iblk m c 3 t) w = k0_pay2 (F := Ideal) (iblk m c 0 t) w := by
  unfold out0_B_4 kernelRun0_B
  exact (View.read_writes_full _ _ _ _ _).trans (congrArg₂ k0_pay2 (ld_full (hs0_0 t) _ _) (ld_full (Memref.isWhole_whole _) _ _))

/-- The points of one column compute with one tile. -/
theorem col_of : ∀ t t' : Fin grid0.N, t.val % 16 ≠ 0 → t'.val = t.val - 1 → (grid0.coords t' 0).val = (grid0.coords t 0).val := by
  decide +kernel

theorem tile_apply (t : Fin cfg0.N) (k : Fin 2048) (q : Fin 1024) (Q : Fin 4096) (hQ : Q.val = (grid0.coords t 0).val * 1024 + q.val) :
    tile m c t (ix2 k q) = (V m c main_arg1 : FVec Ideal S2x2048x4096 .f32) (ix3 0 k Q) :=
  (pay1_apply _ k q).trans (blk1 m c t k q Q hQ)

theorem coord_lt : ∀ t : Fin grid0.N, (grid0.coords t 0).val < 2 := fun t => (grid0.coords t 0).isLt

theorem tile_carry (t t' : Fin cfg0.N) (h : t.val % 16 ≠ 0) (h' : t'.val = t.val - 1) : tile m c t' = tile m c t := by
  funext y
  obtain ⟨k, q, rfl⟩ : ∃ (k : Fin 2048) (q : Fin 1024), y = ix2 k q := ⟨y 0, y 1, by
    funext a
    match a with
    | ⟨0, _⟩ => rfl
    | ⟨1, _⟩ => rfl⟩
  have hl := coord_lt t
  have hq := q.isLt
  have e := col_of t t' h h'
  exact (tile_apply m c t' k q ⟨(grid0.coords t 0).val * 1024 + q.val, by omega⟩ (by rw [e])).trans (tile_apply m c t k q _ rfl).symm

/-- After every point the scratch holds that point's tile. -/
theorem scratch (n : ℕ) : ∀ t : Fin cfg0.N, t.val = n → (outsAt0 m c t.val t.isLt).2 = tile m c t := by
  induction n with
  | zero =>
    intro t ht
    have h0 : t.val % 16 = 0 := by omega
    rw [outsAt0_A m c t h0]
    dsimp only
    exact first_tile m c t _
  | succ n ih =>
    intro t ht
    by_cases h0 : t.val % 16 = 0
    · rw [outsAt0_A m c t h0]
      dsimp only
      exact first_tile m c t _
    · rw [outsAt0_B m c t h0]
      dsimp only
      unfold sout0_B_0
      exact (ih ⟨t.val - 1, Nat.lt_of_le_of_lt (Nat.sub_le _ _) t.isLt⟩ (by show t.val - 1 = n; omega)).trans (tile_carry m c t _ h0 rfl)

theorem left (t : Fin cfg0.N) : (outsAt0 m c t.val t.isLt).1 = out m c t := by
  by_cases h0 : t.val % 16 = 0
  · rw [outsAt0_A m c t h0]
    dsimp only
    exact first_out m c t _
  · rw [outsAt0_B m c t h0]
    dsimp only
    rw [later_out, scratch m c _ ⟨t.val - 1, Nat.lt_of_le_of_lt (Nat.sub_le _ _) t.isLt⟩ rfl, tile_carry m c t _ h0 rfl]
    rfl

theorem block_out (t : Fin cfg0.N) :
    ((cfg0.win 4).blk t).view.read (Elt Ideal) ((dats m 0 c).arrAt 4 cfg0.N) = (cfg0.win 4).cut (grid0.coords t) (out m c t) :=
  (Value.blocks4 m c t (flush0_4 t)).trans ((Value.flushed4 m c t).trans (congrArg ((cfg0.win 4).cut (grid0.coords t)) (left m c t)))

/-! ## The entries -/

theorem elem (t : Fin grid0.N) (r : Fin 512) (q : Fin 1024) (R : Fin 8192) (hR : R.val = (grid0.coords t 1).val * 512 + r.val) (Q : Fin 2048) (hQ : Q.val = (grid0.coords t 0).val * 1024 + q.val) :
    ((dats m 0 c).arrAt 4 cfg0.N : FVec Ideal S8192x2048 .bf16) (ix2 R Q) = out m c t (ix2 r q) := by
  have e := congrFun (block_out m c t) (ix2 r q)
  refine Eq.trans ?_ e
  refine congrArg ((dats m 0 c).arrAt 4 cfg0.N : FVec Ideal S8192x2048 .bf16) ?_
  funext a
  match a with
  | ⟨0, _⟩ => exact Fin.ext ((win0_4.rect_emb_val t _ 0).trans (by rw [(idx4 t).1]; exact hR.symm)).symm
  | ⟨1, _⟩ => exact Fin.ext ((win0_4.rect_emb_val t _ 1).trans (by rw [(idx4 t).2]; exact hQ.symm)).symm

theorem point_of : ∀ (j : Fin 2) (i : Fin 16), ∃ t : Fin grid0.N, (grid0.coords t 0).val = j.val ∧ (grid0.coords t 1).val = i.val := by
  decide +kernel

theorem value (R : Fin 8192) (Q : Fin 2048) (b : Fin 2) (s : Fin 4096) (hR : R.val = b.val * 4096 + s.val) :
    ((dats m 0 c).arrAt 4 cfg0.N : FVec Ideal S8192x2048 .bf16) (ix2 R Q) = Ref.res (m ((c : Thread nD τ).loc main_arg0)) (m ((c : Thread nD τ).loc main_arg1)) (ix2 R Q) := by
  have hRl := R.isLt
  have hQl := Q.isLt
  obtain ⟨t, h0, h1⟩ := point_of ⟨Q.val / 1024, by omega⟩ ⟨R.val / 512, by omega⟩
  replace h0 : (grid0.coords t 0).val = Q.val / 1024 := h0
  replace h1 : (grid0.coords t 1).val = R.val / 512 := h1
  have hR' : R.val = (grid0.coords t 1).val * 512 + R.val % 512 := by rw [h1]; omega
  have hQ' : Q.val = (grid0.coords t 0).val * 1024 + Q.val % 1024 := by rw [h0]; omega
  rw [elem m c t ⟨R.val % 512, by omega⟩ ⟨Q.val % 1024, by omega⟩ R hR' Q hQ', Ref.res_apply _ _ R Q ⟨Q.val, by omega⟩ b s hR rfl]
  have ea : ∀ k : Fin 2048, (iblk m c 0 t : FVec Ideal S512x2048 .bf16) (ix2 ⟨R.val % 512, by omega⟩ k) = (m ((c : Thread nD τ).loc main_arg0) : FVec Ideal S2x4096x2048 .f32) (ix3 b s k) := fun k =>
    (blk0 m c t _ k R hR').trans ((congrFun (V_h m c) _).trans (cast_apply _ R k b s hR))
  have ew : ∀ k : Fin 2048, (tile m c t : FVec Ideal S2048x1024 .bf16) (ix2 k ⟨Q.val % 1024, by omega⟩) = (m ((c : Thread nD τ).loc main_arg1) : FVec Ideal S2x2048x4096 .f32) (ix3 0 k ⟨Q.val, by omega⟩) := fun k =>
    (tile_apply m c t k _ ⟨Q.val, by omega⟩ hQ').trans (congrFun (V_main_arg1 m c) _)
  refine (pay2_apply _ _ _ _).trans ?_
  simp only [ea, ew]

theorem array : ((dats m 0 c).arrAt 4 cfg0.N : FVec Ideal S8192x2048 .bf16)
      = Ref.res (m ((c : Thread nD τ).loc main_arg0)) (m ((c : Thread nD τ).loc main_arg1)) := by
  funext y
  obtain ⟨R, q, rfl⟩ : ∃ (R : Fin 8192) (q : Fin 2048), y = ix2 R q := ⟨y 0, y 1, by
    funext a
    match a with
    | ⟨0, _⟩ => rfl
    | ⟨1, _⟩ => rfl⟩
  have hR := R.isLt
  exact value m c R q ⟨R.val / 4096, by omega⟩ ⟨R.val % 4096, by omega⟩ (by show R.val = R.val / 4096 * 4096 + R.val % 4096; omega)

/-- The kernel's result is the reference's. -/
theorem algebraic : algebraic_KernelQueryIdeal_ReferenceQueryIdeal := by
  intro m g m' g' hpre hargs
  refine ⟨fun c => (dats m 0 c).arrAt 4 cfg0.N, Value.run_blocks m g, ?_⟩
  refine (θ_run Cert.ReferenceQueryIdeal.defs _ _).mono (fun r h c => ⟨(h c).1.trans ?_, (h c).2⟩) (Ref.run m' g')
  · obtain ⟨e0, e1⟩ := hargs c
    rw [e0, e1]; exact (array m c).symm

end Cert.Proof.Query

end
-- ==== Proof.lean ====
/-
  The proof of `Cert.Claim`: the frames of the kernel (at bits and at extended reals) and of the reference, the four named
  constants, and the equality of the kernel with the reference at extended reals; the same for the further calls.
-/
module

public import proofs.«01_k».proof.Defs
public import proofs.«01_k».proof.Proof.Gen.Kernel
public import proofs.«01_k».proof.Proof.Gen.KernelIdeal
public import proofs.«01_k».proof.Proof.Gen.ReferenceIdeal.Run
public import proofs.«01_k».proof.Proof.K.Frame
public import proofs.«01_k».proof.Proof.KI.Frame
public import proofs.«01_k».proof.Proof.Algebraic
public import proofs.«01_k».proof.Proof.Gen.KernelFfn
public import proofs.«01_k».proof.Proof.Gen.KernelFfnIdeal
public import proofs.«01_k».proof.Proof.Gen.ReferenceFfnIdeal.Run
public import proofs.«01_k».proof.Proof.Ffn.Value
public import proofs.«01_k».proof.Proof.Gen.KernelDown
public import proofs.«01_k».proof.Proof.Gen.KernelDownIdeal
public import proofs.«01_k».proof.Proof.Gen.ReferenceDownIdeal.Run
public import proofs.«01_k».proof.Proof.Down.Value
public import proofs.«01_k».proof.Proof.Gen.KernelOut
public import proofs.«01_k».proof.Proof.Gen.KernelOutIdeal
public import proofs.«01_k».proof.Proof.Gen.ReferenceOutIdeal.Run
public import proofs.«01_k».proof.Proof.Out.Value
public import proofs.«01_k».proof.Proof.Gen.KernelFinal
public import proofs.«01_k».proof.Proof.Gen.KernelFinalIdeal
public import proofs.«01_k».proof.Proof.Gen.ReferenceFinalIdeal.Run
public import proofs.«01_k».proof.Proof.Final.Value
public import proofs.«01_k».proof.Proof.Gen.KernelQuery
public import proofs.«01_k».proof.Proof.Gen.KernelQueryIdeal
public import proofs.«01_k».proof.Proof.Gen.ReferenceQueryIdeal.Run
public import proofs.«01_k».proof.Proof.Query.Value

@[expose] public section

noncomputable section

namespace Cert.Proof

open Idealize.ShloMosaic Idealize.SL.Sem

theorem pre_facts : Cert.Pre_finite.Facts where
  bcast_S_S2x4096x16x128 := by decide
  reducesTo_S2x4096x16x128_S_d0_1_2_3 := by decide
  h_S_ := by decide
  bcast_S_S2x4096x8x128 := by decide
  reducesTo_S2x4096x8x128_S_d0_1_2_3 := by decide

theorem frame_kernel : quiescent_Kernel := fun m g _ => K.frame m g

theorem frame_ideal : quiescent_KernelIdeal := fun m g _ => KI.frame m g

theorem frame_ideal_finite [Cert.Pre_finite.Facts] : quiescent_KernelIdeal_pre_finite := fun m g _ => KI.frame m g

theorem frame_reference : quiescent_ReferenceIdeal := fun m g _ =>
  (θ_run Cert.ReferenceIdeal.defs _ _).mono (fun r h => ⟨fun c => (h c).2, sem_eq_zero_of_no_sems (by decide) r.2⟩) (Cert.ReferenceIdeal.Value.run m g)

theorem frame_reference_finite [Cert.Pre_finite.Facts] : quiescent_ReferenceIdeal_pre_finite := fun m g _ =>
  (θ_run Cert.ReferenceIdeal.defs _ _).mono (fun r h => ⟨fun c => (h c).2, sem_eq_zero_of_no_sems (by decide) r.2⟩) (Cert.ReferenceIdeal.Value.run m g)

theorem preserves : preserves_Kernel_KernelIdeal :=
  ⟨IdealRules.named_const.statement _ _ _ _ _ rfl, IdealRules.named_const.statement _ _ _ _ _ rfl,
    IdealRules.named_const.statement _ _ _ _ _ rfl, IdealRules.named_const.statement _ _ _ _ _ rfl⟩

set_option smartUnfolding false in
theorem frame_kernelFfn : quiescent_KernelFfn := fun m g _ => Ffn.frame (F := Bits) m g

theorem frame_idealFfn : quiescent_KernelFfnIdeal := fun m g _ => Ffn.frame m g

theorem frame_referenceFfn : quiescent_ReferenceFfnIdeal := fun m g _ =>
  (θ_run Cert.ReferenceFfnIdeal.defs _ _).mono (fun r h => ⟨fun c => (h c).2.2, sem_eq_zero_of_no_sems (by decide) r.2⟩) (Cert.ReferenceFfnIdeal.Value.run m g)

theorem preservesFfn : preserves_KernelFfn_KernelFfnIdeal := trivial

set_option smartUnfolding false in
theorem frame_kernelDown : quiescent_KernelDown := fun m g _ => Down.frame (F := Bits) m g

theorem frame_idealDown : quiescent_KernelDownIdeal := fun m g _ => Down.frame m g

theorem frame_referenceDown : quiescent_ReferenceDownIdeal := fun m g _ =>
  (θ_run Cert.ReferenceDownIdeal.defs _ _).mono (fun r h => ⟨fun c => (h c).2.2, sem_eq_zero_of_no_sems (by decide) r.2⟩) (Cert.ReferenceDownIdeal.Value.run m g)

theorem preservesDown : preserves_KernelDown_KernelDownIdeal := trivial

set_option smartUnfolding false in
theorem frame_kernelOut : quiescent_KernelOut := fun m g _ => Cert.KernelOutIdeal.Gen.frame (F := Bits) m g

theorem frame_idealOut : quiescent_KernelOutIdeal := fun m g _ => Cert.KernelOutIdeal.Gen.frame m g

theorem frame_referenceOut : quiescent_ReferenceOutIdeal := fun m g _ =>
  (θ_run Cert.ReferenceOutIdeal.defs _ _).mono (fun r h => ⟨fun c => (h c).2.2, sem_eq_zero_of_no_sems (by decide) r.2⟩) (Cert.ReferenceOutIdeal.Value.run m g)

theorem preservesOut : preserves_KernelOut_KernelOutIdeal := trivial

set_option smartUnfolding false in
theorem frame_kernelFinal : quiescent_KernelFinal := fun m g _ => Cert.KernelFinalIdeal.Gen.frame (F := Bits) m g

theorem frame_idealFinal : quiescent_KernelFinalIdeal := fun m g _ => Cert.KernelFinalIdeal.Gen.frame m g

theorem frame_referenceFinal : quiescent_ReferenceFinalIdeal := fun m g _ =>
  (θ_run Cert.ReferenceFinalIdeal.defs _ _).mono (fun r h => ⟨fun c => (h c).2, sem_eq_zero_of_no_sems (by decide) r.2⟩) (Cert.ReferenceFinalIdeal.Value.run m g)

theorem preservesFinal : preserves_KernelFinal_KernelFinalIdeal := trivial

set_option smartUnfolding false in
theorem frame_kernelQuery : quiescent_KernelQuery := fun m g _ => Cert.KernelQueryIdeal.Gen.frame (F := Bits) m g

theorem frame_idealQuery : quiescent_KernelQueryIdeal := fun m g _ => Cert.KernelQueryIdeal.Gen.frame m g

theorem frame_referenceQuery : quiescent_ReferenceQueryIdeal := fun m g _ =>
  (θ_run Cert.ReferenceQueryIdeal.defs _ _).mono (fun r h => ⟨fun c => (h c).2, sem_eq_zero_of_no_sems (by decide) r.2⟩) (Cert.ReferenceQueryIdeal.Value.run m g)

theorem preservesQuery : preserves_KernelQuery_KernelQueryIdeal := trivial

theorem claim : Cert.Claim :=
  haveI := pre_facts
  ⟨Cert.Kernel.Gen.facts, Cert.KernelIdeal.Gen.facts, Cert.ReferenceIdeal.Gen.facts,
    Cert.KernelFfn.Gen.facts, Cert.KernelFfnIdeal.Gen.facts, Cert.ReferenceFfnIdeal.Gen.facts,
    Cert.KernelDown.Gen.facts, Cert.KernelDownIdeal.Gen.facts, Cert.ReferenceDownIdeal.Gen.facts,
    Cert.KernelOut.Gen.facts, Cert.KernelOutIdeal.Gen.facts, Cert.ReferenceOutIdeal.Gen.facts,
    Cert.KernelFinal.Gen.facts, Cert.KernelFinalIdeal.Gen.facts, Cert.ReferenceFinalIdeal.Gen.facts,
    Cert.KernelQuery.Gen.facts, Cert.KernelQueryIdeal.Gen.facts, Cert.ReferenceQueryIdeal.Gen.facts,
    pre_facts, frame_kernel, frame_ideal, frame_ideal_finite, frame_reference, frame_reference_finite,
    frame_kernelFfn, frame_idealFfn, frame_referenceFfn,
    frame_kernelDown, frame_idealDown, frame_referenceDown,
    frame_kernelOut, frame_idealOut, frame_referenceOut,
    frame_kernelFinal, frame_idealFinal, frame_referenceFinal,
    frame_kernelQuery, frame_idealQuery, frame_referenceQuery,
    preserves, algebraic,
    preservesFfn, Ffn.algebraic, preservesDown, Down.algebraic, preservesOut, Out.algebraic, preservesFinal, Final.algebraic, preservesQuery, Query.algebraic⟩

end Cert.Proof

end
